-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_finite2 : Cert.Pre_finite2.Facts] (m : (ℓ : Loc Cert.Kernel2.nD Cert.Kernel2.τ Cert.Kernel2.sig) → Buf (Elt Bits) ℓ) : Prop :=
  ∀ c : Dev Cert.Kernel2.nD,
    (Cert.Pre_finite2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))).1 = (fun _ => 1#1)
    ∧ (Cert.Pre_finite2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))).2.1 = (fun _ => 1#1)
    ∧ (Cert.Pre_finite2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))).2.2 = (fun _ => 1#1)

def Pre_Kernel2_none (m : (ℓ : Loc Cert.Kernel2.nD Cert.Kernel2.τ Cert.Kernel2.sig) → Buf (Elt Bits) ℓ) : Prop :=
  True

def Pre_Kernel2Ideal [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Kernel2Ideal_none (m : (ℓ : Loc Cert.Kernel2Ideal.nD Cert.Kernel2Ideal.τ Cert.Kernel2Ideal.sig) → Buf (Elt Ideal) ℓ) : Prop :=
  True

def Pre_Reference2Ideal [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4bIdeal (m : (ℓ : Loc Cert.Reference4bIdeal.nD Cert.Reference4bIdeal.τ Cert.Reference4bIdeal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Reference5bIdeal (m : (ℓ : Loc Cert.Reference5bIdeal.nD Cert.Reference5bIdeal.τ Cert.Reference5bIdeal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_finite2 : Cert.Pre_finite2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2_pre_none [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2_none m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_none [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_none m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4bIdeal [hReference4bIdeal : Cert.Reference4bIdeal.Facts] : Prop :=
  ∀ (m : (ℓ : Loc Cert.Reference4bIdeal.nD Cert.Reference4bIdeal.τ Cert.Reference4bIdeal.sig) → Buf (Elt Ideal) ℓ) (g : Dev Cert.Reference4bIdeal.nD → PrngReg), Pre_Reference4bIdeal m →
    θ_run (Cert.Reference4bIdeal.defs (F := Ideal)) (onTc (τ := Cert.Reference4bIdeal.τ) (Cert.Reference4bIdeal.main (F := Ideal))) ⟨m, fun _ => 0, g⟩ (fun r => (∀ c : Dev Cert.Reference4bIdeal.nD,
      r.2.mem ((c.tc : Thread Cert.Reference4bIdeal.nD Cert.Reference4bIdeal.τ).loc Cert.Reference4bIdeal.main_arg0) = m ((c.tc : Thread Cert.Reference4bIdeal.nD Cert.Reference4bIdeal.τ).loc Cert.Reference4bIdeal.main_arg0)
      ∧ r.2.mem ((c.tc : Thread Cert.Reference4bIdeal.nD Cert.Reference4bIdeal.τ).loc Cert.Reference4bIdeal.main_arg1) = m ((c.tc : Thread Cert.Reference4bIdeal.nD Cert.Reference4bIdeal.τ).loc Cert.Reference4bIdeal.main_arg1)
      ∧ r.2.mem ((c.tc : Thread Cert.Reference4bIdeal.nD Cert.Reference4bIdeal.τ).loc Cert.Reference4bIdeal.main_arg2) = m ((c.tc : Thread Cert.Reference4bIdeal.nD Cert.Reference4bIdeal.τ).loc Cert.Reference4bIdeal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5bIdeal [hReference5bIdeal : Cert.Reference5bIdeal.Facts] : Prop :=
  ∀ (m : (ℓ : Loc Cert.Reference5bIdeal.nD Cert.Reference5bIdeal.τ Cert.Reference5bIdeal.sig) → Buf (Elt Ideal) ℓ) (g : Dev Cert.Reference5bIdeal.nD → PrngReg), Pre_Reference5bIdeal m →
    θ_run (Cert.Reference5bIdeal.defs (F := Ideal)) (onTc (τ := Cert.Reference5bIdeal.τ) (Cert.Reference5bIdeal.main (F := Ideal))) ⟨m, fun _ => 0, g⟩ (fun r => (∀ c : Dev Cert.Reference5bIdeal.nD,
      r.2.mem ((c.tc : Thread Cert.Reference5bIdeal.nD Cert.Reference5bIdeal.τ).loc Cert.Reference5bIdeal.main_arg0) = m ((c.tc : Thread Cert.Reference5bIdeal.nD Cert.Reference5bIdeal.τ).loc Cert.Reference5bIdeal.main_arg0)
      ∧ r.2.mem ((c.tc : Thread Cert.Reference5bIdeal.nD Cert.Reference5bIdeal.τ).loc Cert.Reference5bIdeal.main_arg1) = m ((c.tc : Thread Cert.Reference5bIdeal.nD Cert.Reference5bIdeal.τ).loc Cert.Reference5bIdeal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_v35) = v4 c
          ∧ r.2.mem ((c.tc : Thread Cert.ReferenceIdeal.nD Cert.ReferenceIdeal.τ).loc Cert.ReferenceIdeal.main_v36) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v13) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def algebraic_Kernel4Ideal_Reference4bIdeal [hKernel4Ideal : Cert.Kernel4Ideal.Facts] [hReference4bIdeal : Cert.Reference4bIdeal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4bIdeal.nD Cert.Reference4bIdeal.τ Cert.Reference4bIdeal.sig) → Buf (Elt Ideal) ℓ) (g' : Dev Cert.Reference4bIdeal.nD → PrngReg), Pre_Kernel4Ideal m →
    (∀ c : Dev Cert.Kernel4Ideal.nD,
      m' ((c.tc : Thread Cert.Reference4bIdeal.nD Cert.Reference4bIdeal.τ).loc Cert.Reference4bIdeal.main_arg0) = m ((c.tc : Thread Cert.Kernel4Ideal.nD Cert.Kernel4Ideal.τ).loc Cert.Kernel4Ideal.main_arg0)
      ∧ m' ((c.tc : Thread Cert.Reference4bIdeal.nD Cert.Reference4bIdeal.τ).loc Cert.Reference4bIdeal.main_arg1) = m ((c.tc : Thread Cert.Kernel4Ideal.nD Cert.Kernel4Ideal.τ).loc Cert.Kernel4Ideal.main_arg1)
      ∧ m' ((c.tc : Thread Cert.Reference4bIdeal.nD Cert.Reference4bIdeal.τ).loc Cert.Reference4bIdeal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4bIdeal.defs (F := Ideal)) (onTc (τ := Cert.Reference4bIdeal.τ) (Cert.Reference4bIdeal.main (F := Ideal))) ⟨m', fun _ => 0, g'⟩ (fun r => ∀ c : Dev Cert.Reference4bIdeal.nD,
          r.2.mem ((c.tc : Thread Cert.Reference4bIdeal.nD Cert.Reference4bIdeal.τ).loc Cert.Reference4bIdeal.main_v5) = v0 c
          ∧ r.2.mem ((c.tc : Thread Cert.Reference4bIdeal.nD Cert.Reference4bIdeal.τ).loc Cert.Reference4bIdeal.main_arg0) = m' ((c.tc : Thread Cert.Reference4bIdeal.nD Cert.Reference4bIdeal.τ).loc Cert.Reference4bIdeal.main_arg0)
          ∧ r.2.mem ((c.tc : Thread Cert.Reference4bIdeal.nD Cert.Reference4bIdeal.τ).loc Cert.Reference4bIdeal.main_arg1) = m' ((c.tc : Thread Cert.Reference4bIdeal.nD Cert.Reference4bIdeal.τ).loc Cert.Reference4bIdeal.main_arg1)
          ∧ r.2.mem ((c.tc : Thread Cert.Reference4bIdeal.nD Cert.Reference4bIdeal.τ).loc Cert.Reference4bIdeal.main_arg2) = m' ((c.tc : Thread Cert.Reference4bIdeal.nD Cert.Reference4bIdeal.τ).loc Cert.Reference4bIdeal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def algebraic_Kernel5Ideal_Reference5bIdeal [hKernel5Ideal : Cert.Kernel5Ideal.Facts] [hReference5bIdeal : Cert.Reference5bIdeal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5bIdeal.nD Cert.Reference5bIdeal.τ Cert.Reference5bIdeal.sig) → Buf (Elt Ideal) ℓ) (g' : Dev Cert.Reference5bIdeal.nD → PrngReg), Pre_Kernel5Ideal m →
    (∀ c : Dev Cert.Kernel5Ideal.nD,
      m' ((c.tc : Thread Cert.Reference5bIdeal.nD Cert.Reference5bIdeal.τ).loc Cert.Reference5bIdeal.main_arg0) = m ((c.tc : Thread Cert.Kernel5Ideal.nD Cert.Kernel5Ideal.τ).loc Cert.Kernel5Ideal.main_arg0)
      ∧ m' ((c.tc : Thread Cert.Reference5bIdeal.nD Cert.Reference5bIdeal.τ).loc Cert.Reference5bIdeal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5bIdeal.defs (F := Ideal)) (onTc (τ := Cert.Reference5bIdeal.τ) (Cert.Reference5bIdeal.main (F := Ideal))) ⟨m', fun _ => 0, g'⟩ (fun r => ∀ c : Dev Cert.Reference5bIdeal.nD,
          r.2.mem ((c.tc : Thread Cert.Reference5bIdeal.nD Cert.Reference5bIdeal.τ).loc Cert.Reference5bIdeal.main_v6) = v0 c
          ∧ r.2.mem ((c.tc : Thread Cert.Reference5bIdeal.nD Cert.Reference5bIdeal.τ).loc Cert.Reference5bIdeal.main_arg0) = m' ((c.tc : Thread Cert.Reference5bIdeal.nD Cert.Reference5bIdeal.τ).loc Cert.Reference5bIdeal.main_arg0)
          ∧ r.2.mem ((c.tc : Thread Cert.Reference5bIdeal.nD Cert.Reference5bIdeal.τ).loc Cert.Reference5bIdeal.main_arg1) = m' ((c.tc : Thread Cert.Reference5bIdeal.nD Cert.Reference5bIdeal.τ).loc Cert.Reference5bIdeal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_v8) = v1 c
          ∧ r.2.mem ((c.tc : Thread Cert.Reference12Ideal.nD Cert.Reference12Ideal.τ).loc Cert.Reference12Ideal.main_v11) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v37) = v0 c
          ∧ r.2.mem ((c.tc : Thread Cert.Reference13Ideal.nD Cert.Reference13Ideal.τ).loc Cert.Reference13Ideal.main_v39) = v1 c
          ∧ r.2.mem ((c.tc : Thread Cert.Reference13Ideal.nD Cert.Reference13Ideal.τ).loc Cert.Reference13Ideal.main_v40) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v14) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v52) = v0 c
          ∧ r.2.mem ((c.tc : Thread Cert.Reference19Ideal.nD Cert.Reference19Ideal.τ).loc Cert.Reference19Ideal.main_v51) = v1 c
          ∧ r.2.mem ((c.tc : Thread Cert.Reference19Ideal.nD Cert.Reference19Ideal.τ).loc Cert.Reference19Ideal.main_v53) = v2 c
          ∧ r.2.mem ((c.tc : Thread Cert.Reference19Ideal.nD Cert.Reference19Ideal.τ).loc Cert.Reference19Ideal.main_v54) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v58) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v18) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v93) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hReference4bIdeal : Cert.Reference4bIdeal.Facts) (hKernel5 : Cert.Kernel5.Facts) (hKernel5Ideal : Cert.Kernel5Ideal.Facts) (hReference5Ideal : Cert.Reference5Ideal.Facts) (hReference5bIdeal : Cert.Reference5bIdeal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel19 : Cert.Kernel19.Facts) (hKernel19Ideal : Cert.Kernel19Ideal.Facts) (hReference19Ideal : Cert.Reference19Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel24 : Cert.Kernel24.Facts) (hKernel24Ideal : Cert.Kernel24Ideal.Facts) (hReference24Ideal : Cert.Reference24Ideal.Facts) (hPre_finite2 : Cert.Pre_finite2.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_finite2 := hPre_finite2)
    ∧ quiescent_Kernel2_pre_none (hKernel2 := hKernel2)
    ∧ quiescent_Kernel2Ideal (hKernel2Ideal := hKernel2Ideal) (hPre_finite2 := hPre_finite2)
    ∧ quiescent_Kernel2Ideal_pre_none (hKernel2Ideal := hKernel2Ideal)
    ∧ quiescent_Reference2Ideal (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Reference4bIdeal (hReference4bIdeal := hReference4bIdeal)
    ∧ quiescent_Kernel5 (hKernel5 := hKernel5)
    ∧ quiescent_Kernel5Ideal (hKernel5Ideal := hKernel5Ideal)
    ∧ quiescent_Reference5Ideal (hReference5Ideal := hReference5Ideal)
    ∧ quiescent_Reference5bIdeal (hReference5bIdeal := hReference5bIdeal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ algebraic_Kernel4Ideal_Reference4bIdeal (hKernel4Ideal := hKernel4Ideal) (hReference4bIdeal := hReference4bIdeal)
    ∧ preserves_Kernel5_Kernel5Ideal
    ∧ algebraic_Kernel5Ideal_Reference5Ideal (hKernel5Ideal := hKernel5Ideal) (hReference5Ideal := hReference5Ideal)
    ∧ algebraic_Kernel5Ideal_Reference5bIdeal (hKernel5Ideal := hKernel5Ideal) (hReference5bIdeal := hReference5bIdeal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel19_Kernel19Ideal
    ∧ algebraic_Kernel19Ideal_Reference19Ideal (hKernel19Ideal := hKernel19Ideal) (hReference19Ideal := hReference19Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel24_Kernel24Ideal
    ∧ algebraic_Kernel24Ideal_Reference24Ideal (hKernel24Ideal := hKernel24Ideal) (hReference24Ideal := hReference24Ideal)
-- ==== Pre_finite2.lean ====
abbrev S2048x1024 : Shape := ⟨2, ![2048, 1024]⟩
abbrev S4x704x1024 : Shape := ⟨3, ![4, 704, 1024]⟩
abbrev S4x2048x704 : Shape := ⟨3, ![4, 2048, 704]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S4x704x1024 : S_.BroadcastsInDim S4x704x1024 (![] : Fin 0 → Fin S4x704x1024.rank)
  bcast_S_S4x2048x704 : S_.BroadcastsInDim S4x2048x704 (![] : Fin 0 → Fin S4x2048x704.rank)

variable [Facts]

def fn {F : FTy → Type} [FloatOps F] (main_arg0 : FVec F S2048x1024 .bf16) (main_arg1 : FVec F S4x704x1024 .bf16) (main_arg2 : FVec F S4x2048x704 .bf16) (main_arg3 : FVec F S4x2048x704 .bf16) : IVec S2048x1024 1 × IVec S4x704x1024 1 × IVec S4x2048x704 1 :=
  let main_v0 : FVec F S2048x1024 .f32 := (extf .f32 · bitsLt_bf16_f32) main_arg0
  let main_v1 : FVec F S2048x1024 .f32 := Host.absf main_v0
  let main_cst : FVec F S_ .f32 := constant S_ .f32 0x7F61B1E6#32
  let main_v2 : FVec F S2048x1024 .f32 := broadcastInDim S2048x1024 ![] bcast_S_S2048x1024 main_cst
  let main_v3 : IVec S2048x1024 1 := cmpf .ole main_v1 main_v2
  let main_v4 : FVec F S4x704x1024 .f32 := (extf .f32 · bitsLt_bf16_f32) main_arg1
  let main_v5 : FVec F S4x704x1024 .f32 := Host.absf main_v4
  let main_cst_0 : FVec F S_ .f32 := constant S_ .f32 0x7F61B1E6#32
  let main_v6 : FVec F S4x704x1024 .f32 := broadcastInDim S4x704x1024 ![] bcast_S_S4x704x1024 main_cst_0
  let main_v7 : IVec S4x704x1024 1 := cmpf .ole main_v5 main_v6
  let main_v8 : FVec F S4x2048x704 .f32 := (extf .f32 · bitsLt_bf16_f32) main_arg3
  let main_v9 : FVec F S4x2048x704 .f32 := Host.absf main_v8
  let main_cst_1 : FVec F S_ .f32 := constant S_ .f32 0x7F61B1E6#32
  let main_v10 : FVec F S4x2048x704 .f32 := broadcastInDim S4x2048x704 ![] bcast_S_S4x2048x704 main_cst_1
  let main_v11 : IVec S4x2048x704 1 := cmpf .ole main_v9 main_v10
  (main_v3, main_v7, main_v11)
-- ==== Kernel.lean ====
abbrev S2048x512 : Shape := ⟨2, ![2048, 512]⟩
abbrev S4x2048x64 : Shape := ⟨3, ![4, 2048, 64]⟩
abbrev S32x1x512 : Shape := ⟨3, ![32, 1, 512]⟩
abbrev S4x32x128x128 : Shape := ⟨4, ![4, 32, 128, 128]⟩
abbrev S256x512 : Shape := ⟨2, ![256, 512]⟩
abbrev S4x256x64 : Shape := ⟨3, ![4, 256, 64]⟩
abbrev S4x1x512 : Shape := ⟨3, ![4, 1, 512]⟩
abbrev S4x4x128x128 : Shape := ⟨4, ![4, 4, 128, 128]⟩
abbrev S4x128x128 : Shape := ⟨3, ![4, 128, 128]⟩
abbrev S1x128x128 : Shape := ⟨3, ![1, 128, 128]⟩
abbrev S128x128 : Shape := ⟨2, ![128, 128]⟩
abbrev S64x512 : Shape := ⟨2, ![64, 512]⟩
abbrev S64x128 : Shape := ⟨2, ![64, 128]⟩
abbrev S4x64x64 : Shape := ⟨3, ![4, 64, 64]⟩
abbrev S1x64x64 : Shape := ⟨3, ![1, 64, 64]⟩
abbrev S64x64 : Shape := ⟨2, ![64, 64]⟩
abbrev S1x1x512 : Shape := ⟨3, ![1, 1, 512]⟩
abbrev S1x512 : Shape := ⟨2, ![1, 512]⟩
abbrev S1x128 : Shape := ⟨2, ![1, 128]⟩
abbrev S1x1x128x128 : Shape := ⟨4, ![1, 1, 128, 128]⟩
abbrev S128x64 : Shape := ⟨2, ![128, 64]⟩
abbrev S128 : Shape := ⟨1, ![128]⟩
abbrev S1x1x128 : Shape := ⟨3, ![1, 1, 128]⟩

abbrev nBuf : Space → Nat
  | .hbm => 14
  | .vmem => 29
  | .smem => 0
  | _ => 0

abbrev bufTy : (tb : Table) → Fin (tcTables nBuf tb) → BufTy
  | .hbm, ⟨0, _⟩ => ⟨S2048x512, .f32⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S4x2048x64, .bf16⟩
  | .hbm, ⟨5, _⟩ => ⟨S32x1x512, .f32⟩
  | .hbm, ⟨6, _⟩ => ⟨S4x32x128x128, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S4x2048x64, .f32⟩
  | .hbm, ⟨13, _⟩ => ⟨S32x1x512, .f32⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S4x256x64, .bf16⟩
  | .local _ .vmem, ⟨9, _⟩ => ⟨S4x256x64, .bf16⟩
  | .local _ .vmem, ⟨10, _⟩ => ⟨S4x1x512, .f32⟩
  | .local _ .vmem, ⟨11, _⟩ => ⟨S4x1x512, .f32⟩
  | .local _ .vmem, ⟨12, _⟩ => ⟨S4x4x128x128, .f32⟩
  | .local _ .vmem, ⟨13, _⟩ => ⟨S4x4x128x128, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S4x256x64, .f32⟩
  | .local _ .vmem, ⟨25, _⟩ => ⟨S4x256x64, .f32⟩
  | .local _ .vmem, ⟨26, _⟩ => ⟨S4x1x512, .f32⟩
  | .local _ .vmem, ⟨27, _⟩ => ⟨S4x1x512, .f32⟩
  | .local _ .vmem, ⟨28, _⟩ => ⟨S4x128x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2048x512 : Shape := ⟨2, ![2048, 512]⟩
abbrev S4x2048x64 : Shape := ⟨3, ![4, 2048, 64]⟩
abbrev S32x1x512 : Shape := ⟨3, ![32, 1, 512]⟩
abbrev S4x32x128x128 : Shape := ⟨4, ![4, 32, 128, 128]⟩
abbrev S32x64x4x128 : Shape := ⟨4, ![32, 64, 4, 128]⟩
abbrev S32x4x64x128 : Shape := ⟨4, ![32, 4, 64, 128]⟩
abbrev S4x32x64x64 : Shape := ⟨4, ![4, 32, 64, 64]⟩
abbrev S32x4x64x64 : Shape := ⟨4, ![32, 4, 64, 64]⟩
abbrev S32x4x1x128 : Shape := ⟨4, ![32, 4, 1, 128]⟩
abbrev S_ : Shape := ⟨0, ![]⟩
abbrev S4x128x128 : Shape := ⟨3, ![4, 128, 128]⟩
abbrev S32x4x128x128 : Shape := ⟨4, ![32, 4, 128, 128]⟩
abbrev S1x4x128x128 : Shape := ⟨4, ![1, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4x1x128 : Shape := ⟨4, ![1, 4, 1, 128]⟩
abbrev S4x1x128 : Shape := ⟨3, ![4, 1, 128]⟩
abbrev S4x128x64 : Shape := ⟨3, ![4, 128, 64]⟩
abbrev S4x128 : Shape := ⟨2, ![4, 128]⟩

abbrev nBuf : Space → Nat
  | .hbm => 178
  | .vmem => 0
  | .smem => 0
  | _ => 0

abbrev hbmTy0_0 (i : Nat) : BufTy := match i % 128 with
  | 0 => ⟨S2048x512, .f32⟩
  | 1 => ⟨S2048x512, .bf16⟩
  | 2 => ⟨S2048x512, .bf16⟩
  | 3 => ⟨S2048x512, .bf16⟩
  | 4 => ⟨S4x2048x64, .bf16⟩
  | 5 => ⟨S32x1x512, .f32⟩
  | 6 => ⟨S4x32x128x128, .f32⟩
  | 7 => ⟨S2048x512, .f32⟩
  | 8 => ⟨S32x64x4x128, .f32⟩
  | 9 => ⟨S32x4x64x128, .f32⟩
  | 10 => ⟨S2048x512, .f32⟩
  | 11 => ⟨S32x64x4x128, .f32⟩
  | 12 => ⟨S32x4x64x128, .f32⟩
  | 13 => ⟨S2048x512, .f32⟩
  | 14 => ⟨S32x64x4x128, .f32⟩
  | 15 => ⟨S32x4x64x128, .f32⟩
  | 16 => ⟨S2048x512, .f32⟩
  | 17 => ⟨S32x64x4x128, .f32⟩
  | 18 => ⟨S32x4x64x128, .f32⟩
  | 19 => ⟨S32x64x4x128, .f32⟩
  | 20 => ⟨S32x4x64x128, .f32⟩
  | 21 => ⟨S4x2048x64, .f32⟩
  | 22 => ⟨S4x32x64x64, .f32⟩
  | 23 => ⟨S32x4x64x64, .f32⟩
  | 24 => ⟨S32x4x1x128, .f32⟩
  | 25 => ⟨S_, .f32⟩
  | 26 => ⟨S4x128x128, .f32⟩
  | 27 => ⟨S32x4x128x128, .f32⟩
  | 28 => ⟨S_, .f32⟩
  | 29 => ⟨S32x4x64x128, .f32⟩
  | 30 => ⟨S_, .f32⟩
  | 31 => ⟨S32x4x64x128, .f32⟩
  | 32 => ⟨S_, .f32⟩
  | 33 => ⟨S32x4x64x128, .f32⟩
  | 34 => ⟨S_, .f32⟩
  | 35 => ⟨S32x4x64x128, .f32⟩
  | 36 => ⟨S_, .f32⟩
  | 37 => ⟨S32x4x64x64, .f32⟩
  | 38 => ⟨S_, .f32⟩
  | 39 => ⟨S32x4x1x128, .f32⟩
  | 40 => ⟨S_, .i32⟩
  | 41 => ⟨S32x4x128x128, .f32⟩
  | 42 => ⟨S32x4x64x128, .f32⟩
  | 43 => ⟨S32x4x64x128, .f32⟩
  | 44 => ⟨S32x4x64x128, .f32⟩
  | 45 => ⟨S32x4x64x128, .f32⟩
  | 46 => ⟨S32x4x64x64, .f32⟩
  | 47 => ⟨S32x4x1x128, .f32⟩
  | 48 => ⟨S32x4x64x128, .f32⟩
  | 49 => ⟨S_, .i32⟩
  | 50 => ⟨S4x128x128, .f32⟩
  | 51 => ⟨S32x4x64x128, .f32⟩
  | 52 => ⟨S32x4x64x128, .f32⟩
  | 53 => ⟨S32x4x64x128, .f32⟩
  | 54 => ⟨S32x4x64x128, .f32⟩
  | 55 => ⟨S32x4x64x64, .f32⟩
  | 56 => ⟨S32x4x1x128, .f32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S1x4x128x128, .f32⟩
  | 67 => ⟨S4x128x128, .f32⟩
  | 68 => ⟨S_, .i32⟩
  | 69 => ⟨S_, .i32⟩
  | 70 => ⟨S_, .i32⟩
  | 71 => ⟨S1x4x64x128, .f32⟩
  | 72 => ⟨S4x64x128, .f32⟩
  | 73 => ⟨S_, .i32⟩
  | 74 => ⟨S_, .i32⟩
  | 75 => ⟨S_, .i32⟩
  | 76 => ⟨S1x4x64x128, .f32⟩
  | 77 => ⟨S4x64x128, .f32⟩
  | 78 => ⟨S_, .i32⟩
  | 79 => ⟨S_, .i32⟩
  | 80 => ⟨S_, .i32⟩
  | 81 => ⟨S1x4x64x128, .f32⟩
  | 82 => ⟨S4x64x128, .f32⟩
  | 83 => ⟨S_, .i32⟩
  | 84 => ⟨S_, .i32⟩
  | 85 => ⟨S_, .i32⟩
  | 86 => ⟨S1x4x64x128, .f32⟩
  | 87 => ⟨S4x64x128, .f32⟩
  | 88 => ⟨S_, .i32⟩
  | 89 => ⟨S_, .i32⟩
  | 90 => ⟨S_, .i32⟩
  | 91 => ⟨S1x4x64x64, .f32⟩
  | 92 => ⟨S4x64x64, .f32⟩
  | 93 => ⟨S_, .i32⟩
  | 94 => ⟨S_, .i32⟩
  | 95 => ⟨S_, .i32⟩
  | 96 => ⟨S1x4x1x128, .f32⟩
  | 97 => ⟨S4x1x128, .f32⟩
  | 98 => ⟨S_, .i32⟩
  | 99 => ⟨S_, .i32⟩
  | 100 => ⟨S_, .i32⟩
  | 101 => ⟨S1x4x64x128, .f32⟩
  | 102 => ⟨S4x64x128, .f32⟩
  | 103 => ⟨S4x64x128, .f32⟩
  | 104 => ⟨S4x64x128, .f32⟩
  | 105 => ⟨S4x64x128, .f32⟩
  | 106 => ⟨S4x64x128, .f32⟩
  | 107 => ⟨S4x64x128, .f32⟩
  | 108 => ⟨S4x128x128, .f32⟩
  | 109 => ⟨S4x128x128, .f32⟩
  | 110 => ⟨S4x128x128, .f32⟩
  | 111 => ⟨S4x128x128, .f32⟩
  | 112 => ⟨S4x128x64, .f32⟩
  | 113 => ⟨S4x64x128, .f32⟩
  | 114 => ⟨S4x128x64, .f32⟩
  | 115 => ⟨S4x64x128, .f32⟩
  | 116 => ⟨S4x128x128, .f32⟩
  | 117 => ⟨S_, .f32⟩
  | 118 => ⟨S4x128, .f32⟩
  | 119 => ⟨S4x1x128, .f32⟩
  | 120 => ⟨S4x128x128, .f32⟩
  | 121 => ⟨S4x128x128, .f32⟩
  | 122 => ⟨S4x128x64, .f32⟩
  | 123 => ⟨S4x64x128, .f32⟩
  | 124 => ⟨S4x64x128, .f32⟩
  | 125 => ⟨S4x64x64, .f32⟩
  | 126 => ⟨S4x128x128, .f32⟩
  | 127 => ⟨S4x128x128, .f32⟩
  | _ => ⟨S2048x512, .f32⟩

abbrev hbmTy0_1 (i : Nat) : BufTy := match i % 128 with
  | 0 => ⟨S4x128x128, .f32⟩
  | 1 => ⟨S4x64x128, .f32⟩
  | 2 => ⟨S4x64x128, .f32⟩
  | 3 => ⟨S4x128x128, .f32⟩
  | 4 => ⟨S4x128x128, .f32⟩
  | 5 => ⟨S4x128x128, .f32⟩
  | 6 => ⟨S4x64x128, .f32⟩
  | 7 => ⟨S1x4x64x128, .f32⟩
  | 8 => ⟨S_, .i32⟩
  | 9 => ⟨S_, .i32⟩
  | 10 => ⟨S_, .i32⟩
  | 11 => ⟨S32x4x64x128, .f32⟩
  | 12 => ⟨S1x4x64x128, .f32⟩
  | 13 => ⟨S_, .i32⟩
  | 14 => ⟨S_, .i32⟩
  | 15 => ⟨S_, .i32⟩
  | 16 => ⟨S32x4x64x128, .f32⟩
  | 17 => ⟨S1x4x64x128, .f32⟩
  | 18 => ⟨S_, .i32⟩
  | 19 => ⟨S_, .i32⟩
  | 20 => ⟨S_, .i32⟩
  | 21 => ⟨S32x4x64x128, .f32⟩
  | 22 => ⟨S1x4x64x128, .f32⟩
  | 23 => ⟨S_, .i32⟩
  | 24 => ⟨S_, .i32⟩
  | 25 => ⟨S_, .i32⟩
  | 26 => ⟨S32x4x64x128, .f32⟩
  | 27 => ⟨S1x4x64x64, .f32⟩
  | 28 => ⟨S_, .i32⟩
  | 29 => ⟨S_, .i32⟩
  | 30 => ⟨S_, .i32⟩
  | 31 => ⟨S32x4x64x64, .f32⟩
  | 32 => ⟨S1x4x1x128, .f32⟩
  | 33 => ⟨S_, .i32⟩
  | 34 => ⟨S_, .i32⟩
  | 35 => ⟨S_, .i32⟩
  | 36 => ⟨S32x4x1x128, .f32⟩
  | 37 => ⟨S_, .i32⟩
  | 38 => ⟨S_, .i32⟩
  | 39 => ⟨S32x64x4x128, .f32⟩
  | 40 => ⟨S2048x512, .f32⟩
  | 41 => ⟨S32x64x4x128, .f32⟩
  | 42 => ⟨S2048x512, .f32⟩
  | 43 => ⟨S32x64x4x128, .f32⟩
  | 44 => ⟨S2048x512, .f32⟩
  | 45 => ⟨S32x64x4x128, .f32⟩
  | 46 => ⟨S2048x512, .f32⟩
  | 47 => ⟨S4x32x64x64, .f32⟩
  | 48 => ⟨S4x2048x64, .f32⟩
  | 49 => ⟨S32x1x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_c : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev main_v25_3 : Ref sig .tc := ⟨.hbm, 44, rfl⟩
abbrev main_v25_4 : Ref sig .tc := ⟨.hbm, 45, rfl⟩
abbrev main_v25_5 : Ref sig .tc := ⟨.hbm, 46, rfl⟩
abbrev main_v25_6 : Ref sig .tc := ⟨.hbm, 47, rfl⟩
abbrev main_v25_7 : Ref sig .tc := ⟨.hbm, 48, rfl⟩
abbrev main_v25_8 : Ref sig .tc := ⟨.hbm, 49, rfl⟩
abbrev main_v25_9 : Ref sig .tc := ⟨.hbm, 50, rfl⟩
abbrev main_v25_10 : Ref sig .tc := ⟨.hbm, 51, rfl⟩
abbrev main_v25_11 : Ref sig .tc := ⟨.hbm, 52, rfl⟩
abbrev main_v25_12 : Ref sig .tc := ⟨.hbm, 53, rfl⟩
abbrev main_v25_13 : Ref sig .tc := ⟨.hbm, 54, rfl⟩
abbrev main_v25_14 : Ref sig .tc := ⟨.hbm, 55, rfl⟩
abbrev main_v25_15 : Ref sig .tc := ⟨.hbm, 56, rfl⟩
abbrev main_while0c_c_21 : Ref sig .tc := ⟨.hbm, 57, rfl⟩
abbrev main_while0c_v37 : Ref sig .tc := ⟨.hbm, 58, rfl⟩
abbrev main_while0b_c_21 : Ref sig .tc := ⟨.hbm, 59, rfl⟩
abbrev main_while0b_v37 : Ref sig .tc := ⟨.hbm, 60, rfl⟩
abbrev main_while0b_c_22 : Ref sig .tc := ⟨.hbm, 61, rfl⟩
abbrev main_while0b_v38 : Ref sig .tc := ⟨.hbm, 62, rfl⟩
abbrev main_while0b_call0_c : Ref sig .tc := ⟨.hbm, 63, rfl⟩
abbrev main_while0b_call0_c_0 : Ref sig .tc := ⟨.hbm, 64, rfl⟩
abbrev main_while0b_call0_c_1 : Ref sig .tc := ⟨.hbm, 65, rfl⟩
abbrev main_while0b_call0_v0 : Ref sig .tc := ⟨.hbm, 66, rfl⟩
abbrev main_while0b_v39 : Ref sig .tc := ⟨.hbm, 67, rfl⟩
abbrev main_while0b_call1_c : Ref sig .tc := ⟨.hbm, 68, rfl⟩
abbrev main_while0b_call1_c_0 : Ref sig .tc := ⟨.hbm, 69, rfl⟩
abbrev main_while0b_call1_c_1 : Ref sig .tc := ⟨.hbm, 70, rfl⟩
abbrev main_while0b_call1_v0 : Ref sig .tc := ⟨.hbm, 71, rfl⟩
abbrev main_while0b_v40 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_c_1 : Ref sig .tc := ⟨.hbm, 75, rfl⟩
abbrev main_while0b_call2_v0 : Ref sig .tc := ⟨.hbm, 76, rfl⟩
abbrev main_while0b_v41 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_c_1 : Ref sig .tc := ⟨.hbm, 80, rfl⟩
abbrev main_while0b_call3_v0 : Ref sig .tc := ⟨.hbm, 81, rfl⟩
abbrev main_while0b_v42 : Ref sig .tc := ⟨.hbm, 82, rfl⟩
abbrev main_while0b_call4_c : Ref sig .tc := ⟨.hbm, 83, rfl⟩
abbrev main_while0b_call4_c_0 : Ref sig .tc := ⟨.hbm, 84, rfl⟩
abbrev main_while0b_call4_c_1 : Ref sig .tc := ⟨.hbm, 85, rfl⟩
abbrev main_while0b_call4_v0 : Ref sig .tc := ⟨.hbm, 86, rfl⟩
abbrev main_while0b_v43 : Ref sig .tc := ⟨.hbm, 87, rfl⟩
abbrev main_while0b_call5_c : Ref sig .tc := ⟨.hbm, 88, rfl⟩
abbrev main_while0b_call5_c_0 : Ref sig .tc := ⟨.hbm, 89, rfl⟩
abbrev main_while0b_call5_c_1 : Ref sig .tc := ⟨.hbm, 90, rfl⟩
abbrev main_while0b_call5_v0 : Ref sig .tc := ⟨.hbm, 91, rfl⟩
abbrev main_while0b_v44 : Ref sig .tc := ⟨.hbm, 92, rfl⟩
abbrev main_while0b_call6_c : Ref sig .tc := ⟨.hbm, 93, rfl⟩
abbrev main_while0b_call6_c_0 : Ref sig .tc := ⟨.hbm, 94, rfl⟩
abbrev main_while0b_call6_c_1 : Ref sig .tc := ⟨.hbm, 95, rfl⟩
abbrev main_while0b_call6_v0 : Ref sig .tc := ⟨.hbm, 96, rfl⟩
abbrev main_while0b_v45 : Ref sig .tc := ⟨.hbm, 97, rfl⟩
abbrev main_while0b_call7_c : Ref sig .tc := ⟨.hbm, 98, rfl⟩
abbrev main_while0b_call7_c_0 : Ref sig .tc := ⟨.hbm, 99, rfl⟩
abbrev main_while0b_call7_c_1 : Ref sig .tc := ⟨.hbm, 100, rfl⟩
abbrev main_while0b_call7_v0 : Ref sig .tc := ⟨.hbm, 101, rfl⟩
abbrev main_while0b_v46 : Ref sig .tc := ⟨.hbm, 102, rfl⟩
abbrev main_while0b_v47 : Ref sig .tc := ⟨.hbm, 103, rfl⟩
abbrev main_while0b_v48 : Ref sig .tc := ⟨.hbm, 104, rfl⟩
abbrev main_while0b_v49 : Ref sig .tc := ⟨.hbm, 105, rfl⟩
abbrev main_while0b_v50 : Ref sig .tc := ⟨.hbm, 106, rfl⟩
abbrev main_while0b_v51 : Ref sig .tc := ⟨.hbm, 107, rfl⟩
abbrev main_while0b_v52 : Ref sig .tc := ⟨.hbm, 108, rfl⟩
abbrev main_while0b_v53 : Ref sig .tc := ⟨.hbm, 109, rfl⟩
abbrev main_while0b_v54 : Ref sig .tc := ⟨.hbm, 110, rfl⟩
abbrev main_while0b_v55 : Ref sig .tc := ⟨.hbm, 111, rfl⟩
abbrev main_while0b_v56 : Ref sig .tc := ⟨.hbm, 112, rfl⟩
abbrev main_while0b_v57 : Ref sig .tc := ⟨.hbm, 113, rfl⟩
abbrev main_while0b_v58 : Ref sig .tc := ⟨.hbm, 114, rfl⟩
abbrev main_while0b_v59 : Ref sig .tc := ⟨.hbm, 115, rfl⟩
abbrev main_while0b_v60 : Ref sig .tc := ⟨.hbm, 116, rfl⟩
abbrev main_while0b_cst_23 : Ref sig .tc := ⟨.hbm, 117, rfl⟩
abbrev main_while0b_v61 : Ref sig .tc := ⟨.hbm, 118, rfl⟩
abbrev main_while0b_v62 : Ref sig .tc := ⟨.hbm, 119, rfl⟩
abbrev main_while0b_v63 : Ref sig .tc := ⟨.hbm, 120, rfl⟩
abbrev main_while0b_v64 : Ref sig .tc := ⟨.hbm, 121, rfl⟩
abbrev main_while0b_v65 : Ref sig .tc := ⟨.hbm, 122, rfl⟩
abbrev main_while0b_v66 : Ref sig .tc := ⟨.hbm, 123, rfl⟩
abbrev main_while0b_v67 : Ref sig .tc := ⟨.hbm, 124, rfl⟩
abbrev main_while0b_v68 : Ref sig .tc := ⟨.hbm, 125, rfl⟩
abbrev main_while0b_v69 : Ref sig .tc := ⟨.hbm, 126, rfl⟩
abbrev main_while0b_v70 : Ref sig .tc := ⟨.hbm, 127, rfl⟩
abbrev main_while0b_v71 : Ref sig .tc := ⟨.hbm, 128, rfl⟩
abbrev main_while0b_v72 : Ref sig .tc := ⟨.hbm, 129, rfl⟩
abbrev main_while0b_v73 : Ref sig .tc := ⟨.hbm, 130, rfl⟩
abbrev main_while0b_v74 : Ref sig .tc := ⟨.hbm, 131, rfl⟩
abbrev main_while0b_v75 : Ref sig .tc := ⟨.hbm, 132, rfl⟩
abbrev main_while0b_v76 : Ref sig .tc := ⟨.hbm, 133, rfl⟩
abbrev main_while0b_v77 : Ref sig .tc := ⟨.hbm, 134, rfl⟩
abbrev main_while0b_call8_v0 : Ref sig .tc := ⟨.hbm, 135, rfl⟩
abbrev main_while0b_call8_c : Ref sig .tc := ⟨.hbm, 136, rfl⟩
abbrev main_while0b_call8_c_0 : Ref sig .tc := ⟨.hbm, 137, rfl⟩
abbrev main_while0b_call8_c_1 : Ref sig .tc := ⟨.hbm, 138, rfl⟩
abbrev main_while0b_v78 : Ref sig .tc := ⟨.hbm, 139, rfl⟩
abbrev main_while0b_call9_v0 : Ref sig .tc := ⟨.hbm, 140, rfl⟩
abbrev main_while0b_call9_c : Ref sig .tc := ⟨.hbm, 141, rfl⟩
abbrev main_while0b_call9_c_0 : Ref sig .tc := ⟨.hbm, 142, rfl⟩
abbrev main_while0b_call9_c_1 : Ref sig .tc := ⟨.hbm, 143, rfl⟩
abbrev main_while0b_v79 : Ref sig .tc := ⟨.hbm, 144, rfl⟩
abbrev main_while0b_call10_v0 : Ref sig .tc := ⟨.hbm, 145, rfl⟩
abbrev main_while0b_call10_c : Ref sig .tc := ⟨.hbm, 146, rfl⟩
abbrev main_while0b_call10_c_0 : Ref sig .tc := ⟨.hbm, 147, rfl⟩
abbrev main_while0b_call10_c_1 : Ref sig .tc := ⟨.hbm, 148, rfl⟩
abbrev main_while0b_v80 : Ref sig .tc := ⟨.hbm, 149, rfl⟩
abbrev main_while0b_call11_v0 : Ref sig .tc := ⟨.hbm, 150, rfl⟩
abbrev main_while0b_call11_c : Ref sig .tc := ⟨.hbm, 151, rfl⟩
abbrev main_while0b_call11_c_0 : Ref sig .tc := ⟨.hbm, 152, rfl⟩
abbrev main_while0b_call11_c_1 : Ref sig .tc := ⟨.hbm, 153, rfl⟩
abbrev main_while0b_v81 : Ref sig .tc := ⟨.hbm, 154, rfl⟩
abbrev main_while0b_call12_v0 : Ref sig .tc := ⟨.hbm, 155, rfl⟩
abbrev main_while0b_call12_c : Ref sig .tc := ⟨.hbm, 156, rfl⟩
abbrev main_while0b_call12_c_0 : Ref sig .tc := ⟨.hbm, 157, rfl⟩
abbrev main_while0b_call12_c_1 : Ref sig .tc := ⟨.hbm, 158, rfl⟩
abbrev main_while0b_v82 : Ref sig .tc := ⟨.hbm, 159, rfl⟩
abbrev main_while0b_call13_v0 : Ref sig .tc := ⟨.hbm, 160, rfl⟩
abbrev main_while0b_call13_c : Ref sig .tc := ⟨.hbm, 161, rfl⟩
abbrev main_while0b_call13_c_0 : Ref sig .tc := ⟨.hbm, 162, rfl⟩
abbrev main_while0b_call13_c_1 : Ref sig .tc := ⟨.hbm, 163, rfl⟩
abbrev main_while0b_v83 : Ref sig .tc := ⟨.hbm, 164, rfl⟩
abbrev main_while0b_c_24 : Ref sig .tc := ⟨.hbm, 165, rfl⟩
abbrev main_while0b_v84 : Ref sig .tc := ⟨.hbm, 166, rfl⟩
abbrev main_v26 : Ref sig .tc := ⟨.hbm, 167, rfl⟩
abbrev main_v27 : Ref sig .tc := ⟨.hbm, 168, rfl⟩
abbrev main_v28 : Ref sig .tc := ⟨.hbm, 169, rfl⟩
abbrev main_v29 : Ref sig .tc := ⟨.hbm, 170, rfl⟩
abbrev main_v30 : Ref sig .tc := ⟨.hbm, 171, rfl⟩
abbrev main_v31 : Ref sig .tc := ⟨.hbm, 172, rfl⟩
abbrev main_v32 : Ref sig .tc := ⟨.hbm, 173, rfl⟩
abbrev main_v33 : Ref sig .tc := ⟨.hbm, 174, rfl⟩
abbrev main_v34 : Ref sig .tc := ⟨.hbm, 175, rfl⟩
abbrev main_v35 : Ref sig .tc := ⟨.hbm, 176, rfl⟩
abbrev main_v36 : Ref sig .tc := ⟨.hbm, 177, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S2048x1024 : Shape := ⟨2, ![2048, 1024]⟩
abbrev S4x704x1024 : Shape := ⟨3, ![4, 704, 1024]⟩
abbrev S4x2048x704 : Shape := ⟨3, ![4, 2048, 704]⟩
abbrev S1x2048x1024 : Shape := ⟨3, ![1, 2048, 1024]⟩
abbrev S1x1024x1024 : Shape := ⟨3, ![1, 1024, 1024]⟩
abbrev S1x704x1024 : Shape := ⟨3, ![1, 704, 1024]⟩
abbrev S1x1024x704 : Shape := ⟨3, ![1, 1024, 704]⟩
abbrev S1x256x1024 : Shape := ⟨3, ![1, 256, 1024]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S4x704x1024, .bf16⟩
  | .hbm, ⟨2, _⟩ => ⟨S4x2048x704, .bf16⟩
  | .hbm, ⟨3, _⟩ => ⟨S4x2048x704, .bf16⟩
  | .hbm, ⟨4, _⟩ => ⟨S1x2048x1024, .bf16⟩
  | .hbm, ⟨5, _⟩ => ⟨S4x2048x704, .bf16⟩
  | .hbm, ⟨6, _⟩ => ⟨S4x2048x704, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![2, 1, 4, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== Reference2Ideal.lean ====
abbrev S2048x1024 : Shape := ⟨2, ![2048, 1024]⟩
abbrev S4x704x1024 : Shape := ⟨3, ![4, 704, 1024]⟩
abbrev S4x2048x704 : Shape := ⟨3, ![4, 2048, 704]⟩
abbrev S_ : Shape := ⟨0, ![]⟩
abbrev S2048x4x704 : Shape := ⟨3, ![2048, 4, 704]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x704x1024, .bf16⟩
  | .hbm, ⟨2, _⟩ => ⟨S4x2048x704, .bf16⟩
  | .hbm, ⟨3, _⟩ => ⟨S4x2048x704, .bf16⟩
  | .hbm, ⟨4, _⟩ => ⟨S4x2048x704, .f32⟩
  | .hbm, ⟨5, _⟩ => ⟨S4x2048x704, .f32⟩
  | .hbm, ⟨6, _⟩ => ⟨S4x704x1024, .f32⟩
  | .hbm, ⟨7, _⟩ => ⟨S4x2048x704, .f32⟩
  | .hbm, ⟨8, _⟩ => ⟨S4x2048x704, .f32⟩
  | .hbm, ⟨9, _⟩ => ⟨S_, .f32⟩
  | .hbm, ⟨10, _⟩ => ⟨S4x2048x704, .f32⟩
  | .hbm, ⟨11, _⟩ => ⟨S4x2048x704, .f32⟩
  | .hbm, ⟨12, _⟩ => ⟨S_, .f32⟩
  | .hbm, ⟨13, _⟩ => ⟨S4x2048x704, .f32⟩
  | .hbm, ⟨14, _⟩ => ⟨S4x2048x704, .f32⟩
  | .hbm, ⟨15, _⟩ => ⟨S_, .f32⟩
  | .hbm, ⟨16, _⟩ => ⟨S4x2048x704, .f32⟩
  | .hbm, ⟨17, _⟩ => ⟨S4x2048x704, .f32⟩
  | .hbm, ⟨18, _⟩ => ⟨S4x2048x704, .f32⟩
  | .hbm, ⟨19, _⟩ => ⟨S4x2048x704, .f32⟩
  | .hbm, ⟨20, _⟩ => ⟨S4x2048x704, .f32⟩
  | .hbm, ⟨21, _⟩ => ⟨S2048x1024, .f32⟩
  | .hbm, ⟨22, _⟩ => ⟨S2048x1024, .f32⟩
  | .hbm, ⟨23, _⟩ => ⟨S2048x4x704, .f32⟩
  | .hbm, ⟨24, _⟩ => ⟨S4x2048x704, .f32⟩
  | .hbm, ⟨25, _⟩ => ⟨S4x2048x704, .f32⟩
  | .hbm, ⟨26, _⟩ => ⟨S4x2048x704, .f32⟩
  | .hbm, ⟨27, _⟩ => ⟨S4x2048x704, .f32⟩
  | .hbm, ⟨28, _⟩ => ⟨S4x2048x704, .f32⟩
  | .hbm, ⟨29, _⟩ => ⟨S4x2048x704, .f32⟩
  | .hbm, ⟨30, _⟩ => ⟨S4x2048x704, .f32⟩
  | .hbm, ⟨31, _⟩ => ⟨S4x2048x704, .bf16⟩
  | .hbm, ⟨32, _⟩ => ⟨S4x2048x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel3.lean ====
abbrev S4x2048x704 : Shape := ⟨3, ![4, 2048, 704]⟩
abbrev S4x704x1024 : Shape := ⟨3, ![4, 704, 1024]⟩
abbrev S1x2048x1024 : Shape := ⟨3, ![1, 2048, 1024]⟩
abbrev S4x1024x704 : Shape := ⟨3, ![4, 1024, 704]⟩
abbrev S4x704x512 : Shape := ⟨3, ![4, 704, 512]⟩
abbrev S1x1024x512 : Shape := ⟨3, ![1, 1024, 512]⟩
abbrev S1x512x704 : Shape := ⟨3, ![1, 512, 704]⟩
abbrev S512x704 : Shape := ⟨2, ![512, 704]⟩
abbrev S1x704x512 : Shape := ⟨3, ![1, 704, 512]⟩
abbrev S704x512 : Shape := ⟨2, ![704, 512]⟩
abbrev S512x512 : Shape := ⟨2, ![512, 512]⟩
abbrev S1x512x512 : Shape := ⟨3, ![1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x704, .bf16⟩
  | .hbm, ⟨1, _⟩ => ⟨S4x704x1024, .bf16⟩
  | .hbm, ⟨2, _⟩ => ⟨S1x2048x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S4x704x512, .bf16⟩
  | .local _ .vmem, ⟨3, _⟩ => ⟨S4x704x512, .bf16⟩
  | .local _ .vmem, ⟨4, _⟩ => ⟨S1x1024x512, .f32⟩
  | .local _ .vmem, ⟨5, _⟩ => ⟨S1x1024x512, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S4x704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference3Ideal.lean ====
abbrev S4x2048x704 : Shape := ⟨3, ![4, 2048, 704]⟩
abbrev S4x704x1024 : Shape := ⟨3, ![4, 704, 1024]⟩
abbrev S_ : Shape := ⟨0, ![]⟩
abbrev S2048x1024 : Shape := ⟨2, ![2048, 1024]⟩
abbrev S4x704x2048 : Shape := ⟨3, ![4, 704, 2048]⟩
abbrev S1x2048x1024 : Shape := ⟨3, ![1, 2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S4x704x1024, .bf16⟩
  | .hbm, ⟨2, _⟩ => ⟨S4x704x1024, .f32⟩
  | .hbm, ⟨3, _⟩ => ⟨S_, .f32⟩
  | .hbm, ⟨4, _⟩ => ⟨S2048x1024, .f32⟩
  | .hbm, ⟨5, _⟩ => ⟨S4x704x2048, .f32⟩
  | .hbm, ⟨6, _⟩ => ⟨S4x2048x704, .f32⟩
  | .hbm, ⟨7, _⟩ => ⟨S4x2048x704, .f32⟩
  | .hbm, ⟨8, _⟩ => ⟨S4x704x2048, .f32⟩
  | .hbm, ⟨9, _⟩ => ⟨S2048x1024, .f32⟩
  | .hbm, ⟨10, _⟩ => ⟨S1x2048x1024, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4x2048x704 : Shape := ⟨3, ![4, 2048, 704]⟩
abbrev S4x704x1024 : Shape := ⟨3, ![4, 704, 1024]⟩
abbrev S1x2048x1024 : Shape := ⟨3, ![1, 2048, 1024]⟩
abbrev S4x1024x704 : Shape := ⟨3, ![4, 1024, 704]⟩
abbrev S4x704x512 : Shape := ⟨3, ![4, 704, 512]⟩
abbrev S1x1024x512 : Shape := ⟨3, ![1, 1024, 512]⟩
abbrev S1x512x704 : Shape := ⟨3, ![1, 512, 704]⟩
abbrev S512x704 : Shape := ⟨2, ![512, 704]⟩
abbrev S1x704x512 : Shape := ⟨3, ![1, 704, 512]⟩
abbrev S704x512 : Shape := ⟨2, ![704, 512]⟩
abbrev S512x512 : Shape := ⟨2, ![512, 512]⟩
abbrev S1x512x512 : Shape := ⟨3, ![1, 512, 512]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x704, .bf16⟩
  | .hbm, ⟨1, _⟩ => ⟨S4x704x1024, .bf16⟩
  | .hbm, ⟨2, _⟩ => ⟨S1x2048x1024, .f32⟩
  | .hbm, ⟨3, _⟩ => ⟨S1x2048x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S4x704x512, .bf16⟩
  | .local _ .vmem, ⟨3, _⟩ => ⟨S4x704x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S4x704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]
-- ==== Reference4Ideal.lean ====
abbrev S4x2048x704 : Shape := ⟨3, ![4, 2048, 704]⟩
abbrev S4x704x1024 : Shape := ⟨3, ![4, 704, 1024]⟩
abbrev S1x2048x1024 : Shape := ⟨3, ![1, 2048, 1024]⟩
abbrev S2048x1024 : Shape := ⟨2, ![2048, 1024]⟩
abbrev S_ : Shape := ⟨0, ![]⟩
abbrev S4x704x2048 : Shape := ⟨3, ![4, 704, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S4x704x1024, .bf16⟩
  | .hbm, ⟨2, _⟩ => ⟨S1x2048x1024, .f32⟩
  | .hbm, ⟨3, _⟩ => ⟨S4x704x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S4x704x2048, .f32⟩
  | .hbm, ⟨8, _⟩ => ⟨S4x2048x704, .f32⟩
  | .hbm, ⟨9, _⟩ => ⟨S4x2048x704, .f32⟩
  | .hbm, ⟨10, _⟩ => ⟨S4x704x2048, .f32⟩
  | .hbm, ⟨11, _⟩ => ⟨S2048x1024, .f32⟩
  | .hbm, ⟨12, _⟩ => ⟨S2048x1024, .f32⟩
  | .hbm, ⟨13, _⟩ => ⟨S1x2048x1024, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Reference4bIdeal.lean ====
abbrev S4x2048x704 : Shape := ⟨3, ![4, 2048, 704]⟩
abbrev S4x704x1024 : Shape := ⟨3, ![4, 704, 1024]⟩
abbrev S1x2048x1024 : Shape := ⟨3, ![1, 2048, 1024]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S4x704x1024, .bf16⟩
  | .hbm, ⟨2, _⟩ => ⟨S1x2048x1024, .f32⟩
  | .hbm, ⟨3, _⟩ => ⟨S2048x1024, .f32⟩
  | .hbm, ⟨4, _⟩ => ⟨S4x2048x704, .f32⟩
  | .hbm, ⟨5, _⟩ => ⟨S4x704x1024, .f32⟩
  | .hbm, ⟨6, _⟩ => ⟨S2048x1024, .f32⟩
  | .hbm, ⟨7, _⟩ => ⟨S2048x1024, .f32⟩
  | .hbm, ⟨8, _⟩ => ⟨S1x2048x1024, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4x2048x704 : Shape := ⟨3, ![4, 2048, 704]⟩
abbrev S2048x1024 : Shape := ⟨2, ![2048, 1024]⟩
abbrev S1x2048x1024 : Shape := ⟨3, ![1, 2048, 1024]⟩
abbrev S4x704x1024 : Shape := ⟨3, ![4, 704, 1024]⟩
abbrev S1x2048x704 : Shape := ⟨3, ![1, 2048, 704]⟩
abbrev S1x2048x512 : Shape := ⟨3, ![1, 2048, 512]⟩
abbrev S1x704x512 : Shape := ⟨3, ![1, 704, 512]⟩
abbrev S2048x704 : Shape := ⟨2, ![2048, 704]⟩
abbrev S2048x512 : Shape := ⟨2, ![2048, 512]⟩
abbrev S704x512 : Shape := ⟨2, ![704, 512]⟩

abbrev nBuf : Space → Nat
  | .hbm => 4
  | .vmem => 6
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .bf16⟩
  | .hbm, ⟨2, _⟩ => ⟨S1x2048x1024, .bf16⟩
  | .hbm, ⟨3, _⟩ => ⟨S4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x704x512, .f32⟩
  | .local _ .vmem, ⟨5, _⟩ => ⟨S1x704x512, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 4, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference5Ideal.lean ====
abbrev S4x2048x704 : Shape := ⟨3, ![4, 2048, 704]⟩
abbrev S2048x1024 : Shape := ⟨2, ![2048, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .bf16⟩
  | .hbm, ⟨2, _⟩ => ⟨S4x2048x704, .f32⟩
  | .hbm, ⟨3, _⟩ => ⟨S_, .f32⟩
  | .hbm, ⟨4, _⟩ => ⟨S4x704x1024, .f32⟩
  | .hbm, ⟨5, _⟩ => ⟨S2048x1024, .f32⟩
  | .hbm, ⟨6, _⟩ => ⟨S2048x1024, .f32⟩
  | .hbm, ⟨7, _⟩ => ⟨S1024x4x704, .f32⟩
  | .hbm, ⟨8, _⟩ => ⟨S4x704x1024, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Reference5bIdeal.lean ====
abbrev S4x2048x704 : Shape := ⟨3, ![4, 2048, 704]⟩
abbrev S2048x1024 : Shape := ⟨2, ![2048, 1024]⟩
abbrev S_ : Shape := ⟨0, ![]⟩
abbrev S4x704x1024 : Shape := ⟨3, ![4, 704, 1024]⟩
abbrev S4x704x2048 : Shape := ⟨3, ![4, 704, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S4x704x1024, .f32⟩
  | .hbm, ⟨5, _⟩ => ⟨S4x704x2048, .f32⟩
  | .hbm, ⟨6, _⟩ => ⟨S4x2048x704, .f32⟩
  | .hbm, ⟨7, _⟩ => ⟨S4x2048x704, .f32⟩
  | .hbm, ⟨8, _⟩ => ⟨S4x704x2048, .f32⟩
  | .hbm, ⟨9, _⟩ => ⟨S4x704x1024, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x1024 : Shape := ⟨2, ![2048, 1024]⟩
abbrev S4x256x1024 : Shape := ⟨3, ![4, 256, 1024]⟩
abbrev S1x2048x1024 : Shape := ⟨3, ![1, 2048, 1024]⟩
abbrev S1x1024x1024 : Shape := ⟨3, ![1, 1024, 1024]⟩
abbrev S1x512x1024 : Shape := ⟨3, ![1, 512, 1024]⟩
abbrev S1x2048x512 : Shape := ⟨3, ![1, 2048, 512]⟩
abbrev S512x1024 : Shape := ⟨2, ![512, 1024]⟩
abbrev S512x512 : Shape := ⟨2, ![512, 512]⟩
abbrev S1x512x512 : Shape := ⟨3, ![1, 512, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S4x256x1024, .bf16⟩
  | .hbm, ⟨2, _⟩ => ⟨S1x2048x1024, .bf16⟩
  | .hbm, ⟨3, _⟩ => ⟨S1x1024x1024, .bf16⟩
  | .hbm, ⟨4, _⟩ => ⟨S1x2048x1024, .f32⟩
  | .local _ .vmem, ⟨0, _⟩ => ⟨S1x2048x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x2048x512, .f32⟩
  | .local _ .vmem, ⟨4, _⟩ => ⟨S1x2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg1.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference6Ideal.lean ====
abbrev S2048x1024 : Shape := ⟨2, ![2048, 1024]⟩
abbrev S4x256x1024 : Shape := ⟨3, ![4, 256, 1024]⟩
abbrev S1024x1024 : Shape := ⟨2, ![1024, 1024]⟩
abbrev S_ : Shape := ⟨0, ![]⟩
abbrev S1x2048x1024 : Shape := ⟨3, ![1, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x256x1024, .bf16⟩
  | .hbm, ⟨2, _⟩ => ⟨S4x256x1024, .f32⟩
  | .hbm, ⟨3, _⟩ => ⟨S1024x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1x2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x1024 : Shape := ⟨2, ![2048, 1024]⟩
abbrev S1x2048x1024 : Shape := ⟨3, ![1, 2048, 1024]⟩
abbrev S1x1024x1024 : Shape := ⟨3, ![1, 1024, 1024]⟩
abbrev S1x2048x512 : Shape := ⟨3, ![1, 2048, 512]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1x2048x1024, .bf16⟩
  | .hbm, ⟨3, _⟩ => ⟨S1x2048x1024, .bf16⟩
  | .hbm, ⟨4, _⟩ => ⟨S1x1024x1024, .f32⟩
  | .local _ .vmem, ⟨0, _⟩ => ⟨S1x2048x1024, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x1024x512, .f32⟩
  | .local _ .vmem, ⟨4, _⟩ => ⟨S1x1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg1.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference7Ideal.lean ====
abbrev S2048x1024 : Shape := ⟨2, ![2048, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2048x1024 : Shape := ⟨2, ![2048, 1024]⟩
abbrev S2048x3200 : Shape := ⟨2, ![2048, 3200]⟩
abbrev S1x2048x1024 : Shape := ⟨3, ![1, 2048, 1024]⟩
abbrev S1x2048x3200 : Shape := ⟨3, ![1, 2048, 3200]⟩
abbrev S1x1024x3200 : Shape := ⟨3, ![1, 1024, 3200]⟩
abbrev S1x2048x512 : Shape := ⟨3, ![1, 2048, 512]⟩
abbrev S1x2048x640 : Shape := ⟨3, ![1, 2048, 640]⟩
abbrev S1x512x640 : Shape := ⟨3, ![1, 512, 640]⟩
abbrev S2048x512 : Shape := ⟨2, ![2048, 512]⟩
abbrev S2048x640 : Shape := ⟨2, ![2048, 640]⟩
abbrev S512x640 : Shape := ⟨2, ![512, 640]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x3200, .bf16⟩
  | .hbm, ⟨2, _⟩ => ⟨S1x2048x1024, .bf16⟩
  | .hbm, ⟨3, _⟩ => ⟨S1x2048x3200, .bf16⟩
  | .hbm, ⟨4, _⟩ => ⟨S1x1024x3200, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x640, .bf16⟩
  | .local _ .vmem, ⟨3, _⟩ => ⟨S1x2048x640, .bf16⟩
  | .local _ .vmem, ⟨4, _⟩ => ⟨S1x512x640, .f32⟩
  | .local _ .vmem, ⟨5, _⟩ => ⟨S1x512x640, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 5, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference8Ideal.lean ====
abbrev S2048x1024 : Shape := ⟨2, ![2048, 1024]⟩
abbrev S2048x3200 : Shape := ⟨2, ![2048, 3200]⟩
abbrev S_ : Shape := ⟨0, ![]⟩
abbrev S1024x3200 : Shape := ⟨2, ![1024, 3200]⟩
abbrev S3200x1024 : Shape := ⟨2, ![3200, 1024]⟩
abbrev S1x1024x3200 : Shape := ⟨3, ![1, 1024, 3200]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3200, .bf16⟩
  | .hbm, ⟨2, _⟩ => ⟨S2048x1024, .f32⟩
  | .hbm, ⟨3, _⟩ => ⟨S_, .f32⟩
  | .hbm, ⟨4, _⟩ => ⟨S1024x3200, .f32⟩
  | .hbm, ⟨5, _⟩ => ⟨S2048x3200, .f32⟩
  | .hbm, ⟨6, _⟩ => ⟨S2048x3200, .f32⟩
  | .hbm, ⟨7, _⟩ => ⟨S3200x1024, .f32⟩
  | .hbm, ⟨8, _⟩ => ⟨S1024x3200, .f32⟩
  | .hbm, ⟨9, _⟩ => ⟨S1x1024x3200, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S2048x3200 : Shape := ⟨2, ![2048, 3200]⟩
abbrev S1024x3200 : Shape := ⟨2, ![1024, 3200]⟩
abbrev S1x2048x3200 : Shape := ⟨3, ![1, 2048, 3200]⟩
abbrev S1x1024x3200 : Shape := ⟨3, ![1, 1024, 3200]⟩
abbrev S1x2048x1024 : Shape := ⟨3, ![1, 2048, 1024]⟩
abbrev S1x512x3200 : Shape := ⟨3, ![1, 512, 3200]⟩
abbrev S1x1024x512 : Shape := ⟨3, ![1, 1024, 512]⟩
abbrev S512x3200 : Shape := ⟨2, ![512, 3200]⟩
abbrev S512x512 : Shape := ⟨2, ![512, 512]⟩
abbrev S1x512x512 : Shape := ⟨3, ![1, 512, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x3200, .bf16⟩
  | .hbm, ⟨1, _⟩ => ⟨S1024x3200, .bf16⟩
  | .hbm, ⟨2, _⟩ => ⟨S1x2048x3200, .bf16⟩
  | .hbm, ⟨3, _⟩ => ⟨S1x1024x3200, .bf16⟩
  | .hbm, ⟨4, _⟩ => ⟨S1x2048x1024, .f32⟩
  | .local _ .vmem, ⟨0, _⟩ => ⟨S1x1024x3200, .bf16⟩
  | .local _ .vmem, ⟨1, _⟩ => ⟨S1x1024x3200, .bf16⟩
  | .local _ .vmem, ⟨2, _⟩ => ⟨S1x512x3200, .bf16⟩
  | .local _ .vmem, ⟨3, _⟩ => ⟨S1x512x3200, .bf16⟩
  | .local _ .vmem, ⟨4, _⟩ => ⟨S1x1024x512, .f32⟩
  | .local _ .vmem, ⟨5, _⟩ => ⟨S1x1024x512, .f32⟩
  | _, _ => ⟨S2048x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg1.toNat]

abbrev stage0_0 : Fin 2 → Memref sig .tc .vmem S1x1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x512x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference9Ideal.lean ====
abbrev S2048x3200 : Shape := ⟨2, ![2048, 3200]⟩
abbrev S1024x3200 : Shape := ⟨2, ![1024, 3200]⟩
abbrev S_ : Shape := ⟨0, ![]⟩
abbrev S2048x1024 : Shape := ⟨2, ![2048, 1024]⟩
abbrev S1x2048x1024 : Shape := ⟨3, ![1, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x3200, .bf16⟩
  | .hbm, ⟨1, _⟩ => ⟨S1024x3200, .bf16⟩
  | .hbm, ⟨2, _⟩ => ⟨S1024x3200, .f32⟩
  | .hbm, ⟨3, _⟩ => ⟨S_, .f32⟩
  | .hbm, ⟨4, _⟩ => ⟨S2048x1024, .f32⟩
  | .hbm, ⟨5, _⟩ => ⟨S2048x3200, .f32⟩
  | .hbm, ⟨6, _⟩ => ⟨S2048x3200, .f32⟩
  | .hbm, ⟨7, _⟩ => ⟨S2048x1024, .f32⟩
  | .hbm, ⟨8, _⟩ => ⟨S1x2048x1024, .f32⟩
  | _, _ => ⟨S2048x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S2048x1024 : Shape := ⟨2, ![2048, 1024]⟩
abbrev S1024x3200 : Shape := ⟨2, ![1024, 3200]⟩
abbrev S1x2048x1024 : Shape := ⟨3, ![1, 2048, 1024]⟩
abbrev S1x1024x3200 : Shape := ⟨3, ![1, 1024, 3200]⟩
abbrev S1x2048x3200 : Shape := ⟨3, ![1, 2048, 3200]⟩
abbrev S1x512x1024 : Shape := ⟨3, ![1, 512, 1024]⟩
abbrev S1x512x3200 : Shape := ⟨3, ![1, 512, 3200]⟩
abbrev S1x256x1024 : Shape := ⟨3, ![1, 256, 1024]⟩
abbrev S256x1024 : Shape := ⟨2, ![256, 1024]⟩
abbrev S256x3200 : Shape := ⟨2, ![256, 3200]⟩
abbrev S1x256x3200 : Shape := ⟨3, ![1, 256, 3200]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x3200, .bf16⟩
  | .hbm, ⟨2, _⟩ => ⟨S1x2048x1024, .bf16⟩
  | .hbm, ⟨3, _⟩ => ⟨S1x1024x3200, .bf16⟩
  | .hbm, ⟨4, _⟩ => ⟨S1x2048x3200, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x3200, .bf16⟩
  | .local _ .vmem, ⟨3, _⟩ => ⟨S1x512x3200, .f32⟩
  | .local _ .vmem, ⟨4, _⟩ => ⟨S1x512x3200, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![4, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 1 → Memref sig .tc .vmem S1x1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S1x512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference10Ideal.lean ====
abbrev S2048x1024 : Shape := ⟨2, ![2048, 1024]⟩
abbrev S1024x3200 : Shape := ⟨2, ![1024, 3200]⟩
abbrev S2048x3200 : Shape := ⟨2, ![2048, 3200]⟩
abbrev S1x2048x3200 : Shape := ⟨3, ![1, 2048, 3200]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3200, .bf16⟩
  | .hbm, ⟨2, _⟩ => ⟨S2048x1024, .f32⟩
  | .hbm, ⟨3, _⟩ => ⟨S1024x3200, .f32⟩
  | .hbm, ⟨4, _⟩ => ⟨S2048x3200, .f32⟩
  | .hbm, ⟨5, _⟩ => ⟨S1x2048x3200, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S2048x1024 : Shape := ⟨2, ![2048, 1024]⟩
abbrev S4x256x1024 : Shape := ⟨3, ![4, 256, 1024]⟩
abbrev S1x2048x1024 : Shape := ⟨3, ![1, 2048, 1024]⟩
abbrev S1x1024x1024 : Shape := ⟨3, ![1, 1024, 1024]⟩
abbrev S1x1024x512 : Shape := ⟨3, ![1, 1024, 512]⟩
abbrev S1x2048x512 : Shape := ⟨3, ![1, 2048, 512]⟩
abbrev S1x512x1024 : Shape := ⟨3, ![1, 512, 1024]⟩
abbrev S512x1024 : Shape := ⟨2, ![512, 1024]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4x256x1024, .bf16⟩
  | .hbm, ⟨2, _⟩ => ⟨S2048x1024, .f32⟩
  | .hbm, ⟨3, _⟩ => ⟨S1x2048x1024, .bf16⟩
  | .hbm, ⟨4, _⟩ => ⟨S1x1024x1024, .bf16⟩
  | .hbm, ⟨5, _⟩ => ⟨S1x2048x1024, .f32⟩
  | .hbm, ⟨6, _⟩ => ⟨S1x2048x1024, .f32⟩
  | .local _ .vmem, ⟨0, _⟩ => ⟨S1x2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg1.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]
-- ==== Reference11Ideal.lean ====
abbrev S2048x1024 : Shape := ⟨2, ![2048, 1024]⟩
abbrev S4x256x1024 : Shape := ⟨3, ![4, 256, 1024]⟩
abbrev S1024x1024 : Shape := ⟨2, ![1024, 1024]⟩
abbrev S1x2048x1024 : Shape := ⟨3, ![1, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x256x1024, .bf16⟩
  | .hbm, ⟨2, _⟩ => ⟨S2048x1024, .f32⟩
  | .hbm, ⟨3, _⟩ => ⟨S2048x1024, .f32⟩
  | .hbm, ⟨4, _⟩ => ⟨S4x256x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S1x2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S2048x1024 : Shape := ⟨2, ![2048, 1024]⟩
abbrev S4x704x1024 : Shape := ⟨3, ![4, 704, 1024]⟩
abbrev S1x2048x1024 : Shape := ⟨3, ![1, 2048, 1024]⟩
abbrev S4x2048x704 : Shape := ⟨3, ![4, 2048, 704]⟩
abbrev S1x1024x1024 : Shape := ⟨3, ![1, 1024, 1024]⟩
abbrev S1x704x1024 : Shape := ⟨3, ![1, 704, 1024]⟩
abbrev S1x1024x704 : Shape := ⟨3, ![1, 1024, 704]⟩
abbrev S1x256x1024 : Shape := ⟨3, ![1, 256, 1024]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S4x704x1024, .bf16⟩
  | .hbm, ⟨2, _⟩ => ⟨S4x704x1024, .bf16⟩
  | .hbm, ⟨3, _⟩ => ⟨S1x2048x1024, .bf16⟩
  | .hbm, ⟨4, _⟩ => ⟨S4x2048x704, .bf16⟩
  | .hbm, ⟨5, _⟩ => ⟨S4x2048x704, .bf16⟩
  | .hbm, ⟨6, _⟩ => ⟨S4x2048x704, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![2, 1, 4, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== Reference12Ideal.lean ====
abbrev S2048x1024 : Shape := ⟨2, ![2048, 1024]⟩
abbrev S4x704x1024 : Shape := ⟨3, ![4, 704, 1024]⟩
abbrev S4x704x2048 : Shape := ⟨3, ![4, 704, 2048]⟩
abbrev S4x2048x704 : Shape := ⟨3, ![4, 2048, 704]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x704x1024, .bf16⟩
  | .hbm, ⟨2, _⟩ => ⟨S4x704x1024, .bf16⟩
  | .hbm, ⟨3, _⟩ => ⟨S2048x1024, .f32⟩
  | .hbm, ⟨4, _⟩ => ⟨S4x704x1024, .f32⟩
  | .hbm, ⟨5, _⟩ => ⟨S4x704x1024, .f32⟩
  | .hbm, ⟨6, _⟩ => ⟨S4x704x2048, .f32⟩
  | .hbm, ⟨7, _⟩ => ⟨S4x2048x704, .f32⟩
  | .hbm, ⟨8, _⟩ => ⟨S4x704x2048, .f32⟩
  | .hbm, ⟨9, _⟩ => ⟨S4x2048x704, .f32⟩
  | .hbm, ⟨10, _⟩ => ⟨S4x2048x704, .bf16⟩
  | .hbm, ⟨11, _⟩ => ⟨S4x2048x704, .bf16⟩
  | .hbm, ⟨12, _⟩ => ⟨S4x2048x704, .f32⟩
  | .hbm, ⟨13, _⟩ => ⟨S4x2048x704, .f32⟩
  | .hbm, ⟨14, _⟩ => ⟨S_, .f32⟩
  | .hbm, ⟨15, _⟩ => ⟨S4x2048x704, .f32⟩
  | .hbm, ⟨16, _⟩ => ⟨S4x2048x704, .f32⟩
  | .hbm, ⟨17, _⟩ => ⟨S_, .f32⟩
  | .hbm, ⟨18, _⟩ => ⟨S4x2048x704, .f32⟩
  | .hbm, ⟨19, _⟩ => ⟨S4x2048x704, .f32⟩
  | .hbm, ⟨20, _⟩ => ⟨S4x2048x704, .f32⟩
  | .hbm, ⟨21, _⟩ => ⟨S4x2048x704, .f32⟩
  | .hbm, ⟨22, _⟩ => ⟨S4x2048x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel13.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_18 : BitVec 32 := 0#32
  let v43 : BitVec 1 := Scalar.cmpi .ne v42 c0_i32_18
  v43

def k0_cond2 (i : grid0.Coords) : BitVec 1 :=
  let arg0 : BitVec 32 := BitVec.ofNat 32 (i 0).val
  let c0_i32_19 : BitVec 32 := 0#32
  let v44 : BitVec 1 := Scalar.cmpi .sgt arg0 c0_i32_19
  let v45 : BitVec 32 := Scalar.extui v44
  let c0_i32_20 : BitVec 32 := 0#32
  let v46 : BitVec 1 := Scalar.cmpi .ne v45 c0_i32_20
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .bf16⟩
  | .hbm, ⟨53, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel14.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel15.lean ====
abbrev S2x704x1024 : Shape := ⟨3, ![2, 704, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x1024x770 : Shape := ⟨3, ![2, 1024, 770]⟩
abbrev S1x512x770 : Shape := ⟨3, ![1, 512, 770]⟩
abbrev S512x770 : Shape := ⟨2, ![512, 770]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x770, .f32⟩
  | .hbm, ⟨1, _⟩ => ⟨S2x1024x770, .f32⟩
  | .hbm, ⟨2, _⟩ => ⟨S2x1024x770, .f32⟩
  | .hbm, ⟨3, _⟩ => ⟨S2x1024x770, .f32⟩
  | .hbm, ⟨4, _⟩ => ⟨S2x1024x770, .f32⟩
  | .hbm, ⟨5, _⟩ => ⟨S2x1024x770, .f32⟩
  | .hbm, ⟨6, _⟩ => ⟨S2x1024x770, .f32⟩
  | .local _ .vmem, ⟨0, _⟩ => ⟨S1x512x770, .f32⟩
  | .local _ .vmem, ⟨1, _⟩ => ⟨S1x512x770, .f32⟩
  | .local _ .vmem, ⟨2, _⟩ => ⟨S1x512x770, .f32⟩
  | .local _ .vmem, ⟨3, _⟩ => ⟨S1x512x770, .f32⟩
  | .local _ .vmem, ⟨4, _⟩ => ⟨S1x512x770, .f32⟩
  | .local _ .vmem, ⟨5, _⟩ => ⟨S1x512x770, .f32⟩
  | .local _ .vmem, ⟨6, _⟩ => ⟨S1x512x770, .f32⟩
  | .local _ .vmem, ⟨7, _⟩ => ⟨S1x512x770, .f32⟩
  | .local _ .vmem, ⟨8, _⟩ => ⟨S1x512x770, .f32⟩
  | .local _ .vmem, ⟨9, _⟩ => ⟨S1x512x770, .f32⟩
  | .local _ .vmem, ⟨10, _⟩ => ⟨S1x512x770, .f32⟩
  | .local _ .vmem, ⟨11, _⟩ => ⟨S1x512x770, .f32⟩
  | .local _ .vmem, ⟨12, _⟩ => ⟨S1x512x770, .f32⟩
  | .local _ .vmem, ⟨13, _⟩ => ⟨S1x512x770, .f32⟩
  | _, _ => ⟨S2x1024x770, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x770 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x770 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x770 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x770 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x770 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x770 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x770 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S2x1024x770 : Shape := ⟨3, ![2, 1024, 770]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x770, .f32⟩
  | .hbm, ⟨1, _⟩ => ⟨S2x1024x770, .f32⟩
  | .hbm, ⟨2, _⟩ => ⟨S2x1024x770, .f32⟩
  | .hbm, ⟨3, _⟩ => ⟨S2x1024x770, .f32⟩
  | .hbm, ⟨4, _⟩ => ⟨S_, .f32⟩
  | .hbm, ⟨5, _⟩ => ⟨S2x1024x770, .f32⟩
  | .hbm, ⟨6, _⟩ => ⟨S2x1024x770, .f32⟩
  | .hbm, ⟨7, _⟩ => ⟨S_, .f32⟩
  | .hbm, ⟨8, _⟩ => ⟨S2x1024x770, .f32⟩
  | .hbm, ⟨9, _⟩ => ⟨S2x1024x770, .f32⟩
  | .hbm, ⟨10, _⟩ => ⟨S2x1024x770, .f32⟩
  | .hbm, ⟨11, _⟩ => ⟨S_, .f32⟩
  | .hbm, ⟨12, _⟩ => ⟨S2x1024x770, .f32⟩
  | .hbm, ⟨13, _⟩ => ⟨S2x1024x770, .f32⟩
  | .hbm, ⟨14, _⟩ => ⟨S2x1024x770, .f32⟩
  | .hbm, ⟨15, _⟩ => ⟨S_, .f32⟩
  | .hbm, ⟨16, _⟩ => ⟨S2x1024x770, .f32⟩
  | .hbm, ⟨17, _⟩ => ⟨S2x1024x770, .f32⟩
  | .hbm, ⟨18, _⟩ => ⟨S2x1024x770, .f32⟩
  | .hbm, ⟨19, _⟩ => ⟨S_, .f32⟩
  | .hbm, ⟨20, _⟩ => ⟨S2x1024x770, .f32⟩
  | .hbm, ⟨21, _⟩ => ⟨S2x1024x770, .f32⟩
  | .hbm, ⟨22, _⟩ => ⟨S_, .f32⟩
  | .hbm, ⟨23, _⟩ => ⟨S2x1024x770, .f32⟩
  | .hbm, ⟨24, _⟩ => ⟨S2x1024x770, .f32⟩
  | .hbm, ⟨25, _⟩ => ⟨S2x1024x770, .f32⟩
  | .hbm, ⟨26, _⟩ => ⟨S_, .f32⟩
  | .hbm, ⟨27, _⟩ => ⟨S2x1024x770, .f32⟩
  | .hbm, ⟨28, _⟩ => ⟨S2x1024x770, .f32⟩
  | .hbm, ⟨29, _⟩ => ⟨S2x1024x770, .f32⟩
  | .hbm, ⟨30, _⟩ => ⟨S_, .f32⟩
  | .hbm, ⟨31, _⟩ => ⟨S2x1024x770, .f32⟩
  | .hbm, ⟨32, _⟩ => ⟨S2x1024x770, .f32⟩
  | .hbm, ⟨33, _⟩ => ⟨S2x1024x770, .f32⟩
  | .hbm, ⟨34, _⟩ => ⟨S_, .f32⟩
  | .hbm, ⟨35, _⟩ => ⟨S2x1024x770, .f32⟩
  | .hbm, ⟨36, _⟩ => ⟨S2x1024x770, .f32⟩
  | _, _ => ⟨S2x1024x770, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2048x1024 : Shape := ⟨2, ![2048, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1x128, .f32⟩
  | .hbm, ⟨4, _⟩ => ⟨S2048x1024, .f32⟩
  | .hbm, ⟨5, _⟩ => ⟨S2048x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v62 : BitVec 32 := Scalar.extui v61
  let c0_i32_24 : BitVec 32 := 0#32
  let v63 : BitVec 1 := Scalar.cmpi .ne v62 c0_i32_24
  v63

def k0_cond2 (i : grid0.Coords) : BitVec 1 :=
  let arg0 : BitVec 32 := BitVec.ofNat 32 (i 0).val
  let c0_i32_25 : BitVec 32 := 0#32
  let v64 : BitVec 1 := Scalar.cmpi .sgt arg0 c0_i32_25
  let v65 : BitVec 32 := Scalar.extui v64
  let c0_i32_26 : BitVec 32 := 0#32
  let v66 : BitVec 1 := Scalar.cmpi .ne v65 c0_i32_26
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference19Ideal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S2048x1024, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x1024, .f32⟩
  | .hbm, ⟨60, _⟩ => ⟨S2048x1024, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S1x128, .f32⟩
  | .hbm, ⟨73, _⟩ => ⟨S2048x1024, .bf16⟩
  | .hbm, ⟨74, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel21.lean ====
abbrev S2048x3200 : Shape := ⟨2, ![2048, 3200]⟩
abbrev S4x1536 : Shape := ⟨2, ![4, 1536]⟩
abbrev S2048x1536 : Shape := ⟨2, ![2048, 1536]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩

abbrev nBuf : Space → Nat
  | .hbm => 3
  | .vmem => 6
  | .smem => 0
  | _ => 0

abbrev bufTy : (tb : Table) → Fin (tcTables nBuf tb) → BufTy
  | .hbm, ⟨0, _⟩ => ⟨S2048x3200, .f32⟩
  | .hbm, ⟨1, _⟩ => ⟨S4x1536, .f32⟩
  | .hbm, ⟨2, _⟩ => ⟨S2048x1536, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S2048x3200 : Shape := ⟨2, ![2048, 3200]⟩
abbrev S4x1536 : Shape := ⟨2, ![4, 1536]⟩
abbrev S2048x1536 : Shape := ⟨2, ![2048, 1536]⟩
abbrev S_ : Shape := ⟨0, ![]⟩
abbrev S3x1536 : Shape := ⟨2, ![3, 1536]⟩
abbrev S2051x1536 : Shape := ⟨2, ![2051, 1536]⟩
abbrev S1x1536 : Shape := ⟨2, ![1, 1536]⟩
abbrev S1536 : Shape := ⟨1, ![1536]⟩
abbrev S2048x512 : Shape := ⟨2, ![2048, 512]⟩
abbrev S2048x4x128 : Shape := ⟨3, ![2048, 4, 128]⟩
abbrev S2048x4 : Shape := ⟨2, ![2048, 4]⟩
abbrev S2048x4x1 : Shape := ⟨3, ![2048, 4, 1]⟩

abbrev nBuf : Space → Nat
  | .hbm => 76
  | .vmem => 0
  | .smem => 0
  | _ => 0

abbrev bufTy : (tb : Table) → Fin (tcTables nBuf tb) → BufTy
  | .hbm, ⟨0, _⟩ => ⟨S2048x3200, .f32⟩
  | .hbm, ⟨1, _⟩ => ⟨S4x1536, .f32⟩
  | .hbm, ⟨2, _⟩ => ⟨S2048x1536, .f32⟩
  | .hbm, ⟨3, _⟩ => ⟨S_, .f32⟩
  | .hbm, ⟨4, _⟩ => ⟨S3x1536, .f32⟩
  | .hbm, ⟨5, _⟩ => ⟨S2051x1536, .f32⟩
  | .hbm, ⟨6, _⟩ => ⟨S2048x1536, .f32⟩
  | .hbm, ⟨7, _⟩ => ⟨S1x1536, .f32⟩
  | .hbm, ⟨8, _⟩ => ⟨S1536, .f32⟩
  | .hbm, ⟨9, _⟩ => ⟨S1x1536, .f32⟩
  | .hbm, ⟨10, _⟩ => ⟨S2048x1536, .f32⟩
  | .hbm, ⟨11, _⟩ => ⟨S2048x1536, .f32⟩
  | .hbm, ⟨12, _⟩ => ⟨S_, .f32⟩
  | .hbm, ⟨13, _⟩ => ⟨S2048x1536, .f32⟩
  | .hbm, ⟨14, _⟩ => ⟨S2048x1536, .f32⟩
  | .hbm, ⟨15, _⟩ => ⟨S2048x1536, .f32⟩
  | .hbm, ⟨16, _⟩ => ⟨S1x1536, .f32⟩
  | .hbm, ⟨17, _⟩ => ⟨S1536, .f32⟩
  | .hbm, ⟨18, _⟩ => ⟨S1x1536, .f32⟩
  | .hbm, ⟨19, _⟩ => ⟨S2048x1536, .f32⟩
  | .hbm, ⟨20, _⟩ => ⟨S2048x1536, .f32⟩
  | .hbm, ⟨21, _⟩ => ⟨S2048x1536, .f32⟩
  | .hbm, ⟨22, _⟩ => ⟨S2048x1536, .f32⟩
  | .hbm, ⟨23, _⟩ => ⟨S1x1536, .f32⟩
  | .hbm, ⟨24, _⟩ => ⟨S1536, .f32⟩
  | .hbm, ⟨25, _⟩ => ⟨S1x1536, .f32⟩
  | .hbm, ⟨26, _⟩ => ⟨S2048x1536, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S1x1536, .f32⟩
  | .hbm, ⟨31, _⟩ => ⟨S1536, .f32⟩
  | .hbm, ⟨32, _⟩ => ⟨S1x1536, .f32⟩
  | .hbm, ⟨33, _⟩ => ⟨S2048x1536, .f32⟩
  | .hbm, ⟨34, _⟩ => ⟨S2048x1536, .f32⟩
  | .hbm, ⟨35, _⟩ => ⟨S2048x1536, .f32⟩
  | .hbm, ⟨36, _⟩ => ⟨S2048x1536, .f32⟩
  | .hbm, ⟨37, _⟩ => ⟨S2048x1536, .f32⟩
  | .hbm, ⟨38, _⟩ => ⟨S_, .f32⟩
  | .hbm, ⟨39, _⟩ => ⟨S2048x1536, .f32⟩
  | .hbm, ⟨40, _⟩ => ⟨S2048x1536, .f32⟩
  | .hbm, ⟨41, _⟩ => ⟨S_, .f32⟩
  | .hbm, ⟨42, _⟩ => ⟨S2048x1536, .f32⟩
  | .hbm, ⟨43, _⟩ => ⟨S2048x1536, .f32⟩
  | .hbm, ⟨44, _⟩ => ⟨S2048x1536, .f32⟩
  | .hbm, ⟨45, _⟩ => ⟨S2048x512, .f32⟩
  | .hbm, ⟨46, _⟩ => ⟨S2048x512, .f32⟩
  | .hbm, ⟨47, _⟩ => ⟨S2048x4x128, .f32⟩
  | .hbm, ⟨48, _⟩ => ⟨S2048x4x128, .f32⟩
  | .hbm, ⟨49, _⟩ => ⟨S_, .f32⟩
  | .hbm, ⟨50, _⟩ => ⟨S2048x4, .f32⟩
  | .hbm, ⟨51, _⟩ => ⟨S2048x4x1, .f32⟩
  | .hbm, ⟨52, _⟩ => ⟨S_, .f32⟩
  | .hbm, ⟨53, _⟩ => ⟨S2048x4x1, .f32⟩
  | .hbm, ⟨54, _⟩ => ⟨S2048x4x1, .f32⟩
  | .hbm, ⟨55, _⟩ => ⟨S2048x4x1, .f32⟩
  | .hbm, ⟨56, _⟩ => ⟨S2048x4x128, .f32⟩
  | .hbm, ⟨57, _⟩ => ⟨S2048x4x128, .f32⟩
  | .hbm, ⟨58, _⟩ => ⟨S2048x512, .f32⟩
  | .hbm, ⟨59, _⟩ => ⟨S2048x4x128, .f32⟩
  | .hbm, ⟨60, _⟩ => ⟨S2048x4x128, .f32⟩
  | .hbm, ⟨61, _⟩ => ⟨S_, .f32⟩
  | .hbm, ⟨62, _⟩ => ⟨S2048x4, .f32⟩
  | .hbm, ⟨63, _⟩ => ⟨S2048x4x1, .f32⟩
  | .hbm, ⟨64, _⟩ => ⟨S_, .f32⟩
  | .hbm, ⟨65, _⟩ => ⟨S2048x4x1, .f32⟩
  | .hbm, ⟨66, _⟩ => ⟨S2048x4x1, .f32⟩
  | .hbm, ⟨67, _⟩ => ⟨S2048x4x1, .f32⟩
  | .hbm, ⟨68, _⟩ => ⟨S2048x4x128, .f32⟩
  | .hbm, ⟨69, _⟩ => ⟨S2048x4x128, .f32⟩
  | .hbm, ⟨70, _⟩ => ⟨S2048x512, .f32⟩
  | .hbm, ⟨71, _⟩ => ⟨S_, .f32⟩
  | .hbm, ⟨72, _⟩ => ⟨S2048x512, .f32⟩
  | .hbm, ⟨73, _⟩ => ⟨S2048x512, .f32⟩
  | .hbm, ⟨74, _⟩ => ⟨S2048x512, .f32⟩
  | .hbm, ⟨75, _⟩ => ⟨S2048x1536, .f32⟩
  | _, _ => ⟨S2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_1 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Kernel22.lean ====
abbrev S2048x3200 : Shape := ⟨2, ![2048, 3200]⟩
abbrev S1x128 : Shape := ⟨2, ![1, 128]⟩
abbrev S2048x128 : Shape := ⟨2, ![2048, 128]⟩

abbrev nBuf : Space → Nat
  | .hbm => 4
  | .vmem => 4
  | .smem => 0
  | _ => 0

abbrev bufTy : (tb : Table) → Fin (tcTables nBuf tb) → BufTy
  | .hbm, ⟨0, _⟩ => ⟨S2048x3200, .f32⟩
  | .hbm, ⟨1, _⟩ => ⟨S1x128, .f32⟩
  | .hbm, ⟨2, _⟩ => ⟨S1x128, .f32⟩
  | .hbm, ⟨3, _⟩ => ⟨S2048x128, .f32⟩
  | .local _ .vmem, ⟨0, _⟩ => ⟨S2048x128, .f32⟩
  | .local _ .vmem, ⟨1, _⟩ => ⟨S1x128, .f32⟩
  | .local _ .vmem, ⟨2, _⟩ => ⟨S1x128, .f32⟩
  | .local _ .vmem, ⟨3, _⟩ => ⟨S2048x128, .f32⟩
  | _, _ => ⟨S2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c24_i32 : BitVec 32 := 24#32
  let c0_i32_0 : BitVec 32 := 0#32
  ![c0_i32.toNat, c24_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference22Ideal.lean ====
abbrev S2048x3200 : Shape := ⟨2, ![2048, 3200]⟩
abbrev S1x128 : Shape := ⟨2, ![1, 128]⟩
abbrev S2048x128 : Shape := ⟨2, ![2048, 128]⟩
abbrev S2048x4 : Shape := ⟨2, ![2048, 4]⟩
abbrev S_ : Shape := ⟨0, ![]⟩
abbrev S1x124 : Shape := ⟨2, ![1, 124]⟩
abbrev S2048x124 : Shape := ⟨2, ![2048, 124]⟩

abbrev nBuf : Space → Nat
  | .hbm => 37
  | .vmem => 0
  | .smem => 0
  | _ => 0

abbrev bufTy : (tb : Table) → Fin (tcTables nBuf tb) → BufTy
  | .hbm, ⟨0, _⟩ => ⟨S2048x3200, .f32⟩
  | .hbm, ⟨1, _⟩ => ⟨S1x128, .f32⟩
  | .hbm, ⟨2, _⟩ => ⟨S1x128, .f32⟩
  | .hbm, ⟨3, _⟩ => ⟨S2048x128, .f32⟩
  | .hbm, ⟨4, _⟩ => ⟨S2048x4, .f32⟩
  | .hbm, ⟨5, _⟩ => ⟨S2048x4, .f32⟩
  | .hbm, ⟨6, _⟩ => ⟨S2048x4, .f32⟩
  | .hbm, ⟨7, _⟩ => ⟨S_, .f32⟩
  | .hbm, ⟨8, _⟩ => ⟨S2048x4, .f32⟩
  | .hbm, ⟨9, _⟩ => ⟨S2048x4, .f32⟩
  | .hbm, ⟨10, _⟩ => ⟨S_, .f32⟩
  | .hbm, ⟨11, _⟩ => ⟨S2048x4, .f32⟩
  | .hbm, ⟨12, _⟩ => ⟨S2048x4, .f32⟩
  | .hbm, ⟨13, _⟩ => ⟨S1x124, .f32⟩
  | .hbm, ⟨14, _⟩ => ⟨S1x124, .f32⟩
  | .hbm, ⟨15, _⟩ => ⟨S1x124, .f32⟩
  | .hbm, ⟨16, _⟩ => ⟨S2048x124, .f32⟩
  | .hbm, ⟨17, _⟩ => ⟨S1x124, .f32⟩
  | .hbm, ⟨18, _⟩ => ⟨S2048x124, .f32⟩
  | .hbm, ⟨19, _⟩ => ⟨S2048x124, .f32⟩
  | .hbm, ⟨20, _⟩ => ⟨S_, .f32⟩
  | .hbm, ⟨21, _⟩ => ⟨S2048x124, .f32⟩
  | .hbm, ⟨22, _⟩ => ⟨S2048x124, .f32⟩
  | .hbm, ⟨23, _⟩ => ⟨S2048x124, .f32⟩
  | .hbm, ⟨24, _⟩ => ⟨S2048x124, .f32⟩
  | .hbm, ⟨25, _⟩ => ⟨S2048x124, .i1⟩
  | .hbm, ⟨26, _⟩ => ⟨S2048x124, .f32⟩
  | .hbm, ⟨27, _⟩ => ⟨S2048x124, .f32⟩
  | .hbm, ⟨28, _⟩ => ⟨S2048x124, .f32⟩
  | .hbm, ⟨29, _⟩ => ⟨S2048x124, .f32⟩
  | .hbm, ⟨30, _⟩ => ⟨S2048x124, .f32⟩
  | .hbm, ⟨31, _⟩ => ⟨S2048x124, .f32⟩
  | .hbm, ⟨32, _⟩ => ⟨S2048x124, .f32⟩
  | .hbm, ⟨33, _⟩ => ⟨S2048x124, .f32⟩
  | .hbm, ⟨34, _⟩ => ⟨S2048x124, .f32⟩
  | .hbm, ⟨35, _⟩ => ⟨S2048x124, .f32⟩
  | .hbm, ⟨36, _⟩ => ⟨S2048x128, .f32⟩
  | _, _ => ⟨S2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== Kernel24.lean ====
abbrev S2048x512 : Shape := ⟨2, ![2048, 512]⟩
abbrev S2048x3200 : Shape := ⟨2, ![2048, 3200]⟩
abbrev S1x128 : Shape := ⟨2, ![1, 128]⟩
abbrev S1x512 : Shape := ⟨2, ![1, 512]⟩
abbrev S4x128x128 : Shape := ⟨3, ![4, 128, 128]⟩
abbrev S128x128 : Shape := ⟨2, ![128, 128]⟩
abbrev S2048x1024 : Shape := ⟨2, ![2048, 1024]⟩
abbrev S512x512 : Shape := ⟨2, ![512, 512]⟩
abbrev S512x1024 : Shape := ⟨2, ![512, 1024]⟩
abbrev S128x512 : Shape := ⟨2, ![128, 512]⟩
abbrev S128 : Shape := ⟨1, ![128]⟩
abbrev S128x1 : Shape := ⟨2, ![128, 1]⟩
abbrev S1x128x128 : Shape := ⟨3, ![1, 128, 128]⟩
abbrev S128x1024 : Shape := ⟨2, ![128, 1024]⟩

abbrev nBuf : Space → Nat
  | .hbm => 8
  | .vmem => 15
  | .smem => 0
  | _ => 0

abbrev bufTy : (tb : Table) → Fin (tcTables nBuf tb) → BufTy
  | .hbm, ⟨0, _⟩ => ⟨S2048x512, .f32⟩
  | .hbm, ⟨1, _⟩ => ⟨S2048x3200, .f32⟩
  | .hbm, ⟨2, _⟩ => ⟨S1x128, .f32⟩
  | .hbm, ⟨3, _⟩ => ⟨S1x512, .f32⟩
  | .hbm, ⟨4, _⟩ => ⟨S1x512, .f32⟩
  | .hbm, ⟨5, _⟩ => ⟨S4x128x128, .f32⟩
  | .hbm, ⟨6, _⟩ => ⟨S128x128, .f32⟩
  | .hbm, ⟨7, _⟩ => ⟨S2048x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x128, .f32⟩
  | .local _ .vmem, ⟨9, _⟩ => ⟨S1x512, .f32⟩
  | .local _ .vmem, ⟨10, _⟩ => ⟨S1x512, .f32⟩
  | .local _ .vmem, ⟨11, _⟩ => ⟨S4x128x128, .f32⟩
  | .local _ .vmem, ⟨12, _⟩ => ⟨S128x128, .f32⟩
  | .local _ .vmem, ⟨13, _⟩ => ⟨S512x1024, .bf16⟩
  | .local _ .vmem, ⟨14, _⟩ => ⟨S512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference24Ideal.lean ====
abbrev S2048x512 : Shape := ⟨2, ![2048, 512]⟩
abbrev S2048x3200 : Shape := ⟨2, ![2048, 3200]⟩
abbrev S1x128 : Shape := ⟨2, ![1, 128]⟩
abbrev S1x512 : Shape := ⟨2, ![1, 512]⟩
abbrev S4x128x128 : Shape := ⟨3, ![4, 128, 128]⟩
abbrev S128x128 : Shape := ⟨2, ![128, 128]⟩
abbrev S128 : Shape := ⟨1, ![128]⟩
abbrev S128x4 : Shape := ⟨2, ![128, 4]⟩
abbrev S_ : Shape := ⟨0, ![]⟩
abbrev S2048x4x128 : Shape := ⟨3, ![2048, 4, 128]⟩
abbrev S2048x4 : Shape := ⟨2, ![2048, 4]⟩
abbrev S2048x4x1 : Shape := ⟨3, ![2048, 4, 1]⟩
abbrev S1x1x128 : Shape := ⟨3, ![1, 1, 128]⟩
abbrev S4x128 : Shape := ⟨2, ![4, 128]⟩
abbrev S1x4x128 : Shape := ⟨3, ![1, 4, 128]⟩
abbrev S128x1 : Shape := ⟨2, ![128, 1]⟩
abbrev S16x128x4x128 : Shape := ⟨4, ![16, 128, 4, 128]⟩
abbrev S4x16x128x128 : Shape := ⟨4, ![4, 16, 128, 128]⟩
abbrev S128x4x1 : Shape := ⟨3, ![128, 4, 1]⟩
abbrev S1x128x4x1 : Shape := ⟨4, ![1, 128, 4, 1]⟩
abbrev S2048x1024 : Shape := ⟨2, ![2048, 1024]⟩

abbrev nBuf : Space → Nat
  | .hbm => 129
  | .vmem => 0
  | .smem => 0
  | _ => 0

abbrev hbmTy0_0 (i : Nat) : BufTy := match i % 128 with
  | 0 => ⟨S2048x512, .f32⟩
  | 1 => ⟨S2048x3200, .f32⟩
  | 2 => ⟨S1x128, .f32⟩
  | 3 => ⟨S1x512, .f32⟩
  | 4 => ⟨S1x512, .f32⟩
  | 5 => ⟨S4x128x128, .f32⟩
  | 6 => ⟨S128x128, .f32⟩
  | 7 => ⟨S2048x512, .f32⟩
  | 8 => ⟨S2048x512, .f32⟩
  | 9 => ⟨S2048x512, .f32⟩
  | 10 => ⟨S128, .f32⟩
  | 11 => ⟨S128x4, .f32⟩
  | 12 => ⟨S2048x512, .f32⟩
  | 13 => ⟨S2048x512, .f32⟩
  | 14 => ⟨S_, .f32⟩
  | 15 => ⟨S2048x512, .f32⟩
  | 16 => ⟨S2048x512, .f32⟩
  | 17 => ⟨S2048x512, .f32⟩
  | 18 => ⟨S_, .f32⟩
  | 19 => ⟨S2048x512, .f32⟩
  | 20 => ⟨S2048x512, .f32⟩
  | 21 => ⟨S2048x512, .f32⟩
  | 22 => ⟨S_, .f32⟩
  | 23 => ⟨S2048x512, .f32⟩
  | 24 => ⟨S2048x512, .f32⟩
  | 25 => ⟨S_, .f32⟩
  | 26 => ⟨S2048x512, .f32⟩
  | 27 => ⟨S2048x512, .f32⟩
  | 28 => ⟨S2048x512, .f32⟩
  | 29 => ⟨S2048x4x128, .f32⟩
  | 30 => ⟨S2048x4x128, .f32⟩
  | 31 => ⟨S2048x4x128, .f32⟩
  | 32 => ⟨S2048x4x128, .f32⟩
  | 33 => ⟨S_, .f32⟩
  | 34 => ⟨S2048x4, .f32⟩
  | 35 => ⟨S2048x4x1, .f32⟩
  | 36 => ⟨S_, .f32⟩
  | 37 => ⟨S2048x4x1, .f32⟩
  | 38 => ⟨S2048x4x1, .f32⟩
  | 39 => ⟨S_, .f32⟩
  | 40 => ⟨S2048x4x1, .f32⟩
  | 41 => ⟨S2048x4x1, .f32⟩
  | 42 => ⟨S2048x4x1, .f32⟩
  | 43 => ⟨S2048x4x128, .f32⟩
  | 44 => ⟨S2048x4x128, .f32⟩
  | 45 => ⟨S1x1x128, .f32⟩
  | 46 => ⟨S2048x4x128, .f32⟩
  | 47 => ⟨S2048x4x128, .f32⟩
  | 48 => ⟨S2048x4x128, .f32⟩
  | 49 => ⟨S2048x4x128, .f32⟩
  | 50 => ⟨S_, .f32⟩
  | 51 => ⟨S2048x4x128, .f32⟩
  | 52 => ⟨S2048x4x128, .f32⟩
  | 53 => ⟨S_, .f32⟩
  | 54 => ⟨S2048x4x128, .f32⟩
  | 55 => ⟨S2048x4x128, .f32⟩
  | 56 => ⟨S2048x4x128, .f32⟩
  | 57 => ⟨S2048x4x128, .f32⟩
  | 58 => ⟨S_, .f32⟩
  | 59 => ⟨S2048x4, .f32⟩
  | 60 => ⟨S2048x4x1, .f32⟩
  | 61 => ⟨S_, .f32⟩
  | 62 => ⟨S2048x4x1, .f32⟩
  | 63 => ⟨S2048x4x1, .f32⟩
  | 64 => ⟨S2048x4x128, .f32⟩
  | 65 => ⟨S2048x4x128, .f32⟩
  | 66 => ⟨S2048x4x128, .f32⟩
  | 67 => ⟨S_, .f32⟩
  | 68 => ⟨S2048x4, .f32⟩
  | 69 => ⟨S2048x4x1, .f32⟩
  | 70 => ⟨S_, .f32⟩
  | 71 => ⟨S2048x4x1, .f32⟩
  | 72 => ⟨S2048x4x1, .f32⟩
  | 73 => ⟨S2048x4x128, .f32⟩
  | 74 => ⟨S2048x4x128, .f32⟩
  | 75 => ⟨S_, .f32⟩
  | 76 => ⟨S2048x4x1, .f32⟩
  | 77 => ⟨S2048x4x1, .f32⟩
  | 78 => ⟨S2048x4x1, .f32⟩
  | 79 => ⟨S2048x4x128, .f32⟩
  | 80 => ⟨S2048x4x128, .f32⟩
  | 81 => ⟨S4x128, .f32⟩
  | 82 => ⟨S1x4x128, .f32⟩
  | 83 => ⟨S2048x4x128, .f32⟩
  | 84 => ⟨S2048x4x128, .f32⟩
  | 85 => ⟨S4x128, .f32⟩
  | 86 => ⟨S1x4x128, .f32⟩
  | 87 => ⟨S2048x4x128, .f32⟩
  | 88 => ⟨S2048x4x128, .f32⟩
  | 89 => ⟨S128, .i32⟩
  | 90 => ⟨S128x1, .i32⟩
  | 91 => ⟨S1x128, .i32⟩
  | 92 => ⟨S128x128, .i32⟩
  | 93 => ⟨S128x128, .i32⟩
  | 94 => ⟨S128x128, .i1⟩
  | 95 => ⟨S_, .f32⟩
  | 96 => ⟨S_, .f32⟩
  | 97 => ⟨S4x128x128, .i1⟩
  | 98 => ⟨S4x128x128, .f32⟩
  | 99 => ⟨S4x128x128, .f32⟩
  | 100 => ⟨S16x128x4x128, .f32⟩
  | 101 => ⟨S4x16x128x128, .f32⟩
  | 102 => ⟨S16x128x4x128, .f32⟩
  | 103 => ⟨S128x4x1, .f32⟩
  | 104 => ⟨S1x128x4x1, .f32⟩
  | 105 => ⟨S16x128x4x128, .f32⟩
  | 106 => ⟨S16x128x4x128, .f32⟩
  | 107 => ⟨S2048x512, .f32⟩
  | 108 => ⟨S2048x512, .f32⟩
  | 109 => ⟨S2048x512, .f32⟩
  | 110 => ⟨S_, .f32⟩
  | 111 => ⟨S2048x512, .f32⟩
  | 112 => ⟨S2048x512, .f32⟩
  | 113 => ⟨S2048x512, .f32⟩
  | 114 => ⟨S_, .f32⟩
  | 115 => ⟨S2048x512, .f32⟩
  | 116 => ⟨S2048x512, .f32⟩
  | 117 => ⟨S2048x512, .f32⟩
  | 118 => ⟨S_, .f32⟩
  | 119 => ⟨S2048x512, .f32⟩
  | 120 => ⟨S2048x512, .f32⟩
  | 121 => ⟨S_, .f32⟩
  | 122 => ⟨S2048x512, .f32⟩
  | 123 => ⟨S2048x512, .f32⟩
  | 124 => ⟨S2048x512, .f32⟩
  | 125 => ⟨S2048x512, .f32⟩
  | 126 => ⟨S2048x512, .f32⟩
  | 127 => ⟨S2048x1024, .f32⟩
  | _ => ⟨S2048x512, .f32⟩

abbrev hbmTy0_1 (i : Nat) : BufTy := match i % 128 with
  | 0 => ⟨S2048x1024, .bf16⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_12 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_13 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_14 : Ref sig .tc := ⟨.hbm, 118, rfl⟩
abbrev main_v85 : Ref sig .tc := ⟨.hbm, 119, rfl⟩
abbrev main_v86 : Ref sig .tc := ⟨.hbm, 120, rfl⟩
abbrev main_cst_15 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]
-- ==== Proof.KVec.lean ====
module

public import proofs.«01_k».proof.Proof.Gen.KernelIdeal
public import Idealize.ShloMosaic.Lib.Pointwise
public import Idealize.ShloMosaic.Lib.ValueIdx

@[expose] public section

set_option maxRecDepth 8192

noncomputable section

/-! One chunk of one head in the kernel: the vectors that its stores write, as functions of the vectors that it loads. -/

namespace Cert.Proof.KVec

open Idealize.ShloMosaic Cert.KernelIdeal Cert.KernelIdeal.Gen

variable {F : FTy → Type} [FloatOps F]

/-- The vectors that the kernel loads for one chunk of one head. -/
structure Loads (F : FTy → Type) where
  u : Vec F S64x128 .f32
  w : Vec F S64x128 .bf16
  qe : Vec F S64x128 .bf16
  kd : Vec F S64x128 .bf16
  qk : Vec F S1x64x64 .bf16
  egl : Vec F S1x128 .f32
  s : Vec F S1x1x128x128 .f32
  dout : Vec F S64x128 .f32

/-- The saved state, as the products take it. -/
def st (L : Loads F) : FVec F S128x128 .bf16 := truncf .bf16 (shapeCast S128x128 L.s shapeCasts_S1x1x128x128_S128x128) bitsLt_bf16_f32
def r16 (x : Vec F S64x128 .bf16) : FVec F S64x128 .bf16 := truncf .bf16 (extf .f32 x bitsLt_bf16_f32 : FVec F S64x128 .f32) bitsLt_bf16_f32
def dcast (L : Loads F) : FVec F S64x128 .f32 := shapeCast S64x128 L.dout shapeCasts_S64x128_S64x128

/-- The corrected values of the chunk: what the rows add to the state. -/
def vnew (L : Loads F) : FVec F S64x128 .f32 :=
  subf L.u (matmul dot_S64x128_S128x128_S64x128_1_0_0_1_n_n none (r16 L.w) (st L) (constant S64x128 .f32 0x00000000#32))
def vnew16 (L : Loads F) : FVec F S64x128 .bf16 := truncf .bf16 (vnew L) bitsLt_bf16_f32

/-- A column-major product turned over and rounded. -/
def turn (x : FVec F S128x64 .f32) : FVec F S64x128 .f32 :=
  extf .f32 (truncf .bf16 (transpose S64x128 [1, 0] x transposes_S128x64_p1_0_S64x128) bitsLt_bf16_f32) bitsLt_bf16_f32
def turnS (x : FVec F S128x128 .f32) : FVec F S128x128 .f32 :=
  extf .f32 (truncf .bf16 (transpose S128x128 [1, 0] x transposes_S128x128_p1_0_S128x128) bitsLt_bf16_f32) bitsLt_bf16_f32

/-- The gradient of the corrected values. -/
def dv (ds : FVec F S128x128 .f32) (L : Loads F) : FVec F S64x128 .f32 :=
  addf (turn (matmul dot_S128x128_S64x128_S128x64_0_1_1_0_n_n none ds (r16 L.kd) (constant S128x64 .f32 0x00000000#32)))
    (turn (matmul dot_S64x128_S64x64_S128x64_0_0_1_1_n_n none (dcast L)
      (truncf .bf16 (extf .f32 (shapeCast S64x64 L.qk shapeCasts_S1x64x64_S64x64) bitsLt_bf16_f32 : FVec F S64x64 .f32) bitsLt_bf16_f32) (constant S128x64 .f32 0x00000000#32)))
def ndv (ds : FVec F S128x128 .f32) (L : Loads F) : FVec F S64x128 .f32 :=
  subf (broadcast S64x128 (Scalar.ofBits .f32 0x00000000#32)) (dv ds L)

/-- The gradient of `w`. -/
def dw (ds : FVec F S128x128 .f32) (L : Loads F) : FVec F S64x128 .f32 :=
  extf .f32 (truncf .bf16 (matmul dot_S64x128_S128x128_S64x128_1_1_0_0_n_n none (ndv ds L) (st L) (constant S64x128 .f32 0x00000000#32)) bitsLt_bf16_f32) bitsLt_bf16_f32
/-- The gradient of `qe`. -/
def dqe (L : Loads F) : FVec F S64x128 .f32 :=
  extf .f32 (truncf .bf16 (matmul dot_S64x128_S128x128_S64x128_1_1_0_0_n_n none (dcast L) (st L) (constant S64x128 .f32 0x00000000#32)) bitsLt_bf16_f32) bitsLt_bf16_f32
/-- The gradient of `kd`. -/
def dkd (ds : FVec F S128x128 .f32) (L : Loads F) : FVec F S64x128 .f32 :=
  turn (matmul dot_S128x128_S64x128_S128x64_1_1_0_0_n_n none ds (vnew16 L) (constant S128x64 .f32 0x00000000#32))
/-- The gradient of `qk`. -/
def dqk (L : Loads F) : FVec F S1x64x64 .f32 :=
  shapeCast S1x64x64 (extf .f32 (truncf .bf16 (matmul dot_S64x128_S64x128_S64x64_1_1_0_0_n_n none (dcast L) (vnew16 L) (constant S64x64 .f32 0x00000000#32)) bitsLt_bf16_f32) bitsLt_bf16_f32) shapeCasts_S64x64_S1x64x64
/-- The gradient of the decay. -/
def degl (ds : FVec F S128x128 .f32) (L : Loads F) : FVec F S1x1x128 .f32 :=
  shapeCast S1x1x128 (shapeCast S1x128 (multiReduction .add [0] S128 (mulf (shapeCast S128x128 L.s shapeCasts_S1x1x128x128_S128x128) ds) 0x00000000#32 reduces_S128x128_S128 (.inl rfl) rfl) shapeCasts_S128_S1x128) shapeCasts_S1x128_S1x1x128
/-- The gradient of the state that the chunk before hands on. -/
def nx (ds : FVec F S128x128 .f32) (L : Loads F) : FVec F S128x128 .f32 :=
  addf (addf (mulf ds (broadcastTo S128x128 L.egl broadcasts_S1x128_S128x128))
      (turnS (matmul dot_S64x128_S64x128_S128x128_0_0_1_1_n_n none (dcast L) (r16 L.qe) (constant S128x128 .f32 0x00000000#32))))
    (turnS (matmul dot_S64x128_S64x128_S128x128_0_0_1_1_n_n none (ndv ds L) (r16 L.w) (constant S128x128 .f32 0x00000000#32)))

/-! The same over the extended reals, entry by entry. -/

/-- One chunk of one head as functions of the coordinates. -/
structure Chunk where
  u : Fin 64 → Fin 128 → EReal
  w : Fin 64 → Fin 128 → EReal
  qe : Fin 64 → Fin 128 → EReal
  kd : Fin 64 → Fin 128 → EReal
  qk : Fin 64 → Fin 64 → EReal
  egl : Fin 128 → EReal
  s : Fin 128 → Fin 128 → EReal
  dout : Fin 64 → Fin 128 → EReal

namespace Chunk
variable (C : Chunk) (ds : Fin 128 → Fin 128 → EReal)
def vnew (r : Fin 64) (e : Fin 128) : EReal := C.u r e - ∑ d, C.w r d * C.s d e
def dv (r : Fin 64) (e : Fin 128) : EReal := (∑ d, ds d e * C.kd r d) + ∑ q, C.dout q e * C.qk q r
def dw (r : Fin 64) (d : Fin 128) : EReal := ∑ e, -(C.dv ds r e) * C.s d e
def dqe (r : Fin 64) (d : Fin 128) : EReal := ∑ e, C.dout r e * C.s d e
def dkd (r : Fin 64) (d : Fin 128) : EReal := ∑ e, ds d e * C.vnew r e
def dqk (q r : Fin 64) : EReal := ∑ e, C.dout q e * C.vnew r e
def degl (e : Fin 128) : EReal := ∑ d, C.s d e * ds d e
def nx (d e : Fin 128) : EReal := (ds d e * C.egl e + ∑ q, C.dout q e * C.qe q d) + ∑ r, -(C.dv ds r e) * C.w r d
end Chunk

/-- The loaded vectors read at their coordinates. -/
def Loads.at (L : Loads Ideal) : Chunk where
  u r d := L.u (ix2 r d)
  w r d := L.w (ix2 r d)
  qe r d := L.qe (ix2 r d)
  kd r d := L.kd (ix2 r d)
  qk q r := L.qk (ix3 0 q r)
  egl e := L.egl (ix2 0 e)
  s d e := L.s (ix4 0 0 d e)
  dout r d := L.dout (ix2 r d)

theorem vnew_apply (L : Loads Ideal) (r : Fin 64) (d : Fin 128) : vnew L (ix2 r d) = L.at.vnew r d := by
  unfold vnew r16 st Chunk.vnew Loads.at
  pointwise

theorem dv_apply (ds) (L : Loads Ideal) (r : Fin 64) (d : Fin 128) : dv ds L (ix2 r d) = L.at.dv (fun d e => ds (ix2 d e)) r d := by
  unfold dv turn dcast r16 Chunk.dv Loads.at
  pointwise

theorem ndv_apply (ds) (L : Loads Ideal) (r : Fin 64) (d : Fin 128) : ndv ds L (ix2 r d) = -L.at.dv (fun d e => ds (ix2 d e)) r d := by
  unfold ndv
  rw [← dv_apply]
  pointwise
  exact zero_sub _

theorem dw_apply (ds) (L : Loads Ideal) (r : Fin 64) (d : Fin 128) : dw ds L (ix2 r d) = L.at.dw (fun d e => ds (ix2 d e)) r d := by
  unfold dw Chunk.dw st
  simp only [← ndv_apply]
  pointwise
  rfl

theorem dqe_apply (L : Loads Ideal) (r : Fin 64) (d : Fin 128) : dqe L (ix2 r d) = L.at.dqe r d := by
  unfold dqe Chunk.dqe st dcast
  pointwise
  rfl

theorem dkd_apply (ds) (L : Loads Ideal) (r : Fin 64) (d : Fin 128) : dkd ds L (ix2 r d) = L.at.dkd (fun d e => ds (ix2 d e)) r d := by
  unfold dkd turn Chunk.dkd vnew16
  simp only [← vnew_apply]
  pointwise

theorem dqk_apply (L : Loads Ideal) (q r : Fin 64) : dqk L (ix3 0 q r) = L.at.dqk q r := by
  unfold dqk Chunk.dqk vnew16 dcast
  simp only [← vnew_apply]
  pointwise
  rfl

theorem degl_apply (ds) (L : Loads Ideal) (d : Fin 128) : degl ds L (ix3 0 0 d) = L.at.degl (fun d e => ds (ix2 d e)) d := by
  unfold degl Chunk.degl Loads.at
  pointwise

theorem nx_apply (ds) (L : Loads Ideal) (d e : Fin 128) : nx ds L (ix2 d e) = L.at.nx (fun d e => ds (ix2 d e)) d e := by
  unfold nx turnS Chunk.nx r16 dcast
  simp only [← ndv_apply]
  pointwise
  rfl

end Cert.Proof.KVec
end
-- ==== Proof.KTiles.lean ====
module

public import proofs.«01_k».proof.Proof.Gen.KernelIdeal.Value
public import proofs.«01_k».proof.Proof.KVec
public import Idealize.ShloMosaic.Lib.WholeRead
public import Idealize.ShloMosaic.Lib.Pipeline.CanonAppend

@[expose] public section

set_option maxRecDepth 65536

noncomputable section

/-! What one grid point of the kernel stores, as tiles: one vector for each chunk of the point and each head. -/

namespace Cert.Proof.KTiles

open Idealize.ShloMosaic Idealize.ShloMosaic.TcCoe Cert.KernelIdeal Cert.KernelIdeal.Gen Cert.Proof.KVec

variable {F : FTy → Type} [FloatOps F]

/-- The order of the stores, the last one first: heads downwards within a chunk, chunks upwards. -/
def order : List (Fin 4 × Fin 4) :=
  [(⟨0, by decide⟩, ⟨3, by decide⟩), (⟨0, by decide⟩, ⟨2, by decide⟩), (⟨0, by decide⟩, ⟨1, by decide⟩), (⟨0, by decide⟩, ⟨0, by decide⟩),
   (⟨1, by decide⟩, ⟨3, by decide⟩), (⟨1, by decide⟩, ⟨2, by decide⟩), (⟨1, by decide⟩, ⟨1, by decide⟩), (⟨1, by decide⟩, ⟨0, by decide⟩),
   (⟨2, by decide⟩, ⟨3, by decide⟩), (⟨2, by decide⟩, ⟨2, by decide⟩), (⟨2, by decide⟩, ⟨1, by decide⟩), (⟨2, by decide⟩, ⟨0, by decide⟩),
   (⟨3, by decide⟩, ⟨3, by decide⟩), (⟨3, by decide⟩, ⟨2, by decide⟩), (⟨3, by decide⟩, ⟨1, by decide⟩), (⟨3, by decide⟩, ⟨0, by decide⟩)]

def heads : List (Fin 4) := [⟨3, by decide⟩, ⟨2, by decide⟩, ⟨1, by decide⟩, ⟨0, by decide⟩]

theorem mem_heads : ∀ h : Fin 4, h ∈ heads := by decide
theorem mem_order : ∀ (ci h : Fin 4), (ci, h) ∈ order := by decide

theorem fits2 (ci h : Fin 4) : ∀ a, (![64 * ci.val, 128 * h.val] : Fin 2 → ℕ) a + S64x128.size a ≤ S256x512.size a :=
  Rect.inb₂ (by show 64 * ci.val + 64 ≤ 256; omega) (by show 128 * h.val + 128 ≤ 512; omega)
theorem fits3 (ci h : Fin 4) : ∀ a, (![h.val, 64 * ci.val, 0] : Fin 3 → ℕ) a + S1x64x64.size a ≤ S4x256x64.size a := by
  intro a; fin_cases a
  · show h.val + 1 ≤ 4; omega
  · show 64 * ci.val + 64 ≤ 256; omega
  · show 0 + 64 ≤ 64; omega
theorem fitsE (ci h : Fin 4) : ∀ a, (![ci.val, 0, 128 * h.val] : Fin 3 → ℕ) a + S1x1x128.size a ≤ S4x1x512.size a := by
  intro a; fin_cases a
  · show ci.val + 1 ≤ 4; omega
  · show 0 + 1 ≤ 1; omega
  · show 128 * h.val + 128 ≤ 512; omega
theorem fitsS (h : Fin 4) : ∀ a, (![h.val, 0, 0] : Fin 3 → ℕ) a + S1x128x128.size a ≤ S4x128x128.size a := by
  intro a; fin_cases a
  · show h.val + 1 ≤ 4; omega
  · show 0 + 128 ≤ 128; omega
  · show 0 + 128 ≤ 128; omega

/-- Tiles of 64 rows by 128 columns. -/
def tiles2 (V : Fin 4 → Fin 4 → Vec F S64x128 .f32) : List (View.Piece (Elt F) S256x512 .f32) :=
  order.map fun p => ⟨Rect.unit ![64 * p.1.val, 128 * p.2.val] S64x128.size (fits2 p.1 p.2), V p.2 p.1⟩
def tiles3 (V : Fin 4 → Fin 4 → Vec F S1x64x64 .f32) : List (View.Piece (Elt F) S4x256x64 .f32) :=
  order.map fun p => ⟨Rect.unit ![p.2.val, 64 * p.1.val, 0] S1x64x64.size (fits3 p.1 p.2), V p.2 p.1⟩
def tilesE (V : Fin 4 → Fin 4 → Vec F S1x1x128 .f32) : List (View.Piece (Elt F) S4x1x512 .f32) :=
  order.map fun p => ⟨Rect.unit ![p.1.val, 0, 128 * p.2.val] S1x1x128.size (fitsE p.1 p.2), V p.2 p.1⟩
def tilesS (V : Fin 4 → Vec F S1x128x128 .f32) : List (View.Piece (Elt F) S4x128x128 .f32) :=
  heads.map fun h => ⟨Rect.unit ![h.val, 0, 0] S1x128x128.size (fitsS h), V h⟩

theorem congr3 {α β γ δ : Sort*} (V : α → β → γ → δ) {a a' : α} {b b' : β} {c c' : γ} (h1 : a = a') (h2 : b = b') (h3 : c = c') : V a b c = V a' b' c' := by
  subst h1 h2 h3; rfl
theorem congr2 {α γ δ : Sort*} (V : α → γ → δ) {a a' : α} {c c' : γ} (h1 : a = a') (h3 : c = c') : V a c = V a' c' := by
  subst h1 h3; rfl

/-- The contents at any index, from the tile that holds it. -/
def at2 (V : Fin 4 → Fin 4 → Vec F S64x128 .f32) (y : S256x512.Idx) : Elt F .f32 :=
  V ⟨(y 1).val / 128, by have := (y 1).isLt; change _ < 512 at this; omega⟩ ⟨(y 0).val / 64, by have := (y 0).isLt; change _ < 256 at this; omega⟩
    (ix2 ⟨(y 0).val % 64, Nat.mod_lt _ (by decide)⟩ ⟨(y 1).val % 128, Nat.mod_lt _ (by decide)⟩)
theorem at2_eq (V : Fin 4 → Fin 4 → Vec F S64x128 .f32) (h ci : Fin 4) (r : Fin 64) (d : Fin 128) (y : S256x512.Idx)
    (h0 : (y 0).val = 64 * ci.val + r.val) (h1 : (y 1).val = 128 * h.val + d.val) : at2 V y = V h ci (ix2 r d) :=
  congr3 V (Fin.ext (by dsimp only; omega)) (Fin.ext (by dsimp only; omega))
    (congr2 ix2 (Fin.ext (by dsimp only; omega)) (Fin.ext (by dsimp only; omega)))
def at3 (V : Fin 4 → Fin 4 → Vec F S1x64x64 .f32) (y : S4x256x64.Idx) : Elt F .f32 :=
  V (y 0) ⟨(y 1).val / 64, by have := (y 1).isLt; change _ < 256 at this; omega⟩
    (ix3 0 ⟨(y 1).val % 64, Nat.mod_lt _ (by decide)⟩ (y 2))
theorem at3_eq (V : Fin 4 → Fin 4 → Vec F S1x64x64 .f32) (h ci : Fin 4) (r : Fin 64) (d : Fin 64) (y : S4x256x64.Idx)
    (h0 : (y 0).val = h.val) (h1 : (y 1).val = 64 * ci.val + r.val) (h2 : (y 2).val = d.val) : at3 V y = V h ci (ix3 0 r d) :=
  congr3 V (Fin.ext h0) (Fin.ext (by dsimp only; omega)) (congr3 ix3 rfl (Fin.ext (by dsimp only; omega)) (Fin.ext h2))
def atE (V : Fin 4 → Fin 4 → Vec F S1x1x128 .f32) (y : S4x1x512.Idx) : Elt F .f32 :=
  V ⟨(y 2).val / 128, by have := (y 2).isLt; change _ < 512 at this; omega⟩ (y 0) (ix3 0 0 ⟨(y 2).val % 128, Nat.mod_lt _ (by decide)⟩)
theorem atE_eq (V : Fin 4 → Fin 4 → Vec F S1x1x128 .f32) (h ci : Fin 4) (d : Fin 128) (y : S4x1x512.Idx)
    (h0 : (y 0).val = ci.val) (h2 : (y 2).val = 128 * h.val + d.val) : atE V y = V h ci (ix3 0 0 d) :=
  congr3 V (Fin.ext (by dsimp only; omega)) (Fin.ext h0) (congr3 ix3 rfl rfl (Fin.ext (by dsimp only; omega)))
def atS (V : Fin 4 → Vec F S1x128x128 .f32) (y : S4x128x128.Idx) : Elt F .f32 := V (y 0) (ix3 0 (y 1) (y 2))
theorem atS_eq (V : Fin 4 → Vec F S1x128x128 .f32) (h : Fin 4) (d e : Fin 128) (y : S4x128x128.Idx)
    (h0 : (y 0).val = h.val) (h1 : (y 1).val = d.val) (h2 : (y 2).val = e.val) : atS V y = V h (ix3 0 d e) :=
  congr2 V (Fin.ext h0) (congr3 ix3 rfl (Fin.ext h1) (Fin.ext h2))

theorem canon_tiles2 (V : Fin 4 → Fin 4 → Vec F S64x128 .f32) (h ci : Fin 4) (r : Fin 64) (d : Fin 128) (y : S256x512.Idx)
    (h0 : (y 0).val = 64 * ci.val + r.val) (h1 : (y 1).val = 128 * h.val + d.val) : View.canon (tiles2 V) y = V h ci (ix2 r d) := by
  refine (View.canon_apply_of_pieces (at2 V) _ ?_ _ ?_).trans (at2_eq V h ci r d y h0 h1)
  · intro p hp
    obtain ⟨⟨c, g⟩, -, rfl⟩ := List.mem_map.mp hp
    intro x
    have e := at2_eq V g c (x 0) (x 1) ((Rect.unit (s := S256x512) ![64 * c.val, 128 * g.val] S64x128.size (fits2 c g)).emb x) (by simp) (by simp)
    exact (congrArg (V g c) (eq_ix2 (n0 := 64) (n1 := 128) x)).trans e.symm
  · refine ⟨_, List.mem_map.mpr ⟨(ci, h), mem_order _ _, rfl⟩, (Rect.mem_set_unit (inb := fits2 ci h)).mpr fun a => ?_⟩
    fin_cases a
    · show 64 * ci.val ≤ (y 0).val ∧ (y 0).val < 64 * ci.val + 64; omega
    · show 128 * h.val ≤ (y 1).val ∧ (y 1).val < 128 * h.val + 128; omega

theorem canon_tiles3 (V : Fin 4 → Fin 4 → Vec F S1x64x64 .f32) (h ci : Fin 4) (r : Fin 64) (d : Fin 64) (y : S4x256x64.Idx)
    (h0 : (y 0).val = h.val) (h1 : (y 1).val = 64 * ci.val + r.val) (h2 : (y 2).val = d.val) : View.canon (tiles3 V) y = V h ci (ix3 0 r d) := by
  refine (View.canon_apply_of_pieces (at3 V) _ ?_ _ ?_).trans (at3_eq V h ci r d y h0 h1 h2)
  · intro p hp
    obtain ⟨⟨c, g⟩, -, rfl⟩ := List.mem_map.mp hp
    intro x
    have hx : x 0 = (0 : Fin 1) := Subsingleton.elim (α := Fin 1) _ _
    have e := at3_eq V g c (x 1) (x 2) ((Rect.unit (s := S4x256x64) ![g.val, 64 * c.val, 0] S1x64x64.size (fits3 c g)).emb x) (by simp [hx]) (by simp) (by simp)
    exact (congrArg (V g c) ((eq_ix3 (n0 := 1) (n1 := 64) (n2 := 64) x).trans (congr3 ix3 hx rfl rfl))).trans e.symm
  · refine ⟨_, List.mem_map.mpr ⟨(ci, h), mem_order _ _, rfl⟩, (Rect.mem_set_unit (inb := fits3 ci h)).mpr fun a => ?_⟩
    fin_cases a
    · show h.val ≤ (y 0).val ∧ (y 0).val < h.val + 1; omega
    · show 64 * ci.val ≤ (y 1).val ∧ (y 1).val < 64 * ci.val + 64; omega
    · show 0 ≤ (y 2).val ∧ (y 2).val < 0 + 64; omega

theorem canon_tilesE (V : Fin 4 → Fin 4 → Vec F S1x1x128 .f32) (h ci : Fin 4) (d : Fin 128) (y : S4x1x512.Idx)
    (h0 : (y 0).val = ci.val) (h2 : (y 2).val = 128 * h.val + d.val) : View.canon (tilesE V) y = V h ci (ix3 0 0 d) := by
  refine (View.canon_apply_of_pieces (atE V) _ ?_ _ ?_).trans (atE_eq V h ci d y h0 h2)
  · intro p hp
    obtain ⟨⟨c, g⟩, -, rfl⟩ := List.mem_map.mp hp
    intro x
    have hx : x 0 = (0 : Fin 1) := Subsingleton.elim (α := Fin 1) _ _
    have hx1 : x 1 = (0 : Fin 1) := Subsingleton.elim (α := Fin 1) _ _
    have e := atE_eq V g c (x 2) ((Rect.unit (s := S4x1x512) ![c.val, 0, 128 * g.val] S1x1x128.size (fitsE c g)).emb x) (by simp [hx]) (by simp)
    exact (congrArg (V g c) ((eq_ix3 (n0 := 1) (n1 := 1) (n2 := 128) x).trans (congr3 ix3 hx hx1 rfl))).trans e.symm
  · refine ⟨_, List.mem_map.mpr ⟨(ci, h), mem_order _ _, rfl⟩, (Rect.mem_set_unit (inb := fitsE ci h)).mpr fun a => ?_⟩
    have h1 := (y 1).isLt
    change (y 1).val < 1 at h1
    fin_cases a
    · show ci.val ≤ (y 0).val ∧ (y 0).val < ci.val + 1; omega
    · show 0 ≤ (y 1).val ∧ (y 1).val < 0 + 1; omega
    · show 128 * h.val ≤ (y 2).val ∧ (y 2).val < 128 * h.val + 128; omega

theorem canon_tilesS (V : Fin 4 → Vec F S1x128x128 .f32) (h : Fin 4) (d e : Fin 128) (L : List (View.Piece (Elt F) S4x128x128 .f32)) (y : S4x128x128.Idx)
    (h0 : (y 0).val = h.val) (h1 : (y 1).val = d.val) (h2 : (y 2).val = e.val) : View.canon (tilesS V ++ L) y = V h (ix3 0 d e) := by
  refine (View.canon_append_of_pieces (atS V) L _ ?_ _ ?_).trans (atS_eq V h d e y h0 h1 h2)
  · intro p hp
    obtain ⟨g, -, rfl⟩ := List.mem_map.mp hp
    intro x
    have hx : x 0 = (0 : Fin 1) := Subsingleton.elim (α := Fin 1) _ _
    have e := atS_eq V g (x 1) (x 2) ((Rect.unit (s := S4x128x128) ![g.val, 0, 0] S1x128x128.size (fitsS g)).emb x) (by simp [hx]) (by simp) (by simp)
    exact (congrArg (V g) ((eq_ix3 (n0 := 1) (n1 := 128) (n2 := 128) x).trans (congr3 ix3 hx rfl rfl))).trans e.symm
  · refine ⟨_, List.mem_map.mpr ⟨h, mem_heads h, rfl⟩, (Rect.mem_set_unit (inb := fitsS h)).mpr fun a => ?_⟩
    fin_cases a
    · show h.val ≤ (y 0).val ∧ (y 0).val < h.val + 1; omega
    · show 0 ≤ (y 1).val ∧ (y 1).val < 0 + 128; omega
    · show 0 ≤ (y 2).val ∧ (y 2).val < 0 + 128; omega

/-- The eight input blocks of a grid point: the memrefs that hold them and what they hold. -/
structure Ins (F : FTy → Type) where
  arg1 : Memref sig .tc .vmem S256x512 .f32
  harg1 : arg1.IsWhole
  x0 : Vec F S256x512 .f32
  arg2 : Memref sig .tc .vmem S256x512 .bf16
  harg2 : arg2.IsWhole
  x1 : Vec F S256x512 .bf16
  arg3 : Memref sig .tc .vmem S256x512 .bf16
  harg3 : arg3.IsWhole
  x2 : Vec F S256x512 .bf16
  arg4 : Memref sig .tc .vmem S256x512 .bf16
  harg4 : arg4.IsWhole
  x3 : Vec F S256x512 .bf16
  arg5 : Memref sig .tc .vmem S4x256x64 .bf16
  harg5 : arg5.IsWhole
  x4 : Vec F S4x256x64 .bf16
  arg6 : Memref sig .tc .vmem S4x1x512 .f32
  harg6 : arg6.IsWhole
  x5 : Vec F S4x1x512 .f32
  arg7 : Memref sig .tc .vmem S4x4x128x128 .f32
  harg7 : arg7.IsWhole
  x6 : Vec F S4x4x128x128 .f32
  arg8 : Memref sig .tc .vmem S256x512 .f32
  harg8 : arg8.IsWhole
  x7 : Vec F S256x512 .f32

/-- One chunk's rows of one head's columns of a block, as the kernel loads them. -/
def rows {e : EltTy} (a : Memref sig .tc .vmem S256x512 e) (ha : a.IsWhole) (x : Vec F S256x512 e) (h ci : Fin 4) : Vec F S64x128 e :=
  View.readAt (Elt F) a.view
    ((Rect.unit (s := S256x512) ![64 * ci.val, 0] S64x512.size (Rect.inb₂ (by show 64 * ci.val + 64 ≤ 256; omega) (by show 0 + 512 ≤ 512; omega))).withinL
      (Rect.unit (s := S64x512) ![0, 128 * h.val] S64x128.size (Rect.inb₂ (by show 0 + 64 ≤ 64; omega) (by show 128 * h.val + 128 ≤ 512; omega))).toLoadRect (fun _ => rfl))
    (ha.unread x)

/-- What the kernel loads for chunk `ci` of the point and head `h`. -/
def loads (I : Ins F) (h ci : Fin 4) : Loads F where
  u := rows I.arg1 I.harg1 I.x0 h ci
  w := rows I.arg2 I.harg2 I.x1 h ci
  qe := rows I.arg3 I.harg3 I.x2 h ci
  kd := rows I.arg4 I.harg4 I.x3 h ci
  qk := View.readAt (Elt F) I.arg5.view
    ((Rect.unit (s := S4x256x64) ![0, 64 * ci.val, 0] S4x64x64.size (by
        intro a; fin_cases a
        · show 0 + 4 ≤ 4; omega
        · show 64 * ci.val + 64 ≤ 256; omega
        · show 0 + 64 ≤ 64; omega)).withinL
      (Rect.unit (s := S4x64x64) ![h.val, 0, 0] S1x64x64.size (by
        intro a; fin_cases a
        · show h.val + 1 ≤ 4; omega
        · show 0 + 64 ≤ 64; omega
        · show 0 + 64 ≤ 64; omega)).toLoadRect (fun _ => rfl))
    (I.harg5.unread I.x4)
  egl := View.readAt (Elt F)
    ((I.arg6.slice (Rect.unit (s := S4x1x512) ![ci.val, 0, 0] S1x1x512.size (by
        intro a; fin_cases a
        · show ci.val + 1 ≤ 4; omega
        · show 0 + 1 ≤ 1; omega
        · show 0 + 512 ≤ 512; omega)) (fun _ => rfl)).squeeze S1x512 squeezes_S1x1x512_S1x512).view
    (Rect.unit (s := S1x512) ![0, 128 * h.val] S1x128.size (Rect.inb₂ (by show 0 + 1 ≤ 1; omega) (by show 128 * h.val + 128 ≤ 512; omega))).toLoadRect (I.harg6.unread I.x5)
  s := View.readAt (Elt F) I.arg7.view
    (Rect.unit (s := S4x4x128x128) ![h.val, ci.val, 0, 0] S1x1x128x128.size (by
        intro a; fin_cases a
        · show h.val + 1 ≤ 4; omega
        · show ci.val + 1 ≤ 4; omega
        · show 0 + 128 ≤ 128; omega
        · show 0 + 128 ≤ 128; omega)).toLoadRect (I.harg7.unread I.x6)
  dout := View.readAt (Elt F) I.arg8.view
    (Rect.unit (s := S256x512) ![64 * ci.val, 128 * h.val] S64x128.size (fits2 ci h)).toLoadRect (I.harg8.unread I.x7)

/-- The carried gradient of head `h` after `n` chunks of the point, which go from the last chunk to the first. -/
def chain (I : Ins F) (ds0 : Fin 4 → FVec F S128x128 .f32) (h : Fin 4) : ℕ → FVec F S128x128 .f32
  | 0 => ds0 h
  | n + 1 => nx (chain I ds0 h n) (loads I h ⟨3 - n, by omega⟩)

/-- The carried gradient as a vector over the state of one head. -/
def flat (x : Vec F S1x128x128 .f32) : FVec F S128x128 .f32 :=
  shapeCast S128x128 (shapeCast S128x128 x shapeCasts_S1x128x128_S128x128) shapeCasts_S128x128_S128x128
def unflat (x : FVec F S128x128 .f32) : Vec F S1x128x128 .f32 := shapeCast S1x128x128 x shapeCasts_S128x128_S1x128x128

/-- The carried gradients as the kernel loads them out of the scratch buffer. -/
def scLoad (a : Memref sig .tc .vmem S4x128x128 .f32) (ha : a.IsWhole) (x : Vec F S4x128x128 .f32) (h : Fin 4) : Vec F S1x128x128 .f32 :=
  View.readAt (Elt F) a.view (Rect.unit (s := S4x128x128) ![h.val, 0, 0] S1x128x128.size (fitsS h)).toLoadRect (ha.unread x)
/-- The same at the first point, where the kernel has just put zeros into it. -/
def scZero (a : Memref sig .tc .vmem S4x128x128 .f32) (h : Fin 4) : Vec F S1x128x128 .f32 :=
  a.view.readCov kernelRun0_A.sl.HS0_1 (Rect.unit (s := S4x128x128) ![h.val, 0, 0] S1x128x128.size (fitsS h)).toLoadRect

end Cert.Proof.KTiles
end
-- ==== Proof.KPieces.lean ====
module

public import proofs.«01_k».proof.Proof.KTiles

@[expose] public section

set_option maxRecDepth 65536

noncomputable section

/-! The stores of one grid point are the tiles of `KTiles`. -/

namespace Cert.Proof.KTiles

open Idealize.ShloMosaic Idealize.ShloMosaic.TcCoe Cert.KernelIdeal Cert.KernelIdeal.Gen Cert.Proof.KVec

variable {F : FTy → Type} [FloatOps F]

theorem piecesA_0 (I : Ins F) (c : Dev nD) (i : grid0.Coords) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : cond0_0 i) :
    (kernelRun0_A c i I.arg1 I.harg1 I.arg2 I.harg2 I.arg3 I.harg3 I.arg4 I.harg4 I.arg5 I.harg5 I.arg6 I.harg6 I.arg7 I.harg7 I.arg8 I.harg8 arg9 harg9 arg10 harg10 arg11 harg11 arg12 harg12 arg13 harg13 arg14 harg14 arg15 harg15 hc I.x0 I.x1 I.x2 I.x3 I.x4 I.x5 I.x6 I.x7).1 = tiles2 fun h ci => dv (chain I (fun h => flat (scZero arg15 h)) h (3 - ci.val)) (loads I h ci) := by sl_kernel_rfl

theorem outA_0 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4x256x64 .bf16) (harg5 : arg5.IsWhole) (arg6 : Memref sig .tc .vmem S4x1x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : cond0_0 i) (x0 : Vec F S256x512 .f32) (x1 : Vec F S256x512 .bf16) (x2 : Vec F S256x512 .bf16) (x3 : Vec F S256x512 .bf16) (x4 : Vec F S4x256x64 .bf16) (x5 : Vec F S4x1x512 .f32) (x6 : Vec F S4x4x128x128 .f32) (x7 : Vec F S256x512 .f32) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 = View.canon (tiles2 fun h ci => dv (chain ⟨arg1, harg1, x0, arg2, harg2, x1, arg3, harg3, x2, arg4, harg4, x3, arg5, harg5, x4, arg6, harg6, x5, arg7, harg7, x6, arg8, harg8, x7⟩ (fun h => flat (scZero arg15 h)) h (3 - ci.val)) (loads ⟨arg1, harg1, x0, arg2, harg2, x1, arg3, harg3, x2, arg4, harg4, x3, arg5, harg5, x4, arg6, harg6, x5, arg7, harg7, x6, arg8, harg8, x7⟩ h ci)) := by
  unfold out0_A_8
  exact (View.read_writes_junk_eq_canon VO0_8 _).trans (congrArg View.canon (piecesA_0 ⟨arg1, harg1, x0, arg2, harg2, x1, arg3, harg3, x2, arg4, harg4, x3, arg5, harg5, x4, arg6, harg6, x5, arg7, harg7, x6, arg8, harg8, x7⟩ c i arg9 harg9 arg10 harg10 arg11 harg11 arg12 harg12 arg13 harg13 arg14 harg14 arg15 harg15 hc))

theorem piecesA_1 (I : Ins F) (c : Dev nD) (i : grid0.Coords) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : cond0_0 i) :
    (kernelRun0_A c i I.arg1 I.harg1 I.arg2 I.harg2 I.arg3 I.harg3 I.arg4 I.harg4 I.arg5 I.harg5 I.arg6 I.harg6 I.arg7 I.harg7 I.arg8 I.harg8 arg9 harg9 arg10 harg10 arg11 harg11 arg12 harg12 arg13 harg13 arg14 harg14 arg15 harg15 hc I.x0 I.x1 I.x2 I.x3 I.x4 I.x5 I.x6 I.x7).2.1 = tiles2 fun h ci => dw (chain I (fun h => flat (scZero arg15 h)) h (3 - ci.val)) (loads I h ci) := by sl_kernel_rfl

theorem outA_1 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4x256x64 .bf16) (harg5 : arg5.IsWhole) (arg6 : Memref sig .tc .vmem S4x1x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : cond0_0 i) (x0 : Vec F S256x512 .f32) (x1 : Vec F S256x512 .bf16) (x2 : Vec F S256x512 .bf16) (x3 : Vec F S256x512 .bf16) (x4 : Vec F S4x256x64 .bf16) (x5 : Vec F S4x1x512 .f32) (x6 : Vec F S4x4x128x128 .f32) (x7 : Vec F S256x512 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 = View.canon (tiles2 fun h ci => dw (chain ⟨arg1, harg1, x0, arg2, harg2, x1, arg3, harg3, x2, arg4, harg4, x3, arg5, harg5, x4, arg6, harg6, x5, arg7, harg7, x6, arg8, harg8, x7⟩ (fun h => flat (scZero arg15 h)) h (3 - ci.val)) (loads ⟨arg1, harg1, x0, arg2, harg2, x1, arg3, harg3, x2, arg4, harg4, x3, arg5, harg5, x4, arg6, harg6, x5, arg7, harg7, x6, arg8, harg8, x7⟩ h ci)) := by
  unfold out0_A_9
  exact (View.read_writes_junk_eq_canon VO0_9 _).trans (congrArg View.canon (piecesA_1 ⟨arg1, harg1, x0, arg2, harg2, x1, arg3, harg3, x2, arg4, harg4, x3, arg5, harg5, x4, arg6, harg6, x5, arg7, harg7, x6, arg8, harg8, x7⟩ c i arg9 harg9 arg10 harg10 arg11 harg11 arg12 harg12 arg13 harg13 arg14 harg14 arg15 harg15 hc))

theorem piecesA_2 (I : Ins F) (c : Dev nD) (i : grid0.Coords) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : cond0_0 i) :
    (kernelRun0_A c i I.arg1 I.harg1 I.arg2 I.harg2 I.arg3 I.harg3 I.arg4 I.harg4 I.arg5 I.harg5 I.arg6 I.harg6 I.arg7 I.harg7 I.arg8 I.harg8 arg9 harg9 arg10 harg10 arg11 harg11 arg12 harg12 arg13 harg13 arg14 harg14 arg15 harg15 hc I.x0 I.x1 I.x2 I.x3 I.x4 I.x5 I.x6 I.x7).2.2.1 = tiles2 fun h ci => dqe (loads I h ci) := by sl_kernel_rfl

theorem outA_2 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4x256x64 .bf16) (harg5 : arg5.IsWhole) (arg6 : Memref sig .tc .vmem S4x1x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : cond0_0 i) (x0 : Vec F S256x512 .f32) (x1 : Vec F S256x512 .bf16) (x2 : Vec F S256x512 .bf16) (x3 : Vec F S256x512 .bf16) (x4 : Vec F S4x256x64 .bf16) (x5 : Vec F S4x1x512 .f32) (x6 : Vec F S4x4x128x128 .f32) (x7 : Vec F S256x512 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 = View.canon (tiles2 fun h ci => dqe (loads ⟨arg1, harg1, x0, arg2, harg2, x1, arg3, harg3, x2, arg4, harg4, x3, arg5, harg5, x4, arg6, harg6, x5, arg7, harg7, x6, arg8, harg8, x7⟩ h ci)) := by
  unfold out0_A_10
  exact (View.read_writes_junk_eq_canon VO0_10 _).trans (congrArg View.canon (piecesA_2 ⟨arg1, harg1, x0, arg2, harg2, x1, arg3, harg3, x2, arg4, harg4, x3, arg5, harg5, x4, arg6, harg6, x5, arg7, harg7, x6, arg8, harg8, x7⟩ c i arg9 harg9 arg10 harg10 arg11 harg11 arg12 harg12 arg13 harg13 arg14 harg14 arg15 harg15 hc))

theorem piecesA_3 (I : Ins F) (c : Dev nD) (i : grid0.Coords) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : cond0_0 i) :
    (kernelRun0_A c i I.arg1 I.harg1 I.arg2 I.harg2 I.arg3 I.harg3 I.arg4 I.harg4 I.arg5 I.harg5 I.arg6 I.harg6 I.arg7 I.harg7 I.arg8 I.harg8 arg9 harg9 arg10 harg10 arg11 harg11 arg12 harg12 arg13 harg13 arg14 harg14 arg15 harg15 hc I.x0 I.x1 I.x2 I.x3 I.x4 I.x5 I.x6 I.x7).2.2.2.1 = tiles2 fun h ci => dkd (chain I (fun h => flat (scZero arg15 h)) h (3 - ci.val)) (loads I h ci) := by sl_kernel_rfl

theorem outA_3 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4x256x64 .bf16) (harg5 : arg5.IsWhole) (arg6 : Memref sig .tc .vmem S4x1x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : cond0_0 i) (x0 : Vec F S256x512 .f32) (x1 : Vec F S256x512 .bf16) (x2 : Vec F S256x512 .bf16) (x3 : Vec F S256x512 .bf16) (x4 : Vec F S4x256x64 .bf16) (x5 : Vec F S4x1x512 .f32) (x6 : Vec F S4x4x128x128 .f32) (x7 : Vec F S256x512 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 = View.canon (tiles2 fun h ci => dkd (chain ⟨arg1, harg1, x0, arg2, harg2, x1, arg3, harg3, x2, arg4, harg4, x3, arg5, harg5, x4, arg6, harg6, x5, arg7, harg7, x6, arg8, harg8, x7⟩ (fun h => flat (scZero arg15 h)) h (3 - ci.val)) (loads ⟨arg1, harg1, x0, arg2, harg2, x1, arg3, harg3, x2, arg4, harg4, x3, arg5, harg5, x4, arg6, harg6, x5, arg7, harg7, x6, arg8, harg8, x7⟩ h ci)) := by
  unfold out0_A_11
  exact (View.read_writes_junk_eq_canon VO0_11 _).trans (congrArg View.canon (piecesA_3 ⟨arg1, harg1, x0, arg2, harg2, x1, arg3, harg3, x2, arg4, harg4, x3, arg5, harg5, x4, arg6, harg6, x5, arg7, harg7, x6, arg8, harg8, x7⟩ c i arg9 harg9 arg10 harg10 arg11 harg11 arg12 harg12 arg13 harg13 arg14 harg14 arg15 harg15 hc))

theorem piecesA_4 (I : Ins F) (c : Dev nD) (i : grid0.Coords) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : cond0_0 i) :
    (kernelRun0_A c i I.arg1 I.harg1 I.arg2 I.harg2 I.arg3 I.harg3 I.arg4 I.harg4 I.arg5 I.harg5 I.arg6 I.harg6 I.arg7 I.harg7 I.arg8 I.harg8 arg9 harg9 arg10 harg10 arg11 harg11 arg12 harg12 arg13 harg13 arg14 harg14 arg15 harg15 hc I.x0 I.x1 I.x2 I.x3 I.x4 I.x5 I.x6 I.x7).2.2.2.2.1 = tiles3 fun h ci => dqk (loads I h ci) := by sl_kernel_rfl

theorem outA_4 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4x256x64 .bf16) (harg5 : arg5.IsWhole) (arg6 : Memref sig .tc .vmem S4x1x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : cond0_0 i) (x0 : Vec F S256x512 .f32) (x1 : Vec F S256x512 .bf16) (x2 : Vec F S256x512 .bf16) (x3 : Vec F S256x512 .bf16) (x4 : Vec F S4x256x64 .bf16) (x5 : Vec F S4x1x512 .f32) (x6 : Vec F S4x4x128x128 .f32) (x7 : Vec F S256x512 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 = View.canon (tiles3 fun h ci => dqk (loads ⟨arg1, harg1, x0, arg2, harg2, x1, arg3, harg3, x2, arg4, harg4, x3, arg5, harg5, x4, arg6, harg6, x5, arg7, harg7, x6, arg8, harg8, x7⟩ h ci)) := by
  unfold out0_A_12
  exact (View.read_writes_junk_eq_canon VO0_12 _).trans (congrArg View.canon (piecesA_4 ⟨arg1, harg1, x0, arg2, harg2, x1, arg3, harg3, x2, arg4, harg4, x3, arg5, harg5, x4, arg6, harg6, x5, arg7, harg7, x6, arg8, harg8, x7⟩ c i arg9 harg9 arg10 harg10 arg11 harg11 arg12 harg12 arg13 harg13 arg14 harg14 arg15 harg15 hc))

theorem piecesA_5 (I : Ins F) (c : Dev nD) (i : grid0.Coords) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : cond0_0 i) :
    (kernelRun0_A c i I.arg1 I.harg1 I.arg2 I.harg2 I.arg3 I.harg3 I.arg4 I.harg4 I.arg5 I.harg5 I.arg6 I.harg6 I.arg7 I.harg7 I.arg8 I.harg8 arg9 harg9 arg10 harg10 arg11 harg11 arg12 harg12 arg13 harg13 arg14 harg14 arg15 harg15 hc I.x0 I.x1 I.x2 I.x3 I.x4 I.x5 I.x6 I.x7).2.2.2.2.2.1 = tilesE fun h ci => degl (chain I (fun h => flat (scZero arg15 h)) h (3 - ci.val)) (loads I h ci) := by sl_kernel_rfl

theorem outA_5 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4x256x64 .bf16) (harg5 : arg5.IsWhole) (arg6 : Memref sig .tc .vmem S4x1x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : cond0_0 i) (x0 : Vec F S256x512 .f32) (x1 : Vec F S256x512 .bf16) (x2 : Vec F S256x512 .bf16) (x3 : Vec F S256x512 .bf16) (x4 : Vec F S4x256x64 .bf16) (x5 : Vec F S4x1x512 .f32) (x6 : Vec F S4x4x128x128 .f32) (x7 : Vec F S256x512 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 = View.canon (tilesE fun h ci => degl (chain ⟨arg1, harg1, x0, arg2, harg2, x1, arg3, harg3, x2, arg4, harg4, x3, arg5, harg5, x4, arg6, harg6, x5, arg7, harg7, x6, arg8, harg8, x7⟩ (fun h => flat (scZero arg15 h)) h (3 - ci.val)) (loads ⟨arg1, harg1, x0, arg2, harg2, x1, arg3, harg3, x2, arg4, harg4, x3, arg5, harg5, x4, arg6, harg6, x5, arg7, harg7, x6, arg8, harg8, x7⟩ h ci)) := by
  unfold out0_A_13
  exact (View.read_writes_junk_eq_canon VO0_13 _).trans (congrArg View.canon (piecesA_5 ⟨arg1, harg1, x0, arg2, harg2, x1, arg3, harg3, x2, arg4, harg4, x3, arg5, harg5, x4, arg6, harg6, x5, arg7, harg7, x6, arg8, harg8, x7⟩ c i arg9 harg9 arg10 harg10 arg11 harg11 arg12 harg12 arg13 harg13 arg14 harg14 arg15 harg15 hc))

theorem piecesA_6 (I : Ins F) (c : Dev nD) (i : grid0.Coords) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : cond0_0 i) :
    (kernelRun0_A c i I.arg1 I.harg1 I.arg2 I.harg2 I.arg3 I.harg3 I.arg4 I.harg4 I.arg5 I.harg5 I.arg6 I.harg6 I.arg7 I.harg7 I.arg8 I.harg8 arg9 harg9 arg10 harg10 arg11 harg11 arg12 harg12 arg13 harg13 arg14 harg14 arg15 harg15 hc I.x0 I.x1 I.x2 I.x3 I.x4 I.x5 I.x6 I.x7).2.2.2.2.2.2 = (tilesS fun h => unflat (chain I (fun h => flat (scZero arg15 h)) h 4)) ++ kernelRun0_A.sl.HS0_1 (F := F) := by sl_kernel_rfl

theorem outA_6 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4x256x64 .bf16) (harg5 : arg5.IsWhole) (arg6 : Memref sig .tc .vmem S4x1x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : cond0_0 i) (x0 : Vec F S256x512 .f32) (x1 : Vec F S256x512 .bf16) (x2 : Vec F S256x512 .bf16) (x3 : Vec F S256x512 .bf16) (x4 : Vec F S4x256x64 .bf16) (x5 : Vec F S4x1x512 .f32) (x6 : Vec F S4x4x128x128 .f32) (x7 : Vec F S256x512 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 = View.canon ((tilesS fun h => unflat (chain ⟨arg1, harg1, x0, arg2, harg2, x1, arg3, harg3, x2, arg4, harg4, x3, arg5, harg5, x4, arg6, harg6, x5, arg7, harg7, x6, arg8, harg8, x7⟩ (fun h => flat (scZero arg15 h)) h 4)) ++ kernelRun0_A.sl.HS0_1 (F := F)) := by
  unfold sout0_A_0
  exact (View.read_writes_junk_eq_canon VS0_0 _).trans (congrArg View.canon (piecesA_6 ⟨arg1, harg1, x0, arg2, harg2, x1, arg3, harg3, x2, arg4, harg4, x3, arg5, harg5, x4, arg6, harg6, x5, arg7, harg7, x6, arg8, harg8, x7⟩ c i arg9 harg9 arg10 harg10 arg11 harg11 arg12 harg12 arg13 harg13 arg14 harg14 arg15 harg15 hc))

theorem piecesB_0 (I : Ins F) (c : Dev nD) (i : grid0.Coords) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : ¬cond0_0 i) (xs0 : Vec F S4x128x128 .f32) :
    (kernelRun0_B c i I.arg1 I.harg1 I.arg2 I.harg2 I.arg3 I.harg3 I.arg4 I.harg4 I.arg5 I.harg5 I.arg6 I.harg6 I.arg7 I.harg7 I.arg8 I.harg8 arg9 harg9 arg10 harg10 arg11 harg11 arg12 harg12 arg13 harg13 arg14 harg14 arg15 harg15 hc I.x0 I.x1 I.x2 I.x3 I.x4 I.x5 I.x6 I.x7 xs0).1 = tiles2 fun h ci => dv (chain I (fun h => flat (scLoad arg15 harg15 xs0 h)) h (3 - ci.val)) (loads I h ci) := by sl_kernel_rfl

theorem outB_0 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4x256x64 .bf16) (harg5 : arg5.IsWhole) (arg6 : Memref sig .tc .vmem S4x1x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : ¬cond0_0 i) (x0 : Vec F S256x512 .f32) (x1 : Vec F S256x512 .bf16) (x2 : Vec F S256x512 .bf16) (x3 : Vec F S256x512 .bf16) (x4 : Vec F S4x256x64 .bf16) (x5 : Vec F S4x1x512 .f32) (x6 : Vec F S4x4x128x128 .f32) (x7 : Vec F S256x512 .f32) (xs0 : Vec F S4x128x128 .f32) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs0 = View.canon (tiles2 fun h ci => dv (chain ⟨arg1, harg1, x0, arg2, harg2, x1, arg3, harg3, x2, arg4, harg4, x3, arg5, harg5, x4, arg6, harg6, x5, arg7, harg7, x6, arg8, harg8, x7⟩ (fun h => flat (scLoad arg15 harg15 xs0 h)) h (3 - ci.val)) (loads ⟨arg1, harg1, x0, arg2, harg2, x1, arg3, harg3, x2, arg4, harg4, x3, arg5, harg5, x4, arg6, harg6, x5, arg7, harg7, x6, arg8, harg8, x7⟩ h ci)) := by
  unfold out0_B_8
  exact (View.read_writes_junk_eq_canon VO0_8 _).trans (congrArg View.canon (piecesB_0 ⟨arg1, harg1, x0, arg2, harg2, x1, arg3, harg3, x2, arg4, harg4, x3, arg5, harg5, x4, arg6, harg6, x5, arg7, harg7, x6, arg8, harg8, x7⟩ c i arg9 harg9 arg10 harg10 arg11 harg11 arg12 harg12 arg13 harg13 arg14 harg14 arg15 harg15 hc xs0))

theorem piecesB_1 (I : Ins F) (c : Dev nD) (i : grid0.Coords) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : ¬cond0_0 i) (xs0 : Vec F S4x128x128 .f32) :
    (kernelRun0_B c i I.arg1 I.harg1 I.arg2 I.harg2 I.arg3 I.harg3 I.arg4 I.harg4 I.arg5 I.harg5 I.arg6 I.harg6 I.arg7 I.harg7 I.arg8 I.harg8 arg9 harg9 arg10 harg10 arg11 harg11 arg12 harg12 arg13 harg13 arg14 harg14 arg15 harg15 hc I.x0 I.x1 I.x2 I.x3 I.x4 I.x5 I.x6 I.x7 xs0).2.1 = tiles2 fun h ci => dw (chain I (fun h => flat (scLoad arg15 harg15 xs0 h)) h (3 - ci.val)) (loads I h ci) := by sl_kernel_rfl

theorem outB_1 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4x256x64 .bf16) (harg5 : arg5.IsWhole) (arg6 : Memref sig .tc .vmem S4x1x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : ¬cond0_0 i) (x0 : Vec F S256x512 .f32) (x1 : Vec F S256x512 .bf16) (x2 : Vec F S256x512 .bf16) (x3 : Vec F S256x512 .bf16) (x4 : Vec F S4x256x64 .bf16) (x5 : Vec F S4x1x512 .f32) (x6 : Vec F S4x4x128x128 .f32) (x7 : Vec F S256x512 .f32) (xs0 : Vec F S4x128x128 .f32) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs0 = View.canon (tiles2 fun h ci => dw (chain ⟨arg1, harg1, x0, arg2, harg2, x1, arg3, harg3, x2, arg4, harg4, x3, arg5, harg5, x4, arg6, harg6, x5, arg7, harg7, x6, arg8, harg8, x7⟩ (fun h => flat (scLoad arg15 harg15 xs0 h)) h (3 - ci.val)) (loads ⟨arg1, harg1, x0, arg2, harg2, x1, arg3, harg3, x2, arg4, harg4, x3, arg5, harg5, x4, arg6, harg6, x5, arg7, harg7, x6, arg8, harg8, x7⟩ h ci)) := by
  unfold out0_B_9
  exact (View.read_writes_junk_eq_canon VO0_9 _).trans (congrArg View.canon (piecesB_1 ⟨arg1, harg1, x0, arg2, harg2, x1, arg3, harg3, x2, arg4, harg4, x3, arg5, harg5, x4, arg6, harg6, x5, arg7, harg7, x6, arg8, harg8, x7⟩ c i arg9 harg9 arg10 harg10 arg11 harg11 arg12 harg12 arg13 harg13 arg14 harg14 arg15 harg15 hc xs0))

theorem piecesB_2 (I : Ins F) (c : Dev nD) (i : grid0.Coords) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : ¬cond0_0 i) (xs0 : Vec F S4x128x128 .f32) :
    (kernelRun0_B c i I.arg1 I.harg1 I.arg2 I.harg2 I.arg3 I.harg3 I.arg4 I.harg4 I.arg5 I.harg5 I.arg6 I.harg6 I.arg7 I.harg7 I.arg8 I.harg8 arg9 harg9 arg10 harg10 arg11 harg11 arg12 harg12 arg13 harg13 arg14 harg14 arg15 harg15 hc I.x0 I.x1 I.x2 I.x3 I.x4 I.x5 I.x6 I.x7 xs0).2.2.1 = tiles2 fun h ci => dqe (loads I h ci) := by sl_kernel_rfl

theorem outB_2 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4x256x64 .bf16) (harg5 : arg5.IsWhole) (arg6 : Memref sig .tc .vmem S4x1x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : ¬cond0_0 i) (x0 : Vec F S256x512 .f32) (x1 : Vec F S256x512 .bf16) (x2 : Vec F S256x512 .bf16) (x3 : Vec F S256x512 .bf16) (x4 : Vec F S4x256x64 .bf16) (x5 : Vec F S4x1x512 .f32) (x6 : Vec F S4x4x128x128 .f32) (x7 : Vec F S256x512 .f32) (xs0 : Vec F S4x128x128 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs0 = View.canon (tiles2 fun h ci => dqe (loads ⟨arg1, harg1, x0, arg2, harg2, x1, arg3, harg3, x2, arg4, harg4, x3, arg5, harg5, x4, arg6, harg6, x5, arg7, harg7, x6, arg8, harg8, x7⟩ h ci)) := by
  unfold out0_B_10
  exact (View.read_writes_junk_eq_canon VO0_10 _).trans (congrArg View.canon (piecesB_2 ⟨arg1, harg1, x0, arg2, harg2, x1, arg3, harg3, x2, arg4, harg4, x3, arg5, harg5, x4, arg6, harg6, x5, arg7, harg7, x6, arg8, harg8, x7⟩ c i arg9 harg9 arg10 harg10 arg11 harg11 arg12 harg12 arg13 harg13 arg14 harg14 arg15 harg15 hc xs0))

theorem piecesB_3 (I : Ins F) (c : Dev nD) (i : grid0.Coords) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : ¬cond0_0 i) (xs0 : Vec F S4x128x128 .f32) :
    (kernelRun0_B c i I.arg1 I.harg1 I.arg2 I.harg2 I.arg3 I.harg3 I.arg4 I.harg4 I.arg5 I.harg5 I.arg6 I.harg6 I.arg7 I.harg7 I.arg8 I.harg8 arg9 harg9 arg10 harg10 arg11 harg11 arg12 harg12 arg13 harg13 arg14 harg14 arg15 harg15 hc I.x0 I.x1 I.x2 I.x3 I.x4 I.x5 I.x6 I.x7 xs0).2.2.2.1 = tiles2 fun h ci => dkd (chain I (fun h => flat (scLoad arg15 harg15 xs0 h)) h (3 - ci.val)) (loads I h ci) := by sl_kernel_rfl

theorem outB_3 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4x256x64 .bf16) (harg5 : arg5.IsWhole) (arg6 : Memref sig .tc .vmem S4x1x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : ¬cond0_0 i) (x0 : Vec F S256x512 .f32) (x1 : Vec F S256x512 .bf16) (x2 : Vec F S256x512 .bf16) (x3 : Vec F S256x512 .bf16) (x4 : Vec F S4x256x64 .bf16) (x5 : Vec F S4x1x512 .f32) (x6 : Vec F S4x4x128x128 .f32) (x7 : Vec F S256x512 .f32) (xs0 : Vec F S4x128x128 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs0 = View.canon (tiles2 fun h ci => dkd (chain ⟨arg1, harg1, x0, arg2, harg2, x1, arg3, harg3, x2, arg4, harg4, x3, arg5, harg5, x4, arg6, harg6, x5, arg7, harg7, x6, arg8, harg8, x7⟩ (fun h => flat (scLoad arg15 harg15 xs0 h)) h (3 - ci.val)) (loads ⟨arg1, harg1, x0, arg2, harg2, x1, arg3, harg3, x2, arg4, harg4, x3, arg5, harg5, x4, arg6, harg6, x5, arg7, harg7, x6, arg8, harg8, x7⟩ h ci)) := by
  unfold out0_B_11
  exact (View.read_writes_junk_eq_canon VO0_11 _).trans (congrArg View.canon (piecesB_3 ⟨arg1, harg1, x0, arg2, harg2, x1, arg3, harg3, x2, arg4, harg4, x3, arg5, harg5, x4, arg6, harg6, x5, arg7, harg7, x6, arg8, harg8, x7⟩ c i arg9 harg9 arg10 harg10 arg11 harg11 arg12 harg12 arg13 harg13 arg14 harg14 arg15 harg15 hc xs0))

theorem piecesB_4 (I : Ins F) (c : Dev nD) (i : grid0.Coords) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : ¬cond0_0 i) (xs0 : Vec F S4x128x128 .f32) :
    (kernelRun0_B c i I.arg1 I.harg1 I.arg2 I.harg2 I.arg3 I.harg3 I.arg4 I.harg4 I.arg5 I.harg5 I.arg6 I.harg6 I.arg7 I.harg7 I.arg8 I.harg8 arg9 harg9 arg10 harg10 arg11 harg11 arg12 harg12 arg13 harg13 arg14 harg14 arg15 harg15 hc I.x0 I.x1 I.x2 I.x3 I.x4 I.x5 I.x6 I.x7 xs0).2.2.2.2.1 = tiles3 fun h ci => dqk (loads I h ci) := by sl_kernel_rfl

theorem outB_4 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4x256x64 .bf16) (harg5 : arg5.IsWhole) (arg6 : Memref sig .tc .vmem S4x1x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : ¬cond0_0 i) (x0 : Vec F S256x512 .f32) (x1 : Vec F S256x512 .bf16) (x2 : Vec F S256x512 .bf16) (x3 : Vec F S256x512 .bf16) (x4 : Vec F S4x256x64 .bf16) (x5 : Vec F S4x1x512 .f32) (x6 : Vec F S4x4x128x128 .f32) (x7 : Vec F S256x512 .f32) (xs0 : Vec F S4x128x128 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs0 = View.canon (tiles3 fun h ci => dqk (loads ⟨arg1, harg1, x0, arg2, harg2, x1, arg3, harg3, x2, arg4, harg4, x3, arg5, harg5, x4, arg6, harg6, x5, arg7, harg7, x6, arg8, harg8, x7⟩ h ci)) := by
  unfold out0_B_12
  exact (View.read_writes_junk_eq_canon VO0_12 _).trans (congrArg View.canon (piecesB_4 ⟨arg1, harg1, x0, arg2, harg2, x1, arg3, harg3, x2, arg4, harg4, x3, arg5, harg5, x4, arg6, harg6, x5, arg7, harg7, x6, arg8, harg8, x7⟩ c i arg9 harg9 arg10 harg10 arg11 harg11 arg12 harg12 arg13 harg13 arg14 harg14 arg15 harg15 hc xs0))

theorem piecesB_5 (I : Ins F) (c : Dev nD) (i : grid0.Coords) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : ¬cond0_0 i) (xs0 : Vec F S4x128x128 .f32) :
    (kernelRun0_B c i I.arg1 I.harg1 I.arg2 I.harg2 I.arg3 I.harg3 I.arg4 I.harg4 I.arg5 I.harg5 I.arg6 I.harg6 I.arg7 I.harg7 I.arg8 I.harg8 arg9 harg9 arg10 harg10 arg11 harg11 arg12 harg12 arg13 harg13 arg14 harg14 arg15 harg15 hc I.x0 I.x1 I.x2 I.x3 I.x4 I.x5 I.x6 I.x7 xs0).2.2.2.2.2.1 = tilesE fun h ci => degl (chain I (fun h => flat (scLoad arg15 harg15 xs0 h)) h (3 - ci.val)) (loads I h ci) := by sl_kernel_rfl

theorem outB_5 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4x256x64 .bf16) (harg5 : arg5.IsWhole) (arg6 : Memref sig .tc .vmem S4x1x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : ¬cond0_0 i) (x0 : Vec F S256x512 .f32) (x1 : Vec F S256x512 .bf16) (x2 : Vec F S256x512 .bf16) (x3 : Vec F S256x512 .bf16) (x4 : Vec F S4x256x64 .bf16) (x5 : Vec F S4x1x512 .f32) (x6 : Vec F S4x4x128x128 .f32) (x7 : Vec F S256x512 .f32) (xs0 : Vec F S4x128x128 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs0 = View.canon (tilesE fun h ci => degl (chain ⟨arg1, harg1, x0, arg2, harg2, x1, arg3, harg3, x2, arg4, harg4, x3, arg5, harg5, x4, arg6, harg6, x5, arg7, harg7, x6, arg8, harg8, x7⟩ (fun h => flat (scLoad arg15 harg15 xs0 h)) h (3 - ci.val)) (loads ⟨arg1, harg1, x0, arg2, harg2, x1, arg3, harg3, x2, arg4, harg4, x3, arg5, harg5, x4, arg6, harg6, x5, arg7, harg7, x6, arg8, harg8, x7⟩ h ci)) := by
  unfold out0_B_13
  exact (View.read_writes_junk_eq_canon VO0_13 _).trans (congrArg View.canon (piecesB_5 ⟨arg1, harg1, x0, arg2, harg2, x1, arg3, harg3, x2, arg4, harg4, x3, arg5, harg5, x4, arg6, harg6, x5, arg7, harg7, x6, arg8, harg8, x7⟩ c i arg9 harg9 arg10 harg10 arg11 harg11 arg12 harg12 arg13 harg13 arg14 harg14 arg15 harg15 hc xs0))

theorem piecesB_6 (I : Ins F) (c : Dev nD) (i : grid0.Coords) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : ¬cond0_0 i) (xs0 : Vec F S4x128x128 .f32) :
    (kernelRun0_B c i I.arg1 I.harg1 I.arg2 I.harg2 I.arg3 I.harg3 I.arg4 I.harg4 I.arg5 I.harg5 I.arg6 I.harg6 I.arg7 I.harg7 I.arg8 I.harg8 arg9 harg9 arg10 harg10 arg11 harg11 arg12 harg12 arg13 harg13 arg14 harg14 arg15 harg15 hc I.x0 I.x1 I.x2 I.x3 I.x4 I.x5 I.x6 I.x7 xs0).2.2.2.2.2.2 = tilesS fun h => unflat (chain I (fun h => flat (scLoad arg15 harg15 xs0 h)) h 4) := by sl_kernel_rfl

theorem outB_6 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4x256x64 .bf16) (harg5 : arg5.IsWhole) (arg6 : Memref sig .tc .vmem S4x1x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S4x256x64 .f32) (harg13 : arg13.IsWhole) (arg14 : Memref sig .tc .vmem S4x1x512 .f32) (harg14 : arg14.IsWhole) (arg15 : Memref sig .tc .vmem S4x128x128 .f32) (harg15 : arg15.IsWhole) (hc : ¬cond0_0 i) (x0 : Vec F S256x512 .f32) (x1 : Vec F S256x512 .bf16) (x2 : Vec F S256x512 .bf16) (x3 : Vec F S256x512 .bf16) (x4 : Vec F S4x256x64 .bf16) (x5 : Vec F S4x1x512 .f32) (x6 : Vec F S4x4x128x128 .f32) (x7 : Vec F S256x512 .f32) (xs0 : Vec F S4x128x128 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs0 = View.canon (tilesS fun h => unflat (chain ⟨arg1, harg1, x0, arg2, harg2, x1, arg3, harg3, x2, arg4, harg4, x3, arg5, harg5, x4, arg6, harg6, x5, arg7, harg7, x6, arg8, harg8, x7⟩ (fun h => flat (scLoad arg15 harg15 xs0 h)) h 4)) := by
  unfold sout0_B_0
  exact (View.read_writes_junk_eq_canon VS0_0 _).trans (congrArg View.canon (piecesB_6 ⟨arg1, harg1, x0, arg2, harg2, x1, arg3, harg3, x2, arg4, harg4, x3, arg5, harg5, x4, arg6, harg6, x5, arg7, harg7, x6, arg8, harg8, x7⟩ c i arg9 harg9 arg10 harg10 arg11 harg11 arg12 harg12 arg13 harg13 arg14 harg14 arg15 harg15 hc xs0))

end Cert.Proof.KTiles
end
-- ==== Proof.KPoint.lean ====
module

public import proofs.«01_k».proof.Proof.KPieces

@[expose] public section

set_option maxRecDepth 65536

noncomputable section

/-! Where a grid point's blocks lie in the arrays, and what the point's outputs are: the tiles of `KTiles`. -/

namespace Cert.Proof.KPoint

open Idealize.ShloMosaic Idealize.ShloMosaic.TcCoe Cert.KernelIdeal Cert.KernelIdeal.Gen Cert.KernelIdeal.Value Cert.Proof.KVec Cert.Proof.KTiles

variable {F : FTy → Type} [FloatOps F]
variable (m : (ℓ : Loc nD τ sig) → Buf (Elt F) ℓ)

theorem index0 (t : Fin cfg0.N) : win0_0.index t 0 = 7 - t.val ∧ win0_0.index t 1 = 0 := by
  rcases fin_N0 t with rfl | rfl | rfl | rfl | rfl | rfl | rfl | rfl <;> decide
/-- Window 0: the block's entry is the array's entry at the block's place. -/
theorem block0 (c : Dev nD) (t : Fin cfg0.N) (y : S256x512.Idx) (i : S2048x512.Idx) (h0 : (i 0).val = 256 * (7 - t.val) + (y 0).val) (h1 : (i 1).val = (y 1).val) :
    (iblk m c 0 t : Vec F S256x512 _) y = (m ((c : Thread nD τ).loc main_arg0) : S2048x512.Idx → _) i := by
  obtain ⟨e0, e1⟩ := index0 t
  unfold iblk
  rw [View.read_apply]
  show V m c main_arg0 _ = m (c.tc.loc main_arg0) _
  unfold V
  congr 1
  funext a
  apply Fin.ext
  match a with
  | ⟨0, _⟩ => show win0_0.index t 0 * 256 + 1 * (y 0).val = (i 0).val; rw [e0, h0]; omega
  | ⟨1, _⟩ => show win0_0.index t 1 * 512 + 1 * (y 1).val = (i 1).val; rw [e1, h1]; omega

theorem index1 (t : Fin cfg0.N) : win0_1.index t 0 = 7 - t.val ∧ win0_1.index t 1 = 0 := by
  rcases fin_N0 t with rfl | rfl | rfl | rfl | rfl | rfl | rfl | rfl <;> decide
/-- Window 1: the block's entry is the array's entry at the block's place. -/
theorem block1 (c : Dev nD) (t : Fin cfg0.N) (y : S256x512.Idx) (i : S2048x512.Idx) (h0 : (i 0).val = 256 * (7 - t.val) + (y 0).val) (h1 : (i 1).val = (y 1).val) :
    (iblk m c 1 t : Vec F S256x512 _) y = (m ((c : Thread nD τ).loc main_arg1) : S2048x512.Idx → _) i := by
  obtain ⟨e0, e1⟩ := index1 t
  unfold iblk
  rw [View.read_apply]
  show V m c main_arg1 _ = m (c.tc.loc main_arg1) _
  unfold V
  congr 1
  funext a
  apply Fin.ext
  match a with
  | ⟨0, _⟩ => show win0_1.index t 0 * 256 + 1 * (y 0).val = (i 0).val; rw [e0, h0]; omega
  | ⟨1, _⟩ => show win0_1.index t 1 * 512 + 1 * (y 1).val = (i 1).val; rw [e1, h1]; omega

theorem index2 (t : Fin cfg0.N) : win0_2.index t 0 = 7 - t.val ∧ win0_2.index t 1 = 0 := by
  rcases fin_N0 t with rfl | rfl | rfl | rfl | rfl | rfl | rfl | rfl <;> decide
/-- Window 2: the block's entry is the array's entry at the block's place. -/
theorem block2 (c : Dev nD) (t : Fin cfg0.N) (y : S256x512.Idx) (i : S2048x512.Idx) (h0 : (i 0).val = 256 * (7 - t.val) + (y 0).val) (h1 : (i 1).val = (y 1).val) :
    (iblk m c 2 t : Vec F S256x512 _) y = (m ((c : Thread nD τ).loc main_arg2) : S2048x512.Idx → _) i := by
  obtain ⟨e0, e1⟩ := index2 t
  unfold iblk
  rw [View.read_apply]
  show V m c main_arg2 _ = m (c.tc.loc main_arg2) _
  unfold V
  congr 1
  funext a
  apply Fin.ext
  match a with
  | ⟨0, _⟩ => show win0_2.index t 0 * 256 + 1 * (y 0).val = (i 0).val; rw [e0, h0]; omega
  | ⟨1, _⟩ => show win0_2.index t 1 * 512 + 1 * (y 1).val = (i 1).val; rw [e1, h1]; omega

theorem index3 (t : Fin cfg0.N) : win0_3.index t 0 = 7 - t.val ∧ win0_3.index t 1 = 0 := by
  rcases fin_N0 t with rfl | rfl | rfl | rfl | rfl | rfl | rfl | rfl <;> decide
/-- Window 3: the block's entry is the array's entry at the block's place. -/
theorem block3 (c : Dev nD) (t : Fin cfg0.N) (y : S256x512.Idx) (i : S2048x512.Idx) (h0 : (i 0).val = 256 * (7 - t.val) + (y 0).val) (h1 : (i 1).val = (y 1).val) :
    (iblk m c 3 t : Vec F S256x512 _) y = (m ((c : Thread nD τ).loc main_arg3) : S2048x512.Idx → _) i := by
  obtain ⟨e0, e1⟩ := index3 t
  unfold iblk
  rw [View.read_apply]
  show V m c main_arg3 _ = m (c.tc.loc main_arg3) _
  unfold V
  congr 1
  funext a
  apply Fin.ext
  match a with
  | ⟨0, _⟩ => show win0_3.index t 0 * 256 + 1 * (y 0).val = (i 0).val; rw [e0, h0]; omega
  | ⟨1, _⟩ => show win0_3.index t 1 * 512 + 1 * (y 1).val = (i 1).val; rw [e1, h1]; omega

theorem index4 (t : Fin cfg0.N) : win0_4.index t 0 = 0 ∧ win0_4.index t 1 = 7 - t.val ∧ win0_4.index t 2 = 0 := by
  rcases fin_N0 t with rfl | rfl | rfl | rfl | rfl | rfl | rfl | rfl <;> decide
/-- Window 4: the block's entry is the array's entry at the block's place. -/
theorem block4 (c : Dev nD) (t : Fin cfg0.N) (y : S4x256x64.Idx) (i : S4x2048x64.Idx) (h0 : (i 0).val = (y 0).val) (h1 : (i 1).val = 256 * (7 - t.val) + (y 1).val) (h2 : (i 2).val = (y 2).val) :
    (iblk m c 4 t : Vec F S4x256x64 _) y = (m ((c : Thread nD τ).loc main_arg4) : S4x2048x64.Idx → _) i := by
  obtain ⟨e0, e1, e2⟩ := index4 t
  unfold iblk
  rw [View.read_apply]
  show V m c main_arg4 _ = m (c.tc.loc main_arg4) _
  unfold V
  congr 1
  funext a
  apply Fin.ext
  match a with
  | ⟨0, _⟩ => show win0_4.index t 0 * 4 + 1 * (y 0).val = (i 0).val; rw [e0, h0]; omega
  | ⟨1, _⟩ => show win0_4.index t 1 * 256 + 1 * (y 1).val = (i 1).val; rw [e1, h1]; omega
  | ⟨2, _⟩ => show win0_4.index t 2 * 64 + 1 * (y 2).val = (i 2).val; rw [e2, h2]; omega

theorem index5 (t : Fin cfg0.N) : win0_5.index t 0 = 7 - t.val ∧ win0_5.index t 1 = 0 ∧ win0_5.index t 2 = 0 := by
  rcases fin_N0 t with rfl | rfl | rfl | rfl | rfl | rfl | rfl | rfl <;> decide
/-- Window 5: the block's entry is the array's entry at the block's place. -/
theorem block5 (c : Dev nD) (t : Fin cfg0.N) (y : S4x1x512.Idx) (i : S32x1x512.Idx) (h0 : (i 0).val = 4 * (7 - t.val) + (y 0).val) (h1 : (i 1).val = (y 1).val) (h2 : (i 2).val = (y 2).val) :
    (iblk m c 5 t : Vec F S4x1x512 _) y = (m ((c : Thread nD τ).loc main_arg5) : S32x1x512.Idx → _) i := by
  obtain ⟨e0, e1, e2⟩ := index5 t
  unfold iblk
  rw [View.read_apply]
  show V m c main_arg5 _ = m (c.tc.loc main_arg5) _
  unfold V
  congr 1
  funext a
  apply Fin.ext
  match a with
  | ⟨0, _⟩ => show win0_5.index t 0 * 4 + 1 * (y 0).val = (i 0).val; rw [e0, h0]; omega
  | ⟨1, _⟩ => show win0_5.index t 1 * 1 + 1 * (y 1).val = (i 1).val; rw [e1, h1]; omega
  | ⟨2, _⟩ => show win0_5.index t 2 * 512 + 1 * (y 2).val = (i 2).val; rw [e2, h2]; omega

theorem index6 (t : Fin cfg0.N) : win0_6.index t 0 = 0 ∧ win0_6.index t 1 = 7 - t.val ∧ win0_6.index t 2 = 0 ∧ win0_6.index t 3 = 0 := by
  rcases fin_N0 t with rfl | rfl | rfl | rfl | rfl | rfl | rfl | rfl <;> decide
/-- Window 6: the block's entry is the array's entry at the block's place. -/
theorem block6 (c : Dev nD) (t : Fin cfg0.N) (y : S4x4x128x128.Idx) (i : S4x32x128x128.Idx) (h0 : (i 0).val = (y 0).val) (h1 : (i 1).val = 4 * (7 - t.val) + (y 1).val) (h2 : (i 2).val = (y 2).val) (h3 : (i 3).val = (y 3).val) :
    (iblk m c 6 t : Vec F S4x4x128x128 _) y = (m ((c : Thread nD τ).loc main_arg6) : S4x32x128x128.Idx → _) i := by
  obtain ⟨e0, e1, e2, e3⟩ := index6 t
  unfold iblk
  rw [View.read_apply]
  show V m c main_arg6 _ = m (c.tc.loc main_arg6) _
  unfold V
  congr 1
  funext a
  apply Fin.ext
  match a with
  | ⟨0, _⟩ => show win0_6.index t 0 * 4 + 1 * (y 0).val = (i 0).val; rw [e0, h0]; omega
  | ⟨1, _⟩ => show win0_6.index t 1 * 4 + 1 * (y 1).val = (i 1).val; rw [e1, h1]; omega
  | ⟨2, _⟩ => show win0_6.index t 2 * 128 + 1 * (y 2).val = (i 2).val; rw [e2, h2]; omega
  | ⟨3, _⟩ => show win0_6.index t 3 * 128 + 1 * (y 3).val = (i 3).val; rw [e3, h3]; omega

theorem index7 (t : Fin cfg0.N) : win0_7.index t 0 = 7 - t.val ∧ win0_7.index t 1 = 0 := by
  rcases fin_N0 t with rfl | rfl | rfl | rfl | rfl | rfl | rfl | rfl <;> decide
/-- Window 7: the block's entry is the array's entry at the block's place. -/
theorem block7 (c : Dev nD) (t : Fin cfg0.N) (y : S256x512.Idx) (i : S2048x512.Idx) (h0 : (i 0).val = 256 * (7 - t.val) + (y 0).val) (h1 : (i 1).val = (y 1).val) :
    (iblk m c 7 t : Vec F S256x512 _) y = (m ((c : Thread nD τ).loc main_arg7) : S2048x512.Idx → _) i := by
  obtain ⟨e0, e1⟩ := index7 t
  unfold iblk
  rw [View.read_apply]
  show V m c main_arg7 _ = m (c.tc.loc main_arg7) _
  unfold V
  congr 1
  funext a
  apply Fin.ext
  match a with
  | ⟨0, _⟩ => show win0_7.index t 0 * 256 + 1 * (y 0).val = (i 0).val; rw [e0, h0]; omega
  | ⟨1, _⟩ => show win0_7.index t 1 * 512 + 1 * (y 1).val = (i 1).val; rw [e1, h1]; omega

theorem index8 (t : Fin cfg0.N) : win0_8.index t 0 = 7 - t.val ∧ win0_8.index t 1 = 0 := by
  rcases fin_N0 t with rfl | rfl | rfl | rfl | rfl | rfl | rfl | rfl <;> decide
/-- Window 8: the array's entry at the block's place is what the point wrote. -/
theorem out8 (c : Dev nD) (t : Fin cfg0.N) (y : S256x512.Idx) (i : S2048x512.Idx) (h0 : (i 0).val = 256 * (7 - t.val) + (y 0).val) (h1 : (i 1).val = (y 1).val) :
    (dats m 0 c).arrAt 8 cfg0.N i = (outsAt0 m c t.val t.isLt).1 y := by
  obtain ⟨e0, e1⟩ := index8 t
  have h := congrFun (blocks8 m c t (flush0_8 t)) y
  rw [flushed8, View.read_apply] at h
  refine Eq.trans ?_ (h.trans ?_)
  · show (dats m 0 c).arrAt 8 cfg0.N _ = (dats m 0 c).arrAt 8 cfg0.N _
    congr 1
    funext a
    apply Fin.ext
    match a with
    | ⟨0, _⟩ => show (i 0).val = win0_8.index t 0 * 256 + 1 * (y 0).val; rw [e0, h0]; omega
    | ⟨1, _⟩ => show (i 1).val = win0_8.index t 1 * 512 + 1 * (y 1).val; rw [e1, h1]; omega
  · rfl

theorem index9 (t : Fin cfg0.N) : win0_9.index t 0 = 7 - t.val ∧ win0_9.index t 1 = 0 := by
  rcases fin_N0 t with rfl | rfl | rfl | rfl | rfl | rfl | rfl | rfl <;> decide
/-- Window 9: the array's entry at the block's place is what the point wrote. -/
theorem out9 (c : Dev nD) (t : Fin cfg0.N) (y : S256x512.Idx) (i : S2048x512.Idx) (h0 : (i 0).val = 256 * (7 - t.val) + (y 0).val) (h1 : (i 1).val = (y 1).val) :
    (dats m 0 c).arrAt 9 cfg0.N i = (outsAt0 m c t.val t.isLt).2.1 y := by
  obtain ⟨e0, e1⟩ := index9 t
  have h := congrFun (blocks9 m c t (flush0_9 t)) y
  rw [flushed9, View.read_apply] at h
  refine Eq.trans ?_ (h.trans ?_)
  · show (dats m 0 c).arrAt 9 cfg0.N _ = (dats m 0 c).arrAt 9 cfg0.N _
    congr 1
    funext a
    apply Fin.ext
    match a with
    | ⟨0, _⟩ => show (i 0).val = win0_9.index t 0 * 256 + 1 * (y 0).val; rw [e0, h0]; omega
    | ⟨1, _⟩ => show (i 1).val = win0_9.index t 1 * 512 + 1 * (y 1).val; rw [e1, h1]; omega
  · rfl

theorem index10 (t : Fin cfg0.N) : win0_10.index t 0 = 7 - t.val ∧ win0_10.index t 1 = 0 := by
  rcases fin_N0 t with rfl | rfl | rfl | rfl | rfl | rfl | rfl | rfl <;> decide
/-- Window 10: the array's entry at the block's place is what the point wrote. -/
theorem out10 (c : Dev nD) (t : Fin cfg0.N) (y : S256x512.Idx) (i : S2048x512.Idx) (h0 : (i 0).val = 256 * (7 - t.val) + (y 0).val) (h1 : (i 1).val = (y 1).val) :
    (dats m 0 c).arrAt 10 cfg0.N i = (outsAt0 m c t.val t.isLt).2.2.1 y := by
  obtain ⟨e0, e1⟩ := index10 t
  have h := congrFun (blocks10 m c t (flush0_10 t)) y
  rw [flushed10, View.read_apply] at h
  refine Eq.trans ?_ (h.trans ?_)
  · show (dats m 0 c).arrAt 10 cfg0.N _ = (dats m 0 c).arrAt 10 cfg0.N _
    congr 1
    funext a
    apply Fin.ext
    match a with
    | ⟨0, _⟩ => show (i 0).val = win0_10.index t 0 * 256 + 1 * (y 0).val; rw [e0, h0]; omega
    | ⟨1, _⟩ => show (i 1).val = win0_10.index t 1 * 512 + 1 * (y 1).val; rw [e1, h1]; omega
  · rfl

theorem index11 (t : Fin cfg0.N) : win0_11.index t 0 = 7 - t.val ∧ win0_11.index t 1 = 0 := by
  rcases fin_N0 t with rfl | rfl | rfl | rfl | rfl | rfl | rfl | rfl <;> decide
/-- Window 11: the array's entry at the block's place is what the point wrote. -/
theorem out11 (c : Dev nD) (t : Fin cfg0.N) (y : S256x512.Idx) (i : S2048x512.Idx) (h0 : (i 0).val = 256 * (7 - t.val) + (y 0).val) (h1 : (i 1).val = (y 1).val) :
    (dats m 0 c).arrAt 11 cfg0.N i = (outsAt0 m c t.val t.isLt).2.2.2.1 y := by
  obtain ⟨e0, e1⟩ := index11 t
  have h := congrFun (blocks11 m c t (flush0_11 t)) y
  rw [flushed11, View.read_apply] at h
  refine Eq.trans ?_ (h.trans ?_)
  · show (dats m 0 c).arrAt 11 cfg0.N _ = (dats m 0 c).arrAt 11 cfg0.N _
    congr 1
    funext a
    apply Fin.ext
    match a with
    | ⟨0, _⟩ => show (i 0).val = win0_11.index t 0 * 256 + 1 * (y 0).val; rw [e0, h0]; omega
    | ⟨1, _⟩ => show (i 1).val = win0_11.index t 1 * 512 + 1 * (y 1).val; rw [e1, h1]; omega
  · rfl

theorem index12 (t : Fin cfg0.N) : win0_12.index t 0 = 0 ∧ win0_12.index t 1 = 7 - t.val ∧ win0_12.index t 2 = 0 := by
  rcases fin_N0 t with rfl | rfl | rfl | rfl | rfl | rfl | rfl | rfl <;> decide
/-- Window 12: the array's entry at the block's place is what the point wrote. -/
theorem out12 (c : Dev nD) (t : Fin cfg0.N) (y : S4x256x64.Idx) (i : S4x2048x64.Idx) (h0 : (i 0).val = (y 0).val) (h1 : (i 1).val = 256 * (7 - t.val) + (y 1).val) (h2 : (i 2).val = (y 2).val) :
    (dats m 0 c).arrAt 12 cfg0.N i = (outsAt0 m c t.val t.isLt).2.2.2.2.1 y := by
  obtain ⟨e0, e1, e2⟩ := index12 t
  have h := congrFun (blocks12 m c t (flush0_12 t)) y
  rw [flushed12, View.read_apply] at h
  refine Eq.trans ?_ (h.trans ?_)
  · show (dats m 0 c).arrAt 12 cfg0.N _ = (dats m 0 c).arrAt 12 cfg0.N _
    congr 1
    funext a
    apply Fin.ext
    match a with
    | ⟨0, _⟩ => show (i 0).val = win0_12.index t 0 * 4 + 1 * (y 0).val; rw [e0, h0]; omega
    | ⟨1, _⟩ => show (i 1).val = win0_12.index t 1 * 256 + 1 * (y 1).val; rw [e1, h1]; omega
    | ⟨2, _⟩ => show (i 2).val = win0_12.index t 2 * 64 + 1 * (y 2).val; rw [e2, h2]; omega
  · rfl

theorem index13 (t : Fin cfg0.N) : win0_13.index t 0 = 7 - t.val ∧ win0_13.index t 1 = 0 ∧ win0_13.index t 2 = 0 := by
  rcases fin_N0 t with rfl | rfl | rfl | rfl | rfl | rfl | rfl | rfl <;> decide
/-- Window 13: the array's entry at the block's place is what the point wrote. -/
theorem out13 (c : Dev nD) (t : Fin cfg0.N) (y : S4x1x512.Idx) (i : S32x1x512.Idx) (h0 : (i 0).val = 4 * (7 - t.val) + (y 0).val) (h1 : (i 1).val = (y 1).val) (h2 : (i 2).val = (y 2).val) :
    (dats m 0 c).arrAt 13 cfg0.N i = (outsAt0 m c t.val t.isLt).2.2.2.2.2.1 y := by
  obtain ⟨e0, e1, e2⟩ := index13 t
  have h := congrFun (blocks13 m c t (flush0_13 t)) y
  rw [flushed13, View.read_apply] at h
  refine Eq.trans ?_ (h.trans ?_)
  · show (dats m 0 c).arrAt 13 cfg0.N _ = (dats m 0 c).arrAt 13 cfg0.N _
    congr 1
    funext a
    apply Fin.ext
    match a with
    | ⟨0, _⟩ => show (i 0).val = win0_13.index t 0 * 4 + 1 * (y 0).val; rw [e0, h0]; omega
    | ⟨1, _⟩ => show (i 1).val = win0_13.index t 1 * 1 + 1 * (y 1).val; rw [e1, h1]; omega
    | ⟨2, _⟩ => show (i 2).val = win0_13.index t 2 * 512 + 1 * (y 2).val; rw [e2, h2]; omega
  · rfl

/-- The eight input blocks of point `t`. -/
def ins (c : Dev nD) (t : Fin cfg0.N) : Ins F where
  arg1 := ms0_0 t
  harg1 := hs0_0 t
  x0 := iblk m c 0 t
  arg2 := ms0_1 t
  harg2 := hs0_1 t
  x1 := iblk m c 1 t
  arg3 := ms0_2 t
  harg3 := hs0_2 t
  x2 := iblk m c 2 t
  arg4 := ms0_3 t
  harg4 := hs0_3 t
  x3 := iblk m c 3 t
  arg5 := ms0_4 t
  harg5 := hs0_4 t
  x4 := iblk m c 4 t
  arg6 := ms0_5 t
  harg6 := hs0_5 t
  x5 := iblk m c 5 t
  arg7 := ms0_6 t
  harg7 := hs0_6 t
  x6 := iblk m c 6 t
  arg8 := ms0_7 t
  harg8 := hs0_7 t
  x7 := iblk m c 7 t
theorem leavesA_0 (c : Dev nD) (t : Fin cfg0.N) (h0 : t.val % 8 = 0) :
    (outsAt0 m c t.val t.isLt).1 = View.canon (tiles2 fun h ci => dv (chain (ins m c t) (fun h => flat (scZero scM0_0 h)) h (3 - ci.val)) (loads (ins m c t) h ci)) := by
  have e := congrArg (fun o => o.1) (outsAt0_A m c t h0)
  dsimp only at e
  refine e.trans ?_
  refine (outA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) ).trans ?_
  rfl

theorem leavesB_0 (c : Dev nD) (t : Fin cfg0.N) (h0 : ¬t.val % 8 = 0) :
    (outsAt0 m c t.val t.isLt).1 = View.canon (tiles2 fun h ci => dv (chain (ins m c t) (fun h => flat (scLoad scM0_0 (Memref.isWhole_whole _) (outsAt0 m c (t.val - 1) (Nat.lt_of_le_of_lt (Nat.sub_le _ _) t.isLt)).2.2.2.2.2.2 h)) h (3 - ci.val)) (loads (ins m c t) h ci)) := by
  have e := congrArg (fun o => o.1) (outsAt0_B m c t h0)
  dsimp only at e
  refine e.trans ?_
  refine (outB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2).trans ?_
  rfl

theorem leavesA_1 (c : Dev nD) (t : Fin cfg0.N) (h0 : t.val % 8 = 0) :
    (outsAt0 m c t.val t.isLt).2.1 = View.canon (tiles2 fun h ci => dw (chain (ins m c t) (fun h => flat (scZero scM0_0 h)) h (3 - ci.val)) (loads (ins m c t) h ci)) := by
  have e := congrArg (fun o => o.2.1) (outsAt0_A m c t h0)
  dsimp only at e
  refine e.trans ?_
  refine (outA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) ).trans ?_
  rfl

theorem leavesB_1 (c : Dev nD) (t : Fin cfg0.N) (h0 : ¬t.val % 8 = 0) :
    (outsAt0 m c t.val t.isLt).2.1 = View.canon (tiles2 fun h ci => dw (chain (ins m c t) (fun h => flat (scLoad scM0_0 (Memref.isWhole_whole _) (outsAt0 m c (t.val - 1) (Nat.lt_of_le_of_lt (Nat.sub_le _ _) t.isLt)).2.2.2.2.2.2 h)) h (3 - ci.val)) (loads (ins m c t) h ci)) := by
  have e := congrArg (fun o => o.2.1) (outsAt0_B m c t h0)
  dsimp only at e
  refine e.trans ?_
  refine (outB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2).trans ?_
  rfl

theorem leavesA_2 (c : Dev nD) (t : Fin cfg0.N) (h0 : t.val % 8 = 0) :
    (outsAt0 m c t.val t.isLt).2.2.1 = View.canon (tiles2 fun h ci => dqe (loads (ins m c t) h ci)) := by
  have e := congrArg (fun o => o.2.2.1) (outsAt0_A m c t h0)
  dsimp only at e
  refine e.trans ?_
  refine (outA_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) ).trans ?_
  rfl

theorem leavesB_2 (c : Dev nD) (t : Fin cfg0.N) (h0 : ¬t.val % 8 = 0) :
    (outsAt0 m c t.val t.isLt).2.2.1 = View.canon (tiles2 fun h ci => dqe (loads (ins m c t) h ci)) := by
  have e := congrArg (fun o => o.2.2.1) (outsAt0_B m c t h0)
  dsimp only at e
  refine e.trans ?_
  refine (outB_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2).trans ?_
  rfl

theorem leavesA_3 (c : Dev nD) (t : Fin cfg0.N) (h0 : t.val % 8 = 0) :
    (outsAt0 m c t.val t.isLt).2.2.2.1 = View.canon (tiles2 fun h ci => dkd (chain (ins m c t) (fun h => flat (scZero scM0_0 h)) h (3 - ci.val)) (loads (ins m c t) h ci)) := by
  have e := congrArg (fun o => o.2.2.2.1) (outsAt0_A m c t h0)
  dsimp only at e
  refine e.trans ?_
  refine (outA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) ).trans ?_
  rfl

theorem leavesB_3 (c : Dev nD) (t : Fin cfg0.N) (h0 : ¬t.val % 8 = 0) :
    (outsAt0 m c t.val t.isLt).2.2.2.1 = View.canon (tiles2 fun h ci => dkd (chain (ins m c t) (fun h => flat (scLoad scM0_0 (Memref.isWhole_whole _) (outsAt0 m c (t.val - 1) (Nat.lt_of_le_of_lt (Nat.sub_le _ _) t.isLt)).2.2.2.2.2.2 h)) h (3 - ci.val)) (loads (ins m c t) h ci)) := by
  have e := congrArg (fun o => o.2.2.2.1) (outsAt0_B m c t h0)
  dsimp only at e
  refine e.trans ?_
  refine (outB_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2).trans ?_
  rfl

theorem leavesA_4 (c : Dev nD) (t : Fin cfg0.N) (h0 : t.val % 8 = 0) :
    (outsAt0 m c t.val t.isLt).2.2.2.2.1 = View.canon (tiles3 fun h ci => dqk (loads (ins m c t) h ci)) := by
  have e := congrArg (fun o => o.2.2.2.2.1) (outsAt0_A m c t h0)
  dsimp only at e
  refine e.trans ?_
  refine (outA_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) ).trans ?_
  rfl

theorem leavesB_4 (c : Dev nD) (t : Fin cfg0.N) (h0 : ¬t.val % 8 = 0) :
    (outsAt0 m c t.val t.isLt).2.2.2.2.1 = View.canon (tiles3 fun h ci => dqk (loads (ins m c t) h ci)) := by
  have e := congrArg (fun o => o.2.2.2.2.1) (outsAt0_B m c t h0)
  dsimp only at e
  refine e.trans ?_
  refine (outB_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2).trans ?_
  rfl

theorem leavesA_5 (c : Dev nD) (t : Fin cfg0.N) (h0 : t.val % 8 = 0) :
    (outsAt0 m c t.val t.isLt).2.2.2.2.2.1 = View.canon (tilesE fun h ci => degl (chain (ins m c t) (fun h => flat (scZero scM0_0 h)) h (3 - ci.val)) (loads (ins m c t) h ci)) := by
  have e := congrArg (fun o => o.2.2.2.2.2.1) (outsAt0_A m c t h0)
  dsimp only at e
  refine e.trans ?_
  refine (outA_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) ).trans ?_
  rfl

theorem leavesB_5 (c : Dev nD) (t : Fin cfg0.N) (h0 : ¬t.val % 8 = 0) :
    (outsAt0 m c t.val t.isLt).2.2.2.2.2.1 = View.canon (tilesE fun h ci => degl (chain (ins m c t) (fun h => flat (scLoad scM0_0 (Memref.isWhole_whole _) (outsAt0 m c (t.val - 1) (Nat.lt_of_le_of_lt (Nat.sub_le _ _) t.isLt)).2.2.2.2.2.2 h)) h (3 - ci.val)) (loads (ins m c t) h ci)) := by
  have e := congrArg (fun o => o.2.2.2.2.2.1) (outsAt0_B m c t h0)
  dsimp only at e
  refine e.trans ?_
  refine (outB_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2).trans ?_
  rfl

theorem leavesA_6 (c : Dev nD) (t : Fin cfg0.N) (h0 : t.val % 8 = 0) :
    (outsAt0 m c t.val t.isLt).2.2.2.2.2.2 = View.canon (tilesS (fun h => unflat (chain (ins m c t) (fun h => flat (scZero scM0_0 h)) h 4)) ++ kernelRun0_A.sl.HS0_1 (F := F)) := by
  have e := congrArg (fun o => o.2.2.2.2.2.2) (outsAt0_A m c t h0)
  dsimp only at e
  refine e.trans ?_
  refine (outA_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) ).trans ?_
  rfl

theorem leavesB_6 (c : Dev nD) (t : Fin cfg0.N) (h0 : ¬t.val % 8 = 0) :
    (outsAt0 m c t.val t.isLt).2.2.2.2.2.2 = View.canon (tilesS (fun h => unflat (chain (ins m c t) (fun h => flat (scLoad scM0_0 (Memref.isWhole_whole _) (outsAt0 m c (t.val - 1) (Nat.lt_of_le_of_lt (Nat.sub_le _ _) t.isLt)).2.2.2.2.2.2 h)) h 4))) := by
  have e := congrArg (fun o => o.2.2.2.2.2.2) (outsAt0_B m c t h0)
  dsimp only at e
  refine e.trans ?_
  refine (outB_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2).trans ?_
  rfl

end Cert.Proof.KPoint
end
-- ==== Proof.KValue.lean ====
module

public import proofs.«01_k».proof.Proof.KPoint
public import Idealize.ShloMosaic.Lib.ValueLayout

@[expose] public section

set_option maxRecDepth 8192

noncomputable section

/-! The kernel's results over the extended reals, entry by entry: one recursion over the chunks, from the last to the first. -/

namespace Cert.Proof

open Idealize.ShloMosaic Idealize.ShloMosaic.TcCoe Cert.Proof.KVec

/-- The eight arguments as arrays of extended reals. -/
structure Args where
  u : (⟨2, ![2048, 512]⟩ : Shape).Idx → EReal
  w : (⟨2, ![2048, 512]⟩ : Shape).Idx → EReal
  qe : (⟨2, ![2048, 512]⟩ : Shape).Idx → EReal
  kd : (⟨2, ![2048, 512]⟩ : Shape).Idx → EReal
  qk : (⟨3, ![4, 2048, 64]⟩ : Shape).Idx → EReal
  egl : (⟨3, ![32, 1, 512]⟩ : Shape).Idx → EReal
  s : (⟨4, ![4, 32, 128, 128]⟩ : Shape).Idx → EReal
  dout : (⟨2, ![2048, 512]⟩ : Shape).Idx → EReal

/-- Row `r` of chunk `cc`. -/
def row (cc : Fin 32) (r : Fin 64) : Fin 2048 := ⟨64 * cc.val + r.val, by omega⟩
/-- Column `d` of head `h`. -/
def col (h : Fin 4) (d : Fin 128) : Fin 512 := ⟨128 * h.val + d.val, by omega⟩

/-- Chunk `cc` of head `h`. -/
def Args.chunk (A : Args) (h : Fin 4) (cc : Fin 32) : Chunk where
  u r d := A.u (ix2 (row cc r) (col h d))
  w r d := A.w (ix2 (row cc r) (col h d))
  qe r d := A.qe (ix2 (row cc r) (col h d))
  kd r d := A.kd (ix2 (row cc r) (col h d))
  qk q r := A.qk (ix3 h (row cc q) r)
  egl e := A.egl (ix3 cc 0 (col h e))
  s d e := A.s (ix4 h cc d e)
  dout r d := A.dout (ix2 (row cc r) (col h d))

/-- The gradient of head `h`'s state after the last `n` chunks have been gone through, from the last one on. -/
def Args.carry (A : Args) (h : Fin 4) : ℕ → Fin 128 → Fin 128 → EReal
  | 0 => fun _ _ => 0
  | n + 1 => (A.chunk h ⟨31 - n, by omega⟩).nx (A.carry h n)

namespace KValue

open Cert.KernelIdeal Cert.KernelIdeal.Gen Cert.KernelIdeal.Value Cert.Proof.KTiles Cert.Proof.KPoint

variable (m : (ℓ : Loc nD τ sig) → Buf (Elt Ideal) ℓ)

/-- The arguments that the kernel finds on device `c`. -/
def args (c : Dev nD) : Args where
  u := m ((c : Thread nD τ).loc main_arg0)
  w := m ((c : Thread nD τ).loc main_arg1)
  qe := m ((c : Thread nD τ).loc main_arg2)
  kd := m ((c : Thread nD τ).loc main_arg3)
  qk := m ((c : Thread nD τ).loc main_arg4)
  egl := m ((c : Thread nD τ).loc main_arg5)
  s := m ((c : Thread nD τ).loc main_arg6)
  dout := m ((c : Thread nD τ).loc main_arg7)

section Loads
variable {F : FTy → Type}

theorem rows_apply {e : EltTy} (a : Memref sig .tc .vmem S256x512 e) (ha : a.IsWhole) (x : Vec F S256x512 e) (h ci : Fin 4) (r : Fin 64) (d : Fin 128) :
    rows a ha x h ci (ix2 r d) = x (ix2 ⟨64 * ci.val + r.val, by omega⟩ (col h d)) := by
  refine (ha.readAt_unread x _ _).trans (congrArg x ?_)
  funext k
  apply Fin.ext
  match k with
  | ⟨0, _⟩ => show (64 * ci.val + 0) + 1 * r.val = 64 * ci.val + r.val; omega
  | ⟨1, _⟩ => show (0 + 128 * h.val) + 1 * d.val = 128 * h.val + d.val; omega

theorem qk_apply (I : Ins F) (h ci : Fin 4) (q r : Fin 64) :
    (loads I h ci).qk (ix3 0 q r) = I.x4 (ix3 h ⟨64 * ci.val + q.val, by omega⟩ r) := by
  refine (I.harg5.readAt_unread I.x4 _ _).trans (congrArg I.x4 ?_)
  funext k
  apply Fin.ext
  match k with
  | ⟨0, _⟩ => show (0 + h.val) + 1 * 0 = h.val; omega
  | ⟨1, _⟩ => show (64 * ci.val + 0) + 1 * q.val = 64 * ci.val + q.val; omega
  | ⟨2, _⟩ => show (0 + 0) + 1 * r.val = r.val; omega

theorem s_apply (I : Ins F) (h ci : Fin 4) (d e : Fin 128) :
    (loads I h ci).s (ix4 0 0 d e) = I.x6 (ix4 h ci d e) := by
  refine (I.harg7.readAt_unread I.x6 _ _).trans (congrArg I.x6 ?_)
  funext k
  apply Fin.ext
  match k with
  | ⟨0, _⟩ => show h.val + 1 * 0 = h.val; omega
  | ⟨1, _⟩ => show ci.val + 1 * 0 = ci.val; omega
  | ⟨2, _⟩ => show 0 + 1 * d.val = d.val; omega
  | ⟨3, _⟩ => show 0 + 1 * e.val = e.val; omega

theorem dout_apply (I : Ins F) (h ci : Fin 4) (r : Fin 64) (d : Fin 128) :
    (loads I h ci).dout (ix2 r d) = I.x7 (ix2 ⟨64 * ci.val + r.val, by omega⟩ (col h d)) := by
  refine (I.harg8.readAt_unread I.x7 _ _).trans (congrArg I.x7 ?_)
  funext k
  apply Fin.ext
  match k with
  | ⟨0, _⟩ => show 64 * ci.val + 1 * r.val = 64 * ci.val + r.val; omega
  | ⟨1, _⟩ => show 128 * h.val + 1 * d.val = 128 * h.val + d.val; omega

theorem egl_apply (I : Ins F) (h ci : Fin 4) (e : Fin 128) :
    (loads I h ci).egl (ix2 0 e) = I.x5 (ix3 ci 0 (col h e)) := by
  refine (I.harg6.readAt_slice_reshape_unread I.x5 _ _ _ _).trans (congrArg I.x5 ?_)
  have hx : (Rect.unit (s := S1x512) ![0, 128 * h.val] S1x128.size (Rect.inb₂ (by show 0 + 1 ≤ 1; omega) (by show 128 * h.val + 128 ≤ 512; omega))).toLoadRect.idx (ix2 0 e) = (ix2 0 (col h e) : S1x512.Idx) := by
    funext k
    apply Fin.ext
    match k with
    | ⟨0, _⟩ => rfl
    | ⟨1, _⟩ => show 128 * h.val + 1 * e.val = 128 * h.val + e.val; omega
  have hy : Shape.reshapeEquiv (s := (⟨3, ![1, 1, 512]⟩ : Shape)) (s' := (⟨2, ![1, 512]⟩ : Shape)) (by decide) (ix2 0 (col h e)) = ix3 0 0 (col h e) :=
    ValueIdx.reshapeEquiv_ix2_1ab _ _ _
  rw [hx]
  refine (congrArg _ hy).trans ?_
  funext k
  apply Fin.ext
  match k with
  | ⟨0, _⟩ => show ci.val + 1 * 0 = ci.val; omega
  | ⟨1, _⟩ => rfl
  | ⟨2, _⟩ => show 0 + 1 * (col h e).val = (col h e).val; omega

end Loads

/-- What the kernel loads at point `t` for chunk `ci` of the block is chunk `4 (7 - t) + ci` of the arrays. -/
theorem loads_at (c : Dev nD) (t : Fin cfg0.N) (h ci : Fin 4) (cc : Fin 32) (hcc : cc.val = 4 * (7 - t.val) + ci.val) :
    (loads (ins m c t) h ci).at = (args m c).chunk h cc := by
  unfold Loads.at Args.chunk
  congr 1
  · funext r d
    exact (rows_apply _ _ _ h ci r d).trans (block0 m c t _ _ (by show 64 * cc.val + r.val = 256 * (7 - t.val) + (64 * ci.val + r.val); omega) rfl)
  · funext r d
    exact (rows_apply _ _ _ h ci r d).trans (block1 m c t _ _ (by show 64 * cc.val + r.val = 256 * (7 - t.val) + (64 * ci.val + r.val); omega) rfl)
  · funext r d
    exact (rows_apply _ _ _ h ci r d).trans (block2 m c t _ _ (by show 64 * cc.val + r.val = 256 * (7 - t.val) + (64 * ci.val + r.val); omega) rfl)
  · funext r d
    exact (rows_apply _ _ _ h ci r d).trans (block3 m c t _ _ (by show 64 * cc.val + r.val = 256 * (7 - t.val) + (64 * ci.val + r.val); omega) rfl)
  · funext q r
    exact (qk_apply _ h ci q r).trans (block4 m c t _ _ rfl (by show 64 * cc.val + q.val = 256 * (7 - t.val) + (64 * ci.val + q.val); omega) rfl)
  · funext e
    exact (egl_apply _ h ci e).trans (block5 m c t _ _ (by show cc.val = 4 * (7 - t.val) + ci.val; omega) rfl rfl)
  · funext d e
    exact (s_apply _ h ci d e).trans (block6 m c t _ _ rfl (by show cc.val = 4 * (7 - t.val) + ci.val; omega) rfl rfl)
  · funext r d
    exact (dout_apply _ h ci r d).trans (block7 m c t _ _ (by show 64 * cc.val + r.val = 256 * (7 - t.val) + (64 * ci.val + r.val); omega) rfl)

theorem flat_apply (x : Vec Ideal S1x128x128 .f32) (d e : Fin 128) : flat x (ix2 d e) = x (ix3 0 d e) := by
  unfold flat
  pointwise
theorem unflat_apply (x : FVec Ideal S128x128 .f32) (d e : Fin 128) : unflat x (ix3 0 d e) = x (ix2 d e) := by
  unfold unflat
  pointwise

theorem N8 : cfg0.N = 8 := N_0

/-- The carried gradient inside a point. -/
theorem chain_apply (c : Dev nD) (t : Fin cfg0.N) (ds0 : Fin 4 → FVec Ideal S128x128 .f32) (h : Fin 4)
    (h0 : ∀ d e, ds0 h (ix2 d e) = (args m c).carry h (4 * t.val) d e) :
    ∀ n ≤ 4, ∀ d e, chain (ins m c t) ds0 h n (ix2 d e) = (args m c).carry h (4 * t.val + n) d e
  | 0, _, d, e => h0 d e
  | n + 1, hn, d, e => by
    have ht : t.val < 8 := N8 ▸ t.isLt
    have ih := chain_apply c t ds0 h h0 n (by omega)
    show nx (chain (ins m c t) ds0 h n) (loads (ins m c t) h ⟨3 - n, by omega⟩) (ix2 d e) = ((args m c).chunk h ⟨31 - (4 * t.val + n), by omega⟩).nx ((args m c).carry h (4 * t.val + n)) d e
    rw [nx_apply, loads_at m c t h _ ⟨31 - (4 * t.val + n), by omega⟩ (by dsimp only; omega),
      show (fun d e => chain (ins m c t) ds0 h n (ix2 d e)) = (args m c).carry h (4 * t.val + n) from funext fun d => funext fun e => ih d e]

theorem scZero_apply (a : Memref sig .tc .vmem S4x128x128 .f32) (h : Fin 4) (x) : scZero (F := Ideal) a h x = 0 := by
  have e := congrFun (View.readCov_eq_canon' a.view (kernelRun0_A.sl.HS0_1 (F := Ideal)) (Rect.unit (s := S4x128x128) ![h.val, 0, 0] S1x128x128.size (fitsS h)).toLoadRect) x
  refine e.trans ?_
  have hz : View.canon (kernelRun0_A.sl.HS0_1 (F := Ideal)) = k0_pay7 (F := Ideal) := by
    unfold kernelRun0_A.sl.HS0_1
    exact View.canon_unit_zero (by funext k; fin_cases k <;> rfl) _ _
  show View.canon (kernelRun0_A.sl.HS0_1 (F := Ideal)) _ = 0
  rw [hz]
  unfold k0_pay7
  pointwise

theorem scLoad_apply (a : Memref sig .tc .vmem S4x128x128 .f32) (ha : a.IsWhole) (x : Vec Ideal S4x128x128 .f32) (h : Fin 4) (d e : Fin 128) :
    scLoad a ha x h (ix3 0 d e) = x (ix3 h d e) := by
  refine (ha.readAt_unread x _ _).trans (congrArg x ?_)
  funext k
  apply Fin.ext
  match k with
  | ⟨0, _⟩ => show h.val + 1 * 0 = h.val; omega
  | ⟨1, _⟩ => show 0 + 1 * d.val = d.val; omega
  | ⟨2, _⟩ => show 0 + 1 * e.val = e.val; omega

/-- The scratch buffer after point `n` holds the gradient carried over `4 (n + 1)` chunks. -/
theorem scratch_apply (c : Dev nD) : ∀ (n : ℕ) (hn : n < cfg0.N) (h : Fin 4) (d e : Fin 128),
    (outsAt0 m c n hn).2.2.2.2.2.2 (ix3 h d e) = (args m c).carry h (4 * (n + 1)) d e
  | 0, hn, h, d, e => by
    rw [leavesA_6 m c ⟨0, hn⟩ rfl, canon_tilesS _ h d e _ _ rfl rfl rfl, unflat_apply]
    exact chain_apply m c ⟨0, hn⟩ _ h (fun d e => (flat_apply _ d e).trans (scZero_apply _ h _)) 4 le_rfl d e
  | n + 1, hn, h, d, e => by
    have hN := N8
    have hB : ¬(⟨n + 1, hn⟩ : Fin cfg0.N).val % 8 = 0 := by dsimp only; omega
    have key := leavesB_6 m c ⟨n + 1, hn⟩ hB
    dsimp only at key
    rw [key, ← List.append_nil (tilesS _), canon_tilesS _ h d e _ _ rfl rfl rfl, unflat_apply]
    exact chain_apply m c ⟨n + 1, hn⟩ _ h (fun d e => (flat_apply _ d e).trans ((scLoad_apply _ _ _ h d e).trans (scratch_apply c n _ h d e))) 4 le_rfl d e

/-- The carried gradient at chunk `ci` of point `t`. -/
theorem chain_chunk (c : Dev nD) (t : Fin cfg0.N) (ds0 : Fin 4 → FVec Ideal S128x128 .f32) (h ci : Fin 4) (cc : Fin 32) (hcc : cc.val = 4 * (7 - t.val) + ci.val)
    (h0 : ∀ d e, ds0 h (ix2 d e) = (args m c).carry h (4 * t.val) d e) :
    (fun d e => chain (ins m c t) ds0 h (3 - ci.val) (ix2 d e)) = (args m c).carry h (31 - cc.val) := by
  have ht : t.val < 8 := N8 ▸ t.isLt
  funext d e
  rw [chain_apply m c t ds0 h h0 (3 - ci.val) (by omega), show 4 * t.val + (3 - ci.val) = 31 - cc.val by omega]

/-- The gradient that a point other than the first finds in the scratch buffer. -/
theorem found (c : Dev nD) (t : Fin cfg0.N) (hB : ¬t.val % 8 = 0) (h : Fin 4) (d e : Fin 128) :
    flat (scLoad scM0_0 (Memref.isWhole_whole _) (outsAt0 m c (t.val - 1) (Nat.lt_of_le_of_lt (Nat.sub_le _ _) t.isLt)).2.2.2.2.2.2 h) (ix2 d e) = (args m c).carry h (4 * t.val) d e := by
  have ht : t.val ≠ 0 := fun e => hB (by omega)
  rw [flat_apply, scLoad_apply, scratch_apply m c (t.val - 1)]
  congr 1
  omega

/-- At the first point the gradient is zero. -/
theorem start (c : Dev nD) (t : Fin cfg0.N) (hA : t.val % 8 = 0) (h : Fin 4) (d e : Fin 128) :
    flat (scZero (F := Ideal) scM0_0 h) (ix2 d e) = (args m c).carry h (4 * t.val) d e := by
  have ht : t.val < 8 := N8 ▸ t.isLt
  rw [flat_apply, scZero_apply, show 4 * t.val = 0 by omega]
  rfl

/-- The point that goes through chunk `cc`. -/
def point (cc : Fin 32) : Fin cfg0.N := ⟨7 - cc.val / 4, by rw [N8]; omega⟩
/-- The chunk's place in that point's block. -/
def place (cc : Fin 32) : Fin 4 := ⟨cc.val % 4, by omega⟩

theorem point_place (cc : Fin 32) : cc.val = 4 * (7 - (point cc).val) + (place cc).val := by
  show cc.val = 4 * (7 - (7 - cc.val / 4)) + cc.val % 4
  omega

theorem du_result (c : Dev nD) (h : Fin 4) (cc : Fin 32) (r : Fin 64) (d : Fin 128) :
    (dats m 0 c).arrAt 8 cfg0.N (ix2 (row cc r) (col h d) : (⟨2, ![2048, 512]⟩ : Shape).Idx) = ((args m c).chunk h cc).dv ((args m c).carry h (31 - cc.val)) r d := by
  have hp := point_place cc
  refine (out8 m c (point cc) (ix2 ⟨64 * (place cc).val + r.val, by have := (place cc).isLt; omega⟩ (col h d)) _ (by show 64 * cc.val + r.val = 256 * (7 - (point cc).val) + (64 * (place cc).val + r.val); omega) rfl).trans ?_
  by_cases hA : (point cc).val % 8 = 0
  · refine (congrFun (leavesA_0 m c (point cc) hA) _).trans ?_
    refine (canon_tiles2 _ h (place cc) r d _ rfl rfl).trans ?_
    rw [dv_apply, loads_at m c (point cc) h (place cc) cc hp, chain_chunk m c (point cc) _ h (place cc) cc hp (fun d e => start m c (point cc) hA h d e)]
  · refine (congrFun (leavesB_0 m c (point cc) hA) _).trans ?_
    refine (canon_tiles2 _ h (place cc) r d _ rfl rfl).trans ?_
    rw [dv_apply, loads_at m c (point cc) h (place cc) cc hp, chain_chunk m c (point cc) _ h (place cc) cc hp (fun d e => found m c (point cc) hA h d e)]

theorem dw_result (c : Dev nD) (h : Fin 4) (cc : Fin 32) (r : Fin 64) (d : Fin 128) :
    (dats m 0 c).arrAt 9 cfg0.N (ix2 (row cc r) (col h d) : (⟨2, ![2048, 512]⟩ : Shape).Idx) = ((args m c).chunk h cc).dw ((args m c).carry h (31 - cc.val)) r d := by
  have hp := point_place cc
  refine (out9 m c (point cc) (ix2 ⟨64 * (place cc).val + r.val, by have := (place cc).isLt; omega⟩ (col h d)) _ (by show 64 * cc.val + r.val = 256 * (7 - (point cc).val) + (64 * (place cc).val + r.val); omega) rfl).trans ?_
  by_cases hA : (point cc).val % 8 = 0
  · refine (congrFun (leavesA_1 m c (point cc) hA) _).trans ?_
    refine (canon_tiles2 _ h (place cc) r d _ rfl rfl).trans ?_
    rw [dw_apply, loads_at m c (point cc) h (place cc) cc hp, chain_chunk m c (point cc) _ h (place cc) cc hp (fun d e => start m c (point cc) hA h d e)]
  · refine (congrFun (leavesB_1 m c (point cc) hA) _).trans ?_
    refine (canon_tiles2 _ h (place cc) r d _ rfl rfl).trans ?_
    rw [dw_apply, loads_at m c (point cc) h (place cc) cc hp, chain_chunk m c (point cc) _ h (place cc) cc hp (fun d e => found m c (point cc) hA h d e)]

theorem dqe_result (c : Dev nD) (h : Fin 4) (cc : Fin 32) (r : Fin 64) (d : Fin 128) :
    (dats m 0 c).arrAt 10 cfg0.N (ix2 (row cc r) (col h d) : (⟨2, ![2048, 512]⟩ : Shape).Idx) = ((args m c).chunk h cc).dqe r d := by
  have hp := point_place cc
  refine (out10 m c (point cc) (ix2 ⟨64 * (place cc).val + r.val, by have := (place cc).isLt; omega⟩ (col h d)) _ (by show 64 * cc.val + r.val = 256 * (7 - (point cc).val) + (64 * (place cc).val + r.val); omega) rfl).trans ?_
  by_cases hA : (point cc).val % 8 = 0
  · refine (congrFun (leavesA_2 m c (point cc) hA) _).trans ?_
    refine (canon_tiles2 _ h (place cc) r d _ rfl rfl).trans ?_
    rw [dqe_apply, loads_at m c (point cc) h (place cc) cc hp]
  · refine (congrFun (leavesB_2 m c (point cc) hA) _).trans ?_
    refine (canon_tiles2 _ h (place cc) r d _ rfl rfl).trans ?_
    rw [dqe_apply, loads_at m c (point cc) h (place cc) cc hp]

theorem dkd_result (c : Dev nD) (h : Fin 4) (cc : Fin 32) (r : Fin 64) (d : Fin 128) :
    (dats m 0 c).arrAt 11 cfg0.N (ix2 (row cc r) (col h d) : (⟨2, ![2048, 512]⟩ : Shape).Idx) = ((args m c).chunk h cc).dkd ((args m c).carry h (31 - cc.val)) r d := by
  have hp := point_place cc
  refine (out11 m c (point cc) (ix2 ⟨64 * (place cc).val + r.val, by have := (place cc).isLt; omega⟩ (col h d)) _ (by show 64 * cc.val + r.val = 256 * (7 - (point cc).val) + (64 * (place cc).val + r.val); omega) rfl).trans ?_
  by_cases hA : (point cc).val % 8 = 0
  · refine (congrFun (leavesA_3 m c (point cc) hA) _).trans ?_
    refine (canon_tiles2 _ h (place cc) r d _ rfl rfl).trans ?_
    rw [dkd_apply, loads_at m c (point cc) h (place cc) cc hp, chain_chunk m c (point cc) _ h (place cc) cc hp (fun d e => start m c (point cc) hA h d e)]
  · refine (congrFun (leavesB_3 m c (point cc) hA) _).trans ?_
    refine (canon_tiles2 _ h (place cc) r d _ rfl rfl).trans ?_
    rw [dkd_apply, loads_at m c (point cc) h (place cc) cc hp, chain_chunk m c (point cc) _ h (place cc) cc hp (fun d e => found m c (point cc) hA h d e)]

theorem dqk_result (c : Dev nD) (h : Fin 4) (cc : Fin 32) (q r : Fin 64) :
    (dats m 0 c).arrAt 12 cfg0.N (ix3 h (row cc q) r : (⟨3, ![4, 2048, 64]⟩ : Shape).Idx) = ((args m c).chunk h cc).dqk q r := by
  have hp := point_place cc
  refine (out12 m c (point cc) (ix3 h ⟨64 * (place cc).val + q.val, by have := (place cc).isLt; omega⟩ r) _ rfl (by show 64 * cc.val + q.val = 256 * (7 - (point cc).val) + (64 * (place cc).val + q.val); omega) rfl).trans ?_
  by_cases hA : (point cc).val % 8 = 0
  · refine (congrFun (leavesA_4 m c (point cc) hA) _).trans ?_
    refine (canon_tiles3 _ h (place cc) q r _ rfl rfl rfl).trans ?_
    rw [dqk_apply, loads_at m c (point cc) h (place cc) cc hp]
  · refine (congrFun (leavesB_4 m c (point cc) hA) _).trans ?_
    refine (canon_tiles3 _ h (place cc) q r _ rfl rfl rfl).trans ?_
    rw [dqk_apply, loads_at m c (point cc) h (place cc) cc hp]

theorem degl_result (c : Dev nD) (h : Fin 4) (cc : Fin 32) (d : Fin 128) :
    (dats m 0 c).arrAt 13 cfg0.N (ix3 cc 0 (col h d) : (⟨3, ![32, 1, 512]⟩ : Shape).Idx) = ((args m c).chunk h cc).degl ((args m c).carry h (31 - cc.val)) d := by
  have hp := point_place cc
  refine (out13 m c (point cc) (ix3 (place cc) 0 (col h d)) _ (by show cc.val = 4 * (7 - (point cc).val) + (place cc).val; omega) rfl rfl).trans ?_
  by_cases hA : (point cc).val % 8 = 0
  · refine (congrFun (leavesA_5 m c (point cc) hA) _).trans ?_
    refine (canon_tilesE _ h (place cc) d _ rfl rfl).trans ?_
    rw [degl_apply, loads_at m c (point cc) h (place cc) cc hp, chain_chunk m c (point cc) _ h (place cc) cc hp (fun d e => start m c (point cc) hA h d e)]
  · refine (congrFun (leavesB_5 m c (point cc) hA) _).trans ?_
    refine (canon_tilesE _ h (place cc) d _ rfl rfl).trans ?_
    rw [degl_apply, loads_at m c (point cc) h (place cc) cc hp, chain_chunk m c (point cc) _ h (place cc) cc hp (fun d e => found m c (point cc) hA h d e)]

end KValue
end Cert.Proof
end
-- ==== Proof.RefRun.lean ====
module

public import proofs.«01_k».proof.Proof.Gen.ReferenceIdeal.Run
public import proofs.«01_k».proof.Proof.Gen.ReferenceIdeal.Step

@[expose] public section

noncomputable section

/-! The reference's loop: what the program holds after each trip, as the generated step iterated. It follows the text that the
generator writes for this reference; the two lemmas `step_14` and `step_15` are closed in another way. -/

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v25_9) = s.main_v25_9
  f_10 : V0 (Proc.devRef .tc main_v25_10) = s.main_v25_10
  f_11 : V0 (Proc.devRef .tc main_v25_11) = s.main_v25_11
  f_12 : V0 (Proc.devRef .tc main_v25_12) = s.main_v25_12
  f_13 : V0 (Proc.devRef .tc main_v25_13) = s.main_v25_13
  f_14 : V0 (Proc.devRef .tc main_v25_14) = s.main_v25_14
  f_15 : V0 (Proc.devRef .tc main_v25_15) = s.main_v25_15
  f_0 : V0 (Proc.devRef .tc main_v25_0) = s.main_v25_0
  f_1 : V0 (Proc.devRef .tc main_v25_1) = s.main_v25_1
  f_2 : V0 (Proc.devRef .tc main_v25_2) = s.main_v25_2
  f_3 : V0 (Proc.devRef .tc main_v25_3) = s.main_v25_3
  f_4 : V0 (Proc.devRef .tc main_v25_4) = s.main_v25_4
  f_5 : V0 (Proc.devRef .tc main_v25_5) = s.main_v25_5
  f_6 : V0 (Proc.devRef .tc main_v25_6) = s.main_v25_6
  f_7 : V0 (Proc.devRef .tc main_v25_7) = s.main_v25_7
  n_8 : V0 (Proc.devRef .tc main_v25_8) = constantI S_ 32 (BitVec.ofNat 32 j)

variable {V0 s j}

set_option maxRecDepth 8192 in
theorem al_0 (h : Holds V0 s j) : (constantI S_ 32 32#32 : (Proc.devRef .tc main_while0b_c_21 : DevRef τ sig).ty.Contents (Elt F)) = Cert.ReferenceIdeal.Step.b0 j s := by
  unfold Cert.ReferenceIdeal.Step.b0
  rfl
set_option maxRecDepth 8192 in
theorem al_1 (h : Holds V0 s j) : (subi (constantI S_ 32 32#32) (V0 (Proc.devRef .tc main_v25_8)) : (Proc.devRef .tc main_while0b_v37 : DevRef τ sig).ty.Contents (Elt F)) = Cert.ReferenceIdeal.Step.b1 j s := by
  unfold Cert.ReferenceIdeal.Step.b1
  rw [← al_0 h, h.n_8]
  try rfl
set_option maxRecDepth 8192 in
theorem al_2 (h : Holds V0 s j) : (constantI S_ 32 1#32 : (Proc.devRef .tc main_while0b_c_22 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v38 V0 : (Proc.devRef .tc main_while0b_v38 : DevRef τ sig).ty.Contents (Elt F)) = Cert.ReferenceIdeal.Step.b3 j s := by
  unfold res_main_while0b_v38 Cert.ReferenceIdeal.Step.b3
  rw [← al_1 h, ← al_2 h]
  try rfl
set_option maxRecDepth 8192 in
theorem al_4 (h : Holds V0 s j) : (constantI S_ 32 0#32 : (Proc.devRef .tc main_while0b_call0_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call0_c_0 : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call0_c_1 : DevRef τ sig).ty.Contents (Elt F)) = Cert.ReferenceIdeal.Step.b6 j s := by
  unfold Cert.ReferenceIdeal.Step.b6
  rfl
set_option maxRecDepth 8192 in
theorem al_7 (h : Holds V0 s j) : (Host.dynamicSlice S1x4x128x128 (V0 (Proc.devRef .tc main_v25_0)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S32x4x128x128_S1x4x128x128 : (Proc.devRef .tc main_while0b_call0_v0 : DevRef τ sig).ty.Contents (Elt F)) = Cert.ReferenceIdeal.Step.b7 j s := by
  unfold Cert.ReferenceIdeal.Step.b7
  rw [← al_3 h, ← al_4 h, ← al_5 h, ← al_6 h, h.f_0]
  try rfl
set_option maxRecDepth 8192 in
theorem al_8 (h : Holds V0 s j) : (res_main_while0b_v39 V0 : (Proc.devRef .tc main_while0b_v39 : DevRef τ sig).ty.Contents (Elt F)) = Cert.ReferenceIdeal.Step.b8 j s := by
  unfold res_main_while0b_v39 Cert.ReferenceIdeal.Step.b8
  rw [← al_7 h]
  try rfl
set_option maxRecDepth 8192 in
theorem al_9 (h : Holds V0 s j) : (constantI S_ 32 0#32 : (Proc.devRef .tc main_while0b_call1_c : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call1_c_0 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call1_c_1 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x4x64x128 (V0 (Proc.devRef .tc main_v25_1)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S32x4x64x128_S1x4x64x128 : (Proc.devRef .tc main_while0b_call1_v0 : DevRef τ sig).ty.Contents (Elt F)) = Cert.ReferenceIdeal.Step.b12 j s := by
  unfold Cert.ReferenceIdeal.Step.b12
  rw [← al_3 h, ← al_9 h, ← al_10 h, ← al_11 h, h.f_1]
  try rfl
set_option maxRecDepth 8192 in
theorem al_13 (h : Holds V0 s j) : (shapeCast S4x64x128 (Host.dynamicSlice S1x4x64x128 (V0 (Proc.devRef .tc main_v25_1)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S32x4x64x128_S1x4x64x128) shapeCasts_S1x4x64x128_S4x64x128 : (Proc.devRef .tc main_while0b_v40 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (constantI S_ 32 0#32 : (Proc.devRef .tc main_while0b_call2_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_0 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call2_c_1 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x4x64x128 (V0 (Proc.devRef .tc main_v25_2)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S32x4x64x128_S1x4x64x128 : (Proc.devRef .tc main_while0b_call2_v0 : DevRef τ sig).ty.Contents (Elt F)) = Cert.ReferenceIdeal.Step.b17 j s := by
  unfold Cert.ReferenceIdeal.Step.b17
  rw [← al_3 h, ← al_14 h, ← al_15 h, ← al_16 h, h.f_2]
  try rfl
set_option maxRecDepth 8192 in
theorem al_18 (h : Holds V0 s j) : (res_main_while0b_v41 V0 : (Proc.devRef .tc main_while0b_v41 : DevRef τ sig).ty.Contents (Elt F)) = Cert.ReferenceIdeal.Step.b18 j s := by
  unfold res_main_while0b_v41 Cert.ReferenceIdeal.Step.b18
  rw [← al_17 h]
  try rfl
set_option maxRecDepth 8192 in
theorem al_19 (h : Holds V0 s j) : (constantI S_ 32 0#32 : (Proc.devRef .tc main_while0b_call3_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call3_c_0 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call3_c_1 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x4x64x128 (V0 (Proc.devRef .tc main_v25_3)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S32x4x64x128_S1x4x64x128 : (Proc.devRef .tc main_while0b_call3_v0 : DevRef τ sig).ty.Contents (Elt F)) = Cert.ReferenceIdeal.Step.b22 j s := by
  unfold Cert.ReferenceIdeal.Step.b22
  rw [← al_3 h, ← al_19 h, ← al_20 h, ← al_21 h, h.f_3]
  try rfl
set_option maxRecDepth 8192 in
theorem al_23 (h : Holds V0 s j) : (res_main_while0b_v42 V0 : (Proc.devRef .tc main_while0b_v42 : DevRef τ sig).ty.Contents (Elt F)) = Cert.ReferenceIdeal.Step.b23 j s := by
  unfold res_main_while0b_v42 Cert.ReferenceIdeal.Step.b23
  rw [← al_22 h]
  try rfl
set_option maxRecDepth 8192 in
theorem al_24 (h : Holds V0 s j) : (constantI S_ 32 0#32 : (Proc.devRef .tc main_while0b_call4_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call4_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call4_c_1 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x4x64x128 (V0 (Proc.devRef .tc main_v25_4)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S32x4x64x128_S1x4x64x128 : (Proc.devRef .tc main_while0b_call4_v0 : DevRef τ sig).ty.Contents (Elt F)) = Cert.ReferenceIdeal.Step.b27 j s := by
  unfold Cert.ReferenceIdeal.Step.b27
  rw [← al_3 h, ← al_24 h, ← al_25 h, ← al_26 h, h.f_4]
  try rfl
set_option maxRecDepth 8192 in
theorem al_28 (h : Holds V0 s j) : (res_main_while0b_v43 V0 : (Proc.devRef .tc main_while0b_v43 : DevRef τ sig).ty.Contents (Elt F)) = Cert.ReferenceIdeal.Step.b28 j s := by
  unfold res_main_while0b_v43 Cert.ReferenceIdeal.Step.b28
  rw [← al_27 h]
  try rfl
set_option maxRecDepth 8192 in
theorem al_29 (h : Holds V0 s j) : (constantI S_ 32 0#32 : (Proc.devRef .tc main_while0b_call5_c : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call5_c_0 : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call5_c_1 : DevRef τ sig).ty.Contents (Elt F)) = Cert.ReferenceIdeal.Step.b31 j s := by
  unfold Cert.ReferenceIdeal.Step.b31
  rfl
set_option maxRecDepth 8192 in
theorem al_32 (h : Holds V0 s j) : (Host.dynamicSlice S1x4x64x64 (V0 (Proc.devRef .tc main_v25_5)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S32x4x64x64_S1x4x64x64 : (Proc.devRef .tc main_while0b_call5_v0 : DevRef τ sig).ty.Contents (Elt F)) = Cert.ReferenceIdeal.Step.b32 j s := by
  unfold Cert.ReferenceIdeal.Step.b32
  rw [← al_3 h, ← al_29 h, ← al_30 h, ← al_31 h, h.f_5]
  try rfl
set_option maxRecDepth 8192 in
theorem al_33 (h : Holds V0 s j) : (res_main_while0b_v44 V0 : (Proc.devRef .tc main_while0b_v44 : DevRef τ sig).ty.Contents (Elt F)) = Cert.ReferenceIdeal.Step.b33 j s := by
  unfold res_main_while0b_v44 Cert.ReferenceIdeal.Step.b33
  rw [← al_32 h]
  try rfl
set_option maxRecDepth 8192 in
theorem al_34 (h : Holds V0 s j) : (constantI S_ 32 0#32 : (Proc.devRef .tc main_while0b_call6_c : DevRef τ sig).ty.Contents (Elt F)) = Cert.ReferenceIdeal.Step.b34 j s := by
  unfold Cert.ReferenceIdeal.Step.b34
  rfl
set_option maxRecDepth 8192 in
theorem al_35 (h : Holds V0 s j) : (constantI S_ 32 0#32 : (Proc.devRef .tc main_while0b_call6_c_0 : DevRef τ sig).ty.Contents (Elt F)) = Cert.ReferenceIdeal.Step.b35 j s := by
  unfold Cert.ReferenceIdeal.Step.b35
  rfl
set_option maxRecDepth 8192 in
theorem al_36 (h : Holds V0 s j) : (constantI S_ 32 0#32 : (Proc.devRef .tc main_while0b_call6_c_1 : DevRef τ sig).ty.Contents (Elt F)) = Cert.ReferenceIdeal.Step.b36 j s := by
  unfold Cert.ReferenceIdeal.Step.b36
  rfl
set_option maxRecDepth 8192 in
theorem al_37 (h : Holds V0 s j) : (Host.dynamicSlice S1x4x1x128 (V0 (Proc.devRef .tc main_v25_6)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S32x4x1x128_S1x4x1x128 : (Proc.devRef .tc main_while0b_call6_v0 : DevRef τ sig).ty.Contents (Elt F)) = Cert.ReferenceIdeal.Step.b37 j s := by
  unfold Cert.ReferenceIdeal.Step.b37
  rw [← al_3 h, ← al_34 h, ← al_35 h, ← al_36 h, h.f_6]
  try rfl
set_option maxRecDepth 8192 in
theorem al_38 (h : Holds V0 s j) : (res_main_while0b_v45 V0 : (Proc.devRef .tc main_while0b_v45 : DevRef τ sig).ty.Contents (Elt F)) = Cert.ReferenceIdeal.Step.b38 j s := by
  unfold res_main_while0b_v45 Cert.ReferenceIdeal.Step.b38
  rw [← al_37 h]
  try rfl
set_option maxRecDepth 8192 in
theorem al_39 (h : Holds V0 s j) : (constantI S_ 32 0#32 : (Proc.devRef .tc main_while0b_call7_c : DevRef τ sig).ty.Contents (Elt F)) = Cert.ReferenceIdeal.Step.b39 j s := by
  unfold Cert.ReferenceIdeal.Step.b39
  rfl
set_option maxRecDepth 8192 in
theorem al_40 (h : Holds V0 s j) : (constantI S_ 32 0#32 : (Proc.devRef .tc main_while0b_call7_c_0 : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call7_c_1 : DevRef τ sig).ty.Contents (Elt F)) = Cert.ReferenceIdeal.Step.b41 j s := by
  unfold Cert.ReferenceIdeal.Step.b41
  rfl
set_option maxRecDepth 8192 in
theorem al_42 (h : Holds V0 s j) : (Host.dynamicSlice S1x4x64x128 (V0 (Proc.devRef .tc main_v25_7)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S32x4x64x128_S1x4x64x128 : (Proc.devRef .tc main_while0b_call7_v0 : DevRef τ sig).ty.Contents (Elt F)) = Cert.ReferenceIdeal.Step.b42 j s := by
  unfold Cert.ReferenceIdeal.Step.b42
  rw [← al_3 h, ← al_39 h, ← al_40 h, ← al_41 h, h.f_7]
  try rfl
set_option maxRecDepth 8192 in
theorem al_43 (h : Holds V0 s j) : (res_main_while0b_v46 V0 : (Proc.devRef .tc main_while0b_v46 : DevRef τ sig).ty.Contents (Elt F)) = Cert.ReferenceIdeal.Step.b43 j s := by
  unfold res_main_while0b_v46 Cert.ReferenceIdeal.Step.b43
  rw [← al_42 h]
  try rfl
set_option maxRecDepth 8192 in
theorem al_44 (h : Holds V0 s j) : (Host.dotGeneral dot_S4x64x128_S4x128x128_S4x64x128_2_1_1_2_0_0 none (res_main_while0b_v41 V0) (res_main_while0b_v39 V0) : (Proc.devRef .tc main_while0b_v47 : DevRef τ sig).ty.Contents (Elt F)) = Cert.ReferenceIdeal.Step.b44 j s := by
  unfold Cert.ReferenceIdeal.Step.b44
  rw [← al_18 h, ← al_8 h]
  try rfl
set_option maxRecDepth 8192 in
theorem al_45 (h : Holds V0 s j) : (res_main_while0b_v48 V0 : (Proc.devRef .tc main_while0b_v48 : DevRef τ sig).ty.Contents (Elt F)) = Cert.ReferenceIdeal.Step.b45 j s := by
  unfold res_main_while0b_v48 Cert.ReferenceIdeal.Step.b45
  rw [← al_13 h, ← al_44 h]
  try rfl
set_option maxRecDepth 8192 in
theorem al_46 (h : Holds V0 s j) : (Host.dotGeneral dot_S4x64x128_S4x128x128_S4x64x128_2_1_1_2_0_0 none (res_main_while0b_v42 V0) (res_main_while0b_v39 V0) : (Proc.devRef .tc main_while0b_v49 : DevRef τ sig).ty.Contents (Elt F)) = Cert.ReferenceIdeal.Step.b46 j s := by
  unfold Cert.ReferenceIdeal.Step.b46
  rw [← al_23 h, ← al_8 h]
  try rfl
set_option maxRecDepth 8192 in
theorem al_47 (h : Holds V0 s j) : (Host.dotGeneral dot_S4x64x64_S4x64x128_S4x64x128_2_1_1_2_0_0 none (res_main_while0b_v44 V0) (res_main_while0b_v48 V0) : (Proc.devRef .tc main_while0b_v50 : DevRef τ sig).ty.Contents (Elt F)) = Cert.ReferenceIdeal.Step.b47 j s := by
  unfold Cert.ReferenceIdeal.Step.b47
  rw [← al_33 h, ← al_45 h]
  try rfl
set_option maxRecDepth 8192 in
theorem al_48 (h : Holds V0 s j) : (addf (Host.dotGeneral dot_S4x64x128_S4x128x128_S4x64x128_2_1_1_2_0_0 none (res_main_while0b_v42 V0) (res_main_while0b_v39 V0)) (Host.dotGeneral dot_S4x64x64_S4x64x128_S4x64x128_2_1_1_2_0_0 none (res_main_while0b_v44 V0) (res_main_while0b_v48 V0)) : (Proc.devRef .tc main_while0b_v51 : DevRef τ sig).ty.Contents (Elt F)) = Cert.ReferenceIdeal.Step.b48 j s := by
  unfold Cert.ReferenceIdeal.Step.b48
  rw [← al_46 h, ← al_47 h]
  try rfl
set_option maxRecDepth 8192 in
theorem al_49 (h : Holds V0 s j) : (broadcastInDim S4x128x128 ![0, 1, 2] bcast_S4x1x128_S4x128x128_0_1_2 (res_main_while0b_v45 V0) : (Proc.devRef .tc main_while0b_v52 : DevRef τ sig).ty.Contents (Elt F)) = Cert.ReferenceIdeal.Step.b49 j s := by
  unfold Cert.ReferenceIdeal.Step.b49
  rw [← al_38 h]
  try rfl
set_option maxRecDepth 8192 in
theorem al_50 (h : Holds V0 s j) : (mulf (res_main_while0b_v39 V0) (broadcastInDim S4x128x128 ![0, 1, 2] bcast_S4x1x128_S4x128x128_0_1_2 (res_main_while0b_v45 V0)) : (Proc.devRef .tc main_while0b_v53 : DevRef τ sig).ty.Contents (Elt F)) = Cert.ReferenceIdeal.Step.b50 j s := by
  unfold Cert.ReferenceIdeal.Step.b50
  rw [← al_8 h, ← al_49 h]
  try rfl
set_option maxRecDepth 8192 in
theorem al_51 (h : Holds V0 s j) : (Host.dotGeneral dot_S4x64x128_S4x64x128_S4x128x128_1_1_2_2_0_0 none (res_main_while0b_v43 V0) (res_main_while0b_v48 V0) : (Proc.devRef .tc main_while0b_v54 : DevRef τ sig).ty.Contents (Elt F)) = Cert.ReferenceIdeal.Step.b51 j s := by
  unfold Cert.ReferenceIdeal.Step.b51
  rw [← al_28 h, ← al_45 h]
  try rfl
set_option maxRecDepth 8192 in
theorem al_52 (h : Holds V0 s j) : (addf (mulf (res_main_while0b_v39 V0) (broadcastInDim S4x128x128 ![0, 1, 2] bcast_S4x1x128_S4x128x128_0_1_2 (res_main_while0b_v45 V0))) (Host.dotGeneral dot_S4x64x128_S4x64x128_S4x128x128_1_1_2_2_0_0 none (res_main_while0b_v43 V0) (res_main_while0b_v48 V0)) : (Proc.devRef .tc main_while0b_v55 : DevRef τ sig).ty.Contents (Elt F)) = Cert.ReferenceIdeal.Step.b52 j s := by
  unfold Cert.ReferenceIdeal.Step.b52
  rw [← al_50 h, ← al_51 h]
  try rfl
set_option maxRecDepth 8192 in
theorem al_53 (h : Holds V0 s j) : (Host.dotGeneral dot_S4x128x128_S4x64x128_S4x128x64_1_2_2_1_0_0 none (V0 (Proc.devRef .tc main_v25_9)) (res_main_while0b_v43 V0) : (Proc.devRef .tc main_while0b_v56 : DevRef τ sig).ty.Contents (Elt F)) = Cert.ReferenceIdeal.Step.b53 j s := by
  unfold Cert.ReferenceIdeal.Step.b53
  rw [← al_28 h, h.f_9]
  try rfl
set_option maxRecDepth 8192 in
theorem al_54 (h : Holds V0 s j) : (transpose S4x64x128 [0, 2, 1] (Host.dotGeneral dot_S4x128x128_S4x64x128_S4x128x64_1_2_2_1_0_0 none (V0 (Proc.devRef .tc main_v25_9)) (res_main_while0b_v43 V0)) transposes_S4x128x64_S4x64x128_0_2_1 : (Proc.devRef .tc main_while0b_v57 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (Host.dotGeneral dot_S4x128x128_S4x64x128_S4x128x64_2_2_1_1_0_0 none (V0 (Proc.devRef .tc main_v25_9)) (res_main_while0b_v48 V0) : (Proc.devRef .tc main_while0b_v58 : DevRef τ sig).ty.Contents (Elt F)) = Cert.ReferenceIdeal.Step.b55 j s := by
  unfold Cert.ReferenceIdeal.Step.b55
  rw [← al_45 h, h.f_9]
  try rfl
set_option maxRecDepth 8192 in
theorem al_56 (h : Holds V0 s j) : (transpose S4x64x128 [0, 2, 1] (Host.dotGeneral dot_S4x128x128_S4x64x128_S4x128x64_2_2_1_1_0_0 none (V0 (Proc.devRef .tc main_v25_9)) (res_main_while0b_v48 V0)) transposes_S4x128x64_S4x64x128_0_2_1 : (Proc.devRef .tc main_while0b_v59 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (mulf (res_main_while0b_v39 V0) (V0 (Proc.devRef .tc main_v25_9)) : (Proc.devRef .tc main_while0b_v60 : DevRef τ sig).ty.Contents (Elt F)) = Cert.ReferenceIdeal.Step.b57 j s := by
  unfold Cert.ReferenceIdeal.Step.b57
  rw [← al_8 h, h.f_9]
  try rfl
set_option maxRecDepth 8192 in
theorem al_58 (h : Holds V0 s j) : (constant S_ .f32 0x00000000#32 : (Proc.devRef .tc main_while0b_cst_23 : DevRef τ sig).ty.Contents (Elt F)) = Cert.ReferenceIdeal.Step.b58 j s := by
  unfold Cert.ReferenceIdeal.Step.b58
  rfl
set_option maxRecDepth 8192 in
theorem al_59 (h : Holds V0 s j) : (Host.reduceAdd (mulf (res_main_while0b_v39 V0) (V0 (Proc.devRef .tc main_v25_9))) (constant S_ .f32 0x00000000#32) reducesTo_S4x128x128_S4x128_d1 h_S_ : (Proc.devRef .tc main_while0b_v61 : DevRef τ sig).ty.Contents (Elt F)) = Cert.ReferenceIdeal.Step.b59 j s := by
  unfold Cert.ReferenceIdeal.Step.b59
  rw [← al_57 h, ← al_58 h]
  try rfl
set_option maxRecDepth 8192 in
theorem al_60 (h : Holds V0 s j) : (shapeCast S4x1x128 (Host.reduceAdd (mulf (res_main_while0b_v39 V0) (V0 (Proc.devRef .tc main_v25_9))) (constant S_ .f32 0x00000000#32) reducesTo_S4x128x128_S4x128_d1 h_S_) shapeCasts_S4x128_S4x1x128 : (Proc.devRef .tc main_while0b_v62 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (broadcastInDim S4x128x128 ![0, 1, 2] bcast_S4x1x128_S4x128x128_0_1_2 (res_main_while0b_v45 V0) : (Proc.devRef .tc main_while0b_v63 : DevRef τ sig).ty.Contents (Elt F)) = Cert.ReferenceIdeal.Step.b61 j s := by
  unfold Cert.ReferenceIdeal.Step.b61
  rw [← al_38 h]
  try rfl
set_option maxRecDepth 8192 in
theorem al_62 (h : Holds V0 s j) : (mulf (V0 (Proc.devRef .tc main_v25_9)) (broadcastInDim S4x128x128 ![0, 1, 2] bcast_S4x1x128_S4x128x128_0_1_2 (res_main_while0b_v45 V0)) : (Proc.devRef .tc main_while0b_v64 : DevRef τ sig).ty.Contents (Elt F)) = Cert.ReferenceIdeal.Step.b62 j s := by
  unfold Cert.ReferenceIdeal.Step.b62
  rw [← al_61 h, h.f_9]
  try rfl
set_option maxRecDepth 8192 in
theorem al_63 (h : Holds V0 s j) : (Host.dotGeneral dot_S4x64x128_S4x64x64_S4x128x64_1_1_2_2_0_0 none (res_main_while0b_v46 V0) (res_main_while0b_v44 V0) : (Proc.devRef .tc main_while0b_v65 : DevRef τ sig).ty.Contents (Elt F)) = Cert.ReferenceIdeal.Step.b63 j s := by
  unfold Cert.ReferenceIdeal.Step.b63
  rw [← al_43 h, ← al_33 h]
  try rfl
set_option maxRecDepth 8192 in
theorem al_64 (h : Holds V0 s j) : (transpose S4x64x128 [0, 2, 1] (Host.dotGeneral dot_S4x64x128_S4x64x64_S4x128x64_1_1_2_2_0_0 none (res_main_while0b_v46 V0) (res_main_while0b_v44 V0)) transposes_S4x128x64_S4x64x128_0_2_1 : (Proc.devRef .tc main_while0b_v66 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (res_main_while0b_v67 V0 : (Proc.devRef .tc main_while0b_v67 : DevRef τ sig).ty.Contents (Elt F)) = Cert.ReferenceIdeal.Step.b65 j s := by
  unfold res_main_while0b_v67 Cert.ReferenceIdeal.Step.b65
  rw [← al_54 h, ← al_64 h]
  try rfl
set_option maxRecDepth 8192 in
theorem al_66 (h : Holds V0 s j) : (Host.dotGeneral dot_S4x64x128_S4x64x128_S4x64x64_2_2_1_1_0_0 none (res_main_while0b_v46 V0) (res_main_while0b_v48 V0) : (Proc.devRef .tc main_while0b_v68 : DevRef τ sig).ty.Contents (Elt F)) = Cert.ReferenceIdeal.Step.b66 j s := by
  unfold Cert.ReferenceIdeal.Step.b66
  rw [← al_43 h, ← al_45 h]
  try rfl
set_option maxRecDepth 8192 in
theorem al_67 (h : Holds V0 s j) : (Host.dotGeneral dot_S4x64x128_S4x64x128_S4x128x128_1_1_2_2_0_0 none (res_main_while0b_v46 V0) (res_main_while0b_v42 V0) : (Proc.devRef .tc main_while0b_v69 : DevRef τ sig).ty.Contents (Elt F)) = Cert.ReferenceIdeal.Step.b67 j s := by
  unfold Cert.ReferenceIdeal.Step.b67
  rw [← al_43 h, ← al_23 h]
  try rfl
set_option maxRecDepth 8192 in
theorem al_68 (h : Holds V0 s j) : (transpose S4x128x128 [0, 2, 1] (Host.dotGeneral dot_S4x64x128_S4x64x128_S4x128x128_1_1_2_2_0_0 none (res_main_while0b_v46 V0) (res_main_while0b_v42 V0)) transposes_S4x128x128_S4x128x128_0_2_1 : (Proc.devRef .tc main_while0b_v70 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (addf (mulf (V0 (Proc.devRef .tc main_v25_9)) (broadcastInDim S4x128x128 ![0, 1, 2] bcast_S4x1x128_S4x128x128_0_1_2 (res_main_while0b_v45 V0))) (transpose S4x128x128 [0, 2, 1] (Host.dotGeneral dot_S4x64x128_S4x64x128_S4x128x128_1_1_2_2_0_0 none (res_main_while0b_v46 V0) (res_main_while0b_v42 V0)) transposes_S4x128x128_S4x128x128_0_2_1) : (Proc.devRef .tc main_while0b_v71 : DevRef τ sig).ty.Contents (Elt F)) = Cert.ReferenceIdeal.Step.b69 j s := by
  unfold Cert.ReferenceIdeal.Step.b69
  rw [← al_62 h, ← al_68 h]
  try rfl
set_option maxRecDepth 8192 in
theorem al_70 (h : Holds V0 s j) : (Host.dotGeneral dot_S4x64x128_S4x128x128_S4x64x128_2_2_1_1_0_0 none (res_main_while0b_v46 V0) (res_main_while0b_v39 V0) : (Proc.devRef .tc main_while0b_v72 : DevRef τ sig).ty.Contents (Elt F)) = Cert.ReferenceIdeal.Step.b70 j s := by
  unfold Cert.ReferenceIdeal.Step.b70
  rw [← al_43 h, ← al_8 h]
  try rfl
set_option maxRecDepth 8192 in
theorem al_71 (h : Holds V0 s j) : (res_main_while0b_v73 V0 : (Proc.devRef .tc main_while0b_v73 : DevRef τ sig).ty.Contents (Elt F)) = Cert.ReferenceIdeal.Step.b71 j s := by
  unfold res_main_while0b_v73 Cert.ReferenceIdeal.Step.b71
  rw [← al_65 h]
  try rfl
set_option maxRecDepth 8192 in
theorem al_72 (h : Holds V0 s j) : (Host.dotGeneral dot_S4x64x128_S4x64x128_S4x128x128_1_1_2_2_0_0 none (res_main_while0b_v73 V0) (res_main_while0b_v41 V0) : (Proc.devRef .tc main_while0b_v74 : DevRef τ sig).ty.Contents (Elt F)) = Cert.ReferenceIdeal.Step.b72 j s := by
  unfold Cert.ReferenceIdeal.Step.b72
  rw [← al_71 h, ← al_18 h]
  try rfl
set_option maxRecDepth 8192 in
theorem al_73 (h : Holds V0 s j) : (transpose S4x128x128 [0, 2, 1] (Host.dotGeneral dot_S4x64x128_S4x64x128_S4x128x128_1_1_2_2_0_0 none (res_main_while0b_v73 V0) (res_main_while0b_v41 V0)) transposes_S4x128x128_S4x128x128_0_2_1 : (Proc.devRef .tc main_while0b_v75 : DevRef τ sig).ty.Contents (Elt F)) = Cert.ReferenceIdeal.Step.b73 j s := by
  unfold Cert.ReferenceIdeal.Step.b73
  rw [← al_72 h]
  try rfl
set_option maxRecDepth 8192 in
theorem al_74 (h : Holds V0 s j) : (addf (addf (mulf (V0 (Proc.devRef .tc main_v25_9)) (broadcastInDim S4x128x128 ![0, 1, 2] bcast_S4x1x128_S4x128x128_0_1_2 (res_main_while0b_v45 V0))) (transpose S4x128x128 [0, 2, 1] (Host.dotGeneral dot_S4x64x128_S4x64x128_S4x128x128_1_1_2_2_0_0 none (res_main_while0b_v46 V0) (res_main_while0b_v42 V0)) transposes_S4x128x128_S4x128x128_0_2_1)) (transpose S4x128x128 [0, 2, 1] (Host.dotGeneral dot_S4x64x128_S4x64x128_S4x128x128_1_1_2_2_0_0 none (res_main_while0b_v73 V0) (res_main_while0b_v41 V0)) transposes_S4x128x128_S4x128x128_0_2_1) : (Proc.devRef .tc main_while0b_v76 : DevRef τ sig).ty.Contents (Elt F)) = Cert.ReferenceIdeal.Step.b74 j s := by
  unfold Cert.ReferenceIdeal.Step.b74
  rw [← al_69 h, ← al_73 h]
  try rfl
set_option maxRecDepth 8192 in
theorem al_75 (h : Holds V0 s j) : (Host.dotGeneral dot_S4x64x128_S4x128x128_S4x64x128_2_2_1_1_0_0 none (res_main_while0b_v73 V0) (res_main_while0b_v39 V0) : (Proc.devRef .tc main_while0b_v77 : DevRef τ sig).ty.Contents (Elt F)) = Cert.ReferenceIdeal.Step.b75 j s := by
  unfold Cert.ReferenceIdeal.Step.b75
  rw [← al_71 h, ← al_8 h]
  try rfl
set_option maxRecDepth 8192 in
theorem al_76 (h : Holds V0 s j) : (broadcastInDim S1x4x64x128 ![1, 2, 3] bcast_S4x64x128_S1x4x64x128_1_2_3 (res_main_while0b_v67 V0) : (Proc.devRef .tc main_while0b_call8_v0 : DevRef τ sig).ty.Contents (Elt F)) = Cert.ReferenceIdeal.Step.b76 j s := by
  unfold Cert.ReferenceIdeal.Step.b76
  rw [← al_65 h]
  try rfl
set_option maxRecDepth 8192 in
theorem al_77 (h : Holds V0 s j) : (constantI S_ 32 0#32 : (Proc.devRef .tc main_while0b_call8_c : DevRef τ sig).ty.Contents (Elt F)) = Cert.ReferenceIdeal.Step.b77 j s := by
  unfold Cert.ReferenceIdeal.Step.b77
  rfl
set_option maxRecDepth 8192 in
theorem al_78 (h : Holds V0 s j) : (constantI S_ 32 0#32 : (Proc.devRef .tc main_while0b_call8_c_0 : DevRef τ sig).ty.Contents (Elt F)) = Cert.ReferenceIdeal.Step.b78 j s := by
  unfold Cert.ReferenceIdeal.Step.b78
  rfl
set_option maxRecDepth 8192 in
theorem al_79 (h : Holds V0 s j) : (constantI S_ 32 0#32 : (Proc.devRef .tc main_while0b_call8_c_1 : DevRef τ sig).ty.Contents (Elt F)) = Cert.ReferenceIdeal.Step.b79 j s := by
  unfold Cert.ReferenceIdeal.Step.b79
  rfl
set_option maxRecDepth 8192 in
theorem al_80 (h : Holds V0 s j) : (Host.dynamicUpdateSlice (V0 (Proc.devRef .tc main_v25_10)) (broadcastInDim S1x4x64x128 ![1, 2, 3] bcast_S4x64x128_S1x4x64x128_1_2_3 (res_main_while0b_v67 V0)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x4x64x128_S1x4x64x128 : (Proc.devRef .tc main_while0b_v78 : DevRef τ sig).ty.Contents (Elt F)) = Cert.ReferenceIdeal.Step.b80 j s := by
  unfold Cert.ReferenceIdeal.Step.b80
  rw [← al_76 h, ← al_3 h, ← al_77 h, ← al_78 h, ← al_79 h, h.f_10]
  try rfl
set_option maxRecDepth 8192 in
theorem al_81 (h : Holds V0 s j) : (broadcastInDim S1x4x64x128 ![1, 2, 3] bcast_S4x64x128_S1x4x64x128_1_2_3 (Host.dotGeneral dot_S4x64x128_S4x128x128_S4x64x128_2_2_1_1_0_0 none (res_main_while0b_v73 V0) (res_main_while0b_v39 V0)) : (Proc.devRef .tc main_while0b_call9_v0 : DevRef τ sig).ty.Contents (Elt F)) = Cert.ReferenceIdeal.Step.b81 j s := by
  unfold Cert.ReferenceIdeal.Step.b81
  rw [← al_75 h]
  try rfl
set_option maxRecDepth 8192 in
theorem al_82 (h : Holds V0 s j) : (constantI S_ 32 0#32 : (Proc.devRef .tc main_while0b_call9_c : DevRef τ sig).ty.Contents (Elt F)) = Cert.ReferenceIdeal.Step.b82 j s := by
  unfold Cert.ReferenceIdeal.Step.b82
  rfl
set_option maxRecDepth 8192 in
theorem al_83 (h : Holds V0 s j) : (constantI S_ 32 0#32 : (Proc.devRef .tc main_while0b_call9_c_0 : DevRef τ sig).ty.Contents (Elt F)) = Cert.ReferenceIdeal.Step.b83 j s := by
  unfold Cert.ReferenceIdeal.Step.b83
  rfl
set_option maxRecDepth 8192 in
theorem al_84 (h : Holds V0 s j) : (constantI S_ 32 0#32 : (Proc.devRef .tc main_while0b_call9_c_1 : DevRef τ sig).ty.Contents (Elt F)) = Cert.ReferenceIdeal.Step.b84 j s := by
  unfold Cert.ReferenceIdeal.Step.b84
  rfl
set_option maxRecDepth 8192 in
theorem al_85 (h : Holds V0 s j) : (Host.dynamicUpdateSlice (V0 (Proc.devRef .tc main_v25_11)) (broadcastInDim S1x4x64x128 ![1, 2, 3] bcast_S4x64x128_S1x4x64x128_1_2_3 (Host.dotGeneral dot_S4x64x128_S4x128x128_S4x64x128_2_2_1_1_0_0 none (res_main_while0b_v73 V0) (res_main_while0b_v39 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x4x64x128_S1x4x64x128 : (Proc.devRef .tc main_while0b_v79 : DevRef τ sig).ty.Contents (Elt F)) = Cert.ReferenceIdeal.Step.b85 j s := by
  unfold Cert.ReferenceIdeal.Step.b85
  rw [← al_81 h, ← al_3 h, ← al_82 h, ← al_83 h, ← al_84 h, h.f_11]
  try rfl
set_option maxRecDepth 8192 in
theorem al_86 (h : Holds V0 s j) : (broadcastInDim S1x4x64x128 ![1, 2, 3] bcast_S4x64x128_S1x4x64x128_1_2_3 (Host.dotGeneral dot_S4x64x128_S4x128x128_S4x64x128_2_2_1_1_0_0 none (res_main_while0b_v46 V0) (res_main_while0b_v39 V0)) : (Proc.devRef .tc main_while0b_call10_v0 : DevRef τ sig).ty.Contents (Elt F)) = Cert.ReferenceIdeal.Step.b86 j s := by
  unfold Cert.ReferenceIdeal.Step.b86
  rw [← al_70 h]
  try rfl
set_option maxRecDepth 8192 in
theorem al_87 (h : Holds V0 s j) : (constantI S_ 32 0#32 : (Proc.devRef .tc main_while0b_call10_c : DevRef τ sig).ty.Contents (Elt F)) = Cert.ReferenceIdeal.Step.b87 j s := by
  unfold Cert.ReferenceIdeal.Step.b87
  rfl
set_option maxRecDepth 8192 in
theorem al_88 (h : Holds V0 s j) : (constantI S_ 32 0#32 : (Proc.devRef .tc main_while0b_call10_c_0 : DevRef τ sig).ty.Contents (Elt F)) = Cert.ReferenceIdeal.Step.b88 j s := by
  unfold Cert.ReferenceIdeal.Step.b88
  rfl
set_option maxRecDepth 8192 in
theorem al_89 (h : Holds V0 s j) : (constantI S_ 32 0#32 : (Proc.devRef .tc main_while0b_call10_c_1 : DevRef τ sig).ty.Contents (Elt F)) = Cert.ReferenceIdeal.Step.b89 j s := by
  unfold Cert.ReferenceIdeal.Step.b89
  rfl
set_option maxRecDepth 8192 in
theorem al_90 (h : Holds V0 s j) : (Host.dynamicUpdateSlice (V0 (Proc.devRef .tc main_v25_12)) (broadcastInDim S1x4x64x128 ![1, 2, 3] bcast_S4x64x128_S1x4x64x128_1_2_3 (Host.dotGeneral dot_S4x64x128_S4x128x128_S4x64x128_2_2_1_1_0_0 none (res_main_while0b_v46 V0) (res_main_while0b_v39 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x4x64x128_S1x4x64x128 : (Proc.devRef .tc main_while0b_v80 : DevRef τ sig).ty.Contents (Elt F)) = Cert.ReferenceIdeal.Step.b90 j s := by
  unfold Cert.ReferenceIdeal.Step.b90
  rw [← al_86 h, ← al_3 h, ← al_87 h, ← al_88 h, ← al_89 h, h.f_12]
  try rfl
set_option maxRecDepth 8192 in
theorem al_91 (h : Holds V0 s j) : (broadcastInDim S1x4x64x128 ![1, 2, 3] bcast_S4x64x128_S1x4x64x128_1_2_3 (transpose S4x64x128 [0, 2, 1] (Host.dotGeneral dot_S4x128x128_S4x64x128_S4x128x64_2_2_1_1_0_0 none (V0 (Proc.devRef .tc main_v25_9)) (res_main_while0b_v48 V0)) transposes_S4x128x64_S4x64x128_0_2_1) : (Proc.devRef .tc main_while0b_call11_v0 : DevRef τ sig).ty.Contents (Elt F)) = Cert.ReferenceIdeal.Step.b91 j s := by
  unfold Cert.ReferenceIdeal.Step.b91
  rw [← al_56 h]
  try rfl
set_option maxRecDepth 8192 in
theorem al_92 (h : Holds V0 s j) : (constantI S_ 32 0#32 : (Proc.devRef .tc main_while0b_call11_c : DevRef τ sig).ty.Contents (Elt F)) = Cert.ReferenceIdeal.Step.b92 j s := by
  unfold Cert.ReferenceIdeal.Step.b92
  rfl
set_option maxRecDepth 8192 in
theorem al_93 (h : Holds V0 s j) : (constantI S_ 32 0#32 : (Proc.devRef .tc main_while0b_call11_c_0 : DevRef τ sig).ty.Contents (Elt F)) = Cert.ReferenceIdeal.Step.b93 j s := by
  unfold Cert.ReferenceIdeal.Step.b93
  rfl
set_option maxRecDepth 8192 in
theorem al_94 (h : Holds V0 s j) : (constantI S_ 32 0#32 : (Proc.devRef .tc main_while0b_call11_c_1 : DevRef τ sig).ty.Contents (Elt F)) = Cert.ReferenceIdeal.Step.b94 j s := by
  unfold Cert.ReferenceIdeal.Step.b94
  rfl
set_option maxRecDepth 8192 in
theorem al_95 (h : Holds V0 s j) : (Host.dynamicUpdateSlice (V0 (Proc.devRef .tc main_v25_13)) (broadcastInDim S1x4x64x128 ![1, 2, 3] bcast_S4x64x128_S1x4x64x128_1_2_3 (transpose S4x64x128 [0, 2, 1] (Host.dotGeneral dot_S4x128x128_S4x64x128_S4x128x64_2_2_1_1_0_0 none (V0 (Proc.devRef .tc main_v25_9)) (res_main_while0b_v48 V0)) transposes_S4x128x64_S4x64x128_0_2_1)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x4x64x128_S1x4x64x128 : (Proc.devRef .tc main_while0b_v81 : DevRef τ sig).ty.Contents (Elt F)) = Cert.ReferenceIdeal.Step.b95 j s := by
  unfold Cert.ReferenceIdeal.Step.b95
  rw [← al_91 h, ← al_3 h, ← al_92 h, ← al_93 h, ← al_94 h, h.f_13]
  try rfl
set_option maxRecDepth 8192 in
theorem al_96 (h : Holds V0 s j) : (broadcastInDim S1x4x64x64 ![1, 2, 3] bcast_S4x64x64_S1x4x64x64_1_2_3 (Host.dotGeneral dot_S4x64x128_S4x64x128_S4x64x64_2_2_1_1_0_0 none (res_main_while0b_v46 V0) (res_main_while0b_v48 V0)) : (Proc.devRef .tc main_while0b_call12_v0 : DevRef τ sig).ty.Contents (Elt F)) = Cert.ReferenceIdeal.Step.b96 j s := by
  unfold Cert.ReferenceIdeal.Step.b96
  rw [← al_66 h]
  try rfl
set_option maxRecDepth 8192 in
theorem al_97 (h : Holds V0 s j) : (constantI S_ 32 0#32 : (Proc.devRef .tc main_while0b_call12_c : DevRef τ sig).ty.Contents (Elt F)) = Cert.ReferenceIdeal.Step.b97 j s := by
  unfold Cert.ReferenceIdeal.Step.b97
  rfl
set_option maxRecDepth 8192 in
theorem al_98 (h : Holds V0 s j) : (constantI S_ 32 0#32 : (Proc.devRef .tc main_while0b_call12_c_0 : DevRef τ sig).ty.Contents (Elt F)) = Cert.ReferenceIdeal.Step.b98 j s := by
  unfold Cert.ReferenceIdeal.Step.b98
  rfl
set_option maxRecDepth 8192 in
theorem al_99 (h : Holds V0 s j) : (constantI S_ 32 0#32 : (Proc.devRef .tc main_while0b_call12_c_1 : DevRef τ sig).ty.Contents (Elt F)) = Cert.ReferenceIdeal.Step.b99 j s := by
  unfold Cert.ReferenceIdeal.Step.b99
  rfl
set_option maxRecDepth 8192 in
theorem al_100 (h : Holds V0 s j) : (Host.dynamicUpdateSlice (V0 (Proc.devRef .tc main_v25_14)) (broadcastInDim S1x4x64x64 ![1, 2, 3] bcast_S4x64x64_S1x4x64x64_1_2_3 (Host.dotGeneral dot_S4x64x128_S4x64x128_S4x64x64_2_2_1_1_0_0 none (res_main_while0b_v46 V0) (res_main_while0b_v48 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x4x64x64_S1x4x64x64 : (Proc.devRef .tc main_while0b_v82 : DevRef τ sig).ty.Contents (Elt F)) = Cert.ReferenceIdeal.Step.b100 j s := by
  unfold Cert.ReferenceIdeal.Step.b100
  rw [← al_96 h, ← al_3 h, ← al_97 h, ← al_98 h, ← al_99 h, h.f_14]
  try rfl
set_option maxRecDepth 8192 in
theorem al_101 (h : Holds V0 s j) : (broadcastInDim S1x4x1x128 ![1, 2, 3] bcast_S4x1x128_S1x4x1x128_1_2_3 (shapeCast S4x1x128 (Host.reduceAdd (mulf (res_main_while0b_v39 V0) (V0 (Proc.devRef .tc main_v25_9))) (constant S_ .f32 0x00000000#32) reducesTo_S4x128x128_S4x128_d1 h_S_) shapeCasts_S4x128_S4x1x128) : (Proc.devRef .tc main_while0b_call13_v0 : DevRef τ sig).ty.Contents (Elt F)) = Cert.ReferenceIdeal.Step.b101 j s := by
  unfold Cert.ReferenceIdeal.Step.b101
  rw [← al_60 h]
  try rfl
set_option maxRecDepth 8192 in
theorem al_102 (h : Holds V0 s j) : (constantI S_ 32 0#32 : (Proc.devRef .tc main_while0b_call13_c : DevRef τ sig).ty.Contents (Elt F)) = Cert.ReferenceIdeal.Step.b102 j s := by
  unfold Cert.ReferenceIdeal.Step.b102
  rfl
set_option maxRecDepth 8192 in
theorem al_103 (h : Holds V0 s j) : (constantI S_ 32 0#32 : (Proc.devRef .tc main_while0b_call13_c_0 : DevRef τ sig).ty.Contents (Elt F)) = Cert.ReferenceIdeal.Step.b103 j s := by
  unfold Cert.ReferenceIdeal.Step.b103
  rfl
set_option maxRecDepth 8192 in
theorem al_104 (h : Holds V0 s j) : (constantI S_ 32 0#32 : (Proc.devRef .tc main_while0b_call13_c_1 : DevRef τ sig).ty.Contents (Elt F)) = Cert.ReferenceIdeal.Step.b104 j s := by
  unfold Cert.ReferenceIdeal.Step.b104
  rfl
set_option maxRecDepth 8192 in
theorem al_105 (h : Holds V0 s j) : (Host.dynamicUpdateSlice (V0 (Proc.devRef .tc main_v25_15)) (broadcastInDim S1x4x1x128 ![1, 2, 3] bcast_S4x1x128_S1x4x1x128_1_2_3 (shapeCast S4x1x128 (Host.reduceAdd (mulf (res_main_while0b_v39 V0) (V0 (Proc.devRef .tc main_v25_9))) (constant S_ .f32 0x00000000#32) reducesTo_S4x128x128_S4x128_d1 h_S_) shapeCasts_S4x128_S4x1x128)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x4x1x128_S1x4x1x128 : (Proc.devRef .tc main_while0b_v83 : DevRef τ sig).ty.Contents (Elt F)) = Cert.ReferenceIdeal.Step.b105 j s := by
  unfold Cert.ReferenceIdeal.Step.b105
  rw [← al_101 h, ← al_3 h, ← al_102 h, ← al_103 h, ← al_104 h, h.f_15]
  try rfl

/-! One trip's step of the carried values is `step`, field by field; a counter steps to the next number. -/

theorem step_9 (h : Holds V0 s j) : step_main_v25_9 V0 = (step j s).main_v25_9 := by
  unfold step_main_v25_9 Cert.ReferenceIdeal.Step.step
  show id (addf (addf (mulf (V0 (Proc.devRef .tc main_v25_9)) (broadcastInDim S4x128x128 ![0, 1, 2] bcast_S4x1x128_S4x128x128_0_1_2 (res_main_while0b_v45 V0))) (transpose S4x128x128 [0, 2, 1] (Host.dotGeneral dot_S4x64x128_S4x64x128_S4x128x128_1_1_2_2_0_0 none (res_main_while0b_v46 V0) (res_main_while0b_v42 V0)) transposes_S4x128x128_S4x128x128_0_2_1)) (transpose S4x128x128 [0, 2, 1] (Host.dotGeneral dot_S4x64x128_S4x64x128_S4x128x128_1_1_2_2_0_0 none (res_main_while0b_v73 V0) (res_main_while0b_v41 V0)) transposes_S4x128x128_S4x128x128_0_2_1)) = _
  exact al_74 h
theorem step_10 (h : Holds V0 s j) : step_main_v25_10 V0 = (step j s).main_v25_10 := by
  unfold step_main_v25_10 Cert.ReferenceIdeal.Step.step
  show id (Host.dynamicUpdateSlice (V0 (Proc.devRef .tc main_v25_10)) (broadcastInDim S1x4x64x128 ![1, 2, 3] bcast_S4x64x128_S1x4x64x128_1_2_3 (res_main_while0b_v67 V0)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x4x64x128_S1x4x64x128) = _
  exact al_80 h
theorem step_11 (h : Holds V0 s j) : step_main_v25_11 V0 = (step j s).main_v25_11 := by
  unfold step_main_v25_11 Cert.ReferenceIdeal.Step.step
  show id (Host.dynamicUpdateSlice (V0 (Proc.devRef .tc main_v25_11)) (broadcastInDim S1x4x64x128 ![1, 2, 3] bcast_S4x64x128_S1x4x64x128_1_2_3 (Host.dotGeneral dot_S4x64x128_S4x128x128_S4x64x128_2_2_1_1_0_0 none (res_main_while0b_v73 V0) (res_main_while0b_v39 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x4x64x128_S1x4x64x128) = _
  exact al_85 h
theorem step_12 (h : Holds V0 s j) : step_main_v25_12 V0 = (step j s).main_v25_12 := by
  unfold step_main_v25_12 Cert.ReferenceIdeal.Step.step
  show id (Host.dynamicUpdateSlice (V0 (Proc.devRef .tc main_v25_12)) (broadcastInDim S1x4x64x128 ![1, 2, 3] bcast_S4x64x128_S1x4x64x128_1_2_3 (Host.dotGeneral dot_S4x64x128_S4x128x128_S4x64x128_2_2_1_1_0_0 none (res_main_while0b_v46 V0) (res_main_while0b_v39 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x4x64x128_S1x4x64x128) = _
  exact al_90 h
theorem step_13 (h : Holds V0 s j) : step_main_v25_13 V0 = (step j s).main_v25_13 := by
  unfold step_main_v25_13 Cert.ReferenceIdeal.Step.step
  show id (Host.dynamicUpdateSlice (V0 (Proc.devRef .tc main_v25_13)) (broadcastInDim S1x4x64x128 ![1, 2, 3] bcast_S4x64x128_S1x4x64x128_1_2_3 (transpose S4x64x128 [0, 2, 1] (Host.dotGeneral dot_S4x128x128_S4x64x128_S4x128x64_2_2_1_1_0_0 none (V0 (Proc.devRef .tc main_v25_9)) (res_main_while0b_v48 V0)) transposes_S4x128x64_S4x64x128_0_2_1)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x4x64x128_S1x4x64x128) = _
  exact al_95 h
theorem step_14 (h : Holds V0 s j) : step_main_v25_14 V0 = (step j s).main_v25_14 := by
  unfold step_main_v25_14 Cert.ReferenceIdeal.Step.step
  show id (Host.dynamicUpdateSlice (V0 (Proc.devRef .tc main_v25_14)) (broadcastInDim S1x4x64x64 ![1, 2, 3] bcast_S4x64x64_S1x4x64x64_1_2_3 (Host.dotGeneral dot_S4x64x128_S4x64x128_S4x64x64_2_2_1_1_0_0 none (res_main_while0b_v46 V0) (res_main_while0b_v48 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x4x64x64_S1x4x64x64) = _
  exact al_100 h
theorem step_15 (h : Holds V0 s j) : step_main_v25_15 V0 = (step j s).main_v25_15 := by
  unfold step_main_v25_15 Cert.ReferenceIdeal.Step.step
  show id (Host.dynamicUpdateSlice (V0 (Proc.devRef .tc main_v25_15)) (broadcastInDim S1x4x1x128 ![1, 2, 3] bcast_S4x1x128_S1x4x1x128_1_2_3 (shapeCast S4x1x128 (Host.reduceAdd (mulf (res_main_while0b_v39 V0) (V0 (Proc.devRef .tc main_v25_9))) (constant S_ .f32 0x00000000#32) reducesTo_S4x128x128_S4x128_d1 h_S_) shapeCasts_S4x128_S4x1x128)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x4x1x128_S1x4x1x128) = _
  exact al_105 h
theorem step_8 (h : Holds V0 s j) : step_main_v25_8 V0 = constantI S_ 32 (BitVec.ofNat 32 (j + 1)) := by
  unfold step_main_v25_8
  rw [h.n_8]
  funext i
  show BitVec.ofNat 32 j + 1#32 = BitVec.ofNat 32 (j + 1)
  simp only [BitVec.ofNat_add]

set_option maxRecDepth 8192 in
theorem out_main_v27_holds (h : Holds V0 s j) : out_main_v27 V0 = Cert.ReferenceIdeal.Step.R_main_v27 s := by
  unfold out_main_v27 Cert.ReferenceIdeal.Step.R_main_v27
  rw [h.f_10]
  try rfl

set_option maxRecDepth 8192 in
theorem out_main_v29_holds (h : Holds V0 s j) : out_main_v29 V0 = Cert.ReferenceIdeal.Step.R_main_v29 s := by
  unfold out_main_v29 Cert.ReferenceIdeal.Step.R_main_v29
  rw [h.f_11]
  try rfl

set_option maxRecDepth 8192 in
theorem out_main_v31_holds (h : Holds V0 s j) : out_main_v31 V0 = Cert.ReferenceIdeal.Step.R_main_v31 s := by
  unfold out_main_v31 Cert.ReferenceIdeal.Step.R_main_v31
  rw [h.f_12]
  try rfl

set_option maxRecDepth 8192 in
theorem out_main_v33_holds (h : Holds V0 s j) : out_main_v33 V0 = Cert.ReferenceIdeal.Step.R_main_v33 s := by
  unfold out_main_v33 Cert.ReferenceIdeal.Step.R_main_v33
  rw [h.f_13]
  try rfl

set_option maxRecDepth 8192 in
theorem out_main_v35_holds (h : Holds V0 s j) : out_main_v35 V0 = Cert.ReferenceIdeal.Step.R_main_v35 s := by
  unfold out_main_v35 Cert.ReferenceIdeal.Step.R_main_v35
  rw [h.f_14]
  try rfl

set_option maxRecDepth 8192 in
theorem out_main_v36_holds (h : Holds V0 s j) : out_main_v36 V0 = Cert.ReferenceIdeal.Step.R_main_v36 s := by
  unfold out_main_v36 Cert.ReferenceIdeal.Step.R_main_v36
  rw [h.f_15]
  try rfl

/-- One trip keeps the valuation holding: `step` of the state, the same set-up values, the next number. -/
theorem holds_step (h : Holds V0 s j) : Holds (STEP V0) (step j s) (j + 1) where
  f_9 := (STEP_main_v25_9 V0).trans (step_9 h)
  f_10 := (STEP_main_v25_10 V0).trans (step_10 h)
  f_11 := (STEP_main_v25_11 V0).trans (step_11 h)
  f_12 := (STEP_main_v25_12 V0).trans (step_12 h)
  f_13 := (STEP_main_v25_13 V0).trans (step_13 h)
  f_14 := (STEP_main_v25_14 V0).trans (step_14 h)
  f_15 := (STEP_main_v25_15 V0).trans (step_15 h)
  n_8 := (STEP_main_v25_8 V0).trans (step_8 h)
  f_0 := (STEP_main_v25_0 V0).trans h.f_0
  f_1 := (STEP_main_v25_1 V0).trans h.f_1
  f_2 := (STEP_main_v25_2 V0).trans h.f_2
  f_3 := (STEP_main_v25_3 V0).trans h.f_3
  f_4 := (STEP_main_v25_4 V0).trans h.f_4
  f_5 := (STEP_main_v25_5 V0).trans h.f_5
  f_6 := (STEP_main_v25_6 V0).trans h.f_6
  f_7 := (STEP_main_v25_7 V0).trans h.f_7

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v27) = Cert.ReferenceIdeal.Step.R_main_v27 (it c 32)
      ∧ r.2.mem ((c.tc : Thread nD τ).loc main_v29) = Cert.ReferenceIdeal.Step.R_main_v29 (it c 32)
      ∧ r.2.mem ((c.tc : Thread nD τ).loc main_v31) = Cert.ReferenceIdeal.Step.R_main_v31 (it c 32)
      ∧ r.2.mem ((c.tc : Thread nD τ).loc main_v33) = Cert.ReferenceIdeal.Step.R_main_v33 (it c 32)
      ∧ r.2.mem ((c.tc : Thread nD τ).loc main_v35) = Cert.ReferenceIdeal.Step.R_main_v35 (it c 32)
      ∧ r.2.mem ((c.tc : Thread nD τ).loc main_v36) = Cert.ReferenceIdeal.Step.R_main_v36 (it c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 32
    ⟨(h c).1.trans (out_main_v27_holds hk), (h c).2.1.trans (out_main_v29_holds hk), (h c).2.2.1.trans (out_main_v31_holds hk), (h c).2.2.2.1.trans (out_main_v33_holds hk), (h c).2.2.2.2.1.trans (out_main_v35_holds hk), (h c).2.2.2.2.2.1.trans (out_main_v36_holds hk), (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩) (Value.run m ρ)

end Cert.Proof.RefRun

end
-- ==== Proof.RefValue.lean ====
module

public import proofs.«01_k».proof.Proof.KValue
public import proofs.«01_k».proof.Proof.RefRun
public import Idealize.ShloMosaic.Lib.DynamicIndex
public import Idealize.ShloMosaic.Lib.IdealHost

@[expose] public section

set_option maxRecDepth 8192

noncomputable section

/-! The reference's results over the extended reals, entry by entry: its loop goes through the same recursion over the chunks. -/

namespace Cert.Proof.RefValue

open Idealize.ShloMosaic Idealize.ShloMosaic.TcCoe Cert.ReferenceIdeal Cert.ReferenceIdeal.Gen Cert.ReferenceIdeal.Step

section Slices
variable {α : Type} {a b : ℕ}

/-- The slab of one chunk, its leading axis dropped. -/
theorem slab_apply (x : (⟨4, ![32, 4, a, b]⟩ : Shape).Idx → α) (start : Fin 4 → Int) (cc : Fin 32) (h0 : start 0 = cc.val) (h1 : start 1 = 0) (h2 : start 2 = 0) (h3 : start 3 = 0)
    (h : (⟨4, ![32, 4, a, b]⟩ : Shape).Slices (fun _ => 0) ⟨4, ![1, 4, a, b]⟩) (hc : (⟨4, ![1, 4, a, b]⟩ : Shape).ShapeCasts ⟨3, ![4, a, b]⟩) (p : Fin 4) (q : Fin a) (r : Fin b) :
    shapeCast ⟨3, ![4, a, b]⟩ (Host.dynamicSlice ⟨4, ![1, 4, a, b]⟩ x start h) hc (ix3 p q r) = x (ix4 cc p q r) := by
  have e : Shape.reshapeEquiv hc (ix3 p q r) = (ix4 0 p q r : (⟨4, ![1, 4, a, b]⟩ : Shape).Idx) := by
    refine Shape.reshapeEquiv_eq_of_rowMajor _ ?_
    rw [Shape.rowMajor_val_four, Shape.rowMajor_val_three]
    show ((0 * 4 + p.val) * a + q.val) * b + r.val = (p.val * a + q.val) * b + r.val
    simp
  rw [Pointwise.shapeCast_apply, e, Host.dynamicSlice_apply]
  congr 1
  funext k
  apply Fin.ext
  match k with
  | ⟨0, _⟩ =>
    show Host.clampedStart (⟨4, ![32, 4, a, b]⟩ : Shape) (⟨4, ![1, 4, a, b]⟩ : Shape) h.1 start 0 + 0 = cc.val
    exact Host.clampedStart_of_le h.1 start 0 _ h0 (by show cc.val + 1 ≤ 32; omega)
  | ⟨1, _⟩ =>
    show Host.clampedStart (⟨4, ![32, 4, a, b]⟩ : Shape) (⟨4, ![1, 4, a, b]⟩ : Shape) h.1 start 1 + p.val = p.val
    rw [Host.clampedStart_of_le h.1 start 1 0 h1 (by show 0 + 4 ≤ 4; omega), Nat.zero_add]
  | ⟨2, _⟩ =>
    show Host.clampedStart (⟨4, ![32, 4, a, b]⟩ : Shape) (⟨4, ![1, 4, a, b]⟩ : Shape) h.1 start 2 + q.val = q.val
    rw [Host.clampedStart_of_le h.1 start 2 0 h2 (by show 0 + a ≤ a; omega), Nat.zero_add]
  | ⟨3, _⟩ =>
    show Host.clampedStart (⟨4, ![32, 4, a, b]⟩ : Shape) (⟨4, ![1, 4, a, b]⟩ : Shape) h.1 start 3 + r.val = r.val
    rw [Host.clampedStart_of_le h.1 start 3 0 h3 (by show 0 + b ≤ b; omega), Nat.zero_add]

theorem val_dite {c : Prop} [Decidable c] {n v : ℕ} {x : c → Fin n} {y : ¬c → Fin n} (hx : ∀ h, (x h).val = v) (hy : ∀ h, (y h).val = v) : (dite c x y).val = v := by
  by_cases h : c
  · rw [dif_pos h]; exact hx h
  · rw [dif_neg h]; exact hy h

/-- A slab under a leading axis of size one. -/
theorem lift_apply (v : (⟨3, ![4, a, b]⟩ : Shape).Idx → α) (hb) (p : Fin 4) (q : Fin a) (r : Fin b) :
    broadcastInDim (⟨4, ![1, 4, a, b]⟩ : Shape) ![1, 2, 3] hb v (ix4 0 p q r) = v (ix3 p q r) := by
  unfold broadcastInDim
  congr 1
  funext k
  apply Fin.ext
  match k with
  | ⟨0, _⟩ => rfl
  | ⟨1, _⟩ =>
    exact val_dite (fun e => by have e' : a = 1 := e; show 0 = q.val; omega) (fun _ => rfl)
  | ⟨2, _⟩ =>
    exact val_dite (fun e => by have e' : b = 1 := e; show 0 = r.val; omega) (fun _ => rfl)

/-- A stack with one chunk's slab put in. -/
theorem put_apply (x : (⟨4, ![32, 4, a, b]⟩ : Shape).Idx → α) (v : (⟨3, ![4, a, b]⟩ : Shape).Idx → α) (start : Fin 4 → Int) (cc : Fin 32) (h0 : start 0 = cc.val) (h1 : start 1 = 0) (h2 : start 2 = 0) (h3 : start 3 = 0)
    (h : (⟨4, ![32, 4, a, b]⟩ : Shape).Slices (fun _ => 0) ⟨4, ![1, 4, a, b]⟩) (hb) (c : Fin 32) (p : Fin 4) (q : Fin a) (r : Fin b) :
    Host.dynamicUpdateSlice x (broadcastInDim (⟨4, ![1, 4, a, b]⟩ : Shape) ![1, 2, 3] hb v) start h (ix4 c p q r) = if c = cc then v (ix3 p q r) else x (ix4 c p q r) := by
  have s0 : Host.clampedStart (⟨4, ![32, 4, a, b]⟩ : Shape) (⟨4, ![1, 4, a, b]⟩ : Shape) h.1 start 0 = cc.val := Host.clampedStart_of_le h.1 start 0 _ h0 (by show cc.val + 1 ≤ 32; omega)
  have s1 : Host.clampedStart (⟨4, ![32, 4, a, b]⟩ : Shape) (⟨4, ![1, 4, a, b]⟩ : Shape) h.1 start 1 = 0 := Host.clampedStart_of_le h.1 start 1 0 h1 (by show 0 + 4 ≤ 4; omega)
  have s2 : Host.clampedStart (⟨4, ![32, 4, a, b]⟩ : Shape) (⟨4, ![1, 4, a, b]⟩ : Shape) h.1 start 2 = 0 := Host.clampedStart_of_le h.1 start 2 0 h2 (by show 0 + a ≤ a; omega)
  have s3 : Host.clampedStart (⟨4, ![32, 4, a, b]⟩ : Shape) (⟨4, ![1, 4, a, b]⟩ : Shape) h.1 start 3 = 0 := Host.clampedStart_of_le h.1 start 3 0 h3 (by show 0 + b ≤ b; omega)
  rw [Host.dynamicUpdateSlice_apply]
  by_cases hcc : c = cc
  · rw [if_pos hcc, dif_pos]
    · subst hcc
      refine (congrArg (broadcastInDim (⟨4, ![1, 4, a, b]⟩ : Shape) ![1, 2, 3] hb v) (?_ : _ = ix4 0 p q r)).trans (lift_apply v hb p q r)
      funext k
      apply Fin.ext
      match k with
      | ⟨0, _⟩ => show c.val - Host.clampedStart (⟨4, ![32, 4, a, b]⟩ : Shape) (⟨4, ![1, 4, a, b]⟩ : Shape) h.1 start 0 = 0; rw [s0]; omega
      | ⟨1, _⟩ => show p.val - Host.clampedStart (⟨4, ![32, 4, a, b]⟩ : Shape) (⟨4, ![1, 4, a, b]⟩ : Shape) h.1 start 1 = p.val; rw [s1]; rfl
      | ⟨2, _⟩ => show q.val - Host.clampedStart (⟨4, ![32, 4, a, b]⟩ : Shape) (⟨4, ![1, 4, a, b]⟩ : Shape) h.1 start 2 = q.val; rw [s2]; rfl
      | ⟨3, _⟩ => show r.val - Host.clampedStart (⟨4, ![32, 4, a, b]⟩ : Shape) (⟨4, ![1, 4, a, b]⟩ : Shape) h.1 start 3 = r.val; rw [s3]; rfl
    · intro k
      match k with
      | ⟨0, _⟩ => exact ⟨s0.le.trans (by rw [← hcc]; exact le_rfl), by show c.val < Host.clampedStart _ _ h.1 start 0 + 1; rw [s0]; omega⟩
      | ⟨1, _⟩ => exact ⟨s1.le.trans (Nat.zero_le _), by show p.val < Host.clampedStart _ _ h.1 start 1 + 4; rw [s1]; omega⟩
      | ⟨2, _⟩ => exact ⟨s2.le.trans (Nat.zero_le _), by show q.val < Host.clampedStart _ _ h.1 start 2 + a; rw [s2]; omega⟩
      | ⟨3, _⟩ => exact ⟨s3.le.trans (Nat.zero_le _), by show r.val < Host.clampedStart _ _ h.1 start 3 + b; rw [s3]; omega⟩
  · rw [if_neg hcc, dif_neg]
    intro H
    have := H 0
    apply hcc
    apply Fin.ext
    have l : Host.clampedStart (⟨4, ![32, 4, a, b]⟩ : Shape) (⟨4, ![1, 4, a, b]⟩ : Shape) h.1 start 0 ≤ c.val := this.1
    have r : c.val < Host.clampedStart (⟨4, ![32, 4, a, b]⟩ : Shape) (⟨4, ![1, 4, a, b]⟩ : Shape) h.1 start 0 + 1 := this.2
    rw [s0] at l r
    omega

end Slices

/-- The state of the loop before trip `n`. -/
structure Inv (A : Args) (n : ℕ) (S : State Ideal) : Prop where
  ds : ∀ h d e, S.main_v25_9 (ix3 h d e) = A.carry h n d e
  s : ∀ cc h d e, S.main_v25_0 (ix4 cc h d e) = (A.chunk h cc).s d e
  u : ∀ cc h r d, S.main_v25_1 (ix4 cc h r d) = (A.chunk h cc).u r d
  w : ∀ cc h r d, S.main_v25_2 (ix4 cc h r d) = (A.chunk h cc).w r d
  qe : ∀ cc h r d, S.main_v25_3 (ix4 cc h r d) = (A.chunk h cc).qe r d
  kd : ∀ cc h r d, S.main_v25_4 (ix4 cc h r d) = (A.chunk h cc).kd r d
  qk : ∀ cc h q r, S.main_v25_5 (ix4 cc h q r) = (A.chunk h cc).qk q r
  egl : ∀ cc h e, S.main_v25_6 (ix4 cc h 0 e) = (A.chunk h cc).egl e
  dout : ∀ cc h r d, S.main_v25_7 (ix4 cc h r d) = (A.chunk h cc).dout r d
  du' : ∀ (cc : Fin 32), 32 - n ≤ cc.val → ∀ h r d, S.main_v25_10 (ix4 cc h r d) = (A.chunk h cc).dv (A.carry h (31 - cc.val)) r d
  dw' : ∀ (cc : Fin 32), 32 - n ≤ cc.val → ∀ h r d, S.main_v25_11 (ix4 cc h r d) = (A.chunk h cc).dw (A.carry h (31 - cc.val)) r d
  dqe' : ∀ (cc : Fin 32), 32 - n ≤ cc.val → ∀ h r d, S.main_v25_12 (ix4 cc h r d) = (A.chunk h cc).dqe r d
  dkd' : ∀ (cc : Fin 32), 32 - n ≤ cc.val → ∀ h r d, S.main_v25_13 (ix4 cc h r d) = (A.chunk h cc).dkd (A.carry h (31 - cc.val)) r d
  dqk' : ∀ (cc : Fin 32), 32 - n ≤ cc.val → ∀ h q r, S.main_v25_14 (ix4 cc h q r) = (A.chunk h cc).dqk q r
  degl' : ∀ (cc : Fin 32), 32 - n ≤ cc.val → ∀ h e, S.main_v25_15 (ix4 cc h 0 e) = (A.chunk h cc).degl (A.carry h (31 - cc.val)) e

section Trip
variable {A : Args} {n : ℕ} {S : State Ideal}

/-- The chunk of trip `n`. -/
def at_ (n : ℕ) : Fin 32 := ⟨31 - n, by omega⟩

theorem index (hn : n < 32) (i) : ((b3 n S) i).toInt = ((at_ n).val : Int) := by
  show (32#32 - BitVec.ofNat 32 n - 1#32).toInt = ((31 - n : ℕ) : Int)
  rw [show 32#32 - BitVec.ofNat 32 n - 1#32 = BitVec.ofNat 32 (31 - n) from ?_, toInt_ofNat_of_lt (by omega)]
  interval_cases n <;> rfl

theorem b8_apply (I : Inv A n S) (hn : n < 32) (h d e) : b8 n S (ix3 h d e) = (A.chunk h (at_ n)).s d e := by
  unfold b8 b7
  exact (slab_apply _ _ (at_ n) (index hn _) rfl rfl rfl _ _ h d e).trans (I.s _ h d e)
theorem b13_apply (I : Inv A n S) (hn : n < 32) (h r d) : b13 n S (ix3 h r d) = (A.chunk h (at_ n)).u r d := by
  unfold b13 b12
  exact (slab_apply _ _ (at_ n) (index hn _) rfl rfl rfl _ _ h r d).trans (I.u _ h r d)
theorem b18_apply (I : Inv A n S) (hn : n < 32) (h r d) : b18 n S (ix3 h r d) = (A.chunk h (at_ n)).w r d := by
  unfold b18 b17
  exact (slab_apply _ _ (at_ n) (index hn _) rfl rfl rfl _ _ h r d).trans (I.w _ h r d)
theorem b23_apply (I : Inv A n S) (hn : n < 32) (h r d) : b23 n S (ix3 h r d) = (A.chunk h (at_ n)).qe r d := by
  unfold b23 b22
  exact (slab_apply _ _ (at_ n) (index hn _) rfl rfl rfl _ _ h r d).trans (I.qe _ h r d)
theorem b28_apply (I : Inv A n S) (hn : n < 32) (h r d) : b28 n S (ix3 h r d) = (A.chunk h (at_ n)).kd r d := by
  unfold b28 b27
  exact (slab_apply _ _ (at_ n) (index hn _) rfl rfl rfl _ _ h r d).trans (I.kd _ h r d)
theorem b33_apply (I : Inv A n S) (hn : n < 32) (h q r) : b33 n S (ix3 h q r) = (A.chunk h (at_ n)).qk q r := by
  unfold b33 b32
  exact (slab_apply _ _ (at_ n) (index hn _) rfl rfl rfl _ _ h q r).trans (I.qk _ h q r)
theorem b43_apply (I : Inv A n S) (hn : n < 32) (h r d) : b43 n S (ix3 h r d) = (A.chunk h (at_ n)).dout r d := by
  unfold b43 b42
  exact (slab_apply _ _ (at_ n) (index hn _) rfl rfl rfl _ _ h r d).trans (I.dout _ h r d)
theorem b38_apply (I : Inv A n S) (hn : n < 32) (h e) : b38 n S (ix3 h 0 e) = (A.chunk h (at_ n)).egl e := by
  unfold b38 b37
  exact (slab_apply _ _ (at_ n) (index hn _) rfl rfl rfl _ _ h 0 e).trans (I.egl _ h e)

theorem b45_apply (I : Inv A n S) (hn : n < 32) (h r e) : b45 n S (ix3 h r e) = (A.chunk h (at_ n)).vnew r e := by
  unfold b45 b44
  pointwise
  simp only [b18_apply I hn, b8_apply I hn, b13_apply I hn, KVec.Chunk.vnew]
theorem b65_apply (I : Inv A n S) (hn : n < 32) (h r e) : b65 n S (ix3 h r e) = (A.chunk h (at_ n)).dv (A.carry h n) r e := by
  unfold b65 b64 b63 b54 b53
  pointwise
  simp only [b28_apply I hn, b43_apply I hn, b33_apply I hn, I.ds, KVec.Chunk.dv]
theorem b56_apply (I : Inv A n S) (hn : n < 32) (h r d) : b56 n S (ix3 h r d) = (A.chunk h (at_ n)).dkd (A.carry h n) r d := by
  unfold b56 b55
  pointwise
  simp only [b45_apply I hn, I.ds, KVec.Chunk.dkd]
theorem b60_apply (I : Inv A n S) (hn : n < 32) (h d) : b60 n S (ix3 h 0 d) = (A.chunk h (at_ n)).degl (A.carry h n) d := by
  unfold b60 b59 b58 b57
  pointwise
  simp only [b8_apply I hn, I.ds, KVec.Chunk.degl]
theorem b66_apply (I : Inv A n S) (hn : n < 32) (h q r) : b66 n S (ix3 h q r) = (A.chunk h (at_ n)).dqk q r := by
  unfold b66
  pointwise
  simp only [b43_apply I hn, b45_apply I hn, KVec.Chunk.dqk]
theorem b70_apply (I : Inv A n S) (hn : n < 32) (h r d) : b70 n S (ix3 h r d) = (A.chunk h (at_ n)).dqe r d := by
  unfold b70
  pointwise
  simp only [b43_apply I hn, b8_apply I hn, KVec.Chunk.dqe]
theorem b71_apply (I : Inv A n S) (hn : n < 32) (h r d) : b71 n S (ix3 h r d) = -((A.chunk h (at_ n)).dv (A.carry h n) r d) := by
  unfold b71
  pointwise
  simp only [b65_apply I hn]
theorem b75_apply (I : Inv A n S) (hn : n < 32) (h r d) : b75 n S (ix3 h r d) = (A.chunk h (at_ n)).dw (A.carry h n) r d := by
  unfold b75
  pointwise
  simp only [b71_apply I hn, b8_apply I hn, KVec.Chunk.dw]
theorem b74_apply (I : Inv A n S) (hn : n < 32) (h d e) : b74 n S (ix3 h d e) = (A.chunk h (at_ n)).nx (A.carry h n) d e := by
  unfold b74 b73 b72 b69 b68 b67 b62 b61
  pointwise
  simp only [b71_apply I hn, b18_apply I hn, b43_apply I hn, b23_apply I hn, b38_apply I hn, I.ds, KVec.Chunk.nx]

end Trip

/-- One trip of the loop. -/
theorem inv_step {A : Args} {n : ℕ} {S : State Ideal} (I : Inv A n S) (hn : n < 32) : Inv A (n + 1) (step n S) where
  ds h d e := (b74_apply I hn h d e)
  s := I.s
  u := I.u
  w := I.w
  qe := I.qe
  kd := I.kd
  qk := I.qk
  egl := I.egl
  dout := I.dout
  du' cc hcc h r d := by
    rw [step_main_v25_10]
    unfold b80 b76
    refine (put_apply _ _ _ (at_ n) (index hn _) rfl rfl rfl _ _ cc h r d).trans ?_
    split
    · next eq => subst eq; exact (b65_apply I hn h r d).trans (by rw [show 31 - (at_ n).val = n by show 31 - (31 - n) = n; omega])
    · next ne => exact I.du' cc (by have : cc.val ≠ 31 - n := fun x => ne (Fin.ext x); omega) h r d
  dw' cc hcc h r d := by
    rw [step_main_v25_11]
    unfold b85 b81
    refine (put_apply _ _ _ (at_ n) (index hn _) rfl rfl rfl _ _ cc h r d).trans ?_
    split
    · next eq => subst eq; exact (b75_apply I hn h r d).trans (by rw [show 31 - (at_ n).val = n by show 31 - (31 - n) = n; omega])
    · next ne => exact I.dw' cc (by have : cc.val ≠ 31 - n := fun x => ne (Fin.ext x); omega) h r d
  dqe' cc hcc h r d := by
    rw [step_main_v25_12]
    unfold b90 b86
    refine (put_apply _ _ _ (at_ n) (index hn _) rfl rfl rfl _ _ cc h r d).trans ?_
    split
    · next eq => subst eq; exact (b70_apply I hn h r d)
    · next ne => exact I.dqe' cc (by have : cc.val ≠ 31 - n := fun x => ne (Fin.ext x); omega) h r d
  dkd' cc hcc h r d := by
    rw [step_main_v25_13]
    unfold b95 b91
    refine (put_apply _ _ _ (at_ n) (index hn _) rfl rfl rfl _ _ cc h r d).trans ?_
    split
    · next eq => subst eq; exact (b56_apply I hn h r d).trans (by rw [show 31 - (at_ n).val = n by show 31 - (31 - n) = n; omega])
    · next ne => exact I.dkd' cc (by have : cc.val ≠ 31 - n := fun x => ne (Fin.ext x); omega) h r d
  dqk' cc hcc h q r := by
    rw [step_main_v25_14]
    unfold b100 b96
    refine (put_apply _ _ _ (at_ n) (index hn _) rfl rfl rfl _ _ cc h q r).trans ?_
    split
    · next eq => subst eq; exact (b66_apply I hn h q r)
    · next ne => exact I.dqk' cc (by have : cc.val ≠ 31 - n := fun x => ne (Fin.ext x); omega) h q r
  degl' cc hcc h e := by
    rw [step_main_v25_15]
    unfold b105 b101
    refine (put_apply _ _ _ (at_ n) (index hn _) rfl rfl rfl _ _ cc h 0 e).trans ?_
    split
    · next eq => subst eq; exact (b60_apply I hn h e).trans (by rw [show 31 - (at_ n).val = n by show 31 - (31 - n) = n; omega])
    · next ne => exact I.degl' cc (by have : cc.val ≠ 31 - n := fun x => ne (Fin.ext x); omega) h e

variable (m : (ℓ : Loc nD τ sig) → Buf (Elt Ideal) ℓ)

/-- The arguments that the reference finds on device `c`. -/
def args (c : Dev nD) : Args where
  u := m ((c.tc : Thread nD τ).loc main_arg0)
  w := m ((c.tc : Thread nD τ).loc main_arg1)
  qe := m ((c.tc : Thread nD τ).loc main_arg2)
  kd := m ((c.tc : Thread nD τ).loc main_arg3)
  qk := m ((c.tc : Thread nD τ).loc main_arg4)
  egl := m ((c.tc : Thread nD τ).loc main_arg5)
  s := m ((c.tc : Thread nD τ).loc main_arg6)
  dout := m ((c.tc : Thread nD τ).loc main_arg7)

/-- The rows of the chunks under an axis of their own, and the heads likewise. -/
theorem split_apply {α : Type} (x : (⟨2, ![2048, 512]⟩ : Shape).Idx → α) (h1) (h2) (cc : Fin 32) (h : Fin 4) (r : Fin 64) (d : Fin 128) :
    transpose S32x4x64x128 [0, 2, 1, 3] (shapeCast S32x64x4x128 x h1) h2 (ix4 cc h r d) = x (ix2 (row cc r) (col h d)) := by
  have e : Shape.reshapeEquiv h1 (ix4 cc r h d) = (ix2 (row cc r) (col h d) : (⟨2, ![2048, 512]⟩ : Shape).Idx) := by
    refine Shape.reshapeEquiv_eq_of_rowMajor _ ?_
    rw [Shape.rowMajor_val_four, Shape.rowMajor_val_two]
    show (64 * cc.val + r.val) * 512 + (128 * h.val + d.val) = ((cc.val * 64 + r.val) * 4 + h.val) * 128 + d.val
    omega
  refine Eq.trans ?_ (congrArg x e)
  pointwise

theorem join_apply {α : Type} (x : (⟨4, ![32, 4, 64, 128]⟩ : Shape).Idx → α) (h1) (h2) (cc : Fin 32) (h : Fin 4) (r : Fin 64) (d : Fin 128) :
    shapeCast S2048x512 (transpose S32x64x4x128 [0, 2, 1, 3] x h1) h2 (ix2 (row cc r) (col h d)) = x (ix4 cc h r d) := by
  have e : Shape.reshapeEquiv h2 (ix2 (row cc r) (col h d)) = (ix4 cc r h d : (⟨4, ![32, 64, 4, 128]⟩ : Shape).Idx) := by
    refine Shape.reshapeEquiv_eq_of_rowMajor _ ?_
    rw [Shape.rowMajor_val_four, Shape.rowMajor_val_two]
    show ((cc.val * 64 + r.val) * 4 + h.val) * 128 + d.val = (64 * cc.val + r.val) * 512 + (128 * h.val + d.val)
    omega
  rw [Pointwise.shapeCast_apply, e]
  pointwise

theorem split3_apply {α : Type} (x : (⟨3, ![4, 2048, 64]⟩ : Shape).Idx → α) (h1) (h2) (cc : Fin 32) (h : Fin 4) (q r : Fin 64) :
    transpose S32x4x64x64 [1, 0, 2, 3] (shapeCast S4x32x64x64 x h1) h2 (ix4 cc h q r) = x (ix3 h (row cc q) r) := by
  have e : Shape.reshapeEquiv h1 (ix4 h cc q r) = (ix3 h (row cc q) r : (⟨3, ![4, 2048, 64]⟩ : Shape).Idx) := by
    refine Shape.reshapeEquiv_eq_of_rowMajor _ ?_
    rw [Shape.rowMajor_val_four, Shape.rowMajor_val_three]
    show (h.val * 2048 + (64 * cc.val + q.val)) * 64 + r.val = ((h.val * 32 + cc.val) * 64 + q.val) * 64 + r.val
    omega
  refine Eq.trans ?_ (congrArg x e)
  pointwise

theorem join3_apply {α : Type} (x : (⟨4, ![32, 4, 64, 64]⟩ : Shape).Idx → α) (h1) (h2) (cc : Fin 32) (h : Fin 4) (q r : Fin 64) :
    shapeCast S4x2048x64 (transpose S4x32x64x64 [1, 0, 2, 3] x h1) h2 (ix3 h (row cc q) r) = x (ix4 cc h q r) := by
  have e : Shape.reshapeEquiv h2 (ix3 h (row cc q) r) = (ix4 h cc q r : (⟨4, ![4, 32, 64, 64]⟩ : Shape).Idx) := by
    refine Shape.reshapeEquiv_eq_of_rowMajor _ ?_
    rw [Shape.rowMajor_val_four, Shape.rowMajor_val_three]
    show ((h.val * 32 + cc.val) * 64 + q.val) * 64 + r.val = (h.val * 2048 + (64 * cc.val + q.val)) * 64 + r.val
    omega
  rw [Pointwise.shapeCast_apply, e]
  pointwise

theorem splitE_apply {α : Type} (x : (⟨3, ![32, 1, 512]⟩ : Shape).Idx → α) (h1) (cc : Fin 32) (h : Fin 4) (d : Fin 128) :
    shapeCast S32x4x1x128 x h1 (ix4 cc h 0 d) = x (ix3 cc 0 (col h d)) := by
  rw [Pointwise.shapeCast_apply]
  refine congrArg x (Shape.reshapeEquiv_eq_of_rowMajor _ ?_)
  rw [Shape.rowMajor_val_four, Shape.rowMajor_val_three]
  show (cc.val * 1 + 0) * 512 + (128 * h.val + d.val) = ((cc.val * 4 + h.val) * 1 + 0) * 128 + d.val
  omega

theorem joinE_apply {α : Type} (x : (⟨4, ![32, 4, 1, 128]⟩ : Shape).Idx → α) (h1) (cc : Fin 32) (h : Fin 4) (d : Fin 128) :
    shapeCast S32x1x512 x h1 (ix3 cc 0 (col h d)) = x (ix4 cc h 0 d) := by
  rw [Pointwise.shapeCast_apply]
  refine congrArg x (Shape.reshapeEquiv_eq_of_rowMajor _ ?_)
  rw [Shape.rowMajor_val_four, Shape.rowMajor_val_three]
  show ((cc.val * 4 + h.val) * 1 + 0) * 128 + d.val = (cc.val * 1 + 0) * 512 + (128 * h.val + d.val)
  omega

/-- The state before the first trip. -/
theorem inv_init (c : Dev nD) : Inv (args m c) 0 (RefRun.initState m c) where
  ds h d e := by
    show K_main_v17 (F := Ideal) (ix3 h d e) = 0
    unfold K_main_v17 K_main_cst
    pointwise
  s cc h d e := by
    have k : transpose S32x4x128x128 [1, 0, 2, 3] (args m c).s transposes_S4x32x128x128_S32x4x128x128_1_0_2_3 (ix4 cc h d e) = (args m c).s (ix4 h cc d e) := by pointwise
    exact k
  u cc h r d := split_apply _ _ _ cc h r d
  w cc h r d := split_apply _ _ _ cc h r d
  qe cc h r d := split_apply _ _ _ cc h r d
  kd cc h r d := split_apply _ _ _ cc h r d
  qk cc h q r := split3_apply _ _ _ cc h q r
  egl cc h e := splitE_apply _ _ cc h e
  dout cc h r d := split_apply _ _ _ cc h r d
  du' cc hcc := by omega
  dw' cc hcc := by omega
  dqe' cc hcc := by omega
  dkd' cc hcc := by omega
  dqk' cc hcc := by omega
  degl' cc hcc := by omega

/-- The states of the loop, one after the other. -/
def states (c : Dev nD) : ℕ → State Ideal
  | 0 => RefRun.initState m c
  | n + 1 => step n (states c n)

theorem inv (c : Dev nD) : ∀ n ≤ 32, Inv (args m c) n (states m c n)
  | 0, _ => inv_init m c
  | n + 1, h => inv_step (inv c n (by omega)) (by omega)

theorem du_result (c : Dev nD) (h : Fin 4) (cc : Fin 32) (r : Fin 64) (d : Fin 128) :
    R_main_v27 (states m c 32) (ix2 (row cc r) (col h d)) = ((args m c).chunk h cc).dv ((args m c).carry h (31 - cc.val)) r d :=
  (join_apply _ _ _ cc h r d).trans ((inv m c 32 le_rfl).du' cc (by omega) h r d)
theorem dw_result (c : Dev nD) (h : Fin 4) (cc : Fin 32) (r : Fin 64) (d : Fin 128) :
    R_main_v29 (states m c 32) (ix2 (row cc r) (col h d)) = ((args m c).chunk h cc).dw ((args m c).carry h (31 - cc.val)) r d :=
  (join_apply _ _ _ cc h r d).trans ((inv m c 32 le_rfl).dw' cc (by omega) h r d)
theorem dqe_result (c : Dev nD) (h : Fin 4) (cc : Fin 32) (r : Fin 64) (d : Fin 128) :
    R_main_v31 (states m c 32) (ix2 (row cc r) (col h d)) = ((args m c).chunk h cc).dqe r d :=
  (join_apply _ _ _ cc h r d).trans ((inv m c 32 le_rfl).dqe' cc (by omega) h r d)
theorem dkd_result (c : Dev nD) (h : Fin 4) (cc : Fin 32) (r : Fin 64) (d : Fin 128) :
    R_main_v33 (states m c 32) (ix2 (row cc r) (col h d)) = ((args m c).chunk h cc).dkd ((args m c).carry h (31 - cc.val)) r d :=
  (join_apply _ _ _ cc h r d).trans ((inv m c 32 le_rfl).dkd' cc (by omega) h r d)
theorem dqk_result (c : Dev nD) (h : Fin 4) (cc : Fin 32) (q r : Fin 64) :
    R_main_v35 (states m c 32) (ix3 h (row cc q) r) = ((args m c).chunk h cc).dqk q r :=
  (join3_apply _ _ _ cc h q r).trans ((inv m c 32 le_rfl).dqk' cc (by omega) h q r)
theorem degl_result (c : Dev nD) (h : Fin 4) (cc : Fin 32) (d : Fin 128) :
    R_main_v36 (states m c 32) (ix3 cc 0 (col h d)) = ((args m c).chunk h cc).degl ((args m c).carry h (31 - cc.val)) d :=
  (joinE_apply _ _ cc h d).trans ((inv m c 32 le_rfl).degl' cc (by omega) h d)

end Cert.Proof.RefValue
end
-- ==== Proof.ScanClaim.lean ====
module

public import proofs.«01_k».proof.Defs
public import proofs.«01_k».proof.Proof.Gen.Kernel
public import proofs.«01_k».proof.Proof.KValue
public import proofs.«01_k».proof.Proof.RefValue

@[expose] public section

noncomputable section

/-! The kernel and the reference end with the same six gradients: entry by entry both are the recursion of `Args.carry`. -/

namespace Cert.Proof.ScanBwd

open Idealize.ShloMosaic Idealize.ShloMosaic.TcCoe

/-- Row and chunk of a row number. -/
theorem row_split (x : Fin 2048) : row ⟨x.val / 64, by omega⟩ ⟨x.val % 64, by omega⟩ = x := Fin.ext (by show 64 * (x.val / 64) + x.val % 64 = x.val; omega)
/-- Head and column of a column number. -/
theorem col_split (x : Fin 512) : col ⟨x.val / 128, by omega⟩ ⟨x.val % 128, by omega⟩ = x := Fin.ext (by show 128 * (x.val / 128) + x.val % 128 = x.val; omega)

theorem ext2 {α : Type} {f g : (⟨2, ![2048, 512]⟩ : Shape).Idx → α} (h : ∀ (hd : Fin 4) (cc : Fin 32) (r : Fin 64) (d : Fin 128), f (ix2 (row cc r) (col hd d)) = g (ix2 (row cc r) (col hd d))) : f = g := by
  funext x
  have e := h ⟨(x 1).val / 128, by have h1 : (x 1).val < 512 := (x 1).isLt; omega⟩ ⟨(x 0).val / 64, by have h0 : (x 0).val < 2048 := (x 0).isLt; omega⟩ ⟨(x 0).val % 64, by omega⟩ ⟨(x 1).val % 128, by omega⟩
  rw [row_split (x 0), col_split (x 1)] at e
  rwa [eq_ix2 (n0 := 2048) (n1 := 512) x]
theorem ext3 {α : Type} {f g : (⟨3, ![4, 2048, 64]⟩ : Shape).Idx → α} (h : ∀ (hd : Fin 4) (cc : Fin 32) (q r : Fin 64), f (ix3 hd (row cc q) r) = g (ix3 hd (row cc q) r)) : f = g := by
  funext x
  have e := h (x 0) ⟨(x 1).val / 64, by have h0 : (x 1).val < 2048 := (x 1).isLt; omega⟩ ⟨(x 1).val % 64, by omega⟩ (x 2)
  rw [row_split (x 1)] at e
  rwa [eq_ix3 (n0 := 4) (n1 := 2048) (n2 := 64) x]
theorem extE {α : Type} {f g : (⟨3, ![32, 1, 512]⟩ : Shape).Idx → α} (h : ∀ (hd : Fin 4) (cc : Fin 32) (d : Fin 128), f (ix3 cc 0 (col hd d)) = g (ix3 cc 0 (col hd d))) : f = g := by
  funext x
  have e := h ⟨(x 2).val / 128, by have h1 : (x 2).val < 512 := (x 2).isLt; omega⟩ (x 0) ⟨(x 2).val % 128, by omega⟩
  rw [col_split (x 2), show (0 : Fin 1) = x 1 from Subsingleton.elim _ _] at e
  rwa [eq_ix3 (n0 := 32) (n1 := 1) (n2 := 512) x]

/-- The reference ends with its arguments unchanged. It has no semaphores. -/
theorem frame_reference : Cert.quiescent_ReferenceIdeal := fun m ρ _ =>
  (θ_run Cert.ReferenceIdeal.defs _ _).mono (fun _ h => ⟨fun c => (h c).2.2.2.2.2.2, sem_eq_zero_of_no_sems rfl _⟩) (Cert.ReferenceIdeal.Value.run m ρ)

/-- Both programs find the same arguments. -/
theorem args_eq {m : (ℓ : Loc Cert.KernelIdeal.nD Cert.KernelIdeal.τ Cert.KernelIdeal.sig) → Buf (Elt Ideal) ℓ} {m' : (ℓ : Loc Cert.ReferenceIdeal.nD Cert.ReferenceIdeal.τ Cert.ReferenceIdeal.sig) → Buf (Elt Ideal) ℓ} {c : Dev Cert.KernelIdeal.nD}
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    : RefValue.args m' c = KValue.args m c := by
  unfold RefValue.args KValue.args
  congr 1

/-- The value claim. -/
theorem algebraic : Cert.algebraic_KernelIdeal_ReferenceIdeal := by
  intro m g m' g' _ hagree
  have ha : ∀ c, RefValue.args m' c = KValue.args m c := fun c => by
    obtain ⟨h0, h1, h2, h3, h4, h5, h6, h7⟩ := hagree c
    exact args_eq h0 h1 h2 h3 h4 h5 h6 h7
  refine ⟨fun c => (Cert.KernelIdeal.Gen.dats m 0 c).arrAt 8 Cert.KernelIdeal.cfg0.N, fun c => (Cert.KernelIdeal.Gen.dats m 0 c).arrAt 9 Cert.KernelIdeal.cfg0.N, fun c => (Cert.KernelIdeal.Gen.dats m 0 c).arrAt 10 Cert.KernelIdeal.cfg0.N, fun c => (Cert.KernelIdeal.Gen.dats m 0 c).arrAt 11 Cert.KernelIdeal.cfg0.N, fun c => (Cert.KernelIdeal.Gen.dats m 0 c).arrAt 12 Cert.KernelIdeal.cfg0.N, fun c => (Cert.KernelIdeal.Gen.dats m 0 c).arrAt 13 Cert.KernelIdeal.cfg0.N, Cert.KernelIdeal.Value.run_blocks m g, ?_⟩
  refine (θ_run _ _ _).mono (fun r h c => ?_) (RefRun.run_iter m' g' (RefValue.states m') (fun _ => rfl) (fun _ _ => rfl))
  obtain ⟨r0, r1, r2, r3, r4, r5, ha'⟩ := h c
  refine ⟨r0.trans ?_, r1.trans ?_, r2.trans ?_, r3.trans ?_, r4.trans ?_, r5.trans ?_, ha'⟩
  · exact ext2 fun hd cc r d => (RefValue.du_result m' c hd cc r d).trans ((congrArg (fun A : Args => (A.chunk hd cc).dv (A.carry hd (31 - cc.val)) r d) (ha c)).trans (KValue.du_result m c hd cc r d).symm)
  · exact ext2 fun hd cc r d => (RefValue.dw_result m' c hd cc r d).trans ((congrArg (fun A : Args => (A.chunk hd cc).dw (A.carry hd (31 - cc.val)) r d) (ha c)).trans (KValue.dw_result m c hd cc r d).symm)
  · exact ext2 fun hd cc r d => (RefValue.dqe_result m' c hd cc r d).trans ((congrArg (fun A : Args => (A.chunk hd cc).dqe r d) (ha c)).trans (KValue.dqe_result m c hd cc r d).symm)
  · exact ext2 fun hd cc r d => (RefValue.dkd_result m' c hd cc r d).trans ((congrArg (fun A : Args => (A.chunk hd cc).dkd (A.carry hd (31 - cc.val)) r d) (ha c)).trans (KValue.dkd_result m c hd cc r d).symm)
  · exact ext3 fun hd cc q r => (RefValue.dqk_result m' c hd cc q r).trans ((congrArg (fun A : Args => (A.chunk hd cc).dqk q r) (ha c)).trans (KValue.dqk_result m c hd cc q r).symm)
  · exact extE fun hd cc d => (RefValue.degl_result m' c hd cc d).trans ((congrArg (fun A : Args => (A.chunk hd cc).degl (A.carry hd (31 - cc.val)) d) (ha c)).trans (KValue.degl_result m c hd cc d).symm)

end Cert.Proof.ScanBwd

end
-- ==== Proof.Blocks.lean ====
module

public import Idealize.ShloMosaic.Lib.Pointwise
public import Idealize.ShloMosaic.Lib.ValueIdx
public import Idealize.ShloMosaic.Lib.Pipeline.Value
public import Idealize.ShloMosaic.Lib.Pipeline.ValueKit

@[expose] public section

noncomputable section

/-! What the proofs of the matrix products share: arrays read at equal places. -/

namespace Cert.Proof.Blocks

open Idealize.ShloMosaic

/-- An array has one value at two indices of the same coordinates. -/
theorem at_eq {S : Shape} {α : Type} (f : S.Idx → α) {x y : S.Idx} (h : ∀ a, (x a).val = (y a).val) : f x = f y :=
  congrArg f (funext fun a => Fin.ext (h a))

/-- Arrays of rank 3 that agree at every triple are equal. -/
theorem ext3 {n0 n1 n2 : ℕ} {α : Type} {f g : (⟨3, ![n0, n1, n2]⟩ : Shape).Idx → α} (h : ∀ a b c, f (ix3 a b c) = g (ix3 a b c)) : f = g := by
  funext x
  rw [eq_ix3 x]
  exact h _ _ _

/-- The same where the first axis has one entry. -/
theorem ext1 {n1 n2 : ℕ} {α : Type} {f g : (⟨3, ![1, n1, n2]⟩ : Shape).Idx → α} (h : ∀ b c, f (ix3 0 b c) = g (ix3 0 b c)) : f = g :=
  ext3 fun a b c => by rw [Subsingleton.elim a 0]; exact h b c

/-- An index whose first axis has one entry, by its other coordinates. -/
theorem split1 {n1 n2 : ℕ} (x : (⟨3, ![1, n1, n2]⟩ : Shape).Idx) : ∃ (i : Fin n1) (j : Fin n2), x = ix3 0 i j :=
  ⟨x 1, x 2, (eq_ix3 x).trans (congrArg (fun a : Fin 1 => ix3 a (x 1) (x 2)) (Subsingleton.elim (α := Fin 1) _ _))⟩

/-- A load through a rectangle of unit strides reads the contents at the index moved by the rectangle's corner. -/
theorem ld3 {Val : EltTy → Type} {e : EltTy} {n0 n1 n2 s0 s1 s2 o0 o1 o2 : ℕ} (X : (⟨3, ![n0, n1, n2]⟩ : Shape).Idx → Val e)
    (inb : ∀ a, (![o0, o1, o2] : Fin 3 → ℕ) a + (![s0, s1, s2] : Fin 3 → ℕ) a ≤ (⟨3, ![n0, n1, n2]⟩ : Shape).size a)
    {a : Fin s0} {b : Fin s1} {c : Fin s2} {a' : Fin n0} {b' : Fin n1} {c' : Fin n2}
    (h0 : a'.val = o0 + a.val) (h1 : b'.val = o1 + b.val) (h2 : c'.val = o2 + c.val) :
    View.ld X (Rect.unit (s := ⟨3, ![n0, n1, n2]⟩) ![o0, o1, o2] ![s0, s1, s2] inb) (ix3 a b c) = X (ix3 a' b' c') :=
  View.ld_unit_apply_of X _ _ inb _ _ fun a => match a with
    | ⟨0, _⟩ => h0
    | ⟨1, _⟩ => h1
    | ⟨2, _⟩ => h2

/-- A matrix given a leading axis of one entry. -/
theorem staged {n1 n2 : ℕ} {α : Type} (h : (⟨2, ![n1, n2]⟩ : Shape).BroadcastsInDim ⟨3, ![1, n1, n2]⟩ ![1, 2]) (x : (⟨2, ![n1, n2]⟩ : Shape).Idx → α) (i : Fin n1) (j : Fin n2) :
    broadcastInDim ⟨3, ![1, n1, n2]⟩ ![1, 2] h x (ix3 0 i j) = x (ix2 i j) := by
  refine broadcastInDim_apply _ h x _ _ fun a => ?_
  match a with
  | ⟨0, _⟩ => show i.val = if n1 = 1 then 0 else i.val; split <;> omega
  | ⟨1, _⟩ => show j.val = if n2 = 1 then 0 else j.val; split <;> omega

/-- The heads' weights as one matrix, a row being an entry of a head, with a leading axis of one entry. -/
theorem merged3 {α : Type} (h : (⟨3, ![4, 256, 1024]⟩ : Shape).ShapeCasts ⟨3, ![1, 1024, 1024]⟩) (x : (⟨3, ![4, 256, 1024]⟩ : Shape).Idx → α) (i j : Fin 1024) :
    shapeCast ⟨3, ![1, 1024, 1024]⟩ x h (ix3 0 i j) = x (ix3 ⟨i.val / 256, by omega⟩ ⟨i.val % 256, by omega⟩ j) :=
  shapeCast_apply x h _ _ (by
    rw [Shape.rowMajor_val_three, Shape.rowMajor_val_three]
    show (i.val / 256 * 256 + i.val % 256) * 1024 + j.val = (0 * 1024 + i.val) * 1024 + j.val
    omega)

end Cert.Proof.Blocks

end
-- ==== Proof.FfnOutBwd.lean ====
module

public import proofs.«01_k».proof.Defs
public import proofs.«01_k».proof.Proof.Blocks
public import proofs.«01_k».proof.Proof.Gen.Kernel2Ideal.Value
public import proofs.«01_k».proof.Proof.Gen.Reference2Ideal.Run

@[expose] public section

noncomputable section

/-! The gradients of the SwiGLU block's gate and up projection, from the gradient of its output. -/

namespace Cert.Proof.FfnOutBwd

open Idealize.ShloMosaic Idealize.ShloMosaic.TcCoe Cert.Proof.Blocks

/-- The product of tokens' gradients with a block of channels' weights. -/
abbrev product (a : (⟨2, ![2048, 1024]⟩ : Shape).Idx → EReal) (w : (⟨3, ![4, 704, 1024]⟩ : Shape).Idx → EReal) (g : Fin 4) (R : Fin 2048) (j : Fin 704) : EReal :=
  ∑ k : Fin 1024, a (ix2 R k) * w (ix3 g j k)

/-- The logistic function. -/
def logistic (g : EReal) : EReal := Ideal.div 1 (1 + Ideal.exp (-g))

/-- The gate's gradient from the activation's gradient `d`, the gate `g` and the up projection `u`, as the kernel writes it. -/
def gateGrad (d g u : EReal) : EReal := d * u * (logistic g * (1 + g * (1 - logistic g)))

/-- The same as the reference writes it, the product rule's two terms apart. -/
def gateGrad' (d g u : EReal) : EReal := d * u * logistic g + g * (d * u) * (logistic g * (1 - logistic g))

/-- The up projection's gradient. -/
def upGrad (d g : EReal) : EReal := d * (g * logistic g)

/-- The two forms of the gate's gradient agree where the activation's gradient and the up projection are real, the gate being any extended real. -/
theorem gateGrad_eq {d u : EReal} (hd : ∃ r : ℝ, d = r) (hu : ∃ r : ℝ, u = r) (g : EReal) : gateGrad' d g u = gateGrad d g u := by
  obtain ⟨d, rfl⟩ := hd
  obtain ⟨u, rfl⟩ := hu
  unfold gateGrad gateGrad'
  induction g with
  | bot =>
    rw [show logistic ⊥ = 0 by
      show Ideal.div 1 (1 + Ideal.exp (-⊥)) = 0
      rw [EReal.neg_bot, show Ideal.exp ⊤ = ⊤ from rfl, show (1 : EReal) + ⊤ = ⊤ from EReal.coe_add_top 1, Ideal.div, if_neg EReal.top_ne_zero, EReal.inv_top, mul_zero]]
    simp
  | top =>
    rw [show logistic ⊤ = 1 by
      show Ideal.div 1 (1 + Ideal.exp (-⊤)) = 1
      rw [EReal.neg_top, show Ideal.exp ⊥ = 0 from rfl, add_zero, Ideal.div, if_neg one_ne_zero]
      simp]
    rw [show (1 : EReal) - 1 = 0 from EReal.sub_self (by decide) (by decide)]
    simp
  | coe g =>
    obtain ⟨s, hs⟩ : ∃ s : ℝ, logistic g = s := by
      refine ⟨1 * (1 + Real.exp (-g))⁻¹, ?_⟩
      show Ideal.div 1 (1 + Ideal.exp (-(g : EReal))) = _
      rw [← EReal.coe_neg, show Ideal.exp ((-g : ℝ) : EReal) = ((Real.exp (-g) : ℝ) : EReal) from rfl, ← EReal.coe_one, ← EReal.coe_add, Ideal.div,
        if_neg (by exact_mod_cast (by positivity : (1 + Real.exp (-g) : ℝ) ≠ 0)), ← EReal.coe_inv, ← EReal.coe_mul]
    rw [hs]
    exact_mod_cast (by ring : d * u * s + g * (d * u) * (s * (1 - s)) = d * u * (s * (1 + g * (1 - s))))

section Kernel

open Cert.Kernel2Ideal Cert.Kernel2Ideal.Gen Cert.Kernel2Ideal.Value

/-- The product of a row of gradients with a row of weights, for one slab of rows. -/
abbrev inner (v0 : Vec Ideal S1x256x1024 .bf16) (w : Vec Ideal S1x704x1024 .bf16) (i : Fin 256) (j : Fin 704) : EReal :=
  ∑ k : Fin 1024, v0 (ix3 0 i k) * w (ix3 0 j k)

theorem slab1 (v0 : Vec Ideal S1x256x1024 .bf16) (w : Vec Ideal S1x704x1024 .bf16) (g u : Vec Ideal S1x256x704 .bf16) (i : Fin 256) (j : Fin 704) :
    k0_pay8 (F := Ideal) (k0_pay7 v0 w g u) (ix3 0 i j) = gateGrad (inner v0 w i j) (g (ix3 0 i j)) (u (ix3 0 i j)) := by
  unfold k0_pay8 k0_pay7 k0_pay6 k0_pay5 k0_pay3
  pointwise
  rw [zero_sub]
  rfl
theorem slab2 (v0 : Vec Ideal S1x256x1024 .bf16) (w : Vec Ideal S1x704x1024 .bf16) (g u : Vec Ideal S1x256x704 .bf16) (i : Fin 256) (j : Fin 704) :
    k0_pay15 (F := Ideal) (k0_pay12 g) (k0_pay13 (k0_pay4 v0 w) u) (k0_pay14 g) (ix3 0 i j) = gateGrad (inner v0 w i j) (g (ix3 0 i j)) (u (ix3 0 i j)) := slab1 v0 w g u i j
theorem slab3 (v0 : Vec Ideal S1x256x1024 .bf16) (w : Vec Ideal S1x704x1024 .bf16) (g u : Vec Ideal S1x256x704 .bf16) (i : Fin 256) (j : Fin 704) :
    k0_pay22 (F := Ideal) (k0_pay19 g) (k0_pay20 (k0_pay10 v0 w) u) (k0_pay21 g) (Scalar.ofBits .f32 0x3F800000#32) (ix3 0 i j) = gateGrad (inner v0 w i j) (g (ix3 0 i j)) (u (ix3 0 i j)) := slab1 v0 w g u i j
theorem slab4 (v0 : Vec Ideal S1x256x1024 .bf16) (w : Vec Ideal S1x704x1024 .bf16) (g u : Vec Ideal S1x256x704 .bf16) (i : Fin 256) (j : Fin 704) :
    k0_pay1 (F := Ideal) (k0_pay27 (k0_pay17 v0 w) g u) (ix3 0 i j) = gateGrad (inner v0 w i j) (g (ix3 0 i j)) (u (ix3 0 i j)) := slab1 v0 w g u i j
theorem up1 (v0 : Vec Ideal S1x256x1024 .bf16) (w : Vec Ideal S1x704x1024 .bf16) (g : Vec Ideal S1x256x704 .bf16) (i : Fin 256) (j : Fin 704) :
    k0_pay9 (F := Ideal) (k0_pay3 v0 w) (k0_pay5 g) (k0_pay6 g) (ix3 0 i j) = upGrad (inner v0 w i j) (g (ix3 0 i j)) := by
  unfold k0_pay9 k0_pay6 k0_pay5 k0_pay3
  pointwise
  rw [zero_sub]
  rfl
theorem up2 (v0 : Vec Ideal S1x256x1024 .bf16) (w : Vec Ideal S1x704x1024 .bf16) (g : Vec Ideal S1x256x704 .bf16) (i : Fin 256) (j : Fin 704) :
    k0_pay16 (F := Ideal) (k0_pay4 v0 w) (k0_pay11 g) (k0_pay12 g) (ix3 0 i j) = upGrad (inner v0 w i j) (g (ix3 0 i j)) := up1 v0 w g i j
theorem up3 (v0 : Vec Ideal S1x256x1024 .bf16) (w : Vec Ideal S1x704x1024 .bf16) (g : Vec Ideal S1x256x704 .bf16) (i : Fin 256) (j : Fin 704) :
    k0_pay23 (F := Ideal) (k0_pay10 v0 w) (k0_pay18 g) (k0_pay19 g) (ix3 0 i j) = upGrad (inner v0 w i j) (g (ix3 0 i j)) := up1 v0 w g i j
theorem up4 (v0 : Vec Ideal S1x256x1024 .bf16) (w : Vec Ideal S1x704x1024 .bf16) (g : Vec Ideal S1x256x704 .bf16) (i : Fin 256) (j : Fin 704) :
    k0_pay2 (F := Ideal) (k0_pay26 (k0_pay17 v0 w) g) (ix3 0 i j) = upGrad (inner v0 w i j) (g (ix3 0 i j)) := up1 v0 w g i j

/-- A slab's products, from the grid point's blocks. -/
theorem inner_eq (x0 : Vec Ideal S1x1024x1024 .bf16) (w : Vec Ideal S1x704x1024 .bf16) {o : ℕ} (inb : ∀ a, (![0, o, 0] : Fin 3 → ℕ) a + S1x256x1024.size a ≤ S1x1024x1024.size a)
    {i : Fin 256} {r : Fin 1024} (hr : r.val = o + i.val) {j j' : Fin 704} (hj : j'.val = j.val) :
    inner (View.ld x0 (Rect.unit (s := S1x1024x1024) ![0, o, 0] S1x256x1024.size inb)) (View.ld w r0_1) i j = ∑ k : Fin 1024, x0 (ix3 0 r k) * w (ix3 0 j' k) :=
  Finset.sum_congr rfl fun k _ => congrArg₂ (· * ·) (ld3 x0 _ rfl hr (Nat.zero_add _).symm) (ld3 w _ rfl (hj.trans (Nat.zero_add _).symm) (Nat.zero_add _).symm)

/-- A slab of an array of channels, from the grid point's block. -/
theorem slab_eq (x : Vec Ideal S1x1024x704 .bf16) {o : ℕ} (inb : ∀ a, (![0, o, 0] : Fin 3 → ℕ) a + S1x256x704.size a ≤ S1x1024x704.size a)
    {i : Fin 256} {r : Fin 1024} (hr : r.val = o + i.val) {j j' : Fin 704} (hj : j'.val = j.val) :
    View.ld x (Rect.unit (s := S1x1024x704) ![0, o, 0] S1x256x704.size inb) (ix3 0 i j) = x (ix3 0 r j') :=
  ld3 x _ rfl hr (hj.trans (Nat.zero_add _).symm)

/-- What the body makes of a grid point's blocks. -/
theorem body4 (x0 : Vec Ideal S1x1024x1024 .bf16) (x1 : Vec Ideal S1x704x1024 .bf16) (x2 x3 : Vec Ideal S1x1024x704 .bf16) (r : Fin 1024) (j : Fin 704) :
    out0_4 (F := Ideal) x0 x1 x2 x3 (ix3 0 r j) = gateGrad (∑ k : Fin 1024, x0 (ix3 0 r k) * x1 (ix3 0 j k)) (x2 (ix3 0 r j)) (x3 (ix3 0 r j)) := by
  unfold out0_4 k0_pay28 k0_pay29 k0_pay30 k0_pay31 k0_pay32
  canon_tiles x h
  all_goals
    obtain ⟨i', j', rfl⟩ := split1 x
    first | rw [slab1] | rw [slab2] | rw [slab3] | rw [slab4]
    refine congr (congrArg₂ gateGrad (inner_eq x0 x1 _ ?_ h2) (slab_eq x2 _ ?_ h2)) (slab_eq x3 _ ?_ h2)
    all_goals first | exact h1 | exact h1.trans (Nat.zero_add _).symm
theorem body5 (x0 : Vec Ideal S1x1024x1024 .bf16) (x1 : Vec Ideal S1x704x1024 .bf16) (x2 x3 : Vec Ideal S1x1024x704 .bf16) (r : Fin 1024) (j : Fin 704) :
    out0_5 (F := Ideal) x0 x1 x2 x3 (ix3 0 r j) = upGrad (∑ k : Fin 1024, x0 (ix3 0 r k) * x1 (ix3 0 j k)) (x2 (ix3 0 r j)) := by
  unfold out0_5 k0_pay28 k0_pay29 k0_pay30 k0_pay31 k0_pay32
  canon_tiles x h
  all_goals
    obtain ⟨i', j', rfl⟩ := split1 x
    first | rw [up1] | rw [up2] | rw [up3] | rw [up4]
    refine congrArg₂ upGrad (inner_eq x0 x1 _ ?_ h2) (slab_eq x2 _ ?_ h2)
    all_goals first | exact h1 | exact h1.trans (Nat.zero_add _).symm

variable (m : (ℓ : Loc nD τ sig) → Buf (Elt Ideal) ℓ)

/-- The arguments and the result. -/
abbrev arg0 (c : Dev nD) : Vec Ideal S2048x1024 .bf16 := m ((c.tc : Thread nD τ).loc main_arg0)
abbrev arg1 (c : Dev nD) : Vec Ideal S4x704x1024 .bf16 := m ((c.tc : Thread nD τ).loc main_arg1)
abbrev arg2 (c : Dev nD) : Vec Ideal S4x2048x704 .bf16 := m ((c.tc : Thread nD τ).loc main_arg2)
abbrev arg3 (c : Dev nD) : Vec Ideal S4x2048x704 .bf16 := m ((c.tc : Thread nD τ).loc main_arg3)
abbrev result4 (c : Dev nD) : Vec Ideal S4x2048x704 .bf16 := (dats m 0 c).arrAt 4 cfg0.N
abbrev result5 (c : Dev nD) : Vec Ideal S4x2048x704 .bf16 := (dats m 0 c).arrAt 5 cfg0.N

theorem index : ∀ t : Fin cfg0.N, (win0_0.index t 0 = 0 ∧ win0_0.index t 1 = t.val / 4 ∧ win0_0.index t 2 = 0)
    ∧ (win0_1.index t 0 = t.val % 4 ∧ win0_1.index t 1 = 0 ∧ win0_1.index t 2 = 0)
    ∧ (win0_2.index t 0 = t.val % 4 ∧ win0_2.index t 1 = t.val / 4 ∧ win0_2.index t 2 = 0)
    ∧ (win0_3.index t 0 = t.val % 4 ∧ win0_3.index t 1 = t.val / 4 ∧ win0_3.index t 2 = 0)
    ∧ (win0_4.index t 0 = t.val % 4 ∧ win0_4.index t 1 = t.val / 4 ∧ win0_4.index t 2 = 0)
    ∧ (win0_5.index t 0 = t.val % 4 ∧ win0_5.index t 1 = t.val / 4 ∧ win0_5.index t 2 = 0) :=
  (by decide +kernel : ∀ t : Fin grid0.N, _)

theorem block0 (c : Dev nD) (t : Fin cfg0.N) (r : Fin 1024) (R : Fin 2048) (hR : R.val = 1024 * (t.val / 4) + r.val) (k : Fin 1024) :
    (iblk m c 0 t : Vec Ideal S1x1024x1024 .bf16) (ix3 0 r k) = arg0 m c (ix2 R k) := by
  obtain ⟨⟨e0, e1, e2⟩, -⟩ := index t
  unfold iblk
  rw [View.read_apply, ← staged bcast_S2048x1024_S1x2048x1024_1_2 (arg0 m c)]
  refine at_eq (V m c main_v0 : S1x2048x1024.Idx → _) fun a => ?_
  match a with
  | ⟨0, _⟩ => show win0_0.index t 0 * 1 + 1 * 0 = 0; omega
  | ⟨1, _⟩ => show win0_0.index t 1 * 1024 + 1 * r.val = R.val; omega
  | ⟨2, _⟩ => show win0_0.index t 2 * 1024 + 1 * k.val = k.val; omega

theorem block1 (c : Dev nD) (t : Fin cfg0.N) (g : Fin 4) (hg : t.val % 4 = g.val) (j : Fin 704) (k : Fin 1024) :
    (iblk m c 1 t : Vec Ideal S1x704x1024 .bf16) (ix3 0 j k) = arg1 m c (ix3 g j k) := by
  obtain ⟨-, ⟨e0, e1, e2⟩, -⟩ := index t
  unfold iblk
  rw [View.read_apply, show arg1 m c = V m c main_arg1 from (V_main_arg1 m c).symm]
  refine at_eq (V m c main_arg1 : S4x704x1024.Idx → _) fun a => ?_
  match a with
  | ⟨0, _⟩ => show win0_1.index t 0 * 1 + 1 * 0 = g.val; omega
  | ⟨1, _⟩ => show win0_1.index t 1 * 704 + 1 * j.val = j.val; omega
  | ⟨2, _⟩ => show win0_1.index t 2 * 1024 + 1 * k.val = k.val; omega

theorem block2 (c : Dev nD) (t : Fin cfg0.N) (g : Fin 4) (hg : t.val % 4 = g.val) (r : Fin 1024) (R : Fin 2048) (hR : R.val = 1024 * (t.val / 4) + r.val) (j : Fin 704) :
    (iblk m c 2 t : Vec Ideal S1x1024x704 .bf16) (ix3 0 r j) = arg2 m c (ix3 g R j) := by
  obtain ⟨-, -, ⟨e0, e1, e2⟩, -⟩ := index t
  unfold iblk
  rw [View.read_apply, show arg2 m c = V m c main_arg2 from (V_main_arg2 m c).symm]
  refine at_eq (V m c main_arg2 : S4x2048x704.Idx → _) fun a => ?_
  match a with
  | ⟨0, _⟩ => show win0_2.index t 0 * 1 + 1 * 0 = g.val; omega
  | ⟨1, _⟩ => show win0_2.index t 1 * 1024 + 1 * r.val = R.val; omega
  | ⟨2, _⟩ => show win0_2.index t 2 * 704 + 1 * j.val = j.val; omega

theorem block3 (c : Dev nD) (t : Fin cfg0.N) (g : Fin 4) (hg : t.val % 4 = g.val) (r : Fin 1024) (R : Fin 2048) (hR : R.val = 1024 * (t.val / 4) + r.val) (j : Fin 704) :
    (iblk m c 3 t : Vec Ideal S1x1024x704 .bf16) (ix3 0 r j) = arg3 m c (ix3 g R j) := by
  obtain ⟨-, -, -, ⟨e0, e1, e2⟩, -⟩ := index t
  unfold iblk
  rw [View.read_apply, show arg3 m c = V m c main_arg3 from (V_main_arg3 m c).symm]
  refine at_eq (V m c main_arg3 : S4x2048x704.Idx → _) fun a => ?_
  match a with
  | ⟨0, _⟩ => show win0_3.index t 0 * 1 + 1 * 0 = g.val; omega
  | ⟨1, _⟩ => show win0_3.index t 1 * 1024 + 1 * r.val = R.val; omega
  | ⟨2, _⟩ => show win0_3.index t 2 * 704 + 1 * j.val = j.val; omega

theorem point4 (c : Dev nD) (t : Fin cfg0.N) (g : Fin 4) (hg : t.val % 4 = g.val) (r : Fin 1024) (R : Fin 2048) (hR : R.val = 1024 * (t.val / 4) + r.val) (j : Fin 704) :
    result4 m c (ix3 g R j) = out0_4 (iblk m c 0 t) (iblk m c 1 t) (iblk m c 2 t) (iblk m c 3 t) (ix3 0 r j) := by
  obtain ⟨-, -, -, -, e0, e1, e2⟩ := index t
  have h := congrFun (blocks4 m c t (flush0_4 t)) (ix3 0 r j)
  rw [flushed4, View.read_apply] at h
  refine Eq.trans (at_eq (result4 m c) fun a => ?_) h
  match a with
  | ⟨0, _⟩ => show g.val = win0_4.index t 0 * 1 + 1 * 0; omega
  | ⟨1, _⟩ => show R.val = win0_4.index t 1 * 1024 + 1 * r.val; omega
  | ⟨2, _⟩ => show j.val = win0_4.index t 2 * 704 + 1 * j.val; omega

theorem point5 (c : Dev nD) (t : Fin cfg0.N) (g : Fin 4) (hg : t.val % 4 = g.val) (r : Fin 1024) (R : Fin 2048) (hR : R.val = 1024 * (t.val / 4) + r.val) (j : Fin 704) :
    result5 m c (ix3 g R j) = out0_5 (iblk m c 0 t) (iblk m c 1 t) (iblk m c 2 t) (iblk m c 3 t) (ix3 0 r j) := by
  obtain ⟨-, -, -, -, -, e0, e1, e2⟩ := index t
  have h := congrFun (blocks5 m c t (flush0_5 t)) (ix3 0 r j)
  rw [flushed5, View.read_apply] at h
  refine Eq.trans (at_eq (result5 m c) fun a => ?_) h
  match a with
  | ⟨0, _⟩ => show g.val = win0_5.index t 0 * 1 + 1 * 0; omega
  | ⟨1, _⟩ => show R.val = win0_5.index t 1 * 1024 + 1 * r.val; omega
  | ⟨2, _⟩ => show j.val = win0_5.index t 2 * 704 + 1 * j.val; omega

/-- A grid point's blocks, and its products from the arguments. -/
abbrev grads (c : Dev nD) (t : Fin cfg0.N) : Vec Ideal S1x1024x1024 .bf16 := iblk m c 0 t
abbrev weights (c : Dev nD) (t : Fin cfg0.N) : Vec Ideal S1x704x1024 .bf16 := iblk m c 1 t
theorem inner_arg (c : Dev nD) (t : Fin cfg0.N) (g : Fin 4) (hg : t.val % 4 = g.val) (r : Fin 1024) (R : Fin 2048) (hR : R.val = 1024 * (t.val / 4) + r.val) (j : Fin 704) :
    (∑ k : Fin 1024, grads m c t (ix3 0 r k) * weights m c t (ix3 0 j k)) = product (arg0 m c) (arg1 m c) g R j :=
  Finset.sum_congr rfl fun k _ => congrArg₂ (· * ·) (block0 m c t r R hR k) (block1 m c t g hg j k)

/-- The grid point that makes a block of channels and a block of tokens. -/
theorem pointOf (g : Fin 4) (R : Fin 2048) : ∃ t : Fin cfg0.N, t.val % 4 = g.val ∧ R.val = 1024 * (t.val / 4) + R.val % 1024 :=
  ⟨⟨4 * (R.val / 1024) + g.val, by rw [show cfg0.N = 8 from N_0]; omega⟩, by dsimp only; omega, by dsimp only; omega⟩

/-- What the kernel leaves. -/
theorem value4 (c : Dev nD) (g : Fin 4) (R : Fin 2048) (j : Fin 704) :
    result4 m c (ix3 g R j) = gateGrad (product (arg0 m c) (arg1 m c) g R j) (arg2 m c (ix3 g R j)) (arg3 m c (ix3 g R j)) := by
  obtain ⟨t, hg, hR⟩ := pointOf g R
  rw [point4 m c t g hg ⟨R.val % 1024, by omega⟩ R hR j, body4, inner_arg m c t g hg _ R hR j, block2 m c t g hg _ R hR j, block3 m c t g hg _ R hR j]
theorem value5 (c : Dev nD) (g : Fin 4) (R : Fin 2048) (j : Fin 704) :
    result5 m c (ix3 g R j) = upGrad (product (arg0 m c) (arg1 m c) g R j) (arg2 m c (ix3 g R j)) := by
  obtain ⟨t, hg, hR⟩ := pointOf g R
  rw [point5 m c t g hg ⟨R.val % 1024, by omega⟩ R hR j, body5, inner_arg m c t g hg _ R hR j, block2 m c t g hg _ R hR j]

end Kernel

section Reference

open Cert.Reference2Ideal Cert.Reference2Ideal.Facts₀

/-- The same, as the reference computes it. -/
theorem reference_gate (a : FVec Ideal S2048x1024 .bf16) (b : FVec Ideal S4x704x1024 .bf16) (g u : FVec Ideal S4x2048x704 .bf16) (e : Fin 4) (R : Fin 2048) (j : Fin 704) :
    truncf .bf16 (addf (mulf (mulf (transpose S4x2048x704 [1, 0, 2] (Host.dotGeneral dot_S2048x1024_S4x704x1024_S2048x4x704_1_2_0_01_n_n none (extf .f32 a bitsLt_bf16_f32) (extf .f32 b bitsLt_bf16_f32)) transposes_S2048x4x704_S4x2048x704_1_0_2) (extf .f32 u bitsLt_bf16_f32)) (Host.divf (broadcastInDim S4x2048x704 ![] bcast_S_S4x2048x704 (constant S_ .f32 0x3F800000#32)) (addf (broadcastInDim S4x2048x704 ![] bcast_S_S4x2048x704 (constant S_ .f32 0x3F800000#32)) (Host.exp (Host.negf (extf .f32 g bitsLt_bf16_f32)))))) (mulf (mulf (extf .f32 g bitsLt_bf16_f32) (mulf (transpose S4x2048x704 [1, 0, 2] (Host.dotGeneral dot_S2048x1024_S4x704x1024_S2048x4x704_1_2_0_01_n_n none (extf .f32 a bitsLt_bf16_f32) (extf .f32 b bitsLt_bf16_f32)) transposes_S2048x4x704_S4x2048x704_1_0_2) (extf .f32 u bitsLt_bf16_f32))) (mulf (Host.divf (broadcastInDim S4x2048x704 ![] bcast_S_S4x2048x704 (constant S_ .f32 0x3F800000#32)) (addf (broadcastInDim S4x2048x704 ![] bcast_S_S4x2048x704 (constant S_ .f32 0x3F800000#32)) (Host.exp (Host.negf (extf .f32 g bitsLt_bf16_f32))))) (subf (broadcastInDim S4x2048x704 ![] bcast_S_S4x2048x704 (constant S_ .f32 0x3F800000#32)) (Host.divf (broadcastInDim S4x2048x704 ![] bcast_S_S4x2048x704 (constant S_ .f32 0x3F800000#32)) (addf (broadcastInDim S4x2048x704 ![] bcast_S_S4x2048x704 (constant S_ .f32 0x3F800000#32)) (Host.exp (Host.negf (extf .f32 g bitsLt_bf16_f32))))))))) bitsLt_bf16_f32 (ix3 e R j)
      = gateGrad' (product a b e R j) (g (ix3 e R j)) (u (ix3 e R j)) := by
  pointwise
  rfl
theorem reference_up (a : FVec Ideal S2048x1024 .bf16) (b : FVec Ideal S4x704x1024 .bf16) (g : FVec Ideal S4x2048x704 .bf16) (e : Fin 4) (R : Fin 2048) (j : Fin 704) :
    truncf .bf16 (mulf (mulf (extf .f32 g bitsLt_bf16_f32) (Host.divf (broadcastInDim S4x2048x704 ![] bcast_S_S4x2048x704 (constant S_ .f32 0x3F800000#32)) (addf (broadcastInDim S4x2048x704 ![] bcast_S_S4x2048x704 (constant S_ .f32 0x3F800000#32)) (Host.exp (Host.negf (extf .f32 g bitsLt_bf16_f32)))))) (transpose S4x2048x704 [1, 0, 2] (Host.dotGeneral dot_S2048x1024_S4x704x1024_S2048x4x704_1_2_0_01_n_n none (extf .f32 a bitsLt_bf16_f32) (extf .f32 b bitsLt_bf16_f32)) transposes_S2048x4x704_S4x2048x704_1_0_2)) bitsLt_bf16_f32 (ix3 e R j)
      = upGrad (product a b e R j) (g (ix3 e R j)) := by
  pointwise
  exact mul_comm _ _

end Reference

/-- The precondition's side conditions. -/
theorem facts : Cert.Pre_finite2.Facts := ⟨by decide, by decide, by decide, by decide⟩

theorem frame_reference : Cert.quiescent_Reference2Ideal (hPre_finite2 := facts) := fun m ρ _ =>
  (θ_run Cert.Reference2Ideal.defs _ _).mono (fun _ h => ⟨fun c => (h c).2.2, sem_eq_zero_of_no_sems rfl _⟩) (Cert.Reference2Ideal.Value.run m ρ)

/-- What the precondition says of one number: it is at most the bound in absolute value, so it is real. -/
theorem real_of_pre {x : EReal} (h : Ideal.cmp .ole (max x (-x)) (Ideal.ofBits .f32 0x7F61B1E6#32) = 1#1) : ∃ r : ℝ, x = r := by
  obtain ⟨b, hb⟩ : ∃ b : ℝ, Ideal.ofBits .f32 0x7F61B1E6#32 = b := by
    refine ⟨14791142 * 2 ^ 104, ?_⟩
    simp [Ideal.ofBits, Ideal.ieee, -EReal.coe_mul]
  rw [hb] at h
  have h' : max x (-x) ≤ (b : EReal) := by
    by_contra hc
    rw [show Ideal.cmp .ole (max x (-x)) (b : EReal) = BitVec.ofBool (decide (max x (-x) ≤ (b : EReal))) from rfl, decide_eq_false hc] at h
    exact absurd h (by decide)
  induction x with
  | bot => simp at h'
  | top => simp at h'
  | coe r => exact ⟨r, rfl⟩

/-- A finite sum of products of reals is real. -/
theorem real_sum {n : ℕ} {f g : Fin n → EReal} (hf : ∀ k, ∃ r : ℝ, f k = r) (hg : ∀ k, ∃ r : ℝ, g k = r) : ∃ r : ℝ, ∑ k, f k * g k = r :=
  Finset.sum_induction _ (fun x : EReal => ∃ r : ℝ, x = r)
    (fun _ _ ⟨a, ha⟩ ⟨b, hb⟩ => ⟨a + b, by rw [ha, hb, EReal.coe_add]⟩) ⟨0, rfl⟩
    fun k _ => let ⟨a, ha⟩ := hf k; let ⟨b, hb⟩ := hg k; ⟨a * b, by rw [ha, hb, EReal.coe_mul]⟩

/-- The value claim. -/
theorem algebraic : Cert.algebraic_Kernel2Ideal_Reference2Ideal (hPre_finite2 := facts) := by
  intro m g m' g' hpre hagree
  refine ⟨fun c => result4 m c, fun c => result5 m c, Cert.Kernel2Ideal.Value.run_blocks m g, ?_⟩
  refine (θ_run _ _ _).mono (fun r h c => ⟨(h c).1.trans ?_, (h c).2.1.trans ?_, (h c).2.2⟩) (Cert.Reference2Ideal.Value.run m' g')
  all_goals
    obtain ⟨h0, h1, h2, h3⟩ := hagree c
    first | rw [h0, h1, h2, h3] | rw [h0, h1, h2]
  · refine ext3 fun a i j => (reference_gate _ _ _ _ a i j).trans (Eq.trans ?_ (value4 m c a i j).symm)
    obtain ⟨p0, p1, p3⟩ := hpre c
    exact gateGrad_eq (real_sum (fun k => real_of_pre (congrFun p0 _)) fun k => real_of_pre (congrFun p1 _)) (real_of_pre (congrFun p3 _)) _
  · exact ext3 fun a i j => (reference_up _ _ _ a i j).trans (value5 m c a i j).symm

end Cert.Proof.FfnOutBwd

end
-- ==== Proof.FfnGateBwd.lean ====
module

public import proofs.«01_k».proof.Defs
public import proofs.«01_k».proof.Proof.Blocks
public import proofs.«01_k».proof.Proof.Gen.Kernel3Ideal.Value
public import proofs.«01_k».proof.Proof.Gen.Reference3Ideal.Run

@[expose] public section

noncomputable section

/-! The gradient of the SwiGLU block's input through the gate: the product over the four blocks of channels with the weights. -/

namespace Cert.Proof.FfnGateBwd

open Idealize.ShloMosaic Idealize.ShloMosaic.TcCoe Cert.Proof.Blocks

section Kernel

open Cert.Kernel3Ideal Cert.Kernel3Ideal.Gen Cert.Kernel3Ideal.Value

/-- The four products of one slab of rows, added. -/
theorem slab1 (a0 : Vec Ideal S1x512x704 .bf16) (b0 : Vec Ideal S1x704x512 .bf16) (a1 : Vec Ideal S1x512x704 .bf16) (b1 : Vec Ideal S1x704x512 .bf16) (a2 : Vec Ideal S1x512x704 .bf16) (b2 : Vec Ideal S1x704x512 .bf16) (a3 : Vec Ideal S1x512x704 .bf16) (b3 : Vec Ideal S1x704x512 .bf16) (i j : Fin 512) :
    k0_pay4 (F := Ideal) (k0_pay2 a0 b0 a1 b1 a2 b2 a3 b3) (ix3 0 i j) = (∑ k : Fin 704, a0 (ix3 0 i k) * b0 (ix3 0 k j)) + (∑ k : Fin 704, a1 (ix3 0 i k) * b1 (ix3 0 k j)) + (∑ k : Fin 704, a2 (ix3 0 i k) * b2 (ix3 0 k j)) + (∑ k : Fin 704, a3 (ix3 0 i k) * b3 (ix3 0 k j)) := by
  unfold k0_pay4 k0_pay2
  pointwise
theorem slab2 (a0 : Vec Ideal S1x512x704 .bf16) (b0 : Vec Ideal S1x704x512 .bf16) (a1 : Vec Ideal S1x512x704 .bf16) (b1 : Vec Ideal S1x704x512 .bf16) (a2 : Vec Ideal S1x512x704 .bf16) (b2 : Vec Ideal S1x704x512 .bf16) (a3 : Vec Ideal S1x512x704 .bf16) (b3 : Vec Ideal S1x704x512 .bf16) (i j : Fin 512) :
    k0_pay1 (F := Ideal) (k0_pay3 a0 b0 a1 b1 a2 b2 a3 b3) (ix3 0 i j) = (∑ k : Fin 704, a0 (ix3 0 i k) * b0 (ix3 0 k j)) + (∑ k : Fin 704, a1 (ix3 0 i k) * b1 (ix3 0 k j)) + (∑ k : Fin 704, a2 (ix3 0 i k) * b2 (ix3 0 k j)) + (∑ k : Fin 704, a3 (ix3 0 i k) * b3 (ix3 0 k j)) := slab1 a0 b0 a1 b1 a2 b2 a3 b3 i j

/-- What the body makes of a grid point's blocks. -/
theorem body (x0 : Vec Ideal S4x1024x704 .bf16) (x1 : Vec Ideal S4x704x512 .bf16) (r : Fin 1024) (j : Fin 512) :
    out0_2 (F := Ideal) x0 x1 (ix3 0 r j) = ∑ g : Fin 4, ∑ k : Fin 704, x0 (ix3 g r k) * x1 (ix3 g k j) := by
  rw [Fin.sum_univ_four]
  unfold out0_2
  canon_tiles x h
  all_goals
    obtain ⟨i', j', rfl⟩ := split1 x
    first | rw [slab1] | rw [slab2]
    refine congrArg₂ (· + ·) (congrArg₂ (· + ·) (congrArg₂ (· + ·) ?_ ?_) ?_) ?_
    all_goals
      refine Finset.sum_congr rfl fun k _ => congrArg₂ (· * ·) (ld3 x0 _ rfl ?_ (Nat.zero_add _).symm) (ld3 x1 _ rfl (Nat.zero_add _).symm (h2.trans (Nat.zero_add _).symm))
      first | exact h1 | exact h1.trans (Nat.zero_add _).symm

variable (m : (ℓ : Loc nD τ sig) → Buf (Elt Ideal) ℓ)

/-- The arguments and the result. -/
abbrev arg0 (c : Dev nD) : Vec Ideal S4x2048x704 .bf16 := m ((c.tc : Thread nD τ).loc main_arg0)
abbrev arg1 (c : Dev nD) : Vec Ideal S4x704x1024 .bf16 := m ((c.tc : Thread nD τ).loc main_arg1)
abbrev result (c : Dev nD) : Vec Ideal S1x2048x1024 .f32 := (dats m 0 c).arrAt 2 cfg0.N

theorem index : ∀ t : Fin cfg0.N, (win0_0.index t 0 = 0 ∧ win0_0.index t 1 = t.val / 2 ∧ win0_0.index t 2 = 0)
    ∧ (win0_1.index t 0 = 0 ∧ win0_1.index t 1 = 0 ∧ win0_1.index t 2 = t.val % 2)
    ∧ (win0_2.index t 0 = 0 ∧ win0_2.index t 1 = t.val / 2 ∧ win0_2.index t 2 = t.val % 2) :=
  (by decide +kernel : ∀ t : Fin grid0.N, _)

theorem block0 (c : Dev nD) (t : Fin cfg0.N) (g : Fin 4) (r : Fin 1024) (R : Fin 2048) (hR : R.val = 1024 * (t.val / 2) + r.val) (k : Fin 704) :
    (iblk m c 0 t : Vec Ideal S4x1024x704 .bf16) (ix3 g r k) = arg0 m c (ix3 g R k) := by
  obtain ⟨⟨e0, e1, e2⟩, -⟩ := index t
  unfold iblk
  rw [View.read_apply, show arg0 m c = V m c main_arg0 from (V_main_arg0 m c).symm]
  refine at_eq (V m c main_arg0 : S4x2048x704.Idx → _) fun a => ?_
  match a with
  | ⟨0, _⟩ => show win0_0.index t 0 * 4 + 1 * g.val = g.val; omega
  | ⟨1, _⟩ => show win0_0.index t 1 * 1024 + 1 * r.val = R.val; omega
  | ⟨2, _⟩ => show win0_0.index t 2 * 704 + 1 * k.val = k.val; omega

theorem block1 (c : Dev nD) (t : Fin cfg0.N) (g : Fin 4) (k : Fin 704) (j : Fin 512) (J : Fin 1024) (hJ : J.val = 512 * (t.val % 2) + j.val) :
    (iblk m c 1 t : Vec Ideal S4x704x512 .bf16) (ix3 g k j) = arg1 m c (ix3 g k J) := by
  obtain ⟨-, ⟨e0, e1, e2⟩, -⟩ := index t
  unfold iblk
  rw [View.read_apply, show arg1 m c = V m c main_arg1 from (V_main_arg1 m c).symm]
  refine at_eq (V m c main_arg1 : S4x704x1024.Idx → _) fun a => ?_
  match a with
  | ⟨0, _⟩ => show win0_1.index t 0 * 4 + 1 * g.val = g.val; omega
  | ⟨1, _⟩ => show win0_1.index t 1 * 704 + 1 * k.val = k.val; omega
  | ⟨2, _⟩ => show win0_1.index t 2 * 512 + 1 * j.val = J.val; omega

theorem point (c : Dev nD) (t : Fin cfg0.N) (r : Fin 1024) (R : Fin 2048) (hR : R.val = 1024 * (t.val / 2) + r.val) (j : Fin 512) (J : Fin 1024) (hJ : J.val = 512 * (t.val % 2) + j.val) :
    result m c (ix3 0 R J) = out0_2 (iblk m c 0 t) (iblk m c 1 t) (ix3 0 r j) := by
  obtain ⟨-, -, e0, e1, e2⟩ := index t
  have h := congrFun (blocks2 m c t (flush0_2 t)) (ix3 0 r j)
  rw [flushed2, View.read_apply] at h
  refine Eq.trans (at_eq (result m c) fun a => ?_) h
  match a with
  | ⟨0, _⟩ => show 0 = win0_2.index t 0 * 1 + 1 * 0; omega
  | ⟨1, _⟩ => show R.val = win0_2.index t 1 * 1024 + 1 * r.val; omega
  | ⟨2, _⟩ => show J.val = win0_2.index t 2 * 512 + 1 * j.val; omega

/-- What the kernel leaves. -/
theorem value (c : Dev nD) (R : Fin 2048) (J : Fin 1024) :
    result m c (ix3 0 R J) = ∑ g : Fin 4, ∑ k : Fin 704, arg0 m c (ix3 g R k) * arg1 m c (ix3 g k J) := by
  have ht : 2 * (R.val / 1024) + J.val / 512 < cfg0.N := by rw [show cfg0.N = 4 from N_0]; omega
  rw [point m c ⟨_, ht⟩ ⟨R.val % 1024, by omega⟩ R (by dsimp only; omega) ⟨J.val % 512, by omega⟩ J (by dsimp only; omega), body]
  refine Finset.sum_congr rfl fun g _ => Finset.sum_congr rfl fun k _ => ?_
  rw [block0 m c _ g _ R (by dsimp only; omega) k, block1 m c _ g k _ J (by dsimp only; omega)]

end Kernel

section Reference

open Cert.Reference3Ideal Cert.Reference3Ideal.Facts₀

/-- The same, as the reference computes it. -/
theorem reference (a : FVec Ideal S4x2048x704 .bf16) (b : FVec Ideal S4x704x1024 .bf16) (R : Fin 2048) (J : Fin 1024) :
    broadcastInDim S1x2048x1024 ![1, 2] bcast_S2048x1024_S1x2048x1024_1_2 (Host.dotGeneral dot_S4x704x2048_S4x704x1024_S2048x1024_01_01_2_2_n_n none (transpose S4x704x2048 [0, 2, 1] (extf .f32 a bitsLt_bf16_f32) transposes_S4x2048x704_S4x704x2048_0_2_1) (extf .f32 b bitsLt_bf16_f32)) (ix3 0 R J)
      = ∑ g : Fin 4, ∑ k : Fin 704, a (ix3 g R k) * b (ix3 g k J) := by
  pointwise

end Reference

theorem frame_reference : Cert.quiescent_Reference3Ideal := fun m ρ _ =>
  (θ_run Cert.Reference3Ideal.defs _ _).mono (fun _ h => ⟨fun c => (h c).2, sem_eq_zero_of_no_sems rfl _⟩) (Cert.Reference3Ideal.Value.run m ρ)

/-- The value claim. -/
theorem algebraic : Cert.algebraic_Kernel3Ideal_Reference3Ideal := by
  intro m g m' g' _ hagree
  refine ⟨fun c => result m c, Cert.Kernel3Ideal.Value.run_blocks m g, ?_⟩
  refine (θ_run _ _ _).mono (fun r h c => ⟨(h c).1.trans ?_, (h c).2⟩) (Cert.Reference3Ideal.Value.run m' g')
  obtain ⟨h0, h1⟩ := hagree c
  rw [h0, h1]
  exact ext1 fun i j => (reference _ _ i j).trans (value m c i j).symm

end Cert.Proof.FfnGateBwd

end
-- ==== Proof.FfnResid.lean ====
module

public import proofs.«01_k».proof.Defs
public import proofs.«01_k».proof.Proof.Blocks
public import proofs.«01_k».proof.Proof.Gen.Kernel4Ideal.Value
public import proofs.«01_k».proof.Proof.Gen.Reference4Ideal.Run
public import proofs.«01_k».proof.Proof.Gen.Reference4bIdeal.Run

@[expose] public section

noncomputable section

/-! A product over the four blocks of channels with the weights, added to an array carried past it: the gradient of the SwiGLU block's input through the up projection, and the SwiGLU block's output. -/

namespace Cert.Proof.FfnResid

open Idealize.ShloMosaic Idealize.ShloMosaic.TcCoe Cert.Proof.Blocks

section Kernel

open Cert.Kernel4Ideal Cert.Kernel4Ideal.Gen Cert.Kernel4Ideal.Value

/-- The four products of one slab of rows, added to what is carried past them. -/
theorem slab1 (a0 : Vec Ideal S1x512x704 .bf16) (b0 : Vec Ideal S1x704x512 .bf16) (a1 : Vec Ideal S1x512x704 .bf16) (b1 : Vec Ideal S1x704x512 .bf16) (a2 : Vec Ideal S1x512x704 .bf16) (b2 : Vec Ideal S1x704x512 .bf16) (a3 : Vec Ideal S1x512x704 .bf16) (b3 : Vec Ideal S1x704x512 .bf16) (v : Vec Ideal S1x512x512 .f32) (i j : Fin 512) :
    k0_pay1 (F := Ideal) (k0_pay5 (k0_pay3 a0 b0 a1 b1 a2 b2 a3 b3) v) (ix3 0 i j) = v (ix3 0 i j) + ((∑ k : Fin 704, a0 (ix3 0 i k) * b0 (ix3 0 k j)) + (∑ k : Fin 704, a1 (ix3 0 i k) * b1 (ix3 0 k j)) + (∑ k : Fin 704, a2 (ix3 0 i k) * b2 (ix3 0 k j)) + (∑ k : Fin 704, a3 (ix3 0 i k) * b3 (ix3 0 k j))) := by
  unfold k0_pay1 k0_pay5 k0_pay3
  pointwise
  exact add_comm _ _
theorem slab2 (a0 : Vec Ideal S1x512x704 .bf16) (b0 : Vec Ideal S1x704x512 .bf16) (a1 : Vec Ideal S1x512x704 .bf16) (b1 : Vec Ideal S1x704x512 .bf16) (a2 : Vec Ideal S1x512x704 .bf16) (b2 : Vec Ideal S1x704x512 .bf16) (a3 : Vec Ideal S1x512x704 .bf16) (b3 : Vec Ideal S1x704x512 .bf16) (v : Vec Ideal S1x512x512 .f32) (i j : Fin 512) :
    k0_pay2 (F := Ideal) (k0_pay4 a0 b0 a1 b1 a2 b2 a3 b3) v (ix3 0 i j) = v (ix3 0 i j) + ((∑ k : Fin 704, a0 (ix3 0 i k) * b0 (ix3 0 k j)) + (∑ k : Fin 704, a1 (ix3 0 i k) * b1 (ix3 0 k j)) + (∑ k : Fin 704, a2 (ix3 0 i k) * b2 (ix3 0 k j)) + (∑ k : Fin 704, a3 (ix3 0 i k) * b3 (ix3 0 k j))) := slab1 a0 b0 a1 b1 a2 b2 a3 b3 v i j

/-- What the body makes of a grid point's blocks. -/
theorem body (x0 : Vec Ideal S4x1024x704 .bf16) (x1 : Vec Ideal S4x704x512 .bf16) (x2 : Vec Ideal S1x1024x512 .f32) (r : Fin 1024) (j : Fin 512) :
    out0_3 (F := Ideal) x0 x1 x2 (ix3 0 r j) = x2 (ix3 0 r j) + ∑ g : Fin 4, ∑ k : Fin 704, x0 (ix3 g r k) * x1 (ix3 g k j) := by
  rw [Fin.sum_univ_four]
  unfold out0_3
  canon_tiles x h
  all_goals
    obtain ⟨i', j', rfl⟩ := split1 x
    first | rw [slab1] | rw [slab2]
    refine congrArg₂ (· + ·) (ld3 x2 _ rfl ?_ (h2.trans (Nat.zero_add _).symm)) ?_
    · first | exact h1 | exact h1.trans (Nat.zero_add _).symm
    refine congrArg₂ (· + ·) (congrArg₂ (· + ·) (congrArg₂ (· + ·) ?_ ?_) ?_) ?_
    all_goals
      refine Finset.sum_congr rfl fun k _ => congrArg₂ (· * ·) (ld3 x0 _ rfl ?_ (Nat.zero_add _).symm) (ld3 x1 _ rfl (Nat.zero_add _).symm (h2.trans (Nat.zero_add _).symm))
      first | exact h1 | exact h1.trans (Nat.zero_add _).symm

variable (m : (ℓ : Loc nD τ sig) → Buf (Elt Ideal) ℓ)

/-- The arguments and the result. -/
abbrev arg0 (c : Dev nD) : Vec Ideal S4x2048x704 .bf16 := m ((c.tc : Thread nD τ).loc main_arg0)
abbrev arg1 (c : Dev nD) : Vec Ideal S4x704x1024 .bf16 := m ((c.tc : Thread nD τ).loc main_arg1)
abbrev arg2 (c : Dev nD) : Vec Ideal S1x2048x1024 .f32 := m ((c.tc : Thread nD τ).loc main_arg2)
abbrev result (c : Dev nD) : Vec Ideal S1x2048x1024 .f32 := (dats m 0 c).arrAt 3 cfg0.N

theorem index : ∀ t : Fin cfg0.N, (win0_0.index t 0 = 0 ∧ win0_0.index t 1 = t.val / 2 ∧ win0_0.index t 2 = 0)
    ∧ (win0_1.index t 0 = 0 ∧ win0_1.index t 1 = 0 ∧ win0_1.index t 2 = t.val % 2)
    ∧ (win0_2.index t 0 = 0 ∧ win0_2.index t 1 = t.val / 2 ∧ win0_2.index t 2 = t.val % 2)
    ∧ (win0_3.index t 0 = 0 ∧ win0_3.index t 1 = t.val / 2 ∧ win0_3.index t 2 = t.val % 2) :=
  (by decide +kernel : ∀ t : Fin grid0.N, _)

theorem block0 (c : Dev nD) (t : Fin cfg0.N) (g : Fin 4) (r : Fin 1024) (R : Fin 2048) (hR : R.val = 1024 * (t.val / 2) + r.val) (k : Fin 704) :
    (iblk m c 0 t : Vec Ideal S4x1024x704 .bf16) (ix3 g r k) = arg0 m c (ix3 g R k) := by
  obtain ⟨⟨e0, e1, e2⟩, -⟩ := index t
  unfold iblk
  rw [View.read_apply, show arg0 m c = V m c main_arg0 from (V_main_arg0 m c).symm]
  refine at_eq (V m c main_arg0 : S4x2048x704.Idx → _) fun a => ?_
  match a with
  | ⟨0, _⟩ => show win0_0.index t 0 * 4 + 1 * g.val = g.val; omega
  | ⟨1, _⟩ => show win0_0.index t 1 * 1024 + 1 * r.val = R.val; omega
  | ⟨2, _⟩ => show win0_0.index t 2 * 704 + 1 * k.val = k.val; omega

theorem block1 (c : Dev nD) (t : Fin cfg0.N) (g : Fin 4) (k : Fin 704) (j : Fin 512) (J : Fin 1024) (hJ : J.val = 512 * (t.val % 2) + j.val) :
    (iblk m c 1 t : Vec Ideal S4x704x512 .bf16) (ix3 g k j) = arg1 m c (ix3 g k J) := by
  obtain ⟨-, ⟨e0, e1, e2⟩, -⟩ := index t
  unfold iblk
  rw [View.read_apply, show arg1 m c = V m c main_arg1 from (V_main_arg1 m c).symm]
  refine at_eq (V m c main_arg1 : S4x704x1024.Idx → _) fun a => ?_
  match a with
  | ⟨0, _⟩ => show win0_1.index t 0 * 4 + 1 * g.val = g.val; omega
  | ⟨1, _⟩ => show win0_1.index t 1 * 704 + 1 * k.val = k.val; omega
  | ⟨2, _⟩ => show win0_1.index t 2 * 512 + 1 * j.val = J.val; omega

theorem block2 (c : Dev nD) (t : Fin cfg0.N) (r : Fin 1024) (R : Fin 2048) (hR : R.val = 1024 * (t.val / 2) + r.val) (j : Fin 512) (J : Fin 1024) (hJ : J.val = 512 * (t.val % 2) + j.val) :
    (iblk m c 2 t : Vec Ideal S1x1024x512 .f32) (ix3 0 r j) = arg2 m c (ix3 0 R J) := by
  obtain ⟨-, -, ⟨e0, e1, e2⟩, -⟩ := index t
  unfold iblk
  rw [View.read_apply, show arg2 m c = V m c main_arg2 from (V_main_arg2 m c).symm]
  refine at_eq (V m c main_arg2 : S1x2048x1024.Idx → _) fun a => ?_
  match a with
  | ⟨0, _⟩ => show win0_2.index t 0 * 1 + 1 * 0 = 0; omega
  | ⟨1, _⟩ => show win0_2.index t 1 * 1024 + 1 * r.val = R.val; omega
  | ⟨2, _⟩ => show win0_2.index t 2 * 512 + 1 * j.val = J.val; omega

theorem point (c : Dev nD) (t : Fin cfg0.N) (r : Fin 1024) (R : Fin 2048) (hR : R.val = 1024 * (t.val / 2) + r.val) (j : Fin 512) (J : Fin 1024) (hJ : J.val = 512 * (t.val % 2) + j.val) :
    result m c (ix3 0 R J) = out0_3 (iblk m c 0 t) (iblk m c 1 t) (iblk m c 2 t) (ix3 0 r j) := by
  obtain ⟨-, -, -, e0, e1, e2⟩ := index t
  have h := congrFun (blocks3 m c t (flush0_3 t)) (ix3 0 r j)
  rw [flushed3, View.read_apply] at h
  refine Eq.trans (at_eq (result m c) fun a => ?_) h
  match a with
  | ⟨0, _⟩ => show 0 = win0_3.index t 0 * 1 + 1 * 0; omega
  | ⟨1, _⟩ => show R.val = win0_3.index t 1 * 1024 + 1 * r.val; omega
  | ⟨2, _⟩ => show J.val = win0_3.index t 2 * 512 + 1 * j.val; omega

/-- What the kernel leaves. -/
theorem value (c : Dev nD) (R : Fin 2048) (J : Fin 1024) :
    result m c (ix3 0 R J) = arg2 m c (ix3 0 R J) + ∑ g : Fin 4, ∑ k : Fin 704, arg0 m c (ix3 g R k) * arg1 m c (ix3 g k J) := by
  have ht : 2 * (R.val / 1024) + J.val / 512 < cfg0.N := by rw [show cfg0.N = 4 from N_0]; omega
  rw [point m c ⟨_, ht⟩ ⟨R.val % 1024, by omega⟩ R (by dsimp only; omega) ⟨J.val % 512, by omega⟩ J (by dsimp only; omega), body, block2 m c _ _ R (by dsimp only; omega) _ J (by dsimp only; omega)]
  refine congrArg (arg2 m c (ix3 0 R J) + ·) (Finset.sum_congr rfl fun g _ => Finset.sum_congr rfl fun k _ => ?_)
  rw [block0 m c _ g _ R (by dsimp only; omega) k, block1 m c _ g k _ J (by dsimp only; omega)]

end Kernel

section Reference

open Cert.Reference4Ideal Cert.Reference4Ideal.Facts₀

/-- The same, as the reference computes it. -/
theorem reference (a : FVec Ideal S4x2048x704 .bf16) (b : FVec Ideal S4x704x1024 .bf16) (x : FVec Ideal S1x2048x1024 .f32) (R : Fin 2048) (J : Fin 1024) :
    broadcastInDim S1x2048x1024 ![1, 2] bcast_S2048x1024_S1x2048x1024_1_2 (addf (shapeCast S2048x1024 x shapeCasts_S1x2048x1024_S2048x1024) (Host.dotGeneral dot_S4x704x2048_S4x704x1024_S2048x1024_01_01_2_2_n_n none (transpose S4x704x2048 [0, 2, 1] (extf .f32 a bitsLt_bf16_f32) transposes_S4x2048x704_S4x704x2048_0_2_1) (extf .f32 b bitsLt_bf16_f32))) (ix3 0 R J)
      = x (ix3 0 R J) + ∑ g : Fin 4, ∑ k : Fin 704, a (ix3 g R k) * b (ix3 g k J) := by
  pointwise

end Reference

section Output

open Cert.Reference4bIdeal Cert.Reference4bIdeal.Facts₀

/-- The same, as the reference of the block's output computes it. -/
theorem reference_out (a : FVec Ideal S4x2048x704 .bf16) (b : FVec Ideal S4x704x1024 .bf16) (x : FVec Ideal S1x2048x1024 .f32) (R : Fin 2048) (J : Fin 1024) :
    broadcastInDim S1x2048x1024 ![1, 2] bcast_S2048x1024_S1x2048x1024_1_2 (addf (shapeCast S2048x1024 x shapeCasts_S1x2048x1024_S2048x1024) (Host.dotGeneral dot_S4x2048x704_S4x704x1024_S2048x1024_02_01_1_2_n_n none (extf .f32 a bitsLt_bf16_f32) (extf .f32 b bitsLt_bf16_f32))) (ix3 0 R J)
      = x (ix3 0 R J) + ∑ g : Fin 4, ∑ k : Fin 704, a (ix3 g R k) * b (ix3 g k J) := by
  pointwise

end Output

theorem frame_reference : Cert.quiescent_Reference4Ideal := fun m ρ _ =>
  (θ_run Cert.Reference4Ideal.defs _ _).mono (fun _ h => ⟨fun c => (h c).2, sem_eq_zero_of_no_sems rfl _⟩) (Cert.Reference4Ideal.Value.run m ρ)

theorem frame_reference_out : Cert.quiescent_Reference4bIdeal := fun m ρ _ =>
  (θ_run Cert.Reference4bIdeal.defs _ _).mono (fun _ h => ⟨fun c => (h c).2, sem_eq_zero_of_no_sems rfl _⟩) (Cert.Reference4bIdeal.Value.run m ρ)

/-- The value claims. -/
theorem algebraic : Cert.algebraic_Kernel4Ideal_Reference4Ideal := by
  intro m g m' g' _ hagree
  refine ⟨fun c => result m c, Cert.Kernel4Ideal.Value.run_blocks m g, ?_⟩
  refine (θ_run _ _ _).mono (fun r h c => ⟨(h c).1.trans ?_, (h c).2⟩) (Cert.Reference4Ideal.Value.run m' g')
  obtain ⟨h0, h1, h2⟩ := hagree c
  rw [h0, h1, h2]
  exact ext1 fun i j => (reference _ _ _ i j).trans (value m c i j).symm

theorem algebraic_out : Cert.algebraic_Kernel4Ideal_Reference4bIdeal := by
  intro m g m' g' _ hagree
  refine ⟨fun c => result m c, Cert.Kernel4Ideal.Value.run_blocks m g, ?_⟩
  refine (θ_run _ _ _).mono (fun r h c => ⟨(h c).1.trans ?_, (h c).2⟩) (Cert.Reference4bIdeal.Value.run m' g')
  obtain ⟨h0, h1, h2⟩ := hagree c
  rw [h0, h1, h2]
  exact ext1 fun i j => (reference_out _ _ _ i j).trans (value m c i j).symm

end Cert.Proof.FfnResid

end
-- ==== Proof.FfnWgrad.lean ====
module

public import proofs.«01_k».proof.Defs
public import proofs.«01_k».proof.Proof.Blocks
public import proofs.«01_k».proof.Proof.Gen.Kernel5Ideal.Value
public import proofs.«01_k».proof.Proof.Gen.Reference5Ideal.Run
public import proofs.«01_k».proof.Proof.Gen.Reference5bIdeal.Run

@[expose] public section

noncomputable section

/-! The weight gradients of the SwiGLU: for each slice of the hidden width, the product over the tokens of a hidden array and an array of the model's width. -/

namespace Cert.Proof.FfnWgrad

open Idealize.ShloMosaic Idealize.ShloMosaic.TcCoe Cert.Proof.Blocks

section Kernel

open Cert.Kernel5Ideal Cert.Kernel5Ideal.Gen Cert.Kernel5Ideal.Value

/-- What the body makes of a grid point's blocks. -/
theorem pay (v0 : Vec Ideal S1x2048x704 .bf16) (v2 : Vec Ideal S1x2048x512 .bf16) (i : Fin 704) (j : Fin 512) :
    k0_pay1 (F := Ideal) v0 v2 (ix3 0 i j) = ∑ t : Fin 2048, v0 (ix3 0 t i) * v2 (ix3 0 t j) := by
  unfold k0_pay1
  pointwise

variable (m : (ℓ : Loc nD τ sig) → Buf (Elt Ideal) ℓ)

/-- The arguments and the result. -/
abbrev arg0 (c : Dev nD) : Vec Ideal S4x2048x704 .bf16 := m ((c.tc : Thread nD τ).loc main_arg0)
abbrev arg1 (c : Dev nD) : Vec Ideal S2048x1024 .bf16 := m ((c.tc : Thread nD τ).loc main_arg1)
abbrev result (c : Dev nD) : Vec Ideal S4x704x1024 .f32 := (dats m 0 c).arrAt 2 cfg0.N

theorem index : ∀ t : Fin cfg0.N, (win0_0.index t 0 = t.val % 4 ∧ win0_0.index t 1 = 0 ∧ win0_0.index t 2 = 0)
    ∧ (win0_1.index t 0 = 0 ∧ win0_1.index t 1 = 0 ∧ win0_1.index t 2 = t.val / 4)
    ∧ (win0_2.index t 0 = t.val % 4 ∧ win0_2.index t 1 = 0 ∧ win0_2.index t 2 = t.val / 4) :=
  (by decide +kernel : ∀ t : Fin grid0.N, _)

theorem block0 (c : Dev nD) (t : Fin cfg0.N) (g : Fin 4) (hg : t.val % 4 = g.val) (k : Fin 2048) (i : Fin 704) :
    (iblk m c 0 t : Vec Ideal S1x2048x704 .bf16) (ix3 0 k i) = arg0 m c (ix3 g k i) := by
  obtain ⟨⟨e0, e1, e2⟩, -⟩ := index t
  unfold iblk
  rw [View.read_apply, show arg0 m c = V m c main_arg0 from (V_main_arg0 m c).symm]
  refine at_eq (V m c main_arg0 : S4x2048x704.Idx → _) fun a => ?_
  match a with
  | ⟨0, _⟩ => show win0_0.index t 0 * 1 + 1 * 0 = g.val; omega
  | ⟨1, _⟩ => show win0_0.index t 1 * 2048 + 1 * k.val = k.val; omega
  | ⟨2, _⟩ => show win0_0.index t 2 * 704 + 1 * i.val = i.val; omega

theorem staged1 (c : Dev nD) (k : Fin 2048) (j : Fin 1024) :
    (V m c main_v0 : S1x2048x1024.Idx → _) (ix3 0 k j) = arg1 m c (ix2 k j) := by
  have h : (V m c main_v0 : S1x2048x1024.Idx → _) = broadcastInDim S1x2048x1024 ![1, 2] bcast_S2048x1024_S1x2048x1024_1_2 (m ((c.tc : Thread nD τ).loc main_arg1)) := rfl
  rw [h]
  pointwise

theorem block1 (c : Dev nD) (t : Fin cfg0.N) (j : Fin 512) (J : Fin 1024) (hJ : J.val = 512 * (t.val / 4) + j.val) (k : Fin 2048) :
    (iblk m c 1 t : Vec Ideal S1x2048x512 .bf16) (ix3 0 k j) = arg1 m c (ix2 k J) := by
  obtain ⟨-, ⟨e0, e1, e2⟩, -⟩ := index t
  rw [← staged1 m c k J]
  unfold iblk
  rw [View.read_apply]
  refine at_eq (V m c main_v0 : S1x2048x1024.Idx → _) fun a => ?_
  match a with
  | ⟨0, _⟩ => show win0_1.index t 0 * 1 + 1 * 0 = 0; omega
  | ⟨1, _⟩ => show win0_1.index t 1 * 2048 + 1 * k.val = k.val; omega
  | ⟨2, _⟩ => show win0_1.index t 2 * 512 + 1 * j.val = J.val; omega

theorem point (c : Dev nD) (t : Fin cfg0.N) (g : Fin 4) (hg : t.val % 4 = g.val) (i : Fin 704) (j : Fin 512) (J : Fin 1024) (hJ : J.val = 512 * (t.val / 4) + j.val) :
    result m c (ix3 g i J) = out0_2 (iblk m c 0 t) (iblk m c 1 t) (ix3 0 i j) := by
  obtain ⟨-, -, e0, e1, e2⟩ := index t
  have h := congrFun (blocks2 m c t (flush0_2 t)) (ix3 0 i j)
  rw [flushed2, View.read_apply] at h
  refine Eq.trans (at_eq (result m c) fun a => ?_) h
  match a with
  | ⟨0, _⟩ => show g.val = win0_2.index t 0 * 1 + 1 * 0; omega
  | ⟨1, _⟩ => show i.val = win0_2.index t 1 * 704 + 1 * i.val; omega
  | ⟨2, _⟩ => show J.val = win0_2.index t 2 * 512 + 1 * j.val; omega

/-- What the kernel leaves. -/
theorem value (c : Dev nD) (g : Fin 4) (i : Fin 704) (J : Fin 1024) :
    result m c (ix3 g i J)
      = ∑ k : Fin 2048, arg0 m c (ix3 g k i) * arg1 m c (ix2 k J) := by
  have ht : 4 * (J.val / 512) + g.val < cfg0.N := by rw [show cfg0.N = 8 from N_0]; omega
  rw [point m c ⟨_, ht⟩ g (by dsimp only; omega) i ⟨J.val % 512, by omega⟩ J (by dsimp only; omega)]
  unfold out0_2
  rw [View.canon_unit_zero (by decide), pay]
  refine Finset.sum_congr rfl fun k _ => ?_
  rw [View.ld_unit_zero (by decide), View.ld_unit_zero (by decide)]
  rw [block0 m c _ g (by dsimp only; omega) k i, block1 m c _ _ J (by dsimp only; omega) k]

end Kernel

section Output

open Cert.Reference5Ideal Cert.Reference5Ideal.Facts₀

/-- The output weights' gradient, as the reference computes it. -/
theorem reference (a : FVec Ideal S4x2048x704 .bf16) (b : FVec Ideal S2048x1024 .bf16) (g : Fin 4) (i : Fin 704) (J : Fin 1024) :
    transpose S4x704x1024 [1, 2, 0] (Host.dotGeneral dot_S2048x1024_S4x2048x704_S1024x4x704_0_1_1_02_n_n none (extf .f32 b bitsLt_bf16_f32) (extf .f32 a bitsLt_bf16_f32)) transposes_S1024x4x704_S4x704x1024_1_2_0 (ix3 g i J)
      = ∑ k : Fin 2048, a (ix3 g k i) * b (ix2 k J) := by
  pointwise
  exact Finset.sum_congr rfl fun k _ => mul_comm _ _

end Output

section Input

open Cert.Reference5bIdeal Cert.Reference5bIdeal.Facts₀

/-- The gate and up weights' gradient, as the reference computes it. -/
theorem reference_in (a : FVec Ideal S4x2048x704 .bf16) (b : FVec Ideal S2048x1024 .bf16) (g : Fin 4) (i : Fin 704) (J : Fin 1024) :
    Host.dotGeneral dot_S4x704x2048_S2048x1024_S4x704x1024_2_0_01_1_n_n none (transpose S4x704x2048 [0, 2, 1] (extf .f32 a bitsLt_bf16_f32) transposes_S4x2048x704_S4x704x2048_0_2_1) (extf .f32 b bitsLt_bf16_f32) (ix3 g i J)
      = ∑ k : Fin 2048, a (ix3 g k i) * b (ix2 k J) := by
  pointwise

end Input

theorem frame_reference : Cert.quiescent_Reference5Ideal := fun m ρ _ =>
  (θ_run Cert.Reference5Ideal.defs _ _).mono (fun _ h => ⟨fun c => (h c).2, sem_eq_zero_of_no_sems rfl _⟩) (Cert.Reference5Ideal.Value.run m ρ)
theorem frame_reference_in : Cert.quiescent_Reference5bIdeal := fun m ρ _ =>
  (θ_run Cert.Reference5bIdeal.defs _ _).mono (fun _ h => ⟨fun c => (h c).2, sem_eq_zero_of_no_sems rfl _⟩) (Cert.Reference5bIdeal.Value.run m ρ)

/-- The value claim for the output weights. -/
theorem algebraic : Cert.algebraic_Kernel5Ideal_Reference5Ideal := by
  intro m g m' g' _ hagree
  refine ⟨fun c => result m c, Cert.Kernel5Ideal.Value.run_blocks m g, ?_⟩
  refine (θ_run _ _ _).mono (fun r h c => ⟨(h c).1.trans ?_, (h c).2⟩) (Cert.Reference5Ideal.Value.run m' g')
  obtain ⟨h0, h1⟩ := hagree c
  rw [h0, h1]
  exact ext3 fun a i j => (reference _ _ a i j).trans (value m c a i j).symm

/-- The value claim for the gate and up weights. -/
theorem algebraic_in : Cert.algebraic_Kernel5Ideal_Reference5bIdeal := by
  intro m g m' g' _ hagree
  refine ⟨fun c => result m c, Cert.Kernel5Ideal.Value.run_blocks m g, ?_⟩
  refine (θ_run _ _ _).mono (fun r h c => ⟨(h c).1.trans ?_, (h c).2⟩) (Cert.Reference5bIdeal.Value.run m' g')
  obtain ⟨h0, h1⟩ := hagree c
  rw [h0, h1]
  exact ext3 fun a i j => (reference_in _ _ a i j).trans (value m c a i j).symm

end Cert.Proof.FfnWgrad

end
-- ==== Proof.OutProjBwd.lean ====
module

public import proofs.«01_k».proof.Defs
public import proofs.«01_k».proof.Proof.Blocks
public import proofs.«01_k».proof.Proof.Gen.Kernel6Ideal.Value
public import proofs.«01_k».proof.Proof.Gen.Reference6Ideal.Run

@[expose] public section

noncomputable section

/-! The gradient of the output projection's input: the product over the projection's width with the weights. -/

namespace Cert.Proof.OutProjBwd

open Idealize.ShloMosaic Idealize.ShloMosaic.TcCoe Cert.Proof.Blocks

section Kernel

open Cert.Kernel6Ideal Cert.Kernel6Ideal.Gen Cert.Kernel6Ideal.Value

/-- The product of one slab of rows. -/
theorem slab1 (v0 : Vec Ideal S1x512x1024 .bf16) (v2 : Vec Ideal S1x512x1024 .bf16) (i j : Fin 512) :
    k0_pay3 (F := Ideal) v0 v2 (ix3 0 i j) = ∑ k : Fin 1024, v0 (ix3 0 i k) * v2 (ix3 0 j k) := by
  unfold k0_pay3
  pointwise
theorem slab2 (v0 : Vec Ideal S1x512x1024 .bf16) (v2 : Vec Ideal S1x512x1024 .bf16) (i j : Fin 512) :
    k0_pay5 (F := Ideal) v0 v2 (ix3 0 i j) = ∑ k : Fin 1024, v0 (ix3 0 i k) * v2 (ix3 0 j k) := slab1 v0 v2 i j
theorem slab3 (v0 : Vec Ideal S1x512x1024 .bf16) (v2 : Vec Ideal S1x512x1024 .bf16) (i j : Fin 512) :
    k0_pay1 (F := Ideal) (k0_pay4 v0 v2) (ix3 0 i j) = ∑ k : Fin 1024, v0 (ix3 0 i k) * v2 (ix3 0 j k) := slab1 v0 v2 i j
theorem slab4 (v0 : Vec Ideal S1x512x1024 .bf16) (v2 : Vec Ideal S1x512x1024 .bf16) (i j : Fin 512) :
    k0_pay2 (F := Ideal) (k0_pay6 v0) v2 (ix3 0 i j) = ∑ k : Fin 1024, v0 (ix3 0 i k) * v2 (ix3 0 j k) := slab1 v0 v2 i j

/-- What the body makes of a grid point's blocks. -/
theorem body (x0 : Vec Ideal S1x2048x1024 .bf16) (x1 : Vec Ideal S1x512x1024 .bf16) (r : Fin 2048) (j : Fin 512) :
    out0_2 (F := Ideal) x0 x1 (ix3 0 r j) = ∑ k : Fin 1024, x0 (ix3 0 r k) * x1 (ix3 0 j k) := by
  unfold out0_2
  canon_tiles x h
  all_goals
    obtain ⟨i', j', rfl⟩ := split1 x
    first | rw [slab1] | rw [slab2] | rw [slab3] | rw [slab4]
    refine Finset.sum_congr rfl fun k _ => congrArg₂ (· * ·) (ld3 x0 _ rfl ?_ (Nat.zero_add _).symm) (ld3 x1 _ rfl ?_ (Nat.zero_add _).symm)
    · first | exact h1 | exact h1.trans (Nat.zero_add _).symm
    · exact h2.trans (Nat.zero_add _).symm

variable (m : (ℓ : Loc nD τ sig) → Buf (Elt Ideal) ℓ)

/-- The arguments and the result. -/
abbrev arg0 (c : Dev nD) : Vec Ideal S2048x1024 .bf16 := m ((c.tc : Thread nD τ).loc main_arg0)
abbrev arg1 (c : Dev nD) : Vec Ideal S4x256x1024 .bf16 := m ((c.tc : Thread nD τ).loc main_arg1)
abbrev result (c : Dev nD) : Vec Ideal S1x2048x1024 .f32 := (dats m 0 c).arrAt 2 cfg0.N

theorem index : ∀ t : Fin cfg0.N, (win0_0.index t 0 = 0 ∧ win0_0.index t 1 = 0 ∧ win0_0.index t 2 = 0)
    ∧ (win0_1.index t 0 = 0 ∧ win0_1.index t 1 = t.val ∧ win0_1.index t 2 = 0)
    ∧ (win0_2.index t 0 = 0 ∧ win0_2.index t 1 = 0 ∧ win0_2.index t 2 = t.val) :=
  (by decide +kernel : ∀ t : Fin grid0.N, _)

theorem block0 (c : Dev nD) (t : Fin cfg0.N) (r : Fin 2048) (k : Fin 1024) :
    (iblk m c 0 t : Vec Ideal S1x2048x1024 .bf16) (ix3 0 r k) = arg0 m c (ix2 r k) := by
  obtain ⟨⟨e0, e1, e2⟩, -⟩ := index t
  unfold iblk
  rw [View.read_apply, ← staged bcast_S2048x1024_S1x2048x1024_1_2 (arg0 m c)]
  refine at_eq (V m c main_v0 : S1x2048x1024.Idx → _) fun a => ?_
  match a with
  | ⟨0, _⟩ => show win0_0.index t 0 * 1 + 1 * 0 = 0; omega
  | ⟨1, _⟩ => show win0_0.index t 1 * 2048 + 1 * r.val = r.val; omega
  | ⟨2, _⟩ => show win0_0.index t 2 * 1024 + 1 * k.val = k.val; omega

theorem block1 (c : Dev nD) (t : Fin cfg0.N) (j : Fin 512) (J : Fin 1024) (hJ : J.val = 512 * t.val + j.val) (k : Fin 1024) :
    (iblk m c 1 t : Vec Ideal S1x512x1024 .bf16) (ix3 0 j k) = arg1 m c (ix3 ⟨J.val / 256, by omega⟩ ⟨J.val % 256, by omega⟩ k) := by
  obtain ⟨-, ⟨e0, e1, e2⟩, -⟩ := index t
  unfold iblk
  rw [View.read_apply, ← merged3 shapeCasts_S4x256x1024_S1x1024x1024 (arg1 m c)]
  refine at_eq (V m c main_v1 : S1x1024x1024.Idx → _) fun a => ?_
  match a with
  | ⟨0, _⟩ => show win0_1.index t 0 * 1 + 1 * 0 = 0; omega
  | ⟨1, _⟩ => show win0_1.index t 1 * 512 + 1 * j.val = J.val; omega
  | ⟨2, _⟩ => show win0_1.index t 2 * 1024 + 1 * k.val = k.val; omega

theorem point (c : Dev nD) (t : Fin cfg0.N) (r : Fin 2048) (j : Fin 512) (J : Fin 1024) (hJ : J.val = 512 * t.val + j.val) :
    result m c (ix3 0 r J) = out0_2 (iblk m c 0 t) (iblk m c 1 t) (ix3 0 r j) := by
  obtain ⟨-, -, e0, e1, e2⟩ := index t
  have h := congrFun (blocks2 m c t (flush0_2 t)) (ix3 0 r j)
  rw [flushed2, View.read_apply] at h
  refine Eq.trans (at_eq (result m c) fun a => ?_) h
  match a with
  | ⟨0, _⟩ => show 0 = win0_2.index t 0 * 1 + 1 * 0; omega
  | ⟨1, _⟩ => show r.val = win0_2.index t 1 * 2048 + 1 * r.val; omega
  | ⟨2, _⟩ => show J.val = win0_2.index t 2 * 512 + 1 * j.val; omega

/-- What the kernel leaves. -/
theorem value (c : Dev nD) (r : Fin 2048) (J : Fin 1024) :
    result m c (ix3 0 r J) = ∑ k : Fin 1024, arg0 m c (ix2 r k) * arg1 m c (ix3 ⟨J.val / 256, by omega⟩ ⟨J.val % 256, by omega⟩ k) := by
  have ht : J.val / 512 < cfg0.N := by rw [show cfg0.N = 2 from N_0]; omega
  rw [point m c ⟨_, ht⟩ r ⟨J.val % 512, by omega⟩ J (by dsimp only; omega), body]
  refine Finset.sum_congr rfl fun k _ => ?_
  rw [block0 m c _ r k, block1 m c _ _ J (by dsimp only; omega) k]

end Kernel

section Reference

open Cert.Reference6Ideal Cert.Reference6Ideal.Facts₀

/-- The same, as the reference computes it. -/
theorem reference (a : FVec Ideal S2048x1024 .bf16) (b : FVec Ideal S4x256x1024 .bf16) (r : Fin 2048) (J : Fin 1024) :
    broadcastInDim S1x2048x1024 ![1, 2] bcast_S2048x1024_S1x2048x1024_1_2 (Host.dotGeneral dot_S2048x1024_S1024x1024_S2048x1024_1_1_0_0_n_n none (extf .f32 a bitsLt_bf16_f32) (shapeCast S1024x1024 (extf .f32 b bitsLt_bf16_f32) shapeCasts_S4x256x1024_S1024x1024)) (ix3 0 r J)
      = ∑ k : Fin 1024, a (ix2 r k) * b (ix3 ⟨J.val / 256, by omega⟩ ⟨J.val % 256, by omega⟩ k) := by
  pointwise

end Reference

theorem frame_reference : Cert.quiescent_Reference6Ideal := fun m ρ _ =>
  (θ_run Cert.Reference6Ideal.defs _ _).mono (fun _ h => ⟨fun c => (h c).2, sem_eq_zero_of_no_sems rfl _⟩) (Cert.Reference6Ideal.Value.run m ρ)

/-- The value claim. -/
theorem algebraic : Cert.algebraic_Kernel6Ideal_Reference6Ideal := by
  intro m g m' g' _ hagree
  refine ⟨fun c => result m c, Cert.Kernel6Ideal.Value.run_blocks m g, ?_⟩
  refine (θ_run _ _ _).mono (fun r h c => ⟨(h c).1.trans ?_, (h c).2⟩) (Cert.Reference6Ideal.Value.run m' g')
  obtain ⟨h0, h1⟩ := hagree c
  rw [h0, h1]
  exact ext1 fun i j => (reference _ _ i j).trans (value m c i j).symm

end Cert.Proof.OutProjBwd

end
-- ==== Proof.OutProjWgrad.lean ====
module

public import proofs.«01_k».proof.Defs
public import proofs.«01_k».proof.Proof.Blocks
public import proofs.«01_k».proof.Proof.Gen.Kernel7Ideal.Value
public import proofs.«01_k».proof.Proof.Gen.Reference7Ideal.Run

@[expose] public section

noncomputable section

/-! The gradient of the output projection's weights: the product over the tokens of the projection's input with the gradient of its output. -/

namespace Cert.Proof.OutProjWgrad

open Idealize.ShloMosaic Idealize.ShloMosaic.TcCoe Cert.Proof.Blocks

section Kernel

open Cert.Kernel7Ideal Cert.Kernel7Ideal.Gen Cert.Kernel7Ideal.Value

/-- The product of one pair of blocks. -/
theorem pay (v0 : Vec Ideal S1x2048x1024 .bf16) (v2 : Vec Ideal S1x2048x512 .bf16) (i : Fin 1024) (j : Fin 512) :
    k0_pay1 (F := Ideal) v0 v2 (ix3 0 i j) = ∑ k : Fin 2048, v0 (ix3 0 k i) * v2 (ix3 0 k j) := by
  unfold k0_pay1
  pointwise

variable (m : (ℓ : Loc nD τ sig) → Buf (Elt Ideal) ℓ)

/-- The arguments and the result. -/
abbrev arg0 (c : Dev nD) : Vec Ideal S2048x1024 .bf16 := m ((c.tc : Thread nD τ).loc main_arg0)
abbrev arg1 (c : Dev nD) : Vec Ideal S2048x1024 .bf16 := m ((c.tc : Thread nD τ).loc main_arg1)
abbrev result (c : Dev nD) : Vec Ideal S1x1024x1024 .f32 := (dats m 0 c).arrAt 2 cfg0.N

theorem index : ∀ t : Fin cfg0.N, (win0_0.index t 0 = 0 ∧ win0_0.index t 1 = 0 ∧ win0_0.index t 2 = 0)
    ∧ (win0_1.index t 0 = 0 ∧ win0_1.index t 1 = 0 ∧ win0_1.index t 2 = t.val)
    ∧ (win0_2.index t 0 = 0 ∧ win0_2.index t 1 = 0 ∧ win0_2.index t 2 = t.val) :=
  (by decide +kernel : ∀ t : Fin grid0.N, _)

theorem block0 (c : Dev nD) (t : Fin cfg0.N) (r : Fin 1024) (R : Fin 1024) (hR : R.val = r.val) (k : Fin 2048) :
    (iblk m c 0 t : Vec Ideal S1x2048x1024 .bf16) (ix3 0 k r) = arg0 m c (ix2 k R) := by
  obtain ⟨⟨e0, e1, e2⟩, -⟩ := index t
  unfold iblk
  rw [View.read_apply, ← staged bcast_S2048x1024_S1x2048x1024_1_2 (arg0 m c)]
  refine at_eq (V m c main_v0 : S1x2048x1024.Idx → _) fun a => ?_
  match a with
  | ⟨0, _⟩ => show win0_0.index t 0 * 1 + 1 * 0 = 0; omega
  | ⟨1, _⟩ => show win0_0.index t 1 * 2048 + 1 * k.val = k.val; omega
  | ⟨2, _⟩ => show win0_0.index t 2 * 1024 + 1 * r.val = R.val; omega

theorem block1 (c : Dev nD) (t : Fin cfg0.N) (j : Fin 512) (J : Fin 1024) (hJ : J.val = 512 * (t.val) + j.val) (k : Fin 2048) :
    (iblk m c 1 t : Vec Ideal S1x2048x512 .bf16) (ix3 0 k j) = arg1 m c (ix2 k J) := by
  obtain ⟨-, ⟨e0, e1, e2⟩, -⟩ := index t
  unfold iblk
  rw [View.read_apply, ← staged bcast_S2048x1024_S1x2048x1024_1_2 (arg1 m c)]
  refine at_eq (V m c main_v1 : S1x2048x1024.Idx → _) fun a => ?_
  match a with
  | ⟨0, _⟩ => show win0_1.index t 0 * 1 + 1 * 0 = 0; omega
  | ⟨1, _⟩ => show win0_1.index t 1 * 2048 + 1 * k.val = k.val; omega
  | ⟨2, _⟩ => show win0_1.index t 2 * 512 + 1 * j.val = J.val; omega

theorem point (c : Dev nD) (t : Fin cfg0.N) (r : Fin 1024) (R : Fin 1024) (hR : R.val = r.val) (j : Fin 512) (J : Fin 1024) (hJ : J.val = 512 * (t.val) + j.val) :
    result m c (ix3 0 R J) = out0_2 (iblk m c 0 t) (iblk m c 1 t) (ix3 0 r j) := by
  obtain ⟨-, -, e0, e1, e2⟩ := index t
  have h := congrFun (blocks2 m c t (flush0_2 t)) (ix3 0 r j)
  rw [flushed2, View.read_apply] at h
  refine Eq.trans (at_eq (result m c) fun a => ?_) h
  match a with
  | ⟨0, _⟩ => show 0 = win0_2.index t 0 * 1 + 1 * 0; omega
  | ⟨1, _⟩ => show R.val = win0_2.index t 1 * 1024 + 1 * r.val; omega
  | ⟨2, _⟩ => show J.val = win0_2.index t 2 * 512 + 1 * j.val; omega

/-- What the kernel leaves. -/
theorem value (c : Dev nD) (R : Fin 1024) (J : Fin 1024) :
    result m c (ix3 0 R J) = ∑ k : Fin 2048, arg0 m c (ix2 k R) * arg1 m c (ix2 k J) := by
  have ht : J.val / 512 < cfg0.N := by rw [show cfg0.N = 2 from N_0]; omega
  rw [point m c ⟨_, ht⟩ R R rfl ⟨J.val % 512, by omega⟩ J (by dsimp only; omega)]
  unfold out0_2
  rw [View.canon_unit_zero (by decide), pay]
  refine Finset.sum_congr rfl fun k _ => ?_
  rw [View.ld_unit_zero (by decide), View.ld_unit_zero (by decide)]
  rw [block0 m c _ _ R rfl k, block1 m c _ _ J (by dsimp only; omega) k]

end Kernel

section Reference

open Cert.Reference7Ideal Cert.Reference7Ideal.Facts₀

/-- The same, as the reference computes it. -/
theorem reference (a : FVec Ideal S2048x1024 .bf16) (b : FVec Ideal S2048x1024 .bf16) (R : Fin 1024) (J : Fin 1024) :
    broadcastInDim S1x1024x1024 ![1, 2] bcast_S1024x1024_S1x1024x1024_1_2 (transpose S1024x1024 [1, 0] (Host.dotGeneral dot_S2048x1024_S2048x1024_S1024x1024_0_0_1_1_n_n none (extf .f32 b bitsLt_bf16_f32) (extf .f32 a bitsLt_bf16_f32)) transposes_S1024x1024_S1024x1024_1_0) (ix3 0 R J)
      = ∑ k : Fin 2048, a (ix2 k R) * b (ix2 k J) := by
  pointwise
  exact Finset.sum_congr rfl fun k _ => mul_comm _ _

end Reference

theorem frame_reference : Cert.quiescent_Reference7Ideal := fun m ρ _ =>
  (θ_run Cert.Reference7Ideal.defs _ _).mono (fun _ h => ⟨fun c => (h c).2, sem_eq_zero_of_no_sems rfl _⟩) (Cert.Reference7Ideal.Value.run m ρ)

/-- The value claim. -/
theorem algebraic : Cert.algebraic_Kernel7Ideal_Reference7Ideal := by
  intro m g m' g' _ hagree
  refine ⟨fun c => result m c, Cert.Kernel7Ideal.Value.run_blocks m g, ?_⟩
  refine (θ_run _ _ _).mono (fun r h c => ⟨(h c).1.trans ?_, (h c).2⟩) (Cert.Reference7Ideal.Value.run m' g')
  obtain ⟨h0, h1⟩ := hagree c
  rw [h0, h1]
  exact ext1 fun i j => (reference _ _ i j).trans (value m c i j).symm

end Cert.Proof.OutProjWgrad

end
-- ==== Proof.InProjWgrad.lean ====
module

public import proofs.«01_k».proof.Defs
public import proofs.«01_k».proof.Proof.Blocks
public import proofs.«01_k».proof.Proof.Gen.Kernel8Ideal.Value
public import proofs.«01_k».proof.Proof.Gen.Reference8Ideal.Run

@[expose] public section

noncomputable section

/-! The gradient of the input projection's weights: the product over the tokens of the projection's input with the gradient of its output. -/

namespace Cert.Proof.InProjWgrad

open Idealize.ShloMosaic Idealize.ShloMosaic.TcCoe Cert.Proof.Blocks

section Kernel

open Cert.Kernel8Ideal Cert.Kernel8Ideal.Gen Cert.Kernel8Ideal.Value

/-- The product of one pair of blocks. -/
theorem pay (v0 : Vec Ideal S1x2048x512 .bf16) (v2 : Vec Ideal S1x2048x640 .bf16) (i : Fin 512) (j : Fin 640) :
    k0_pay1 (F := Ideal) v0 v2 (ix3 0 i j) = ∑ k : Fin 2048, v0 (ix3 0 k i) * v2 (ix3 0 k j) := by
  unfold k0_pay1
  pointwise

variable (m : (ℓ : Loc nD τ sig) → Buf (Elt Ideal) ℓ)

/-- The arguments and the result. -/
abbrev arg0 (c : Dev nD) : Vec Ideal S2048x1024 .bf16 := m ((c.tc : Thread nD τ).loc main_arg0)
abbrev arg1 (c : Dev nD) : Vec Ideal S2048x3200 .bf16 := m ((c.tc : Thread nD τ).loc main_arg1)
abbrev result (c : Dev nD) : Vec Ideal S1x1024x3200 .f32 := (dats m 0 c).arrAt 2 cfg0.N

theorem index : ∀ t : Fin cfg0.N, (win0_0.index t 0 = 0 ∧ win0_0.index t 1 = 0 ∧ win0_0.index t 2 = t.val / 5)
    ∧ (win0_1.index t 0 = 0 ∧ win0_1.index t 1 = 0 ∧ win0_1.index t 2 = t.val % 5)
    ∧ (win0_2.index t 0 = 0 ∧ win0_2.index t 1 = t.val / 5 ∧ win0_2.index t 2 = t.val % 5) :=
  (by decide +kernel : ∀ t : Fin grid0.N, _)

theorem block0 (c : Dev nD) (t : Fin cfg0.N) (r : Fin 512) (R : Fin 1024) (hR : R.val = 512 * (t.val / 5) + r.val) (k : Fin 2048) :
    (iblk m c 0 t : Vec Ideal S1x2048x512 .bf16) (ix3 0 k r) = arg0 m c (ix2 k R) := by
  obtain ⟨⟨e0, e1, e2⟩, -⟩ := index t
  unfold iblk
  rw [View.read_apply, ← staged bcast_S2048x1024_S1x2048x1024_1_2 (arg0 m c)]
  refine at_eq (V m c main_v0 : S1x2048x1024.Idx → _) fun a => ?_
  match a with
  | ⟨0, _⟩ => show win0_0.index t 0 * 1 + 1 * 0 = 0; omega
  | ⟨1, _⟩ => show win0_0.index t 1 * 2048 + 1 * k.val = k.val; omega
  | ⟨2, _⟩ => show win0_0.index t 2 * 512 + 1 * r.val = R.val; omega

theorem block1 (c : Dev nD) (t : Fin cfg0.N) (j : Fin 640) (J : Fin 3200) (hJ : J.val = 640 * (t.val % 5) + j.val) (k : Fin 2048) :
    (iblk m c 1 t : Vec Ideal S1x2048x640 .bf16) (ix3 0 k j) = arg1 m c (ix2 k J) := by
  obtain ⟨-, ⟨e0, e1, e2⟩, -⟩ := index t
  unfold iblk
  rw [View.read_apply, ← staged bcast_S2048x3200_S1x2048x3200_1_2 (arg1 m c)]
  refine at_eq (V m c main_v1 : S1x2048x3200.Idx → _) fun a => ?_
  match a with
  | ⟨0, _⟩ => show win0_1.index t 0 * 1 + 1 * 0 = 0; omega
  | ⟨1, _⟩ => show win0_1.index t 1 * 2048 + 1 * k.val = k.val; omega
  | ⟨2, _⟩ => show win0_1.index t 2 * 640 + 1 * j.val = J.val; omega

theorem point (c : Dev nD) (t : Fin cfg0.N) (r : Fin 512) (R : Fin 1024) (hR : R.val = 512 * (t.val / 5) + r.val) (j : Fin 640) (J : Fin 3200) (hJ : J.val = 640 * (t.val % 5) + j.val) :
    result m c (ix3 0 R J) = out0_2 (iblk m c 0 t) (iblk m c 1 t) (ix3 0 r j) := by
  obtain ⟨-, -, e0, e1, e2⟩ := index t
  have h := congrFun (blocks2 m c t (flush0_2 t)) (ix3 0 r j)
  rw [flushed2, View.read_apply] at h
  refine Eq.trans (at_eq (result m c) fun a => ?_) h
  match a with
  | ⟨0, _⟩ => show 0 = win0_2.index t 0 * 1 + 1 * 0; omega
  | ⟨1, _⟩ => show R.val = win0_2.index t 1 * 512 + 1 * r.val; omega
  | ⟨2, _⟩ => show J.val = win0_2.index t 2 * 640 + 1 * j.val; omega

/-- What the kernel leaves. -/
theorem value (c : Dev nD) (R : Fin 1024) (J : Fin 3200) :
    result m c (ix3 0 R J) = ∑ k : Fin 2048, arg0 m c (ix2 k R) * arg1 m c (ix2 k J) := by
  have ht : 5 * (R.val / 512) + J.val / 640 < cfg0.N := by rw [show cfg0.N = 10 from N_0]; omega
  rw [point m c ⟨_, ht⟩ ⟨R.val % 512, by omega⟩ R (by dsimp only; omega) ⟨J.val % 640, by omega⟩ J (by dsimp only; omega)]
  unfold out0_2
  rw [View.canon_unit_zero (by decide), pay]
  refine Finset.sum_congr rfl fun k _ => ?_
  rw [View.ld_unit_zero (by decide), View.ld_unit_zero (by decide)]
  rw [block0 m c _ _ R (by dsimp only; omega) k, block1 m c _ _ J (by dsimp only; omega) k]

end Kernel

section Reference

open Cert.Reference8Ideal Cert.Reference8Ideal.Facts₀

/-- The same, as the reference computes it. -/
theorem reference (a : FVec Ideal S2048x1024 .bf16) (b : FVec Ideal S2048x3200 .bf16) (R : Fin 1024) (J : Fin 3200) :
    broadcastInDim S1x1024x3200 ![1, 2] bcast_S1024x3200_S1x1024x3200_1_2 (transpose S1024x3200 [1, 0] (Host.dotGeneral dot_S2048x3200_S2048x1024_S3200x1024_0_0_1_1_n_n none (extf .f32 b bitsLt_bf16_f32) (extf .f32 a bitsLt_bf16_f32)) transposes_S3200x1024_S1024x3200_1_0) (ix3 0 R J)
      = ∑ k : Fin 2048, a (ix2 k R) * b (ix2 k J) := by
  pointwise
  exact Finset.sum_congr rfl fun k _ => mul_comm _ _

end Reference

theorem frame_reference : Cert.quiescent_Reference8Ideal := fun m ρ _ =>
  (θ_run Cert.Reference8Ideal.defs _ _).mono (fun _ h => ⟨fun c => (h c).2, sem_eq_zero_of_no_sems rfl _⟩) (Cert.Reference8Ideal.Value.run m ρ)

/-- The value claim. -/
theorem algebraic : Cert.algebraic_Kernel8Ideal_Reference8Ideal := by
  intro m g m' g' _ hagree
  refine ⟨fun c => result m c, Cert.Kernel8Ideal.Value.run_blocks m g, ?_⟩
  refine (θ_run _ _ _).mono (fun r h c => ⟨(h c).1.trans ?_, (h c).2⟩) (Cert.Reference8Ideal.Value.run m' g')
  obtain ⟨h0, h1⟩ := hagree c
  rw [h0, h1]
  exact ext1 fun i j => (reference _ _ i j).trans (value m c i j).symm

end Cert.Proof.InProjWgrad

end
-- ==== Proof.InProjBwd.lean ====
module

public import proofs.«01_k».proof.Defs
public import proofs.«01_k».proof.Proof.Blocks
public import proofs.«01_k».proof.Proof.Gen.Kernel9Ideal.Value
public import proofs.«01_k».proof.Proof.Gen.Reference9Ideal.Run

@[expose] public section

noncomputable section

/-! The gradient of the input projection's input: the product over the projection's width with the weights. -/

namespace Cert.Proof.InProjBwd

open Idealize.ShloMosaic Idealize.ShloMosaic.TcCoe Cert.Proof.Blocks

section Kernel

open Cert.Kernel9Ideal Cert.Kernel9Ideal.Gen Cert.Kernel9Ideal.Value

/-- The product of one slab of rows. -/
theorem slab1 (v0 : Vec Ideal S1x512x3200 .bf16) (v2 : Vec Ideal S1x512x3200 .bf16) (i j : Fin 512) :
    k0_pay1 (F := Ideal) v0 v2 (ix3 0 i j) = ∑ k : Fin 3200, v0 (ix3 0 i k) * v2 (ix3 0 j k) := by
  unfold k0_pay1
  pointwise
theorem slab2 (v0 : Vec Ideal S1x512x3200 .bf16) (v2 : Vec Ideal S1x512x3200 .bf16) (i j : Fin 512) :
    k0_pay2 (F := Ideal) v0 v2 (ix3 0 i j) = ∑ k : Fin 3200, v0 (ix3 0 i k) * v2 (ix3 0 j k) := slab1 v0 v2 i j

/-- What the body makes of a grid point's blocks. -/
theorem body (x0 : Vec Ideal S1x1024x3200 .bf16) (x1 : Vec Ideal S1x512x3200 .bf16) (r : Fin 1024) (j : Fin 512) :
    out0_2 (F := Ideal) x0 x1 (ix3 0 r j) = ∑ k : Fin 3200, x0 (ix3 0 r k) * x1 (ix3 0 j k) := by
  unfold out0_2
  canon_tiles x h
  all_goals
    obtain ⟨i', j', rfl⟩ := split1 x
    first | rw [slab1] | rw [slab2]
    refine Finset.sum_congr rfl fun k _ => congrArg₂ (· * ·) (ld3 x0 _ rfl ?_ (Nat.zero_add _).symm) (ld3 x1 _ rfl ?_ (Nat.zero_add _).symm)
    · first | exact h1 | exact h1.trans (Nat.zero_add _).symm
    · exact h2.trans (Nat.zero_add _).symm

variable (m : (ℓ : Loc nD τ sig) → Buf (Elt Ideal) ℓ)

/-- The arguments and the result. -/
abbrev arg0 (c : Dev nD) : Vec Ideal S2048x3200 .bf16 := m ((c.tc : Thread nD τ).loc main_arg0)
abbrev arg1 (c : Dev nD) : Vec Ideal S1024x3200 .bf16 := m ((c.tc : Thread nD τ).loc main_arg1)
abbrev result (c : Dev nD) : Vec Ideal S1x2048x1024 .f32 := (dats m 0 c).arrAt 2 cfg0.N

theorem index : ∀ t : Fin cfg0.N, (win0_0.index t 0 = 0 ∧ win0_0.index t 1 = t.val / 2 ∧ win0_0.index t 2 = 0)
    ∧ (win0_1.index t 0 = 0 ∧ win0_1.index t 1 = t.val % 2 ∧ win0_1.index t 2 = 0)
    ∧ (win0_2.index t 0 = 0 ∧ win0_2.index t 1 = t.val / 2 ∧ win0_2.index t 2 = t.val % 2) :=
  (by decide +kernel : ∀ t : Fin grid0.N, _)

theorem block0 (c : Dev nD) (t : Fin cfg0.N) (r : Fin 1024) (R : Fin 2048) (hR : R.val = 1024 * (t.val / 2) + r.val) (k : Fin 3200) :
    (iblk m c 0 t : Vec Ideal S1x1024x3200 .bf16) (ix3 0 r k) = arg0 m c (ix2 R k) := by
  obtain ⟨⟨e0, e1, e2⟩, -⟩ := index t
  unfold iblk
  rw [View.read_apply, ← staged bcast_S2048x3200_S1x2048x3200_1_2 (arg0 m c)]
  refine at_eq (V m c main_v0 : S1x2048x3200.Idx → _) fun a => ?_
  match a with
  | ⟨0, _⟩ => show win0_0.index t 0 * 1 + 1 * 0 = 0; omega
  | ⟨1, _⟩ => show win0_0.index t 1 * 1024 + 1 * r.val = R.val; omega
  | ⟨2, _⟩ => show win0_0.index t 2 * 3200 + 1 * k.val = k.val; omega

theorem block1 (c : Dev nD) (t : Fin cfg0.N) (j : Fin 512) (J : Fin 1024) (hJ : J.val = 512 * (t.val % 2) + j.val) (k : Fin 3200) :
    (iblk m c 1 t : Vec Ideal S1x512x3200 .bf16) (ix3 0 j k) = arg1 m c (ix2 J k) := by
  obtain ⟨-, ⟨e0, e1, e2⟩, -⟩ := index t
  unfold iblk
  rw [View.read_apply, ← staged bcast_S1024x3200_S1x1024x3200_1_2 (arg1 m c)]
  refine at_eq (V m c main_v1 : S1x1024x3200.Idx → _) fun a => ?_
  match a with
  | ⟨0, _⟩ => show win0_1.index t 0 * 1 + 1 * 0 = 0; omega
  | ⟨1, _⟩ => show win0_1.index t 1 * 512 + 1 * j.val = J.val; omega
  | ⟨2, _⟩ => show win0_1.index t 2 * 3200 + 1 * k.val = k.val; omega

theorem point (c : Dev nD) (t : Fin cfg0.N) (r : Fin 1024) (R : Fin 2048) (hR : R.val = 1024 * (t.val / 2) + r.val) (j : Fin 512) (J : Fin 1024) (hJ : J.val = 512 * (t.val % 2) + j.val) :
    result m c (ix3 0 R J) = out0_2 (iblk m c 0 t) (iblk m c 1 t) (ix3 0 r j) := by
  obtain ⟨-, -, e0, e1, e2⟩ := index t
  have h := congrFun (blocks2 m c t (flush0_2 t)) (ix3 0 r j)
  rw [flushed2, View.read_apply] at h
  refine Eq.trans (at_eq (result m c) fun a => ?_) h
  match a with
  | ⟨0, _⟩ => show 0 = win0_2.index t 0 * 1 + 1 * 0; omega
  | ⟨1, _⟩ => show R.val = win0_2.index t 1 * 1024 + 1 * r.val; omega
  | ⟨2, _⟩ => show J.val = win0_2.index t 2 * 512 + 1 * j.val; omega

/-- What the kernel leaves. -/
theorem value (c : Dev nD) (R : Fin 2048) (J : Fin 1024) :
    result m c (ix3 0 R J) = ∑ k : Fin 3200, arg0 m c (ix2 R k) * arg1 m c (ix2 J k) := by
  have ht : 2 * (R.val / 1024) + J.val / 512 < cfg0.N := by rw [show cfg0.N = 4 from N_0]; omega
  rw [point m c ⟨_, ht⟩ ⟨R.val % 1024, by omega⟩ R (by dsimp only; omega) ⟨J.val % 512, by omega⟩ J (by dsimp only; omega), body]
  refine Finset.sum_congr rfl fun k _ => ?_
  rw [block0 m c _ _ R (by dsimp only; omega) k, block1 m c _ _ J (by dsimp only; omega) k]

end Kernel

section Reference

open Cert.Reference9Ideal Cert.Reference9Ideal.Facts₀

/-- The same, as the reference computes it. -/
theorem reference (a : FVec Ideal S2048x3200 .bf16) (b : FVec Ideal S1024x3200 .bf16) (R : Fin 2048) (J : Fin 1024) :
    broadcastInDim S1x2048x1024 ![1, 2] bcast_S2048x1024_S1x2048x1024_1_2 (Host.dotGeneral dot_S2048x3200_S1024x3200_S2048x1024_1_1_0_0_n_n none (extf .f32 a bitsLt_bf16_f32) (extf .f32 b bitsLt_bf16_f32)) (ix3 0 R J)
      = ∑ k : Fin 3200, a (ix2 R k) * b (ix2 J k) := by
  pointwise

end Reference

theorem frame_reference : Cert.quiescent_Reference9Ideal := fun m ρ _ =>
  (θ_run Cert.Reference9Ideal.defs _ _).mono (fun _ h => ⟨fun c => (h c).2, sem_eq_zero_of_no_sems rfl _⟩) (Cert.Reference9Ideal.Value.run m ρ)

/-- The value claim. -/
theorem algebraic : Cert.algebraic_Kernel9Ideal_Reference9Ideal := by
  intro m g m' g' _ hagree
  refine ⟨fun c => result m c, Cert.Kernel9Ideal.Value.run_blocks m g, ?_⟩
  refine (θ_run _ _ _).mono (fun r h c => ⟨(h c).1.trans ?_, (h c).2⟩) (Cert.Reference9Ideal.Value.run m' g')
  obtain ⟨h0, h1⟩ := hagree c
  rw [h0, h1]
  exact ext1 fun i j => (reference _ _ i j).trans (value m c i j).symm

end Cert.Proof.InProjBwd

end
-- ==== Proof.InProj.lean ====
module

public import proofs.«01_k».proof.Defs
public import proofs.«01_k».proof.Proof.Blocks
public import proofs.«01_k».proof.Proof.Gen.Kernel10Ideal.Value
public import proofs.«01_k».proof.Proof.Gen.Reference10Ideal.Run

@[expose] public section

noncomputable section

/-! The input projection: the product of the tokens with the weights. -/

namespace Cert.Proof.InProj

open Idealize.ShloMosaic Idealize.ShloMosaic.TcCoe Cert.Proof.Blocks

section Kernel

open Cert.Kernel10Ideal Cert.Kernel10Ideal.Gen Cert.Kernel10Ideal.Value

/-- The product of one slab of rows. -/
theorem slab1 (v0 : Vec Ideal S1x256x1024 .bf16) (v2 : Vec Ideal S1x1024x3200 .bf16) (i : Fin 256) (j : Fin 3200) :
    k0_pay1 (F := Ideal) v0 v2 (ix3 0 i j) = ∑ k : Fin 1024, v0 (ix3 0 i k) * v2 (ix3 0 k j) := by
  unfold k0_pay1
  pointwise
theorem slab2 (v0 : Vec Ideal S1x256x1024 .bf16) (v2 : Vec Ideal S1x1024x3200 .bf16) (i : Fin 256) (j : Fin 3200) :
    k0_pay2 (F := Ideal) v0 v2 (ix3 0 i j) = ∑ k : Fin 1024, v0 (ix3 0 i k) * v2 (ix3 0 k j) := slab1 v0 v2 i j

/-- What the body makes of a grid point's blocks. -/
theorem body (x0 : Vec Ideal S1x512x1024 .bf16) (x1 : Vec Ideal S1x1024x3200 .bf16) (r : Fin 512) (j : Fin 3200) :
    out0_2 (F := Ideal) x0 x1 (ix3 0 r j) = ∑ k : Fin 1024, x0 (ix3 0 r k) * x1 (ix3 0 k j) := by
  unfold out0_2
  canon_tiles x h
  all_goals
    obtain ⟨i', j', rfl⟩ := split1 x
    first | rw [slab1] | rw [slab2]
    refine Finset.sum_congr rfl fun k _ => congrArg₂ (· * ·) (ld3 x0 _ rfl ?_ (Nat.zero_add _).symm) (ld3 x1 _ rfl (Nat.zero_add _).symm ?_)
    · first | exact h1 | exact h1.trans (Nat.zero_add _).symm
    · exact h2.trans (Nat.zero_add _).symm

variable (m : (ℓ : Loc nD τ sig) → Buf (Elt Ideal) ℓ)

/-- The arguments and the result. -/
abbrev arg0 (c : Dev nD) : Vec Ideal S2048x1024 .bf16 := m ((c.tc : Thread nD τ).loc main_arg0)
abbrev arg1 (c : Dev nD) : Vec Ideal S1024x3200 .bf16 := m ((c.tc : Thread nD τ).loc main_arg1)
abbrev result (c : Dev nD) : Vec Ideal S1x2048x3200 .f32 := (dats m 0 c).arrAt 2 cfg0.N

theorem index : ∀ t : Fin cfg0.N, (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = 0 ∧ win0_2.index t 1 = t.val ∧ win0_2.index t 2 = 0) :=
  (by decide +kernel : ∀ t : Fin grid0.N, _)

theorem block0 (c : Dev nD) (t : Fin cfg0.N) (r : Fin 512) (R : Fin 2048) (hR : R.val = 512 * t.val + r.val) (k : Fin 1024) :
    (iblk m c 0 t : Vec Ideal S1x512x1024 .bf16) (ix3 0 r k) = arg0 m c (ix2 R k) := by
  obtain ⟨⟨e0, e1, e2⟩, -⟩ := index t
  unfold iblk
  rw [View.read_apply, ← staged bcast_S2048x1024_S1x2048x1024_1_2 (arg0 m c)]
  refine at_eq (V m c main_v0 : S1x2048x1024.Idx → _) fun a => ?_
  match a with
  | ⟨0, _⟩ => show win0_0.index t 0 * 1 + 1 * 0 = 0; omega
  | ⟨1, _⟩ => show win0_0.index t 1 * 512 + 1 * r.val = R.val; omega
  | ⟨2, _⟩ => show win0_0.index t 2 * 1024 + 1 * k.val = k.val; omega

theorem block1 (c : Dev nD) (t : Fin cfg0.N) (k : Fin 1024) (j : Fin 3200) :
    (iblk m c 1 t : Vec Ideal S1x1024x3200 .bf16) (ix3 0 k j) = arg1 m c (ix2 k j) := by
  obtain ⟨-, ⟨e0, e1, e2⟩, -⟩ := index t
  unfold iblk
  rw [View.read_apply, ← staged bcast_S1024x3200_S1x1024x3200_1_2 (arg1 m c)]
  refine at_eq (V m c main_v1 : S1x1024x3200.Idx → _) fun a => ?_
  match a with
  | ⟨0, _⟩ => show win0_1.index t 0 * 1 + 1 * 0 = 0; omega
  | ⟨1, _⟩ => show win0_1.index t 1 * 1024 + 1 * k.val = k.val; omega
  | ⟨2, _⟩ => show win0_1.index t 2 * 3200 + 1 * j.val = j.val; omega

theorem point (c : Dev nD) (t : Fin cfg0.N) (r : Fin 512) (R : Fin 2048) (hR : R.val = 512 * t.val + r.val) (j : Fin 3200) :
    result m c (ix3 0 R j) = out0_2 (iblk m c 0 t) (iblk m c 1 t) (ix3 0 r j) := by
  obtain ⟨-, -, e0, e1, e2⟩ := index t
  have h := congrFun (blocks2 m c t (flush0_2 t)) (ix3 0 r j)
  rw [flushed2, View.read_apply] at h
  refine Eq.trans (at_eq (result m c) fun a => ?_) h
  match a with
  | ⟨0, _⟩ => show 0 = win0_2.index t 0 * 1 + 1 * 0; omega
  | ⟨1, _⟩ => show R.val = win0_2.index t 1 * 512 + 1 * r.val; omega
  | ⟨2, _⟩ => show j.val = win0_2.index t 2 * 3200 + 1 * j.val; omega

/-- What the kernel leaves. -/
theorem value (c : Dev nD) (R : Fin 2048) (j : Fin 3200) :
    result m c (ix3 0 R j) = ∑ k : Fin 1024, arg0 m c (ix2 R k) * arg1 m c (ix2 k j) := by
  have ht : R.val / 512 < cfg0.N := by rw [show cfg0.N = 4 from N_0]; omega
  rw [point m c ⟨_, ht⟩ ⟨R.val % 512, by omega⟩ R (by dsimp only; omega) j, body]
  refine Finset.sum_congr rfl fun k _ => ?_
  rw [block0 m c _ _ R (by dsimp only; omega) k, block1 m c _ k j]

end Kernel

section Reference

open Cert.Reference10Ideal Cert.Reference10Ideal.Facts₀

/-- The same, as the reference computes it. -/
theorem reference (a : FVec Ideal S2048x1024 .bf16) (b : FVec Ideal S1024x3200 .bf16) (R : Fin 2048) (j : Fin 3200) :
    broadcastInDim S1x2048x3200 ![1, 2] bcast_S2048x3200_S1x2048x3200_1_2 (Host.dotGeneral dot_S2048x1024_S1024x3200_S2048x3200_1_0_0_1_n_n none (extf .f32 a bitsLt_bf16_f32) (extf .f32 b bitsLt_bf16_f32)) (ix3 0 R j)
      = ∑ k : Fin 1024, a (ix2 R k) * b (ix2 k j) := by
  pointwise

end Reference

theorem frame_reference : Cert.quiescent_Reference10Ideal := fun m ρ _ =>
  (θ_run Cert.Reference10Ideal.defs _ _).mono (fun _ h => ⟨fun c => (h c).2, sem_eq_zero_of_no_sems rfl _⟩) (Cert.Reference10Ideal.Value.run m ρ)

/-- The value claim. -/
theorem algebraic : Cert.algebraic_Kernel10Ideal_Reference10Ideal := by
  intro m g m' g' _ hagree
  refine ⟨fun c => result m c, Cert.Kernel10Ideal.Value.run_blocks m g, ?_⟩
  refine (θ_run _ _ _).mono (fun r h c => ⟨(h c).1.trans ?_, (h c).2⟩) (Cert.Reference10Ideal.Value.run m' g')
  obtain ⟨h0, h1⟩ := hagree c
  rw [h0, h1]
  exact ext1 fun i j => (reference _ _ i j).trans (value m c i j).symm

end Cert.Proof.InProj

end
-- ==== Proof.OutProj.lean ====
module

public import proofs.«01_k».proof.Defs
public import proofs.«01_k».proof.Proof.Blocks
public import proofs.«01_k».proof.Proof.Gen.Kernel11Ideal.Value
public import proofs.«01_k».proof.Proof.Gen.Reference11Ideal.Run

@[expose] public section

noncomputable section

/-! The output projection: its input carried past it, and the product with the weights. -/

namespace Cert.Proof.OutProj

open Idealize.ShloMosaic Idealize.ShloMosaic.TcCoe Cert.Proof.Blocks

section Kernel

open Cert.Kernel11Ideal Cert.Kernel11Ideal.Gen Cert.Kernel11Ideal.Value

/-- One slab of rows: what is carried past the projection and the product. -/
theorem slab1 (v0 : Vec Ideal S1x512x1024 .bf16) (v2 : Vec Ideal S1x1024x512 .bf16) (v4 : Vec Ideal S1x512x512 .f32) (i j : Fin 512) :
    k0_pay4 (F := Ideal) v0 v2 v4 (ix3 0 i j) = v4 (ix3 0 i j) + ∑ k : Fin 1024, v0 (ix3 0 i k) * v2 (ix3 0 k j) := by
  unfold k0_pay4
  pointwise
  exact add_comm _ _
theorem slab2 (v0 : Vec Ideal S1x512x1024 .bf16) (v2 : Vec Ideal S1x1024x512 .bf16) (v4 : Vec Ideal S1x512x512 .f32) (i j : Fin 512) :
    k0_pay1 (F := Ideal) (k0_pay6 v0 v2 v4) (ix3 0 i j) = v4 (ix3 0 i j) + ∑ k : Fin 1024, v0 (ix3 0 i k) * v2 (ix3 0 k j) := slab1 v0 v2 v4 i j
theorem slab3 (v0 : Vec Ideal S1x512x1024 .bf16) (v2 : Vec Ideal S1x1024x512 .bf16) (v4 : Vec Ideal S1x512x512 .f32) (i j : Fin 512) :
    k0_pay2 (F := Ideal) (k0_pay5 v0 v2) v4 (ix3 0 i j) = v4 (ix3 0 i j) + ∑ k : Fin 1024, v0 (ix3 0 i k) * v2 (ix3 0 k j) := slab1 v0 v2 v4 i j
theorem slab4 (v0 : Vec Ideal S1x512x1024 .bf16) (v2 : Vec Ideal S1x1024x512 .bf16) (v4 : Vec Ideal S1x512x512 .f32) (i j : Fin 512) :
    k0_pay3 (F := Ideal) v0 v2 v4 (ix3 0 i j) = v4 (ix3 0 i j) + ∑ k : Fin 1024, v0 (ix3 0 i k) * v2 (ix3 0 k j) := slab1 v0 v2 v4 i j

/-- What the body makes of a grid point's blocks. -/
theorem body (x0 : Vec Ideal S1x2048x1024 .bf16) (x1 : Vec Ideal S1x1024x512 .bf16) (x2 : Vec Ideal S1x2048x512 .f32) (r : Fin 2048) (j : Fin 512) :
    out0_3 (F := Ideal) x0 x1 x2 (ix3 0 r j) = x2 (ix3 0 r j) + ∑ k : Fin 1024, x0 (ix3 0 r k) * x1 (ix3 0 k j) := by
  unfold out0_3
  canon_tiles x h
  all_goals
    obtain ⟨i', j', rfl⟩ := split1 x
    first | rw [slab1] | rw [slab2] | rw [slab3] | rw [slab4]
    refine congrArg₂ (· + ·) (ld3 x2 _ rfl ?_ (h2.trans (Nat.zero_add _).symm)) (Finset.sum_congr rfl fun k _ => congrArg₂ (· * ·) (ld3 x0 _ rfl ?_ (Nat.zero_add _).symm) (ld3 x1 _ rfl (Nat.zero_add _).symm (h2.trans (Nat.zero_add _).symm)))
    · first | exact h1 | exact h1.trans (Nat.zero_add _).symm
    · first | exact h1 | exact h1.trans (Nat.zero_add _).symm

variable (m : (ℓ : Loc nD τ sig) → Buf (Elt Ideal) ℓ)

/-- The arguments and the result. -/
abbrev arg0 (c : Dev nD) : Vec Ideal S2048x1024 .bf16 := m ((c.tc : Thread nD τ).loc main_arg0)
abbrev arg1 (c : Dev nD) : Vec Ideal S4x256x1024 .bf16 := m ((c.tc : Thread nD τ).loc main_arg1)
abbrev arg2 (c : Dev nD) : Vec Ideal S2048x1024 .f32 := m ((c.tc : Thread nD τ).loc main_arg2)
abbrev result (c : Dev nD) : Vec Ideal S1x2048x1024 .f32 := (dats m 0 c).arrAt 3 cfg0.N

theorem index : ∀ t : Fin cfg0.N, (win0_0.index t 0 = 0 ∧ win0_0.index t 1 = 0 ∧ win0_0.index t 2 = 0)
    ∧ (win0_1.index t 0 = 0 ∧ win0_1.index t 1 = 0 ∧ win0_1.index t 2 = t.val)
    ∧ (win0_2.index t 0 = 0 ∧ win0_2.index t 1 = 0 ∧ win0_2.index t 2 = t.val)
    ∧ (win0_3.index t 0 = 0 ∧ win0_3.index t 1 = 0 ∧ win0_3.index t 2 = t.val) :=
  (by decide +kernel : ∀ t : Fin grid0.N, _)

theorem block0 (c : Dev nD) (t : Fin cfg0.N) (r : Fin 2048) (k : Fin 1024) :
    (iblk m c 0 t : Vec Ideal S1x2048x1024 .bf16) (ix3 0 r k) = arg0 m c (ix2 r k) := by
  obtain ⟨⟨e0, e1, e2⟩, -⟩ := index t
  unfold iblk
  rw [View.read_apply, ← staged bcast_S2048x1024_S1x2048x1024_1_2 (arg0 m c)]
  refine at_eq (V m c main_v0 : S1x2048x1024.Idx → _) fun a => ?_
  match a with
  | ⟨0, _⟩ => show win0_0.index t 0 * 1 + 1 * 0 = 0; omega
  | ⟨1, _⟩ => show win0_0.index t 1 * 2048 + 1 * r.val = r.val; omega
  | ⟨2, _⟩ => show win0_0.index t 2 * 1024 + 1 * k.val = k.val; omega

theorem block1 (c : Dev nD) (t : Fin cfg0.N) (k : Fin 1024) (j : Fin 512) (J : Fin 1024) (hJ : J.val = 512 * t.val + j.val) :
    (iblk m c 1 t : Vec Ideal S1x1024x512 .bf16) (ix3 0 k j) = arg1 m c (ix3 ⟨k.val / 256, by omega⟩ ⟨k.val % 256, by omega⟩ J) := by
  obtain ⟨-, ⟨e0, e1, e2⟩, -⟩ := index t
  unfold iblk
  rw [View.read_apply, ← merged3 shapeCasts_S4x256x1024_S1x1024x1024 (arg1 m c)]
  refine at_eq (V m c main_v1 : S1x1024x1024.Idx → _) fun a => ?_
  match a with
  | ⟨0, _⟩ => show win0_1.index t 0 * 1 + 1 * 0 = 0; omega
  | ⟨1, _⟩ => show win0_1.index t 1 * 1024 + 1 * k.val = k.val; omega
  | ⟨2, _⟩ => show win0_1.index t 2 * 512 + 1 * j.val = J.val; omega

theorem block2 (c : Dev nD) (t : Fin cfg0.N) (r : Fin 2048) (j : Fin 512) (J : Fin 1024) (hJ : J.val = 512 * t.val + j.val) :
    (iblk m c 2 t : Vec Ideal S1x2048x512 .f32) (ix3 0 r j) = arg2 m c (ix2 r J) := by
  obtain ⟨-, -, ⟨e0, e1, e2⟩, -⟩ := index t
  unfold iblk
  rw [View.read_apply, ← staged bcast_S2048x1024_S1x2048x1024_1_2 (arg2 m c)]
  refine at_eq (V m c main_v2 : S1x2048x1024.Idx → _) fun a => ?_
  match a with
  | ⟨0, _⟩ => show win0_2.index t 0 * 1 + 1 * 0 = 0; omega
  | ⟨1, _⟩ => show win0_2.index t 1 * 2048 + 1 * r.val = r.val; omega
  | ⟨2, _⟩ => show win0_2.index t 2 * 512 + 1 * j.val = J.val; omega

theorem point (c : Dev nD) (t : Fin cfg0.N) (r : Fin 2048) (j : Fin 512) (J : Fin 1024) (hJ : J.val = 512 * t.val + j.val) :
    result m c (ix3 0 r J) = out0_3 (iblk m c 0 t) (iblk m c 1 t) (iblk m c 2 t) (ix3 0 r j) := by
  obtain ⟨-, -, -, e0, e1, e2⟩ := index t
  have h := congrFun (blocks3 m c t (flush0_3 t)) (ix3 0 r j)
  rw [flushed3, View.read_apply] at h
  refine Eq.trans (at_eq (result m c) fun a => ?_) h
  match a with
  | ⟨0, _⟩ => show 0 = win0_3.index t 0 * 1 + 1 * 0; omega
  | ⟨1, _⟩ => show r.val = win0_3.index t 1 * 2048 + 1 * r.val; omega
  | ⟨2, _⟩ => show J.val = win0_3.index t 2 * 512 + 1 * j.val; omega

/-- What the kernel leaves. -/
theorem value (c : Dev nD) (r : Fin 2048) (J : Fin 1024) :
    result m c (ix3 0 r J) = arg2 m c (ix2 r J) + ∑ k : Fin 1024, arg0 m c (ix2 r k) * arg1 m c (ix3 ⟨k.val / 256, by omega⟩ ⟨k.val % 256, by omega⟩ J) := by
  have ht : J.val / 512 < cfg0.N := by rw [show cfg0.N = 2 from N_0]; omega
  rw [point m c ⟨_, ht⟩ r ⟨J.val % 512, by omega⟩ J (by dsimp only; omega), body, block2 m c _ r _ J (by dsimp only; omega)]
  refine congrArg (arg2 m c (ix2 r J) + ·) (Finset.sum_congr rfl fun k _ => ?_)
  rw [block0 m c _ r k, block1 m c _ k _ J (by dsimp only; omega)]

end Kernel

section Reference

open Cert.Reference11Ideal Cert.Reference11Ideal.Facts₀

/-- The same, as the reference computes it. -/
theorem reference (a : FVec Ideal S2048x1024 .bf16) (b : FVec Ideal S4x256x1024 .bf16) (x : FVec Ideal S2048x1024 .f32) (r : Fin 2048) (J : Fin 1024) :
    broadcastInDim S1x2048x1024 ![1, 2] bcast_S2048x1024_S1x2048x1024_1_2 (addf x (Host.dotGeneral dot_S2048x1024_S1024x1024_S2048x1024_1_0_0_1_n_n none (extf .f32 a bitsLt_bf16_f32) (shapeCast S1024x1024 (extf .f32 b bitsLt_bf16_f32) shapeCasts_S4x256x1024_S1024x1024))) (ix3 0 r J)
      = x (ix2 r J) + ∑ k : Fin 1024, a (ix2 r k) * b (ix3 ⟨k.val / 256, by omega⟩ ⟨k.val % 256, by omega⟩ J) := by
  pointwise

end Reference

theorem frame_reference : Cert.quiescent_Reference11Ideal := fun m ρ _ =>
  (θ_run Cert.Reference11Ideal.defs _ _).mono (fun _ h => ⟨fun c => (h c).2, sem_eq_zero_of_no_sems rfl _⟩) (Cert.Reference11Ideal.Value.run m ρ)

/-- The value claim. -/
theorem algebraic : Cert.algebraic_Kernel11Ideal_Reference11Ideal := by
  intro m g m' g' _ hagree
  refine ⟨fun c => result m c, Cert.Kernel11Ideal.Value.run_blocks m g, ?_⟩
  refine (θ_run _ _ _).mono (fun r h c => ⟨(h c).1.trans ?_, (h c).2⟩) (Cert.Reference11Ideal.Value.run m' g')
  obtain ⟨h0, h1, h2⟩ := hagree c
  rw [h0, h1, h2]
  exact ext1 fun i j => (reference _ _ _ i j).trans (value m c i j).symm

end Cert.Proof.OutProj

end
-- ==== Proof.FfnIn.lean ====
module

public import proofs.«01_k».proof.Defs
public import proofs.«01_k».proof.Proof.Blocks
public import proofs.«01_k».proof.Proof.Gen.Kernel12Ideal.Value
public import proofs.«01_k».proof.Proof.Gen.Reference12Ideal.Run

@[expose] public section

noncomputable section

/-! The gate, the up projection and the gated product of the SwiGLU block. -/

namespace Cert.Proof.FfnIn

open Idealize.ShloMosaic Idealize.ShloMosaic.TcCoe Cert.Proof.Blocks

/-- The product of tokens with a block of channels' weights. -/
abbrev product (a : (⟨2, ![2048, 1024]⟩ : Shape).Idx → EReal) (w : (⟨3, ![4, 704, 1024]⟩ : Shape).Idx → EReal) (g : Fin 4) (R : Fin 2048) (j : Fin 704) : EReal :=
  ∑ k : Fin 1024, a (ix2 R k) * w (ix3 g j k)

/-- The up projection times the gate's SiLU. -/
def gated (g u : EReal) : EReal := g * Ideal.div 1 (1 + Ideal.exp (-g)) * u

section Kernel

open Cert.Kernel12Ideal Cert.Kernel12Ideal.Gen Cert.Kernel12Ideal.Value

/-- The product of a row of tokens with a row of weights, for one slab of rows. -/
abbrev inner (v0 : Vec Ideal S1x256x1024 .bf16) (w : Vec Ideal S1x704x1024 .bf16) (i : Fin 256) (j : Fin 704) : EReal :=
  ∑ k : Fin 1024, v0 (ix3 0 i k) * w (ix3 0 j k)

theorem slab1 (v0 : Vec Ideal S1x256x1024 .bf16) (w : Vec Ideal S1x704x1024 .bf16) (i : Fin 256) (j : Fin 704) :
    k0_pay13 (F := Ideal) (k0_pay12 v0 w) (ix3 0 i j) = inner v0 w i j := by
  unfold k0_pay13 k0_pay12 k0_pay6 k0_pay5
  pointwise
theorem slab2 (v0 : Vec Ideal S1x256x1024 .bf16) (w : Vec Ideal S1x704x1024 .bf16) (i : Fin 256) (j : Fin 704) :
    k0_pay20 (F := Ideal) (k0_pay9 v0 w) (ix3 0 i j) = inner v0 w i j := slab1 v0 w i j
theorem slab3 (v0 : Vec Ideal S1x256x1024 .bf16) (w : Vec Ideal S1x704x1024 .bf16) (i : Fin 256) (j : Fin 704) :
    k0_pay28 (F := Ideal) (k0_pay17 v0 w) (ix3 0 i j) = inner v0 w i j := slab1 v0 w i j
theorem slab4 (v0 : Vec Ideal S1x256x1024 .bf16) (w : Vec Ideal S1x704x1024 .bf16) (i : Fin 256) (j : Fin 704) :
    k0_pay2 (F := Ideal) (k0_pay25 v0 w) (ix3 0 i j) = inner v0 w i j := slab1 v0 w i j
theorem slab5 (v0 : Vec Ideal S1x256x1024 .bf16) (w : Vec Ideal S1x704x1024 .bf16) (i : Fin 256) (j : Fin 704) :
    k0_pay14 (F := Ideal) (k0_pay7 v0 w) (ix3 0 i j) = inner v0 w i j := slab1 v0 w i j
theorem slab6 (v0 : Vec Ideal S1x256x1024 .bf16) (w : Vec Ideal S1x704x1024 .bf16) (i : Fin 256) (j : Fin 704) :
    k0_pay22 (F := Ideal) (k0_pay21 (k0_pay10 v0 w)) (ix3 0 i j) = inner v0 w i j := slab1 v0 w i j
theorem slab7 (v0 : Vec Ideal S1x256x1024 .bf16) (w : Vec Ideal S1x704x1024 .bf16) (i : Fin 256) (j : Fin 704) :
    k0_pay29 (F := Ideal) (k0_pay18 v0 w) (ix3 0 i j) = inner v0 w i j := slab1 v0 w i j
theorem slab8 (v0 : Vec Ideal S1x256x1024 .bf16) (w : Vec Ideal S1x704x1024 .bf16) (i : Fin 256) (j : Fin 704) :
    k0_pay3 (F := Ideal) (k0_pay26 v0 w) (ix3 0 i j) = inner v0 w i j := slab1 v0 w i j

/-- The gated product of one slab of rows. -/
theorem gated1 (v0 : Vec Ideal S1x256x1024 .bf16) (w u : Vec Ideal S1x704x1024 .bf16) (i : Fin 256) (j : Fin 704) :
    k0_pay15 (F := Ideal) (k0_pay11 v0 w u) (ix3 0 i j) = gated (inner v0 w i j) (inner v0 u i j) := by
  unfold k0_pay15 k0_pay11 k0_pay6 k0_pay7 k0_pay5
  pointwise
  rw [zero_sub]
  rfl
theorem gated2 (v0 : Vec Ideal S1x256x1024 .bf16) (w u : Vec Ideal S1x704x1024 .bf16) (i : Fin 256) (j : Fin 704) :
    k0_pay23 (F := Ideal) (k0_pay19 (k0_pay9 v0 w) (k0_pay10 v0 u)) (ix3 0 i j) = gated (inner v0 w i j) (inner v0 u i j) := gated1 v0 w u i j
theorem gated3 (v0 : Vec Ideal S1x256x1024 .bf16) (w u : Vec Ideal S1x704x1024 .bf16) (i : Fin 256) (j : Fin 704) :
    k0_pay1 (F := Ideal) (k0_pay27 (k0_pay17 v0 w) (k0_pay18 v0 u)) (ix3 0 i j) = gated (inner v0 w i j) (inner v0 u i j) := gated1 v0 w u i j
theorem gated4 (v0 : Vec Ideal S1x256x1024 .bf16) (w u : Vec Ideal S1x704x1024 .bf16) (i : Fin 256) (j : Fin 704) :
    k0_pay4 (F := Ideal) (k0_pay25 v0 w) (k0_pay26 v0 u) (ix3 0 i j) = gated (inner v0 w i j) (inner v0 u i j) := gated1 v0 w u i j

/-- A slab's products, from the grid point's blocks. -/
theorem inner_eq (x0 : Vec Ideal S1x1024x1024 .bf16) (w : Vec Ideal S1x704x1024 .bf16) {o : ℕ} (inb : ∀ a, (![0, o, 0] : Fin 3 → ℕ) a + S1x256x1024.size a ≤ S1x1024x1024.size a)
    {i : Fin 256} {r : Fin 1024} (hr : r.val = o + i.val) {j j' : Fin 704} (hj : j'.val = j.val) :
    inner (View.ld x0 (Rect.unit (s := S1x1024x1024) ![0, o, 0] S1x256x1024.size inb)) (View.ld w r0_1) i j = ∑ k : Fin 1024, x0 (ix3 0 r k) * w (ix3 0 j' k) :=
  Finset.sum_congr rfl fun k _ => congrArg₂ (· * ·) (ld3 x0 _ rfl hr (Nat.zero_add _).symm) (ld3 w _ rfl (hj.trans (Nat.zero_add _).symm) (Nat.zero_add _).symm)

/-- What the body makes of a grid point's blocks. -/
theorem body3 (x0 : Vec Ideal S1x1024x1024 .bf16) (x1 x2 : Vec Ideal S1x704x1024 .bf16) (r : Fin 1024) (j : Fin 704) :
    out0_3 (F := Ideal) x0 x1 x2 (ix3 0 r j) = ∑ k : Fin 1024, x0 (ix3 0 r k) * x1 (ix3 0 j k) := by
  unfold out0_3 k0_pay30 k0_pay32 k0_pay34
  canon_tiles x h
  all_goals
    obtain ⟨i', j', rfl⟩ := split1 x
    first | rw [slab1] | rw [slab2] | rw [slab3] | rw [slab4]
    refine inner_eq x0 x1 _ ?_ h2
    first | exact h1 | exact h1.trans (Nat.zero_add _).symm
theorem body4 (x0 : Vec Ideal S1x1024x1024 .bf16) (x1 x2 : Vec Ideal S1x704x1024 .bf16) (r : Fin 1024) (j : Fin 704) :
    out0_4 (F := Ideal) x0 x1 x2 (ix3 0 r j) = ∑ k : Fin 1024, x0 (ix3 0 r k) * x2 (ix3 0 j k) := by
  unfold out0_4 k0_pay31 k0_pay33 k0_pay35
  canon_tiles x h
  all_goals
    obtain ⟨i', j', rfl⟩ := split1 x
    first | rw [slab5] | rw [slab6] | rw [slab7] | rw [slab8]
    refine inner_eq x0 x2 _ ?_ h2
    first | exact h1 | exact h1.trans (Nat.zero_add _).symm
theorem body5 (x0 : Vec Ideal S1x1024x1024 .bf16) (x1 x2 : Vec Ideal S1x704x1024 .bf16) (r : Fin 1024) (j : Fin 704) :
    out0_5 (F := Ideal) x0 x1 x2 (ix3 0 r j) = gated (∑ k : Fin 1024, x0 (ix3 0 r k) * x1 (ix3 0 j k)) (∑ k : Fin 1024, x0 (ix3 0 r k) * x2 (ix3 0 j k)) := by
  unfold out0_5 k0_pay30 k0_pay31 k0_pay32 k0_pay33 k0_pay34 k0_pay35
  canon_tiles x h
  all_goals
    obtain ⟨i', j', rfl⟩ := split1 x
    first | rw [gated1] | rw [gated2] | rw [gated3] | rw [gated4]
    refine congrArg₂ gated (inner_eq x0 x1 _ ?_ h2) (inner_eq x0 x2 _ ?_ h2)
    all_goals first | exact h1 | exact h1.trans (Nat.zero_add _).symm

variable (m : (ℓ : Loc nD τ sig) → Buf (Elt Ideal) ℓ)

/-- The arguments and the result. -/
abbrev arg0 (c : Dev nD) : Vec Ideal S2048x1024 .bf16 := m ((c.tc : Thread nD τ).loc main_arg0)
abbrev arg1 (c : Dev nD) : Vec Ideal S4x704x1024 .bf16 := m ((c.tc : Thread nD τ).loc main_arg1)
abbrev arg2 (c : Dev nD) : Vec Ideal S4x704x1024 .bf16 := m ((c.tc : Thread nD τ).loc main_arg2)
abbrev result3 (c : Dev nD) : Vec Ideal S4x2048x704 .bf16 := (dats m 0 c).arrAt 3 cfg0.N
abbrev result4 (c : Dev nD) : Vec Ideal S4x2048x704 .bf16 := (dats m 0 c).arrAt 4 cfg0.N
abbrev result5 (c : Dev nD) : Vec Ideal S4x2048x704 .bf16 := (dats m 0 c).arrAt 5 cfg0.N

theorem index : ∀ t : Fin cfg0.N, (win0_0.index t 0 = 0 ∧ win0_0.index t 1 = t.val / 4 ∧ win0_0.index t 2 = 0)
    ∧ (win0_1.index t 0 = t.val % 4 ∧ win0_1.index t 1 = 0 ∧ win0_1.index t 2 = 0)
    ∧ (win0_2.index t 0 = t.val % 4 ∧ win0_2.index t 1 = 0 ∧ win0_2.index t 2 = 0)
    ∧ (win0_3.index t 0 = t.val % 4 ∧ win0_3.index t 1 = t.val / 4 ∧ win0_3.index t 2 = 0)
    ∧ (win0_4.index t 0 = t.val % 4 ∧ win0_4.index t 1 = t.val / 4 ∧ win0_4.index t 2 = 0)
    ∧ (win0_5.index t 0 = t.val % 4 ∧ win0_5.index t 1 = t.val / 4 ∧ win0_5.index t 2 = 0) :=
  (by decide +kernel : ∀ t : Fin grid0.N, _)

theorem block0 (c : Dev nD) (t : Fin cfg0.N) (r : Fin 1024) (R : Fin 2048) (hR : R.val = 1024 * (t.val / 4) + r.val) (k : Fin 1024) :
    (iblk m c 0 t : Vec Ideal S1x1024x1024 .bf16) (ix3 0 r k) = arg0 m c (ix2 R k) := by
  obtain ⟨⟨e0, e1, e2⟩, -⟩ := index t
  unfold iblk
  rw [View.read_apply, ← staged bcast_S2048x1024_S1x2048x1024_1_2 (arg0 m c)]
  refine at_eq (V m c main_v0 : S1x2048x1024.Idx → _) fun a => ?_
  match a with
  | ⟨0, _⟩ => show win0_0.index t 0 * 1 + 1 * 0 = 0; omega
  | ⟨1, _⟩ => show win0_0.index t 1 * 1024 + 1 * r.val = R.val; omega
  | ⟨2, _⟩ => show win0_0.index t 2 * 1024 + 1 * k.val = k.val; omega

theorem block1 (c : Dev nD) (t : Fin cfg0.N) (g : Fin 4) (hg : t.val % 4 = g.val) (j : Fin 704) (k : Fin 1024) :
    (iblk m c 1 t : Vec Ideal S1x704x1024 .bf16) (ix3 0 j k) = arg1 m c (ix3 g j k) := by
  obtain ⟨-, ⟨e0, e1, e2⟩, -⟩ := index t
  unfold iblk
  rw [View.read_apply, show arg1 m c = V m c main_arg1 from (V_main_arg1 m c).symm]
  refine at_eq (V m c main_arg1 : S4x704x1024.Idx → _) fun a => ?_
  match a with
  | ⟨0, _⟩ => show win0_1.index t 0 * 1 + 1 * 0 = g.val; omega
  | ⟨1, _⟩ => show win0_1.index t 1 * 704 + 1 * j.val = j.val; omega
  | ⟨2, _⟩ => show win0_1.index t 2 * 1024 + 1 * k.val = k.val; omega

theorem block2 (c : Dev nD) (t : Fin cfg0.N) (g : Fin 4) (hg : t.val % 4 = g.val) (j : Fin 704) (k : Fin 1024) :
    (iblk m c 2 t : Vec Ideal S1x704x1024 .bf16) (ix3 0 j k) = arg2 m c (ix3 g j k) := by
  obtain ⟨-, -, ⟨e0, e1, e2⟩, -⟩ := index t
  unfold iblk
  rw [View.read_apply, show arg2 m c = V m c main_arg2 from (V_main_arg2 m c).symm]
  refine at_eq (V m c main_arg2 : S4x704x1024.Idx → _) fun a => ?_
  match a with
  | ⟨0, _⟩ => show win0_2.index t 0 * 1 + 1 * 0 = g.val; omega
  | ⟨1, _⟩ => show win0_2.index t 1 * 704 + 1 * j.val = j.val; omega
  | ⟨2, _⟩ => show win0_2.index t 2 * 1024 + 1 * k.val = k.val; omega

theorem point3 (c : Dev nD) (t : Fin cfg0.N) (g : Fin 4) (hg : t.val % 4 = g.val) (r : Fin 1024) (R : Fin 2048) (hR : R.val = 1024 * (t.val / 4) + r.val) (j : Fin 704) :
    result3 m c (ix3 g R j) = out0_3 (iblk m c 0 t) (iblk m c 1 t) (iblk m c 2 t) (ix3 0 r j) := by
  obtain ⟨-, -, -, e0, e1, e2⟩ := index t
  have h := congrFun (blocks3 m c t (flush0_3 t)) (ix3 0 r j)
  rw [flushed3, View.read_apply] at h
  refine Eq.trans (at_eq (result3 m c) fun a => ?_) h
  match a with
  | ⟨0, _⟩ => show g.val = win0_3.index t 0 * 1 + 1 * 0; omega
  | ⟨1, _⟩ => show R.val = win0_3.index t 1 * 1024 + 1 * r.val; omega
  | ⟨2, _⟩ => show j.val = win0_3.index t 2 * 704 + 1 * j.val; omega

theorem point4 (c : Dev nD) (t : Fin cfg0.N) (g : Fin 4) (hg : t.val % 4 = g.val) (r : Fin 1024) (R : Fin 2048) (hR : R.val = 1024 * (t.val / 4) + r.val) (j : Fin 704) :
    result4 m c (ix3 g R j) = out0_4 (iblk m c 0 t) (iblk m c 1 t) (iblk m c 2 t) (ix3 0 r j) := by
  obtain ⟨-, -, -, -, e0, e1, e2⟩ := index t
  have h := congrFun (blocks4 m c t (flush0_4 t)) (ix3 0 r j)
  rw [flushed4, View.read_apply] at h
  refine Eq.trans (at_eq (result4 m c) fun a => ?_) h
  match a with
  | ⟨0, _⟩ => show g.val = win0_4.index t 0 * 1 + 1 * 0; omega
  | ⟨1, _⟩ => show R.val = win0_4.index t 1 * 1024 + 1 * r.val; omega
  | ⟨2, _⟩ => show j.val = win0_4.index t 2 * 704 + 1 * j.val; omega

theorem point5 (c : Dev nD) (t : Fin cfg0.N) (g : Fin 4) (hg : t.val % 4 = g.val) (r : Fin 1024) (R : Fin 2048) (hR : R.val = 1024 * (t.val / 4) + r.val) (j : Fin 704) :
    result5 m c (ix3 g R j) = out0_5 (iblk m c 0 t) (iblk m c 1 t) (iblk m c 2 t) (ix3 0 r j) := by
  obtain ⟨-, -, -, -, -, e0, e1, e2⟩ := index t
  have h := congrFun (blocks5 m c t (flush0_5 t)) (ix3 0 r j)
  rw [flushed5, View.read_apply] at h
  refine Eq.trans (at_eq (result5 m c) fun a => ?_) h
  match a with
  | ⟨0, _⟩ => show g.val = win0_5.index t 0 * 1 + 1 * 0; omega
  | ⟨1, _⟩ => show R.val = win0_5.index t 1 * 1024 + 1 * r.val; omega
  | ⟨2, _⟩ => show j.val = win0_5.index t 2 * 704 + 1 * j.val; omega

/-- A grid point's blocks, and its products from the arguments. -/
abbrev tokens (c : Dev nD) (t : Fin cfg0.N) : Vec Ideal S1x1024x1024 .bf16 := iblk m c 0 t
abbrev weights1 (c : Dev nD) (t : Fin cfg0.N) : Vec Ideal S1x704x1024 .bf16 := iblk m c 1 t
abbrev weights2 (c : Dev nD) (t : Fin cfg0.N) : Vec Ideal S1x704x1024 .bf16 := iblk m c 2 t
theorem inner_arg1 (c : Dev nD) (t : Fin cfg0.N) (g : Fin 4) (hg : t.val % 4 = g.val) (r : Fin 1024) (R : Fin 2048) (hR : R.val = 1024 * (t.val / 4) + r.val) (j : Fin 704) :
    (∑ k : Fin 1024, tokens m c t (ix3 0 r k) * weights1 m c t (ix3 0 j k)) = product (arg0 m c) (arg1 m c) g R j :=
  Finset.sum_congr rfl fun k _ => congrArg₂ (· * ·) (block0 m c t r R hR k) (block1 m c t g hg j k)
theorem inner_arg2 (c : Dev nD) (t : Fin cfg0.N) (g : Fin 4) (hg : t.val % 4 = g.val) (r : Fin 1024) (R : Fin 2048) (hR : R.val = 1024 * (t.val / 4) + r.val) (j : Fin 704) :
    (∑ k : Fin 1024, tokens m c t (ix3 0 r k) * weights2 m c t (ix3 0 j k)) = product (arg0 m c) (arg2 m c) g R j :=
  Finset.sum_congr rfl fun k _ => congrArg₂ (· * ·) (block0 m c t r R hR k) (block2 m c t g hg j k)

/-- The grid point that makes a block of channels and a block of tokens. -/
theorem pointOf (g : Fin 4) (R : Fin 2048) : ∃ t : Fin cfg0.N, t.val % 4 = g.val ∧ R.val = 1024 * (t.val / 4) + R.val % 1024 :=
  ⟨⟨4 * (R.val / 1024) + g.val, by rw [show cfg0.N = 8 from N_0]; omega⟩, by dsimp only; omega, by dsimp only; omega⟩

/-- What the kernel leaves. -/
theorem value3 (c : Dev nD) (g : Fin 4) (R : Fin 2048) (j : Fin 704) : result3 m c (ix3 g R j) = product (arg0 m c) (arg1 m c) g R j := by
  obtain ⟨t, hg, hR⟩ := pointOf g R
  rw [point3 m c t g hg ⟨R.val % 1024, by omega⟩ R hR j, body3, inner_arg1 m c t g hg _ R hR j]
theorem value4 (c : Dev nD) (g : Fin 4) (R : Fin 2048) (j : Fin 704) : result4 m c (ix3 g R j) = product (arg0 m c) (arg2 m c) g R j := by
  obtain ⟨t, hg, hR⟩ := pointOf g R
  rw [point4 m c t g hg ⟨R.val % 1024, by omega⟩ R hR j, body4, inner_arg2 m c t g hg _ R hR j]
theorem value5 (c : Dev nD) (g : Fin 4) (R : Fin 2048) (j : Fin 704) :
    result5 m c (ix3 g R j) = gated (product (arg0 m c) (arg1 m c) g R j) (product (arg0 m c) (arg2 m c) g R j) := by
  obtain ⟨t, hg, hR⟩ := pointOf g R
  rw [point5 m c t g hg ⟨R.val % 1024, by omega⟩ R hR j, body5, inner_arg1 m c t g hg _ R hR j, inner_arg2 m c t g hg _ R hR j]

end Kernel

section Reference

open Cert.Reference12Ideal Cert.Reference12Ideal.Facts₀

/-- The same, as the reference computes it. -/
theorem reference (a : FVec Ideal S2048x1024 .bf16) (b : FVec Ideal S4x704x1024 .bf16) (g : Fin 4) (R : Fin 2048) (j : Fin 704) :
    truncf .bf16 (transpose S4x2048x704 [0, 2, 1] (Host.dotGeneral dot_S4x704x1024_S2048x1024_S4x704x2048_2_1_01_0_n_n none (extf .f32 b bitsLt_bf16_f32) (extf .f32 a bitsLt_bf16_f32)) transposes_S4x704x2048_S4x2048x704_0_2_1) bitsLt_bf16_f32 (ix3 g R j)
      = product a b g R j := by
  pointwise
  exact Finset.sum_congr rfl fun k _ => mul_comm _ _
theorem reference_gated (a : FVec Ideal S2048x1024 .bf16) (b c : FVec Ideal S4x704x1024 .bf16) (g : Fin 4) (R : Fin 2048) (j : Fin 704) :
    truncf .bf16 (mulf (mulf (transpose S4x2048x704 [0, 2, 1] (Host.dotGeneral dot_S4x704x1024_S2048x1024_S4x704x2048_2_1_01_0_n_n none (extf .f32 b bitsLt_bf16_f32) (extf .f32 a bitsLt_bf16_f32)) transposes_S4x704x2048_S4x2048x704_0_2_1) (Host.divf (broadcastInDim S4x2048x704 ![] bcast_S_S4x2048x704 (constant S_ .f32 0x3F800000#32)) (addf (broadcastInDim S4x2048x704 ![] bcast_S_S4x2048x704 (constant S_ .f32 0x3F800000#32)) (Host.exp (Host.negf (transpose S4x2048x704 [0, 2, 1] (Host.dotGeneral dot_S4x704x1024_S2048x1024_S4x704x2048_2_1_01_0_n_n none (extf .f32 b bitsLt_bf16_f32) (extf .f32 a bitsLt_bf16_f32)) transposes_S4x704x2048_S4x2048x704_0_2_1)))))) (transpose S4x2048x704 [0, 2, 1] (Host.dotGeneral dot_S4x704x1024_S2048x1024_S4x704x2048_2_1_01_0_n_n none (extf .f32 c bitsLt_bf16_f32) (extf .f32 a bitsLt_bf16_f32)) transposes_S4x704x2048_S4x2048x704_0_2_1)) bitsLt_bf16_f32 (ix3 g R j)
      = gated (product a b g R j) (product a c g R j) := by
  rw [show product a b g R j = ∑ k : Fin 1024, b (ix3 g j k) * a (ix2 R k) from Finset.sum_congr rfl fun k _ => mul_comm _ _,
    show product a c g R j = ∑ k : Fin 1024, c (ix3 g j k) * a (ix2 R k) from Finset.sum_congr rfl fun k _ => mul_comm _ _]
  pointwise
  rfl

end Reference

theorem frame_reference : Cert.quiescent_Reference12Ideal := fun m ρ _ =>
  (θ_run Cert.Reference12Ideal.defs _ _).mono (fun _ h => ⟨fun c => (h c).2.2.2, sem_eq_zero_of_no_sems rfl _⟩) (Cert.Reference12Ideal.Value.run m ρ)

/-- The value claim. -/
theorem algebraic : Cert.algebraic_Kernel12Ideal_Reference12Ideal := by
  intro m g m' g' _ hagree
  refine ⟨fun c => result3 m c, fun c => result4 m c, fun c => result5 m c, Cert.Kernel12Ideal.Value.run_blocks m g, ?_⟩
  refine (θ_run _ _ _).mono (fun r h c => ⟨(h c).1.trans ?_, (h c).2.1.trans ?_, (h c).2.2.1.trans ?_, (h c).2.2.2⟩) (Cert.Reference12Ideal.Value.run m' g')
  all_goals
    obtain ⟨h0, h1, h2⟩ := hagree c
    first | rw [h0, h1, h2] | rw [h0, h1] | rw [h0, h2]
  · exact ext3 fun a i j => (reference _ _ a i j).trans (value3 m c a i j).symm
  · exact ext3 fun a i j => (reference _ _ a i j).trans (value4 m c a i j).symm
  · exact ext3 fun a i j => (reference_gated _ _ _ a i j).trans (value5 m c a i j).symm

end Cert.Proof.FfnIn

end
-- ==== Proof.NormBwd.lean ====
module

public import proofs.«01_k».proof.Defs
public import proofs.«01_k».proof.Proof.Blocks
public import proofs.«01_k».proof.Proof.Gen.Kernel13Ideal.Value
public import proofs.«01_k».proof.Proof.Gen.Reference13Ideal.Run
public import Idealize.ShloMosaic.Lib.Pipeline.ValueKit.Point

@[expose] public section

noncomputable section

/-! The gradient of the root mean square norm. -/

namespace Cert.Proof.NormBwd

open Idealize.ShloMosaic Idealize.ShloMosaic.TcCoe Cert.Proof.Blocks Cert.Kernel13Ideal Cert.Kernel13Ideal.Gen Cert.Kernel13Ideal.Value

theorem index : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ)

/-- Every point writes the same of its blocks, the first and the others. -/
theorem after4 (c : Dev nD) (t : Fin cfg0.N) : (outsAt0 m c t.val t.isLt).1 = k0_pay5 (iblk m c 1 t) (iblk m c 2 t) (iblk m c 0 t) (iblk m c 3 t) := by
  by_cases h : t.val % 4 = 0
  · rw [outsAt0_A m c t h (by have := t.isLt; have : cfg0.N = 4 := N_0; omega)]; frame_out
  · rw [outsAt0_B m c t h (by omega)]; frame_out
theorem after5 (c : Dev nD) (t : Fin cfg0.N) : (outsAt0 m c t.val t.isLt).2.1 = k0_pay6 (iblk m c 1 t) (iblk m c 2 t) (iblk m c 0 t) (iblk m c 3 t) := by
  by_cases h : t.val % 4 = 0
  · rw [outsAt0_A m c t h (by have := t.isLt; have : cfg0.N = 4 := N_0; omega)]; frame_out
  · rw [outsAt0_B m c t h (by omega)]; frame_out

/-- The gain's gradient is the sum of the points'. -/
theorem after6 (c : Dev nD) (j : S1x1024.Idx) : (outsAt0 m c t0_3.val t0_3.isLt).2.2 j = ∑ p : Fin cfg0.N, k0_pay4 (iblk m c 1 p) (iblk m c 0 p) j := by
  rw [Pipeline.eq_sum_fin_of_reset_step_apply_last (fun n h => (outsAt0 m c n h).2.2) 4 (fun _ => (0 : EReal)) (fun p j => k0_pay4 (iblk m c 1 p) (iblk m c 0 p) j)
      (fun t h j => by
        rw [outsAt0_A m c t h (by have := t.isLt; have : cfg0.N = 4 := N_0; omega)]; frame_out; exact (zero_add _).symm)
      (fun t h j => by
        rw [outsAt0_B m c t h (by omega)]; frame_out; pointwise [k0_pay1])
      (le_of_eq N_0) t0_3 rfl j, zero_add]

theorem frame_reference : Cert.quiescent_Reference13Ideal := fun m ρ _ =>
  (θ_run Cert.Reference13Ideal.defs _ _).mono (fun _ h => ⟨fun c => (h c).2.2.2, sem_eq_zero_of_no_sems rfl _⟩) (Cert.Reference13Ideal.Value.run m ρ)

set_option maxHeartbeats 4000000 in
/-- The value claim. -/
theorem algebraic : Cert.algebraic_Kernel13Ideal_Reference13Ideal := by
  intro m g m' g' _ hagree
  refine ⟨fun c => (dats m 0 c).arrAt 4 cfg0.N, fun c => (dats m 0 c).arrAt 5 cfg0.N, fun c => (dats m 0 c).arrAt 6 cfg0.N, Cert.Kernel13Ideal.Value.run_blocks m g, ?_⟩
  refine (θ_run _ _ _).mono (fun r h c => ⟨(h c).1.trans ?_, (h c).2.1.trans ?_, (h c).2.2.1.trans ?_, (h c).2.2.2⟩) (Cert.Reference13Ideal.Value.run m' g')
  all_goals
    clear h
    obtain ⟨h0, h1, h2, h3⟩ := hagree c
  · unfold Cert.Reference13Ideal.Value.res_main_v37
    rw [h0, h1, h2, h3]
    refine ((dats m 0 c).arrAt_eq_of_covers 4 _ (by decide +kernel) fun t hf y => ?_).symm
    blk_simp
    rw [after0_4, after4]
    pointwise [k0_pay5, k0_pay3, k0_pay2]
    blk_point [iblk, V, index t]
  · unfold Cert.Reference13Ideal.Value.res_main_v39
    rw [h0, h1, h2, h3]
    refine ((dats m 0 c).arrAt_eq_of_covers 5 _ (by decide +kernel) fun t hf y => ?_).symm
    blk_simp
    rw [after0_5, after5]
    pointwise [k0_pay6, k0_pay5, k0_pay3, k0_pay2]
    blk_point [iblk, V, index t]
  · rw [h0, h1]
    refine ((dats m 0 c).arrAt_eq_of_after_last 6 t0_3 (by decide +kernel) _ fun j => ?_).symm
    blk_simp
    rw [after0_6, after6]
    pointwise [k0_pay4, k0_pay3, k0_pay2]
    refine Fin.sum_points_lanes_congr 4 fun t k ha hl => ?_
    blk_point [iblk, V, index t]

end Cert.Proof.NormBwd

end
-- ==== Proof.Norm.lean ====
module

public import proofs.«01_k».proof.Defs
public import proofs.«01_k».proof.Proof.Blocks
public import proofs.«01_k».proof.Proof.Gen.Kernel14Ideal.Value
public import proofs.«01_k».proof.Proof.Gen.Reference14Ideal.Run
public import Idealize.ShloMosaic.Lib.Pipeline.ValueKit.Point

@[expose] public section

noncomputable section

/-! The root mean square norm of every token. -/

namespace Cert.Proof.Norm

open Idealize.ShloMosaic Idealize.ShloMosaic.TcCoe Cert.Proof.Blocks Cert.Kernel14Ideal Cert.Kernel14Ideal.Gen Cert.Kernel14Ideal.Value

theorem index : ∀ t : Fin cfg0.N, win0_0.index t = ![t.val, 0] ∧ win0_1.index t = ![0, 0] ∧ win0_2.index t = ![t.val, 0] :=
  (by decide +kernel : ∀ t : Fin grid0.N, _)

theorem frame_reference : Cert.quiescent_Reference14Ideal := fun m ρ _ =>
  (θ_run Cert.Reference14Ideal.defs _ _).mono (fun _ h => ⟨fun c => (h c).2, sem_eq_zero_of_no_sems rfl _⟩) (Cert.Reference14Ideal.Value.run m ρ)

/-- The value claim. -/
theorem algebraic : Cert.algebraic_Kernel14Ideal_Reference14Ideal := by
  intro m g m' g' _ hagree
  refine ⟨fun c => (dats m 0 c).arrAt 2 cfg0.N, Cert.Kernel14Ideal.Value.run_blocks m g, ?_⟩
  refine (θ_run _ _ _).mono (fun r h c => ⟨(h c).1.trans ?_, (h c).2⟩) (Cert.Reference14Ideal.Value.run m' g')
  obtain ⟨h0, h1⟩ := hagree c
  rw [h0, h1]
  refine ((dats m 0 c).arrAt_eq_of_covers 2 _ (by decide +kernel) fun t hf y => ?_).symm
  blk_simp
  rw [after0_2]
  frame_out
  pointwise [k0_pay1]
  blk_point [iblk, V, index t]

end Cert.Proof.Norm

end
-- ==== Proof.Adamw.lean ====
module

public import proofs.«01_k».proof.Defs
public import proofs.«01_k».proof.Proof.Blocks
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import Idealize.ShloMosaic.Lib.Pipeline.ValueKit.Point

@[expose] public section

noncomputable section

/-! The optimiser's step of the large weights: every entry by itself, the same operations in the same order. -/

namespace Cert.Proof.Adamw

open Idealize.ShloMosaic Idealize.ShloMosaic.TcCoe Cert.Proof.Blocks

/-- The moments and the change of one weight. -/
def newM (g m : Ideal .f32) : Ideal .f32 :=
  FloatOps.addf (FloatOps.mulf (Scalar.ofBits .f32 0x3F666666#32) m) (FloatOps.mulf (Scalar.ofBits .f32 0x3DCCCCCD#32) g)
def newV (g v : Ideal .f32) : Ideal .f32 :=
  FloatOps.addf (FloatOps.mulf (Scalar.ofBits .f32 0x3F7FBE77#32) v) (FloatOps.mulf (Scalar.ofBits .f32 0x3A83126F#32) (FloatOps.mulf g g))
def delta (w g m v : Ideal .f32) : Ideal .f32 :=
  FloatOps.mulf (Scalar.ofBits .f32 0xBA83126F#32)
    (FloatOps.addf
      (FloatOps.divf (FloatOps.divf (newM g m) (Scalar.ofBits .f32 0x3F26BD02#32))
        (FloatOps.addf (FloatOps.sqrt (FloatOps.divf (newV g v) (Scalar.ofBits .f32 0x3C231ACC#32))) (Scalar.ofBits .f32 0x322BCC77#32)))
      (FloatOps.mulf (Scalar.ofBits .f32 0x3C23D70A#32) w))

/-- The same of every entry of an array, as the references state it. -/
abbrev spread {S : Shape} (hb : (⟨0, ![]⟩ : Shape).BroadcastsInDim S ![]) (b : BitVec 32) : FVec Ideal S .f32 := broadcastInDim S ![] hb (constant (F := Ideal) ⟨0, ![]⟩ .f32 b)

theorem moment1 {S : Shape} (hb : (⟨0, ![]⟩ : Shape).BroadcastsInDim S ![]) (g m : FVec Ideal S .f32) :
    addf (mulf (spread hb 0x3F666666#32) m) (mulf (spread hb 0x3DCCCCCD#32) g) = fun x => newM (g x) (m x) := rfl
theorem moment2 {S : Shape} (hb : (⟨0, ![]⟩ : Shape).BroadcastsInDim S ![]) (g v : FVec Ideal S .f32) :
    addf (mulf (spread hb 0x3F7FBE77#32) v) (mulf (spread hb 0x3A83126F#32) (mulf g g)) = fun x => newV (g x) (v x) := rfl
theorem change {S : Shape} (hb : (⟨0, ![]⟩ : Shape).BroadcastsInDim S ![]) (w g m v : FVec Ideal S .f32) :
    mulf (spread hb 0xBA83126F#32)
      (addf
        (Host.divf (Host.divf (addf (mulf (spread hb 0x3F666666#32) m) (mulf (spread hb 0x3DCCCCCD#32) g)) (spread hb 0x3F26BD02#32))
          (addf (Host.sqrt (Host.divf (addf (mulf (spread hb 0x3F7FBE77#32) v) (mulf (spread hb 0x3A83126F#32) (mulf g g))) (spread hb 0x3C231ACC#32))) (spread hb 0x322BCC77#32)))
        (mulf (spread hb 0x3C23D70A#32) w))
      = fun x => delta (w x) (g x) (m x) (v x) := rfl

/-! The SwiGLU's weights. -/
namespace Ffn

open Cert.Kernel15Ideal Cert.Kernel15Ideal.Gen Cert.Kernel15Ideal.Value

variable (m : (ℓ : Loc nD τ sig) → Buf (Elt Ideal) ℓ)

abbrev arg0 (c : Dev nD) : Vec Ideal S2x704x1024 .f32 := m ((c.tc : Thread nD τ).loc main_arg0)
abbrev arg1 (c : Dev nD) : Vec Ideal S2x704x1024 .f32 := m ((c.tc : Thread nD τ).loc main_arg1)
abbrev arg2 (c : Dev nD) : Vec Ideal S2x704x1024 .f32 := m ((c.tc : Thread nD τ).loc main_arg2)
abbrev arg3 (c : Dev nD) : Vec Ideal S2x704x1024 .f32 := m ((c.tc : Thread nD τ).loc main_arg3)

theorem index : ∀ t : Fin cfg0.N, win0_4.index t = ![t.val / 2, t.val % 2, 0] ∧ win0_5.index t = ![t.val / 2, t.val % 2, 0] ∧ win0_6.index t = ![t.val / 2, t.val % 2, 0]
    ∧ win0_0.index t = ![t.val / 2, t.val % 2, 0] ∧ win0_1.index t = ![t.val / 2, t.val % 2, 0] ∧ win0_2.index t = ![t.val / 2, t.val % 2, 0] ∧ win0_3.index t = ![t.val / 2, t.val % 2, 0] :=
  (by decide +kernel : ∀ t : Fin grid0.N, _)

theorem value4 (c : Dev nD) : ((dats m 0 c).arrAt 4 cfg0.N : Vec Ideal S2x704x1024 .f32) = fun x => delta (arg0 m c x) (arg1 m c x) (arg2 m c x) (arg3 m c x) := by
  refine (dats m 0 c).arrAt_eq_of_covers 4 _ (by decide +kernel) fun t hf y => ?_
  blk_simp
  rw [after0_4]
  frame_out
  pointwise [k0_pay1, k0_pay7, k0_pay6, k0_pay5, k0_pay4, delta, newM, newV]
  blk_point [iblk, V, index t]
theorem value5 (c : Dev nD) : ((dats m 0 c).arrAt 5 cfg0.N : Vec Ideal S2x704x1024 .f32) = fun x => newM (arg1 m c x) (arg2 m c x) := by
  refine (dats m 0 c).arrAt_eq_of_covers 5 _ (by decide +kernel) fun t hf y => ?_
  blk_simp
  rw [after0_5]
  frame_out
  pointwise [k0_pay2, k0_pay5, k0_pay4, newM]
  blk_point [iblk, V, index t]
theorem value6 (c : Dev nD) : ((dats m 0 c).arrAt 6 cfg0.N : Vec Ideal S2x704x1024 .f32) = fun x => newV (arg1 m c x) (arg3 m c x) := by
  refine (dats m 0 c).arrAt_eq_of_covers 6 _ (by decide +kernel) fun t hf y => ?_
  blk_simp
  rw [after0_6]
  frame_out
  pointwise [k0_pay3, k0_pay6, k0_pay4, newV]
  blk_point [iblk, V, index t]

theorem frame_reference : Cert.quiescent_Reference15Ideal := fun m ρ _ =>
  (θ_run Cert.Reference15Ideal.defs _ _).mono (fun _ h => ⟨fun c => (h c).2.2.2, sem_eq_zero_of_no_sems rfl _⟩) (Cert.Reference15Ideal.Value.run m ρ)

/-- The value claim. -/
theorem algebraic : Cert.algebraic_Kernel15Ideal_Reference15Ideal := by
  intro m g m' g' _ hagree
  refine ⟨fun c => (dats m 0 c).arrAt 4 cfg0.N, fun c => (dats m 0 c).arrAt 5 cfg0.N, fun c => (dats m 0 c).arrAt 6 cfg0.N, Cert.Kernel15Ideal.Value.run_blocks m g, ?_⟩
  refine (θ_run _ _ _).mono (fun r h c => ⟨(h c).1.trans ?_, (h c).2.1.trans ?_, (h c).2.2.1.trans ?_, (h c).2.2.2⟩) (Cert.Reference15Ideal.Value.run m' g')
  all_goals
    obtain ⟨h0, h1, h2, h3⟩ := hagree c
    first | rw [h0, h1, h2, h3] | rw [h1, h2] | rw [h1, h3]
  · exact (change _ _ _ _ _).trans (value4 m c).symm
  · exact (moment1 _ _ _).trans (value5 m c).symm
  · exact (moment2 _ _ _).trans (value6 m c).symm

end Ffn

/-! The input projection's weights. -/
namespace InProj

open Cert.Kernel16Ideal Cert.Kernel16Ideal.Gen Cert.Kernel16Ideal.Value

variable (m : (ℓ : Loc nD τ sig) → Buf (Elt Ideal) ℓ)

abbrev arg0 (c : Dev nD) : Vec Ideal S2x1024x770 .f32 := m ((c.tc : Thread nD τ).loc main_arg0)
abbrev arg1 (c : Dev nD) : Vec Ideal S2x1024x770 .f32 := m ((c.tc : Thread nD τ).loc main_arg1)
abbrev arg2 (c : Dev nD) : Vec Ideal S2x1024x770 .f32 := m ((c.tc : Thread nD τ).loc main_arg2)
abbrev arg3 (c : Dev nD) : Vec Ideal S2x1024x770 .f32 := m ((c.tc : Thread nD τ).loc main_arg3)

theorem index : ∀ t : Fin cfg0.N, win0_4.index t = ![t.val / 2, t.val % 2, 0] ∧ win0_5.index t = ![t.val / 2, t.val % 2, 0] ∧ win0_6.index t = ![t.val / 2, t.val % 2, 0]
    ∧ win0_0.index t = ![t.val / 2, t.val % 2, 0] ∧ win0_1.index t = ![t.val / 2, t.val % 2, 0] ∧ win0_2.index t = ![t.val / 2, t.val % 2, 0] ∧ win0_3.index t = ![t.val / 2, t.val % 2, 0] :=
  (by decide +kernel : ∀ t : Fin grid0.N, _)

theorem value4 (c : Dev nD) : ((dats m 0 c).arrAt 4 cfg0.N : Vec Ideal S2x1024x770 .f32) = fun x => delta (arg0 m c x) (arg1 m c x) (arg2 m c x) (arg3 m c x) := by
  refine (dats m 0 c).arrAt_eq_of_covers 4 _ (by decide +kernel) fun t hf y => ?_
  blk_simp
  rw [after0_4]
  frame_out
  pointwise [k0_pay1, k0_pay7, k0_pay6, k0_pay5, k0_pay4, delta, newM, newV]
  blk_point [iblk, V, index t]
theorem value5 (c : Dev nD) : ((dats m 0 c).arrAt 5 cfg0.N : Vec Ideal S2x1024x770 .f32) = fun x => newM (arg1 m c x) (arg2 m c x) := by
  refine (dats m 0 c).arrAt_eq_of_covers 5 _ (by decide +kernel) fun t hf y => ?_
  blk_simp
  rw [after0_5]
  frame_out
  pointwise [k0_pay2, k0_pay5, k0_pay4, newM]
  blk_point [iblk, V, index t]
theorem value6 (c : Dev nD) : ((dats m 0 c).arrAt 6 cfg0.N : Vec Ideal S2x1024x770 .f32) = fun x => newV (arg1 m c x) (arg3 m c x) := by
  refine (dats m 0 c).arrAt_eq_of_covers 6 _ (by decide +kernel) fun t hf y => ?_
  blk_simp
  rw [after0_6]
  frame_out
  pointwise [k0_pay3, k0_pay6, k0_pay4, newV]
  blk_point [iblk, V, index t]

theorem frame_reference : Cert.quiescent_Reference16Ideal := fun m ρ _ =>
  (θ_run Cert.Reference16Ideal.defs _ _).mono (fun _ h => ⟨fun c => (h c).2.2.2, sem_eq_zero_of_no_sems rfl _⟩) (Cert.Reference16Ideal.Value.run m ρ)

/-- The value claim. -/
theorem algebraic : Cert.algebraic_Kernel16Ideal_Reference16Ideal := by
  intro m g m' g' _ hagree
  refine ⟨fun c => (dats m 0 c).arrAt 4 cfg0.N, fun c => (dats m 0 c).arrAt 5 cfg0.N, fun c => (dats m 0 c).arrAt 6 cfg0.N, Cert.Kernel16Ideal.Value.run_blocks m g, ?_⟩
  refine (θ_run _ _ _).mono (fun r h c => ⟨(h c).1.trans ?_, (h c).2.1.trans ?_, (h c).2.2.1.trans ?_, (h c).2.2.2⟩) (Cert.Reference16Ideal.Value.run m' g')
  all_goals
    obtain ⟨h0, h1, h2, h3⟩ := hagree c
    first | rw [h0, h1, h2, h3] | rw [h1, h2] | rw [h1, h3]
  · exact (change _ _ _ _ _).trans (value4 m c).symm
  · exact (moment1 _ _ _).trans (value5 m c).symm
  · exact (moment2 _ _ _).trans (value6 m c).symm

end InProj

/-! The output projection's weights. -/
namespace OutProj

open Cert.Kernel17Ideal Cert.Kernel17Ideal.Gen Cert.Kernel17Ideal.Value

variable (m : (ℓ : Loc nD τ sig) → Buf (Elt Ideal) ℓ)

abbrev arg0 (c : Dev nD) : Vec Ideal S2x256x1024 .f32 := m ((c.tc : Thread nD τ).loc main_arg0)
abbrev arg1 (c : Dev nD) : Vec Ideal S2x256x1024 .f32 := m ((c.tc : Thread nD τ).loc main_arg1)
abbrev arg2 (c : Dev nD) : Vec Ideal S2x256x1024 .f32 := m ((c.tc : Thread nD τ).loc main_arg2)
abbrev arg3 (c : Dev nD) : Vec Ideal S2x256x1024 .f32 := m ((c.tc : Thread nD τ).loc main_arg3)

theorem index : ∀ t : Fin cfg0.N, win0_4.index t = ![t.val, 0, 0] ∧ win0_5.index t = ![t.val, 0, 0] ∧ win0_6.index t = ![t.val, 0, 0]
    ∧ win0_0.index t = ![t.val, 0, 0] ∧ win0_1.index t = ![t.val, 0, 0] ∧ win0_2.index t = ![t.val, 0, 0] ∧ win0_3.index t = ![t.val, 0, 0] :=
  (by decide +kernel : ∀ t : Fin grid0.N, _)

theorem value4 (c : Dev nD) : ((dats m 0 c).arrAt 4 cfg0.N : Vec Ideal S2x256x1024 .f32) = fun x => delta (arg0 m c x) (arg1 m c x) (arg2 m c x) (arg3 m c x) := by
  refine (dats m 0 c).arrAt_eq_of_covers 4 _ (by decide +kernel) fun t hf y => ?_
  blk_simp
  rw [after0_4]
  frame_out
  pointwise [k0_pay1, k0_pay7, k0_pay6, k0_pay5, k0_pay4, delta, newM, newV]
  blk_point [iblk, V, index t]
theorem value5 (c : Dev nD) : ((dats m 0 c).arrAt 5 cfg0.N : Vec Ideal S2x256x1024 .f32) = fun x => newM (arg1 m c x) (arg2 m c x) := by
  refine (dats m 0 c).arrAt_eq_of_covers 5 _ (by decide +kernel) fun t hf y => ?_
  blk_simp
  rw [after0_5]
  frame_out
  pointwise [k0_pay2, k0_pay5, k0_pay4, newM]
  blk_point [iblk, V, index t]
theorem value6 (c : Dev nD) : ((dats m 0 c).arrAt 6 cfg0.N : Vec Ideal S2x256x1024 .f32) = fun x => newV (arg1 m c x) (arg3 m c x) := by
  refine (dats m 0 c).arrAt_eq_of_covers 6 _ (by decide +kernel) fun t hf y => ?_
  blk_simp
  rw [after0_6]
  frame_out
  pointwise [k0_pay3, k0_pay6, k0_pay4, newV]
  blk_point [iblk, V, index t]

theorem frame_reference : Cert.quiescent_Reference17Ideal := fun m ρ _ =>
  (θ_run Cert.Reference17Ideal.defs _ _).mono (fun _ h => ⟨fun c => (h c).2.2.2, sem_eq_zero_of_no_sems rfl _⟩) (Cert.Reference17Ideal.Value.run m ρ)

/-- The value claim. -/
theorem algebraic : Cert.algebraic_Kernel17Ideal_Reference17Ideal := by
  intro m g m' g' _ hagree
  refine ⟨fun c => (dats m 0 c).arrAt 4 cfg0.N, fun c => (dats m 0 c).arrAt 5 cfg0.N, fun c => (dats m 0 c).arrAt 6 cfg0.N, Cert.Kernel17Ideal.Value.run_blocks m g, ?_⟩
  refine (θ_run _ _ _).mono (fun r h c => ⟨(h c).1.trans ?_, (h c).2.1.trans ?_, (h c).2.2.1.trans ?_, (h c).2.2.2⟩) (Cert.Reference17Ideal.Value.run m' g')
  all_goals
    obtain ⟨h0, h1, h2, h3⟩ := hagree c
    first | rw [h0, h1, h2, h3] | rw [h1, h2] | rw [h1, h3]
  · exact (change _ _ _ _ _).trans (value4 m c).symm
  · exact (moment1 _ _ _).trans (value5 m c).symm
  · exact (moment2 _ _ _).trans (value6 m c).symm

end OutProj

end Cert.Proof.Adamw

end
-- ==== Proof.LossHead.lean ====
module

public import proofs.«01_k».proof.Defs
public import proofs.«01_k».proof.Proof.Blocks
public import proofs.«01_k».proof.Proof.Gen.Kernel19Ideal.Value
public import proofs.«01_k».proof.Proof.Gen.Reference19Ideal.Run
public import Idealize.ShloMosaic.Lib.Pipeline.ValueKit.Point

@[expose] public section

noncomputable section

/-! The loss and the gradients of the last norm. -/

namespace Cert.Proof.LossHead

open Idealize.ShloMosaic Idealize.ShloMosaic.TcCoe Cert.Proof.Blocks Cert.Kernel19Ideal Cert.Kernel19Ideal.Gen Cert.Kernel19Ideal.Value

theorem index : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- A factor that is real and not negative goes through a finite sum. -/
theorem mul_sum {n : ℕ} (a : ℝ) (ha : 0 ≤ a) (f : Fin n → EReal) : (a : EReal) * ∑ i, f i = ∑ i, (a : EReal) * f i :=
  map_sum (⟨⟨fun x : EReal => (a : EReal) * x, mul_zero _⟩,
    fun _ _ => EReal.left_distrib_of_nonneg_of_ne_top (EReal.coe_nonneg.2 ha) (EReal.coe_ne_top a) _ _⟩ : EReal →+ EReal) f Finset.univ

theorem half : Ideal.ofBits .f32 1056964608#32 = ((1 / 2 : ℝ) : EReal) := by
  have h : Ideal.ofBits .f32 0x3F000000#32 = ((1 / 2 : ℝ) : EReal) := by
    simp [Ideal.ofBits, Ideal.ieee, -EReal.coe_mul]
    try norm_num
  exact h

variable (m : (ℓ : Loc nD τ sig) → Buf (Elt Ideal) ℓ)

/-- The gradient of the norm's input, on one block of rows. -/
def dh (x : Vec Ideal S512x1024 .f32) (g : Vec Ideal S1x1024 .f32) (t : Vec Ideal S512x1024 .f32) : FVec Ideal S512x1024 .f32 :=
  k0_pay1 x g (k0_pay7 x) (k0_pay8 x) (k0_pay12 x g t)

/-- Every point writes the same of its blocks, the first and the others. -/
theorem after4 (c : Dev nD) (t : Fin cfg0.N) : (outsAt0 m c t.val t.isLt).2.1 = dh (iblk m c 0 t) (iblk m c 1 t) (iblk m c 2 t) := by
  by_cases h : t.val % 4 = 0
  · rw [outsAt0_A m c t h (by have := t.isLt; have : cfg0.N = 4 := N_0; omega)]; frame_out; rfl
  · rw [outsAt0_B m c t h (by omega)]; frame_out; rfl
theorem after5 (c : Dev nD) (t : Fin cfg0.N) : (outsAt0 m c t.val t.isLt).2.2.1 = truncf .bf16 (dh (iblk m c 0 t) (iblk m c 1 t) (iblk m c 2 t)) bitsLt_bf16_f32 := by
  by_cases h : t.val % 4 = 0
  · rw [outsAt0_A m c t h (by have := t.isLt; have : cfg0.N = 4 := N_0; omega)]; frame_out; rfl
  · rw [outsAt0_B m c t h (by omega)]; frame_out; rfl

/-- The loss is the sum of the points'. -/
theorem after3 (c : Dev nD) (j : S1x128.Idx) :
    (outsAt0 m c t0_3.val t0_3.isLt).1 j = ∑ p : Fin cfg0.N, k0_pay3 (k0_pay11 (iblk m c 0 p) (iblk m c 1 p) (iblk m c 2 p)) j := by
  rw [Pipeline.eq_sum_fin_of_reset_step_apply_last (fun n h => (outsAt0 m c n h).1) 4 (fun _ => (0 : EReal))
      (fun p j => k0_pay3 (k0_pay11 (iblk m c 0 p) (iblk m c 1 p) (iblk m c 2 p)) j)
      (fun t h j => by
        rw [outsAt0_A m c t h (by have := t.isLt; have : cfg0.N = 4 := N_0; omega)]; frame_out; exact (zero_add _).symm)
      (fun t h j => by
        rw [outsAt0_B m c t h (by omega)]; frame_out; pointwise [k0_pay5])
      (le_of_eq N_0) t0_3 rfl j, zero_add]

/-- The gain's gradient is the sum of the points'. -/
theorem after6 (c : Dev nD) (j : S1x1024.Idx) :
    (outsAt0 m c t0_3.val t0_3.isLt).2.2.2 j = ∑ p : Fin cfg0.N, k0_pay13 (iblk m c 0 p) (iblk m c 1 p) (iblk m c 2 p) j := by
  rw [Pipeline.eq_sum_fin_of_reset_step_apply_last (fun n h => (outsAt0 m c n h).2.2.2) 4 (fun _ => (0 : EReal))
      (fun p j => k0_pay13 (iblk m c 0 p) (iblk m c 1 p) (iblk m c 2 p) j)
      (fun t h j => by
        rw [outsAt0_A m c t h (by have := t.isLt; have : cfg0.N = 4 := N_0; omega)]; frame_out; exact (zero_add _).symm)
      (fun t h j => by
        rw [outsAt0_B m c t h (by omega)]; frame_out; pointwise [k0_pay4])
      (le_of_eq N_0) t0_3 rfl j, zero_add]

theorem frame_reference : Cert.quiescent_Reference19Ideal := fun m ρ _ =>
  (θ_run Cert.Reference19Ideal.defs _ _).mono (fun _ h => ⟨fun c => (h c).2.2.2.2, sem_eq_zero_of_no_sems rfl _⟩) (Cert.Reference19Ideal.Value.run m ρ)

set_option maxHeartbeats 4000000 in
/-- The value claim. -/
theorem algebraic : Cert.algebraic_Kernel19Ideal_Reference19Ideal := by
  intro m g m' g' _ hagree
  refine ⟨fun c => (dats m 0 c).arrAt 3 cfg0.N, fun c => (dats m 0 c).arrAt 4 cfg0.N, fun c => (dats m 0 c).arrAt 5 cfg0.N, fun c => (dats m 0 c).arrAt 6 cfg0.N,
    Cert.Kernel19Ideal.Value.run_blocks m g, ?_⟩
  refine (θ_run _ _ _).mono (fun r h c => ⟨(h c).1.trans ?_, (h c).2.1.trans ?_, (h c).2.2.1.trans ?_, (h c).2.2.2.1.trans ?_, (h c).2.2.2.2⟩) (Cert.Reference19Ideal.Value.run m' g')
  all_goals
    clear h
    obtain ⟨h0, h1, h2⟩ := hagree c
  · rw [h0, h1, h2]
    refine ((dats m 0 c).arrAt_eq_of_after_last 3 t0_3 (by decide +kernel) _ fun j => ?_).symm
    blk_simp
    rw [after0_3, after3]
    pointwise [k0_pay3, k0_pay11, k0_pay10, k0_pay9, k0_pay7, k0_pay6]
    rw [half, ← mul_sum _ (by norm_num)]
    congr 1
    refine Fin.sum_mul_add_congr fun t k hl => ?_
    blk_point [iblk, V, index t]
  · unfold Cert.Reference19Ideal.Value.res_main_v51
    rw [h0, h1, h2]
    refine ((dats m 0 c).arrAt_eq_of_covers 4 _ (by decide +kernel) fun t hf y => ?_).symm
    blk_simp
    rw [after0_4, after4]
    pointwise [dh, k0_pay1, k0_pay12, k0_pay10, k0_pay9, k0_pay8, k0_pay7, k0_pay6]
    blk_point [iblk, V, index t]
  · unfold Cert.Reference19Ideal.Value.res_main_v53
    rw [h0, h1, h2]
    refine ((dats m 0 c).arrAt_eq_of_covers 5 _ (by decide +kernel) fun t hf y => ?_).symm
    blk_simp
    rw [after0_5, after5]
    pointwise [dh, k0_pay1, k0_pay12, k0_pay10, k0_pay9, k0_pay8, k0_pay7, k0_pay6]
    blk_point [iblk, V, index t]
  · rw [h0, h1, h2]
    refine ((dats m 0 c).arrAt_eq_of_after_last 6 t0_3 (by decide +kernel) _ fun j => ?_).symm
    blk_simp
    rw [after0_6, after6]
    pointwise [k0_pay13, k0_pay12, k0_pay10, k0_pay9, k0_pay7, k0_pay6]
    refine Fin.sum_points_lanes_congr 4 fun t k ha hl => ?_
    blk_point [iblk, V, index t]

end Cert.Proof.LossHead

end
-- ==== Proof.Prep.lean ====
module

public import proofs.«01_k».proof.Defs
public import proofs.«01_k».proof.Proof.Blocks
public import proofs.«01_k».proof.Proof.Gen.Kernel21Ideal.Value
public import proofs.«01_k».proof.Proof.Gen.Reference21Ideal.Run
public import Idealize.ShloMosaic.Lib.Pipeline.ValueKit.Point

@[expose] public section

noncomputable section

/-! The short convolution, its SiLU, and the norms of the queries and the keys. -/

namespace Cert.Proof.Prep

open Idealize.ShloMosaic Idealize.ShloMosaic.TcCoe Cert.Proof.Blocks

/-- The short convolution of one column at row `r`: the last three rows and this one, zero before the first row. -/
def conv (x : Fin 2048 → EReal) (w : Fin 4 → EReal) (r : Fin 2048) : EReal :=
  (if h : r.val < 3 then 0 else x ⟨r.val - 3, by have := r.isLt; omega⟩) * w 0 + (if h : 1 + r.val < 3 then 0 else x ⟨1 + r.val - 3, by have := r.isLt; omega⟩) * w 1
    + (if h : 2 + r.val < 3 then 0 else x ⟨2 + r.val - 3, by have := r.isLt; omega⟩) * w 2 + x r * w 3

/-- The SiLU. -/
def act (z : EReal) : EReal := z * Ideal.div 1 (1 + Ideal.exp (-z))

/-- The convolution and the SiLU, in the arrays' column `k` at row `r`. -/
def value (x : Vec Ideal ⟨2, ![2048, 3200]⟩ .f32) (w : Vec Ideal ⟨2, ![4, 1536]⟩ .f32) (r : Fin 2048) (k : Fin 1536) : EReal :=
  act (conv (fun r => x (ix2 r ⟨k.val, by have := k.isLt; omega⟩)) (fun i => w (ix2 i k)) r)

/-- One over the root of a head's sum of squares. -/
def unit (a : Fin 128 → EReal) : EReal := Ideal.rsqrt (∑ l, a l * a l + Ideal.ofBits .f32 897988541#32)

/-- Lane `l` of the head that holds column `k`. -/
def lane (k : Fin 1536) (l : Fin 128) : Fin 1536 := ⟨k.val / 128 * 128 + l.val, by have := k.isLt; have := l.isLt; omega⟩

section Reference
open Cert.Reference21Ideal
variable (m : (ℓ : Loc nD τ sig) → Buf (Elt Ideal) ℓ) (c : Dev nD) (r : Fin 2048) (k : Fin 1536)

set_option maxHeartbeats 4000000 in
theorem reference_q (hk : k.val < 512) :
    Value.res_main_v58 m c (ix2 r k) = value (m (c.tc.loc main_arg0)) (m (c.tc.loc main_arg1)) r k
      * unit (fun l => value (m (c.tc.loc main_arg0)) (m (c.tc.loc main_arg1)) r (lane k l)) * Ideal.ofBits .f32 1035273459#32 := by
  have e : (⟨k.val / 128 * 128 + k.val % 128, by omega⟩ : Fin 1536) = k := Fin.ext (by show _ / 128 * 128 + _ % 128 = _; omega)
  refine Eq.trans (b := value (m (c.tc.loc main_arg0)) (m (c.tc.loc main_arg1)) r ⟨k.val / 128 * 128 + k.val % 128, by omega⟩
      * unit (fun l => value (m (c.tc.loc main_arg0)) (m (c.tc.loc main_arg1)) r (lane k l)) * Ideal.ofBits .f32 1035273459#32) ?_ (by rw [e])
  unfold Value.res_main_v58
  pointwise
  rw [dif_pos hk]
  rfl

set_option maxHeartbeats 4000000 in
theorem reference_k (hk : 512 ≤ k.val) (hk' : k.val < 1024) :
    Value.res_main_v58 m c (ix2 r k) = value (m (c.tc.loc main_arg0)) (m (c.tc.loc main_arg1)) r k
      * unit (fun l => value (m (c.tc.loc main_arg0)) (m (c.tc.loc main_arg1)) r (lane k l)) := by
  have e : (⟨512 + ((k.val - 512) / 128 * 128 + (k.val - 512) % 128), by omega⟩ : Fin 1536) = k := Fin.ext (by show 512 + (_ / 128 * 128 + _ % 128) = _; omega)
  have e' : ∀ l : Fin 128, (⟨512 + ((k.val - 512) / 128 * 128 + l.val), by have := l.isLt; omega⟩ : Fin 1536) = lane k l := fun l =>
    Fin.ext (by show 512 + (_ / 128 * 128 + _) = _ / 128 * 128 + _; omega)
  refine Eq.trans (b := value (m (c.tc.loc main_arg0)) (m (c.tc.loc main_arg1)) r ⟨512 + ((k.val - 512) / 128 * 128 + (k.val - 512) % 128), by omega⟩
      * unit (fun l => value (m (c.tc.loc main_arg0)) (m (c.tc.loc main_arg1)) r ⟨512 + ((k.val - 512) / 128 * 128 + l.val), by have := l.isLt; omega⟩)) ?_ (by simp only [e, e'])
  unfold Value.res_main_v58
  pointwise
  rw [dif_neg (by omega), dif_pos (by omega)]
  rfl

set_option maxHeartbeats 4000000 in
theorem reference_v (hk : 1024 ≤ k.val) :
    Value.res_main_v58 m c (ix2 r k) = value (m (c.tc.loc main_arg0)) (m (c.tc.loc main_arg1)) r k := by
  have e : (⟨1024 + (k.val - 512 - 512), by omega⟩ : Fin 1536) = k := Fin.ext (by show 1024 + (_ - 512 - 512) = _; omega)
  refine Eq.trans (b := value (m (c.tc.loc main_arg0)) (m (c.tc.loc main_arg1)) r ⟨1024 + (k.val - 512 - 512), by omega⟩) ?_ (by rw [e])
  unfold Value.res_main_v58
  pointwise
  rw [dif_neg (by omega), dif_neg (by omega)]
  rfl

theorem frame_reference : Cert.quiescent_Reference21Ideal := fun m ρ _ =>
  (θ_run Cert.Reference21Ideal.defs _ _).mono (fun _ h => ⟨fun c => (h c).2, sem_eq_zero_of_no_sems rfl _⟩) (Cert.Reference21Ideal.Value.run m ρ)

end Reference

section Kernel
open Cert.Kernel21Ideal Cert.Kernel21Ideal.Gen Cert.Kernel21Ideal.Value

theorem index : ∀ t : Fin cfg0.N, win0_0.index t = ![0, t.val] ∧ win0_1.index t = ![0, t.val] ∧ win0_2.index t = ![0, t.val] :=
  (by decide +kernel : ∀ t : Fin grid0.N, _)

/-- Which of the points are the queries', and which the values'. -/
theorem sides : ∀ t : Fin cfg0.N, Scalar.cmpi .slt (BitVec.ofNat 32 (grid0.coords t 0).val) 4#32 = (if t.val < 4 then 1#1 else 0#1)
    ∧ Scalar.cmpi .sge (BitVec.ofNat 32 (grid0.coords t 0).val) 8#32 = (if 8 ≤ t.val then 1#1 else 0#1) :=
  (by decide +kernel : ∀ t : Fin grid0.N, _)

/-- The rows that a rotation by 1, 2 or 3 brings around the end are the ones masked. -/
theorem masked : ∀ r : Fin 2048,
    IntOp.andi (IntOp.cmpi .sge (BitVec.ofNat 32 r.val) 3#32) (IntOp.cmpi .slt (BitVec.ofNat 32 r.val) 2051#32) = (if r.val < 3 then 0#1 else 1#1)
    ∧ IntOp.andi (IntOp.cmpi .sge (BitVec.ofNat 32 r.val) 2#32) (IntOp.cmpi .slt (BitVec.ofNat 32 r.val) 2050#32) = (if 1 + r.val < 3 then 0#1 else 1#1)
    ∧ IntOp.andi (IntOp.cmpi .sge (BitVec.ofNat 32 r.val) 1#32) (IntOp.cmpi .slt (BitVec.ofNat 32 r.val) 2049#32) = (if 2 + r.val < 3 then 0#1 else 1#1) := by
  decide +kernel

variable (x : Vec Ideal S2048x128 .f32) (w : Vec Ideal S4x128 .f32) (r : Fin 2048) (l : Fin 128)

/-- The body's convolution and SiLU of one column. -/
def body (l : Fin 128) : EReal := act (conv (fun r => x (ix2 r l)) (fun i => w (ix2 i l)) r)

theorem kernel_point (i : grid0.Coords) :
    k0_pay1 (F := Ideal) (k0_pay2 i) (Scalar.cmpi .sge (BitVec.ofNat 32 (i 0).val) 8#32) w (k0_pay3 x w) (k0_pay4 x) k0_pay5 k0_pay6 (ix2 r l)
      = body x w r l * Scalar.select (Scalar.cmpi .sge (BitVec.ofNat 32 (i 0).val) 8#32) 1
          (unit (body x w r) * Scalar.select (Scalar.cmpi .slt (BitVec.ofNat 32 (i 0).val) 4#32) (Ideal.ofBits .f32 1035273459#32) 1) := by
  have key : ∀ l : Fin 128, (x (ix2 r l) * w (ix2 3 l)
      + Scalar.select (IntOp.andi (IntOp.cmpi .sge (BitVec.ofNat 32 r.val) 3#32) (IntOp.cmpi .slt (BitVec.ofNat 32 r.val) 2051#32))
          (x (ix2 ⟨(r.val + 2048 - 3) % 2048, by omega⟩ l) * w (ix2 0 l)) 0
      + Scalar.select (IntOp.andi (IntOp.cmpi .sge (BitVec.ofNat 32 r.val) 2#32) (IntOp.cmpi .slt (BitVec.ofNat 32 r.val) 2050#32))
          (x (ix2 ⟨(r.val + 2048 - 2) % 2048, by omega⟩ l) * w (ix2 1 l)) 0
      + Scalar.select (IntOp.andi (IntOp.cmpi .sge (BitVec.ofNat 32 r.val) 1#32) (IntOp.cmpi .slt (BitVec.ofNat 32 r.val) 2049#32))
          (x (ix2 ⟨(r.val + 2048 - 1) % 2048, by omega⟩ l) * w (ix2 2 l)) 0 : EReal) = conv (fun r => x (ix2 r l)) (fun i => w (ix2 i l)) r := by
    intro l
    obtain ⟨h3, h2, h1⟩ := masked r
    have hr := r.isLt
    rw [h3, h2, h1]
    have f : ∀ (P : Prop) [Decidable P] (i j : Fin 2048) (v : EReal), (¬P → i.val = j.val) →
        Scalar.select (if P then 0#1 else 1#1) (x (ix2 i l) * v) 0 = (if P then 0 else x (ix2 j l)) * v := by
      intro P _ i j v hij
      by_cases h : P
      · rw [if_pos h, if_pos h, zero_mul]; rfl
      · rw [if_neg h, if_neg h, Fin.ext (hij h)]; rfl
    rw [f _ _ ⟨r.val - 3, by omega⟩ _ (fun h => by show (_ + 2048 - 3) % 2048 = _ - 3; omega),
      f _ _ ⟨1 + r.val - 3, by omega⟩ _ (fun h => by show (_ + 2048 - 2) % 2048 = 1 + _ - 3; omega),
      f _ _ ⟨2 + r.val - 3, by omega⟩ _ (fun h => by show (_ + 2048 - 1) % 2048 = 2 + _ - 3; omega), add_assoc, add_assoc, add_comm (x _ * _), ← add_assoc]
    rfl
  pointwise [k0_pay1, k0_pay2, k0_pay3, k0_pay4, k0_pay5, k0_pay6]
  simp only [key, zero_sub]
  rfl

variable (m : (ℓ : Loc nD τ sig) → Buf (Elt Ideal) ℓ)

set_option maxHeartbeats 4000000 in
/-- The value claim. -/
theorem algebraic : Cert.algebraic_Kernel21Ideal_Reference21Ideal := by
  intro m g m' g' _ hagree
  refine ⟨fun c => (dats m 0 c).arrAt 2 cfg0.N, Cert.Kernel21Ideal.Value.run_blocks m g, ?_⟩
  refine (θ_run _ _ _).mono (fun r h c => ⟨(h c).1.trans ?_, (h c).2⟩) (Cert.Reference21Ideal.Value.run m' g')
  clear h
  obtain ⟨h0, h1⟩ := hagree c
  refine ((dats m 0 c).arrAt_eq_of_covers 2 _ (by decide +kernel) fun t hf y => ?_).symm
  blk_simp
  rw [after0_2]
  frame_out
  have ht : t.val < 12 := lt_of_lt_of_eq t.isLt N_0
  obtain ⟨a, l, hy⟩ : ∃ (a : Fin 2048) (l : Fin 128), y = ix2 a l := ⟨y 0, y 1, eq_ix2 (n0 := 2048) (n1 := 128) y⟩
  subst hy
  have e : ∀ z : S2048x1536.Idx → EReal, z (((View.whole main_v0).slice (win0_2.rect t)).emb (ix2 a l)) = z (ix2 a ⟨t.val * 128 + l.val, by omega⟩) := by
    intro z
    blk_ext! [index t]
  refine Eq.trans ?_ (e (Cert.Reference21Ideal.Value.res_main_v58 m' c)).symm
  refine (kernel_point (iblk m c 0 t) (iblk m c 1 t) a l (grid0.coords t)).trans ?_
  have b : ∀ (k : Fin 1536) (l : Fin 128), k.val = t.val * 128 + l.val →
      body (iblk m c 0 t) (iblk m c 1 t) a l = value (m' (c.tc.loc Cert.Reference21Ideal.main_arg0)) (m' (c.tc.loc Cert.Reference21Ideal.main_arg1)) a k := by
    intro k l hk
    rw [h0, h1]
    have fx : (fun r => iblk m c 0 t (ix2 r l)) = fun r => m (c.tc.loc main_arg0) (ix2 r ⟨k.val, by omega⟩) := funext fun r => by
      blk_point [iblk, V, index t]
    have fw : (fun i => iblk m c 1 t (ix2 i l)) = fun i => m (c.tc.loc main_arg1) (ix2 i k) := funext fun i => by
      blk_point [iblk, V, index t]
    exact congrArg act (congrFun (congr (congrArg conv fx) fw) a)
  have u : unit (body (iblk m c 0 t) (iblk m c 1 t) a) = unit (fun l' => value (m' (c.tc.loc Cert.Reference21Ideal.main_arg0)) (m' (c.tc.loc Cert.Reference21Ideal.main_arg1)) a
      (lane ⟨t.val * 128 + l.val, by omega⟩ l')) :=
    congrArg unit (funext fun l' => b _ l' (by show (_ * 128 + _) / 128 * 128 + _ = _; omega))
  rw [u, b ⟨t.val * 128 + l.val, by omega⟩ l rfl]
  obtain ⟨s4, s8⟩ := sides t
  rw [s4, s8]
  by_cases hq : t.val < 4
  · rw [reference_q _ _ _ _ (by show _ * 128 + _ < 512; omega), if_pos hq, if_neg (by omega), mul_assoc]; rfl
  · by_cases hk : t.val < 8
    · rw [reference_k _ _ _ _ (by show 512 ≤ _ * 128 + _; omega) (by show _ * 128 + _ < 1024; omega), if_neg hq, if_neg (by omega)]
      exact congrArg _ (mul_one _)
    · rw [reference_v _ _ _ _ (by show 1024 ≤ _ * 128 + _; omega), if_pos (by omega)]
      exact mul_one _
end Kernel

end Cert.Proof.Prep

end
-- ==== Proof.Gates.lean ====
module

public import proofs.«01_k».proof.Defs
public import proofs.«01_k».proof.Proof.Blocks
public import proofs.«01_k».proof.Proof.Gen.Kernel22Ideal.Value
public import proofs.«01_k».proof.Proof.Gen.Reference22Ideal.Run
public import Idealize.ShloMosaic.Lib.Pipeline.ValueKit.Point

@[expose] public section

noncomputable section

/-! The write strengths and the log decays of the heads. -/

namespace Cert.Proof.Gates

open Idealize.ShloMosaic Idealize.ShloMosaic.TcCoe Cert.Proof.Blocks Cert.Kernel22Ideal Cert.Kernel22Ideal.Gen Cert.Kernel22Ideal.Value

theorem index : ∀ t : Fin cfg0.N, win0_0.index t = ![0, 24] ∧ win0_1.index t = ![0, 0] ∧ win0_2.index t = ![0, 0] ∧ win0_3.index t = ![0, 0] :=
  (by decide +kernel : ∀ t : Fin grid0.N, _)

theorem frame_reference : Cert.quiescent_Reference22Ideal := fun m ρ _ =>
  (θ_run Cert.Reference22Ideal.defs _ _).mono (fun _ h => ⟨fun c => (h c).2, sem_eq_zero_of_no_sems rfl _⟩) (Cert.Reference22Ideal.Value.run m ρ)

/-- A head's log decay, from the decay's input, the logarithm of its rate and its bias. -/
def decay (x a d : EReal) : EReal := -Ideal.exp a * (max (x + d) 0 + Ideal.log1p (Ideal.exp (-FloatOps.absf (F := Ideal) (φ := .f32) (x + d))))

/-- The lanes of the write strengths. -/
theorem side : ∀ l : Fin 128, IntOp.cmpi .slt (BitVec.ofNat 32 l.val) 4#32 = (if l.val < 4 then 1#1 else 0#1) := by decide +kernel

set_option maxHeartbeats 4000000 in
/-- The value claim. -/
theorem algebraic : Cert.algebraic_Kernel22Ideal_Reference22Ideal := by
  intro m g m' g' _ hagree
  refine ⟨fun c => (dats m 0 c).arrAt 3 cfg0.N, Cert.Kernel22Ideal.Value.run_blocks m g, ?_⟩
  refine (θ_run _ _ _).mono (fun r h c => ⟨(h c).1.trans ?_, (h c).2⟩) (Cert.Reference22Ideal.Value.run m' g')
  clear h
  obtain ⟨h0, h1, h2⟩ := hagree c
  rw [h0, h1, h2]
  refine ((dats m 0 c).arrAt_eq_of_covers 3 _ (by decide +kernel) fun t hf y => ?_).symm
  blk_simp
  rw [after0_3]
  frame_out
  obtain ⟨a, l, hy⟩ : ∃ (a : Fin 2048) (l : Fin 128), y = ix2 a l := ⟨y 0, y 1, eq_ix2 (n0 := 2048) (n1 := 128) y⟩
  subst hy
  have e : ∀ z : S2048x128.Idx → EReal, z (((View.whole main_v0).slice (win0_3.rect t)).emb (ix2 a l)) = z (ix2 a l) := by
    intro z
    blk_ext! [index t]
  refine Eq.trans ?_ (e _).symm
  have b0 : iblk m c 0 t (ix2 a l) = m (c.tc.loc main_arg0) (ix2 a ⟨3072 + l.val, by have := l.isLt; omega⟩) := by
    blk_point [iblk, V, index t]
  have b1 : iblk m c 1 t (ix2 0 l) = m (c.tc.loc main_arg1) (ix2 0 l) := by
    blk_point [iblk, V, index t]
  have b2 : iblk m c 2 t (ix2 0 l) = m (c.tc.loc main_arg2) (ix2 0 l) := by
    blk_point [iblk, V, index t]
  pointwise [k0_pay1]
  rw [side]
  by_cases h : l.val < 4
  · rw [if_pos h, dif_pos h, b0, zero_sub]
    rfl
  · have k : (⟨4 + (l.val - 4), by have := l.isLt; omega⟩ : Fin 128) = l := Fin.ext (by show 4 + (l.val - 4) = l.val; omega)
    have k' : (⟨3072 + (4 + (l.val - 4)), by have := l.isLt; omega⟩ : Fin 3200) = ⟨3072 + l.val, by have := l.isLt; omega⟩ :=
      Fin.ext (by show 3072 + (4 + (l.val - 4)) = 3072 + l.val; omega)
    rw [if_neg h, dif_neg h, b0, b1, b2]
    simp only [zero_sub, ne_eq, not_true_eq_false, if_false]
    show decay _ _ _ = decay (m (c.tc.loc main_arg0) (ix2 a ⟨3072 + (4 + (l.val - 4)), by have := l.isLt; omega⟩))
      (m (c.tc.loc main_arg1) (ix2 0 ⟨4 + (l.val - 4), by have := l.isLt; omega⟩)) (m (c.tc.loc main_arg2) (ix2 0 ⟨4 + (l.val - 4), by have := l.isLt; omega⟩))
    rw [k, k']

end Cert.Proof.Gates

end
-- ==== Proof.Mix.lean ====
module

public import proofs.«01_k».proof.Defs
public import proofs.«01_k».proof.Proof.Blocks
public import proofs.«01_k».proof.Proof.Gen.Kernel24Ideal.Value
public import proofs.«01_k».proof.Proof.Gen.Reference24Ideal.Run
public import Idealize.ShloMosaic.Lib.Pipeline.ValueKit.Point

@[expose] public section

noncomputable section

/-! The gated norm of the delta rule's heads, and the spatial gating of the gMLP's groups. -/

namespace Cert.Proof.Mix

open Idealize.ShloMosaic Idealize.ShloMosaic.TcCoe Cert.Proof.Blocks

/-- The gate's activation. -/
def gelu (x : EReal) : EReal := Ideal.ofBits .f32 1056964608#32 * x * (1 + Ideal.tanh (Ideal.ofBits .f32 1061962282#32 * (x + Ideal.ofBits .f32 1027024659#32 * (x * x * x))))

/-- The mean of a row. -/
def mean (a : Fin 128 → EReal) : EReal := Ideal.div (∑ l, a l) (Ideal.ofBits .f32 1124073472#32)

/-- One over the root of a row's mean. -/
def root (a : Fin 128 → EReal) : EReal := Ideal.rsqrt (mean a + Ideal.ofBits .f32 897988541#32)

/-- A head's gated norm at lane `l`. -/
def head (o z g : Fin 128 → EReal) (l : Fin 128) : EReal :=
  o l * root (fun l => o l * o l) * g l * (z l * Ideal.div 1 (1 + Ideal.exp (0 - z l)))

/-- A group's layer norm at lane `l`. -/
def norm (v g b : Fin 128 → EReal) (l : Fin 128) : EReal :=
  (v l - mean v) * root (fun l => (v l - mean v) * (v l - mean v)) * g l + b l

/-- A group's gated sum over the positions up to `r`. -/
def gated (u : EReal) (w v : Fin 128 → EReal) (b : EReal) (r : Fin 128) : EReal :=
  gelu u * (∑ s : Fin 128, (if s.val ≤ r.val then w s * v s else 0) + b)

/-- The positions that a position of the group's sum reads. -/
theorem causal : ∀ r s : Fin 128, IntOp.cmpi .sge (BitVec.ofNat 32 r.val) (BitVec.ofNat 32 s.val) = (if s.val ≤ r.val then 1#1 else 0#1) := by
  decide +kernel

theorem chosen (r s : Fin 128) (a : EReal) :
    Scalar.select (IntOp.cmpi .sge (BitVec.ofNat 32 r.val) (BitVec.ofNat 32 s.val)) a 0 = (if s.val ≤ r.val then a else 0) := by
  rw [causal]
  split <;> rfl

section Reference
open Cert.Reference24Ideal Cert.Reference24Ideal.Gen

/-- Two blocks of 512 columns, read in the first. -/
theorem halves_left (y0 y1 : FVec Ideal S2048x512 .f32) (h) (hb) (r : Fin 2048) (k : Fin 512) :
    truncf (F := Ideal) (φ := .f32) .bf16 (concatenate S2048x1024 1 [⟨S2048x512, y0⟩, ⟨S2048x512, y1⟩] h) hb (ix2 r ⟨k.val, by omega⟩) = y0 (ix2 r k) := by
  refine concatenate_apply_piece 1 _ h _ 0 (by simp) S2048x512 _ rfl rfl 0 rfl (ix2 r k) ?_ (Nat.zero_add k.val)
  intro b hb
  match b with
  | ⟨0, _⟩ => rfl
  | ⟨1, _⟩ => exact absurd rfl hb

/-- Two blocks of 512 columns, read in the second. -/
theorem halves_right (y0 y1 : FVec Ideal S2048x512 .f32) (h) (hb) (r : Fin 2048) (k : Fin 512) :
    truncf (F := Ideal) (φ := .f32) .bf16 (concatenate S2048x1024 1 [⟨S2048x512, y0⟩, ⟨S2048x512, y1⟩] h) hb (ix2 r ⟨512 + k.val, by omega⟩) = y1 (ix2 r k) := by
  refine concatenate_apply_piece 1 _ h _ 1 (by simp) S2048x512 _ rfl rfl 512 rfl (ix2 r k) ?_ rfl
  intro b hb
  match b with
  | ⟨0, _⟩ => rfl
  | ⟨1, _⟩ => exact absurd rfl hb

/-- The reference's activation of an array. -/
def gelus (x : FVec Ideal S2048x512 .f32) : FVec Ideal S2048x512 .f32 :=
  mulf x (mulf (broadcastInDim S2048x512 ![] bcast_S_S2048x512 (constant S_ .f32 0x3F000000#32)) (addf (broadcastInDim S2048x512 ![] bcast_S_S2048x512 (constant S_ .f32 0x3F800000#32))
    (Host.tanh (mulf (broadcastInDim S2048x512 ![] bcast_S_S2048x512 (constant S_ .f32 0x3F4C422A#32)) (addf x (mulf (broadcastInDim S2048x512 ![] bcast_S_S2048x512 (constant S_ .f32 0x3D372713#32)) (mulf (mulf x x) x)))))))

/-- The reference's rows' means. -/
def means (a : FVec Ideal S2048x4x128 .f32) : FVec Ideal S2048x4x1 .f32 :=
  Host.divf (broadcastInDim S2048x4x1 ![0, 1] bcast_S2048x4_S2048x4x1_0_1 (Host.reduceAdd a (constant S_ .f32 0x00000000#32) reducesTo_S2048x4x128_S2048x4_d2 h_S_))
    (broadcastInDim S2048x4x1 ![] bcast_S_S2048x4x1 (constant S_ .f32 0x43000000#32))

/-- The reference's rows less their means. -/
def centred (a : FVec Ideal S2048x4x128 .f32) : FVec Ideal S2048x4x128 .f32 :=
  subf a (broadcastInDim S2048x4x128 ![0, 1, 2] bcast_S2048x4x1_S2048x4x128_0_1_2 (means a))

/-- The reference's layer norm of an array. -/
def norms (a : FVec Ideal S2048x4x128 .f32) (g b : FVec Ideal S1x512 .f32) : FVec Ideal S2048x4x128 .f32 :=
  addf (mulf (mulf (centred a) (broadcastInDim S2048x4x128 ![0, 1, 2] bcast_S2048x4x1_S2048x4x128_0_1_2 (Host.rsqrt (addf (means (mulf (centred a) (centred a)))
      (broadcastInDim S2048x4x1 ![] bcast_S_S2048x4x1 (constant S_ .f32 0x358637BD#32))))))
    (broadcastInDim S2048x4x128 ![0, 1, 2] bcast_S1x4x128_S2048x4x128_0_1_2 (broadcastInDim S1x4x128 ![1, 2] bcast_S4x128_S1x4x128_1_2 (shapeCast _ g shapeCasts_S1x512_S4x128))))
    (broadcastInDim S2048x4x128 ![0, 1, 2] bcast_S1x4x128_S2048x4x128_0_1_2 (broadcastInDim S1x4x128 ![1, 2] bcast_S4x128_S1x4x128_1_2 (shapeCast _ b shapeCasts_S1x512_S4x128)))

/-- The reference's weights of the positions read. -/
def weights (w : FVec Ideal S4x128x128 .f32) : FVec Ideal S4x128x128 .f32 :=
  select (broadcastInDim S4x128x128 ![1, 2] bcast_S128x128_S4x128x128_1_2 (cmpi .sge (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0))))) w
    (broadcastInDim S4x128x128 ![] bcast_S_S4x128x128 (constant S_ .f32 0x00000000#32))

/-- The reference's sums over the positions. -/
def spatial (a : FVec Ideal S16x128x4x128 .f32) (w : FVec Ideal S4x128x128 .f32) (b : FVec Ideal S128x128 .f32) : FVec Ideal S16x128x4x128 .f32 :=
  addf (transpose S16x128x4x128 [1, 3, 0, 2] (Host.dotGeneral dot_S16x128x4x128_S4x128x128_S4x16x128x128_1_2_03_1_2_0 none a w) transposes_S4x16x128x128_S16x128x4x128_1_3_0_2)
    (broadcastInDim S16x128x4x128 ![0, 1, 2, 3] bcast_S1x128x4x1_S16x128x4x128_0_1_2_3 (broadcastInDim S1x128x4x1 ![1, 2, 3] bcast_S128x4x1_S1x128x4x1_1_2_3 (broadcastInDim S128x4x1 ![0, 1] bcast_S128x4_S128x4x1_0_1
      (extractStridedSlice S128x4 ![0, 0] b slices_S128x128_S128x4_0_0))))

theorem gelus_at (x : FVec Ideal S2048x512 .f32) (r : Fin 2048) (k : Fin 512) : gelus x (ix2 r k) = gelu (x (ix2 r k)) := by
  unfold gelus gelu
  pointwise
  rw [← mul_assoc, mul_comm (x (ix2 r k))]

theorem centred_at (a : FVec Ideal S2048x4x128 .f32) (r : Fin 2048) (h : Fin 4) (l : Fin 128) :
    centred a (ix3 r h l) = a (ix3 r h l) - mean (fun l => a (ix3 r h l)) := by
  unfold centred means mean
  pointwise

theorem norms_at (a : FVec Ideal S2048x4x128 .f32) (g b : FVec Ideal S1x512 .f32) (r : Fin 2048) (h : Fin 4) (l : Fin 128) :
    norms a g b (ix3 r h l) = norm (fun l => a (ix3 r h l)) (fun l => g (ix2 0 ⟨h.val * 128 + l.val, by omega⟩)) (fun l => b (ix2 0 ⟨h.val * 128 + l.val, by omega⟩)) l := by
  unfold norms means norm root
  pointwise [centred_at]
  rfl

theorem weights_at (w : FVec Ideal S4x128x128 .f32) (h : Fin 4) (r s : Fin 128) : weights w (ix3 h r s) = (if s.val ≤ r.val then w (ix3 h r s) else 0) := by
  unfold weights
  pointwise
  exact chosen r s _

theorem spatial_at (a : FVec Ideal S16x128x4x128 .f32) (w : FVec Ideal S4x128x128 .f32) (b : FVec Ideal S128x128 .f32) (n : Fin 16) (r : Fin 128) (h : Fin 4) (l : Fin 128) :
    spatial a w b (ix4 n r h l) = ∑ s : Fin 128, w (ix3 h r s) * a (ix4 n s h l) + b (ix2 r ⟨h.val, by omega⟩) := by
  unfold spatial
  pointwise
  rw [Finset.sum_congr rfl fun s _ => mul_comm (a (ix4 n s h l)) _]

variable (m : (ℓ : Loc nD τ sig) → Buf (Elt Ideal) ℓ) (c : Dev nD) (r : Fin 2048) (k : Fin 512)

set_option maxHeartbeats 400000 in
theorem reference_head : Value.res_main_v93 m c (ix2 r ⟨k.val, by omega⟩)
    = head (fun l => m (c.tc.loc main_arg0) (ix2 r ⟨k.val / 128 * 128 + l.val, by omega⟩))
        (fun l => m (c.tc.loc main_arg1) (ix2 r ⟨1536 + (k.val / 128 * 128 + l.val), by omega⟩))
        (fun l => m (c.tc.loc main_arg2) (ix2 0 l)) ⟨k.val % 128, by omega⟩ := by
  have e : (⟨k.val / 128 * 128 + k.val % 128, by omega⟩ : Fin 512) = k := Fin.ext (by show _ / 128 * 128 + _ % 128 = _; omega)
  have e' : (⟨1536 + (k.val / 128 * 128 + k.val % 128), by omega⟩ : Fin 3200) = ⟨1536 + k.val, by omega⟩ := Fin.ext (by show 1536 + (_ / 128 * 128 + _ % 128) = 1536 + _; omega)
  unfold Value.res_main_v93 head
  refine (halves_left _ _ _ _ r k).trans ?_
  pointwise
  rw [e, e', zero_sub]
  rfl

set_option maxHeartbeats 400000 in
theorem reference_gm : Value.res_main_v93 m c (ix2 r ⟨512 + k.val, by omega⟩)
    = gated (m (c.tc.loc main_arg1) (ix2 r ⟨2048 + k.val, by omega⟩))
        (fun s => m (c.tc.loc main_arg5) (ix3 ⟨k.val / 128, by omega⟩ ⟨r.val % 128, by omega⟩ s))
        (fun s => norm (fun l => gelu (m (c.tc.loc main_arg1) (ix2 ⟨r.val / 128 * 128 + s.val, by omega⟩ ⟨2560 + (k.val / 128 * 128 + l.val), by omega⟩)))
          (fun l => m (c.tc.loc main_arg3) (ix2 0 ⟨k.val / 128 * 128 + l.val, by omega⟩)) (fun l => m (c.tc.loc main_arg4) (ix2 0 ⟨k.val / 128 * 128 + l.val, by omega⟩)) ⟨k.val % 128, by omega⟩)
        (m (c.tc.loc main_arg6) (ix2 ⟨r.val % 128, by omega⟩ ⟨k.val / 128, by omega⟩)) ⟨r.val % 128, by omega⟩ := by
  unfold Value.res_main_v93
  refine (halves_right _ _ _ _ r k).trans ?_
  show mulf (gelus (extractStridedSlice S2048x512 ![0, 2048] (m (c.tc.loc main_arg1)) slices_S2048x3200_S2048x512_0_2048))
    (shapeCast _ (spatial (shapeCast _ (norms (shapeCast _ (gelus (extractStridedSlice S2048x512 ![0, 2560] (m (c.tc.loc main_arg1)) slices_S2048x3200_S2048x512_0_2560)) shapeCasts_S2048x512_S2048x4x128)
      (m (c.tc.loc main_arg3)) (m (c.tc.loc main_arg4))) shapeCasts_S2048x4x128_S16x128x4x128) (weights (m (c.tc.loc main_arg5))) (m (c.tc.loc main_arg6))) shapeCasts_S16x128x4x128_S2048x512) (ix2 r k) = _
  pointwise [gelus_at, spatial_at, norms_at, weights_at, ite_mul, zero_mul]
  rfl

theorem frame_reference : Cert.quiescent_Reference24Ideal := fun m ρ _ =>
  (θ_run Cert.Reference24Ideal.defs _ _).mono (fun _ h => ⟨fun c => (h c).2, sem_eq_zero_of_no_sems rfl _⟩) (Cert.Reference24Ideal.Value.run m ρ)

end Reference

section Kernel
open Cert.Kernel24Ideal Cert.Kernel24Ideal.Gen Cert.Kernel24Ideal.Value

/-- Four blocks of 128 rows, read at row `r` of block `k`. -/
theorem rows4 (y0 y1 y2 y3 : FVec Ideal S128x1024 .f32) (h) (hb) (k : Fin 4) (r : Fin 128) (q : Fin 1024) :
    truncf (F := Ideal) (φ := .f32) .bf16 (concatenate S512x1024 0 [⟨S128x1024, y0⟩, ⟨S128x1024, y1⟩, ⟨S128x1024, y2⟩, ⟨S128x1024, y3⟩] h) hb (ix2 ⟨k.val * 128 + r.val, by omega⟩ q)
      = (![y0, y1, y2, y3] : Fin 4 → S128x1024.Idx → EReal) k (ix2 r q) := by
  refine concatenate_apply_piece 0 _ h _ k.val (by simp) S128x1024 _ ?_ rfl (k.val * 128) ?_ (ix2 r q) ?_ rfl
  · fin_cases k <;> rfl
  · fin_cases k <;> rfl
  · intro b hb
    match b with
    | ⟨0, _⟩ => exact absurd rfl hb
    | ⟨1, _⟩ => rfl

/-- Eight blocks of 128 columns, read at column `l` of block `k`. -/
theorem cols8 (y0 y1 y2 y3 y4 y5 y6 y7 : S128x128.Idx → EReal) (hc) (k : Fin 8) (r l : Fin 128) :
    concatenate S128x1024 1 [⟨S128x128, y0⟩, ⟨S128x128, y1⟩, ⟨S128x128, y2⟩, ⟨S128x128, y3⟩, ⟨S128x128, y4⟩, ⟨S128x128, y5⟩, ⟨S128x128, y6⟩, ⟨S128x128, y7⟩] hc
      (ix2 r ⟨k.val * 128 + l.val, by omega⟩) = (![y0, y1, y2, y3, y4, y5, y6, y7] : Fin 8 → S128x128.Idx → EReal) k (ix2 r l) := by
  refine concatenate_apply_piece 1 _ hc _ k.val (by simp) S128x128 _ ?_ rfl (k.val * 128) ?_ (ix2 r l) ?_ rfl
  · fin_cases k <;> rfl
  · fin_cases k <;> rfl
  · intro b hb
    match b with
    | ⟨0, _⟩ => rfl
    | ⟨1, _⟩ => exact absurd rfl hb

/-- Eight blocks of 128 columns, read at column `l` of one of the first four. -/
theorem cols_head (y0 y1 y2 y3 y4 y5 y6 y7 : S128x128.Idx → EReal) (k : Fin 4) (r l : Fin 128) :
    concatenate S128x1024 1 [⟨S128x128, y0⟩, ⟨S128x128, y1⟩, ⟨S128x128, y2⟩, ⟨S128x128, y3⟩, ⟨S128x128, y4⟩, ⟨S128x128, y5⟩, ⟨S128x128, y6⟩, ⟨S128x128, y7⟩]
        concatenates_S128x128_S128x128_S128x128_S128x128_S128x128_S128x128_S128x128_S128x128_S128x1024_d1
      (ix2 r ⟨k.val * 128 + l.val, by omega⟩) = (![y0, y1, y2, y3] : Fin 4 → S128x128.Idx → EReal) k (ix2 r l) := by
  refine (cols8 y0 y1 y2 y3 y4 y5 y6 y7 _ (k.castLE (by omega)) r l).trans ?_
  fin_cases k <;> rfl

/-- Eight blocks of 128 columns, read at column `l` of one of the last four. -/
theorem cols_gm (y0 y1 y2 y3 y4 y5 y6 y7 : S128x128.Idx → EReal) (k : Fin 4) (r l : Fin 128) :
    concatenate S128x1024 1 [⟨S128x128, y0⟩, ⟨S128x128, y1⟩, ⟨S128x128, y2⟩, ⟨S128x128, y3⟩, ⟨S128x128, y4⟩, ⟨S128x128, y5⟩, ⟨S128x128, y6⟩, ⟨S128x128, y7⟩]
        concatenates_S128x128_S128x128_S128x128_S128x128_S128x128_S128x128_S128x128_S128x128_S128x1024_d1
      (ix2 r ⟨(4 + k.val) * 128 + l.val, by omega⟩) = (![y4, y5, y6, y7] : Fin 4 → S128x128.Idx → EReal) k (ix2 r l) := by
  refine (cols8 y0 y1 y2 y3 y4 y5 y6 y7 _ (Fin.natAdd 4 k) r l).trans ?_
  fin_cases k <;> rfl

variable (m : (ℓ : Loc nD τ sig) → Buf (Elt Ideal) ℓ) (c : Dev nD) (t : Fin cfg0.N) (r l : Fin 128)

set_option maxHeartbeats 4000000 in
theorem kernel (k h : Fin 4) :
    outsAt0 m c t (ix2 ⟨k.val * 128 + r.val, by omega⟩ ⟨h.val * 128 + l.val, by omega⟩)
      = head (fun l => iblk m c 0 t (ix2 ⟨k.val * 128 + r.val, by omega⟩ ⟨h.val * 128 + l.val, by omega⟩))
          (fun l => X0_1 m c t (ix2 ⟨k.val * 128 + r.val, by omega⟩ ⟨h.val * 128 + l.val, by omega⟩)) (fun l => iblk m c 4 t (ix2 0 l)) l
    ∧ outsAt0 m c t (ix2 ⟨k.val * 128 + r.val, by omega⟩ ⟨(4 + h.val) * 128 + l.val, by omega⟩)
      = gated (X0_2 m c t (ix2 ⟨k.val * 128 + r.val, by omega⟩ ⟨h.val * 128 + l.val, by omega⟩)) (fun s => iblk m c 7 t (ix3 h r s))
          (fun s => norm (fun l => gelu (X0_3 m c t (ix2 ⟨k.val * 128 + s.val, by omega⟩ ⟨h.val * 128 + l.val, by omega⟩)))
            (fun l => iblk m c 5 t (ix2 0 ⟨h.val * 128 + l.val, by omega⟩)) (fun l => iblk m c 6 t (ix2 0 ⟨h.val * 128 + l.val, by omega⟩)) l)
          (iblk m c 8 t (ix2 r ⟨h.val, by omega⟩)) r := by
  unfold outsAt0
  frame_out
  simp only [k0_pay1, k0_pay46, k0_pay85, k0_pay124]
  constructor
  case left =>
    refine (rows4 _ _ _ _ _ _ k r _).trans ?_
    fin_cases k <;> refine (cols_head _ _ _ _ _ _ _ _ h r l).trans ?_ <;> fin_cases h
    all_goals
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168]
      rfl
  case right =>
    refine (rows4 _ _ _ _ _ _ k r _).trans ?_
    fin_cases k <;> refine (cols_gm _ _ _ _ _ _ _ _ h r l).trans ?_ <;> fin_cases h
    all_goals
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168]
      simp only [chosen]
      rfl

theorem index : ∀ t : Fin cfg0.N, win0_0.index t = ![t.val, 0] ∧ win0_1.index t = ![t.val, 3] ∧ win0_2.index t = ![t.val, 4] ∧ win0_3.index t = ![t.val, 5]
    ∧ win0_4.index t = ![0, 0] ∧ win0_5.index t = ![0, 0] ∧ win0_6.index t = ![0, 0] ∧ win0_7.index t = ![0, 0, 0] ∧ win0_8.index t = ![0, 0] ∧ win0_9.index t = ![t.val, 0] :=
  (by decide +kernel : ∀ t : Fin grid0.N, _)

theorem rows : ∀ t : Fin cfg0.N, t.val < 4 := fun t => lt_of_lt_of_eq t.isLt N_0

/-- The blocks of the four windows that move. -/
theorem blocks (a q : Fin 512) :
    iblk m c 0 t (ix2 a q) = m (c.tc.loc main_arg0) (ix2 ⟨t.val * 512 + a.val, by have := rows t; omega⟩ q)
    ∧ X0_1 m c t (ix2 a q) = m (c.tc.loc main_arg1) (ix2 ⟨t.val * 512 + a.val, by have := rows t; omega⟩ ⟨1536 + q.val, by omega⟩)
    ∧ X0_2 m c t (ix2 a q) = m (c.tc.loc main_arg1) (ix2 ⟨t.val * 512 + a.val, by have := rows t; omega⟩ ⟨2048 + q.val, by omega⟩)
    ∧ X0_3 m c t (ix2 a q) = m (c.tc.loc main_arg1) (ix2 ⟨t.val * 512 + a.val, by have := rows t; omega⟩ ⟨2560 + q.val, by omega⟩) := by
  refine ⟨?_, ?_, ?_, ?_⟩
  · blk_point [iblk, V, index t]
  · unfold X0_1 Pipeline.Window.fill
    rw [dif_pos (moved0_1 t _)]
    blk_point [iblk, V, index t]
  · unfold X0_2 Pipeline.Window.fill
    rw [dif_pos (moved0_2 t _)]
    blk_point [iblk, V, index t]
  · unfold X0_3 Pipeline.Window.fill
    rw [dif_pos (moved0_3 t _)]
    blk_point [iblk, V, index t]

/-- The blocks of the windows that stay. -/
theorem wholes :
    (∀ l, iblk m c 4 t (ix2 0 l) = m (c.tc.loc main_arg2) (ix2 0 l)) ∧ (∀ l, iblk m c 5 t (ix2 0 l) = m (c.tc.loc main_arg3) (ix2 0 l))
    ∧ (∀ l, iblk m c 6 t (ix2 0 l) = m (c.tc.loc main_arg4) (ix2 0 l)) ∧ (∀ h r s, iblk m c 7 t (ix3 h r s) = m (c.tc.loc main_arg5) (ix3 h r s))
    ∧ (∀ r l, iblk m c 8 t (ix2 r l) = m (c.tc.loc main_arg6) (ix2 r l)) := by
  refine ⟨fun l => ?_, fun l => ?_, fun l => ?_, fun h r s => ?_, fun r l => ?_⟩ <;> blk_point [iblk, V, index t]

set_option maxHeartbeats 4000000 in
/-- The value claim. -/
theorem algebraic : Cert.algebraic_Kernel24Ideal_Reference24Ideal := by
  intro m g m' g' _ hagree
  refine ⟨fun c => (dats m 0 c).arrAt 9 cfg0.N, Cert.Kernel24Ideal.Value.run_blocks m g, ?_⟩
  refine (θ_run _ _ _).mono (fun r h c => ⟨(h c).1.trans ?_, (h c).2⟩) (Cert.Reference24Ideal.Value.run m' g')
  clear h
  obtain ⟨h0, h1, h2, h3, h4, h5, h6⟩ := hagree c
  refine ((dats m 0 c).arrAt_eq_of_covers 9 _ (by decide +kernel) fun t hf y => ?_).symm
  blk_simp
  rw [after0_9]
  have ht := rows t
  obtain ⟨a, q, hy⟩ : ∃ (a : Fin 512) (q : Fin 1024), y = ix2 a q := ⟨y 0, y 1, eq_ix2 (n0 := 512) (n1 := 1024) y⟩
  subst hy
  have e : ∀ z : S2048x1024.Idx → EReal, z (((View.whole main_v0).slice (win0_9.rect t)).emb (ix2 a q)) = z (ix2 ⟨t.val * 512 + a.val, by omega⟩ q) := by
    intro z
    blk_ext! [index t]
  refine Eq.trans ?_ (e (Cert.Reference24Ideal.Value.res_main_v93 m' c)).symm
  obtain ⟨k, r, ha⟩ : ∃ k : Fin 4, ∃ r : Fin 128, a = ⟨k.val * 128 + r.val, by omega⟩ :=
    ⟨⟨a.val / 128, by omega⟩, ⟨a.val % 128, by omega⟩, Fin.ext (by show a.val = a.val / 128 * 128 + a.val % 128; omega)⟩
  subst ha
  obtain ⟨w4, w5, w6, w7, w8⟩ := wholes m c t
  by_cases hq : q.val < 512
  · obtain ⟨h, l, hl⟩ : ∃ h : Fin 4, ∃ l : Fin 128, q = ⟨h.val * 128 + l.val, by clear hq; omega⟩ :=
      ⟨⟨q.val / 128, by omega⟩, ⟨q.val % 128, by omega⟩, Fin.ext (by show q.val = q.val / 128 * 128 + q.val % 128; omega)⟩
    subst hl
    refine ((kernel m c t r l k h).1).trans (Eq.trans ?_ (reference_head m' c ⟨t.val * 512 + (k.val * 128 + r.val), by omega⟩ ⟨h.val * 128 + l.val, by omega⟩).symm)
    rw [h0, h1, h2]
    simp only [blocks, w4]
    have i1 : (h.val * 128 + l.val) / 128 = h.val := by omega
    have i2 : (h.val * 128 + l.val) % 128 = l.val := by omega
    simp only [i1, i2]
  · obtain ⟨h, l, hl⟩ : ∃ h : Fin 4, ∃ l : Fin 128, q = ⟨512 + (h.val * 128 + l.val), by clear hq; omega⟩ :=
      ⟨⟨(q.val - 512) / 128, by omega⟩, ⟨(q.val - 512) % 128, by omega⟩, Fin.ext (by show q.val = 512 + ((q.val - 512) / 128 * 128 + (q.val - 512) % 128); omega)⟩
    subst hl
    have j : (⟨512 + (h.val * 128 + l.val), by omega⟩ : Fin 1024) = ⟨(4 + h.val) * 128 + l.val, by omega⟩ := Fin.ext (by show 512 + (_ * 128 + _) = (4 + _) * 128 + _; omega)
    refine ((congrArg (fun q => outsAt0 m c t (ix2 _ q)) j).trans (kernel m c t r l k h).2).trans
      (Eq.trans ?_ (reference_gm m' c ⟨t.val * 512 + (k.val * 128 + r.val), by omega⟩ ⟨h.val * 128 + l.val, by omega⟩).symm)
    rw [h1, h3, h4, h5, h6]
    simp only [blocks, w5, w6, w7, w8]
    have i1 : (h.val * 128 + l.val) / 128 = h.val := by omega
    have i2 : (h.val * 128 + l.val) % 128 = l.val := by omega
    have i3 : (t.val * 512 + (k.val * 128 + r.val)) % 128 = r.val := by omega
    have i4 : ∀ s, (t.val * 512 + (k.val * 128 + r.val)) / 128 * 128 + s = t.val * 512 + (k.val * 128 + s) := fun s => by omega
    simp only [i1, i2, i3, i4]

end Kernel

end Cert.Proof.Mix

end
-- ==== Proof.lean ====
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.ScanClaim
public import proofs.«01_k».proof.Proof.FfnOutBwd
public import proofs.«01_k».proof.Proof.FfnGateBwd
public import proofs.«01_k».proof.Proof.FfnResid
public import proofs.«01_k».proof.Proof.FfnWgrad
public import proofs.«01_k».proof.Proof.OutProjBwd
public import proofs.«01_k».proof.Proof.OutProjWgrad
public import proofs.«01_k».proof.Proof.InProjWgrad
public import proofs.«01_k».proof.Proof.InProjBwd
public import proofs.«01_k».proof.Proof.InProj
public import proofs.«01_k».proof.Proof.OutProj
public import proofs.«01_k».proof.Proof.FfnIn
public import proofs.«01_k».proof.Proof.NormBwd
public import proofs.«01_k».proof.Proof.Norm
public import proofs.«01_k».proof.Proof.Adamw
public import proofs.«01_k».proof.Proof.LossHead
public import proofs.«01_k».proof.Proof.Prep
public import proofs.«01_k».proof.Proof.Gates
public import proofs.«01_k».proof.Proof.Mix
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4bIdeal
public import proofs.«01_k».proof.Proof.Gen.Reference4bIdeal.Run
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5bIdeal
public import proofs.«01_k».proof.Proof.Gen.Reference5bIdeal.Run
public import proofs.«01_k».proof.Proof.Gen.Kernel6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel19
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel21
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel24
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run

@[expose] public section

noncomputable section

namespace Cert.Proof

open Idealize.ShloMosaic

/-- Everything that the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Reference4bIdeal.Gen.facts, Cert.Kernel5.Gen.facts, Cert.Kernel5Ideal.Gen.facts,
  Cert.Reference5Ideal.Gen.facts, Cert.Reference5bIdeal.Gen.facts, Cert.Kernel6.Gen.facts,
  Cert.Kernel6Ideal.Gen.facts, Cert.Reference6Ideal.Gen.facts, Cert.Kernel7.Gen.facts,
  Cert.Kernel7Ideal.Gen.facts, Cert.Reference7Ideal.Gen.facts, Cert.Kernel8.Gen.facts,
  Cert.Kernel8Ideal.Gen.facts, Cert.Reference8Ideal.Gen.facts, Cert.Kernel9.Gen.facts,
  Cert.Kernel9Ideal.Gen.facts, Cert.Reference9Ideal.Gen.facts, Cert.Kernel10.Gen.facts,
  Cert.Kernel10Ideal.Gen.facts, Cert.Reference10Ideal.Gen.facts, Cert.Kernel11.Gen.facts,
  Cert.Kernel11Ideal.Gen.facts, Cert.Reference11Ideal.Gen.facts, Cert.Kernel12.Gen.facts,
  Cert.Kernel12Ideal.Gen.facts, Cert.Reference12Ideal.Gen.facts, Cert.Kernel13.Gen.facts,
  Cert.Kernel13Ideal.Gen.facts, Cert.Reference13Ideal.Gen.facts, Cert.Kernel14.Gen.facts,
  Cert.Kernel14Ideal.Gen.facts, Cert.Reference14Ideal.Gen.facts, Cert.Kernel15.Gen.facts,
  Cert.Kernel15Ideal.Gen.facts, Cert.Reference15Ideal.Gen.facts, Cert.Kernel16.Gen.facts,
  Cert.Kernel16Ideal.Gen.facts, Cert.Reference16Ideal.Gen.facts, Cert.Kernel17.Gen.facts,
  Cert.Kernel17Ideal.Gen.facts, Cert.Reference17Ideal.Gen.facts, Cert.Kernel19.Gen.facts,
  Cert.Kernel19Ideal.Gen.facts, Cert.Reference19Ideal.Gen.facts, Cert.Kernel21.Gen.facts,
  Cert.Kernel21Ideal.Gen.facts, Cert.Reference21Ideal.Gen.facts, Cert.Kernel22.Gen.facts,
  Cert.Kernel22Ideal.Gen.facts, Cert.Reference22Ideal.Gen.facts, Cert.Kernel24.Gen.facts,
  Cert.Kernel24Ideal.Gen.facts, Cert.Reference24Ideal.Gen.facts, FfnOutBwd.facts,
  fun m ρ _ => Cert.Kernel.Gen.frame m ρ, fun m ρ _ => Cert.KernelIdeal.Gen.frame m ρ,
  ScanBwd.frame_reference, fun m ρ _ => Cert.Kernel2.Gen.frame m ρ,
  fun m ρ _ => Cert.Kernel2.Gen.frame m ρ, fun m ρ _ => Cert.Kernel2Ideal.Gen.frame m ρ,
  fun m ρ _ => Cert.Kernel2Ideal.Gen.frame m ρ, FfnOutBwd.frame_reference,
  fun m ρ _ => Cert.Kernel3.Gen.frame m ρ, fun m ρ _ => Cert.Kernel3Ideal.Gen.frame m ρ,
  FfnGateBwd.frame_reference, fun m ρ _ => Cert.Kernel4.Gen.frame m ρ,
  fun m ρ _ => Cert.Kernel4Ideal.Gen.frame m ρ, FfnResid.frame_reference,
  FfnResid.frame_reference_out, fun m ρ _ => Cert.Kernel5.Gen.frame m ρ,
  fun m ρ _ => Cert.Kernel5Ideal.Gen.frame m ρ, FfnWgrad.frame_reference,
  FfnWgrad.frame_reference_in, fun m ρ _ => Cert.Kernel6.Gen.frame m ρ,
  fun m ρ _ => Cert.Kernel6Ideal.Gen.frame m ρ, OutProjBwd.frame_reference,
  fun m ρ _ => Cert.Kernel7.Gen.frame m ρ, fun m ρ _ => Cert.Kernel7Ideal.Gen.frame m ρ,
  OutProjWgrad.frame_reference, fun m ρ _ => Cert.Kernel8.Gen.frame m ρ,
  fun m ρ _ => Cert.Kernel8Ideal.Gen.frame m ρ, InProjWgrad.frame_reference,
  fun m ρ _ => Cert.Kernel9.Gen.frame m ρ, fun m ρ _ => Cert.Kernel9Ideal.Gen.frame m ρ,
  InProjBwd.frame_reference, fun m ρ _ => Cert.Kernel10.Gen.frame m ρ,
  fun m ρ _ => Cert.Kernel10Ideal.Gen.frame m ρ, InProj.frame_reference,
  fun m ρ _ => Cert.Kernel11.Gen.frame m ρ, fun m ρ _ => Cert.Kernel11Ideal.Gen.frame m ρ,
  OutProj.frame_reference, fun m ρ _ => Cert.Kernel12.Gen.frame m ρ,
  fun m ρ _ => Cert.Kernel12Ideal.Gen.frame m ρ, FfnIn.frame_reference,
  fun m ρ _ => Cert.Kernel13.Gen.frame m ρ, fun m ρ _ => Cert.Kernel13Ideal.Gen.frame m ρ,
  NormBwd.frame_reference, fun m ρ _ => Cert.Kernel14.Gen.frame m ρ,
  fun m ρ _ => Cert.Kernel14Ideal.Gen.frame m ρ, Norm.frame_reference,
  fun m ρ _ => Cert.Kernel15.Gen.frame m ρ, fun m ρ _ => Cert.Kernel15Ideal.Gen.frame m ρ,
  Adamw.Ffn.frame_reference, fun m ρ _ => Cert.Kernel16.Gen.frame m ρ,
  fun m ρ _ => Cert.Kernel16Ideal.Gen.frame m ρ, Adamw.InProj.frame_reference,
  fun m ρ _ => Cert.Kernel17.Gen.frame m ρ, fun m ρ _ => Cert.Kernel17Ideal.Gen.frame m ρ,
  Adamw.OutProj.frame_reference, fun m ρ _ => Cert.Kernel19.Gen.frame m ρ,
  fun m ρ _ => Cert.Kernel19Ideal.Gen.frame m ρ, LossHead.frame_reference,
  fun m ρ _ => Cert.Kernel21.Gen.frame m ρ, fun m ρ _ => Cert.Kernel21Ideal.Gen.frame m ρ,
  Prep.frame_reference, fun m ρ _ => Cert.Kernel22.Gen.frame m ρ,
  fun m ρ _ => Cert.Kernel22Ideal.Gen.frame m ρ, Gates.frame_reference,
  fun m ρ _ => Cert.Kernel24.Gen.frame m ρ, fun m ρ _ => Cert.Kernel24Ideal.Gen.frame m ρ,
  Mix.frame_reference,
  trivial, ScanBwd.algebraic, trivial, FfnOutBwd.algebraic,
  trivial, FfnGateBwd.algebraic, trivial, FfnResid.algebraic,
  FfnResid.algebraic_out, trivial, FfnWgrad.algebraic, FfnWgrad.algebraic_in,
  trivial, OutProjBwd.algebraic, trivial, OutProjWgrad.algebraic,
  trivial, InProjWgrad.algebraic, trivial, InProjBwd.algebraic,
  trivial, InProj.algebraic, trivial, OutProj.algebraic,
  trivial, FfnIn.algebraic, trivial, NormBwd.algebraic,
  trivial, Norm.algebraic, trivial, Adamw.Ffn.algebraic,
  trivial, Adamw.InProj.algebraic, trivial, Adamw.OutProj.algebraic,
  trivial, LossHead.algebraic, trivial, Prep.algebraic,
  trivial, Gates.algebraic, trivial, Mix.algebraic⟩

end Cert.Proof

end
